-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x4992 : Shape := ⟨3, ![128, 1, 4992]⟩
abbrev S4992 : Shape := ⟨1, ![4992]⟩
abbrev S11904x4992 : Shape := ⟨2, ![11904, 4992]⟩
abbrev S11904 : Shape := ⟨1, ![11904]⟩
abbrev S_ : Shape := ⟨0, ![]⟩
abbrev S128x4992 : Shape := ⟨2, ![128, 4992]⟩
abbrev S39x128 : Shape := ⟨2, ![39, 128]⟩
abbrev S93x128 : Shape := ⟨2, ![93, 128]⟩
abbrev S1x1 : Shape := ⟨2, ![1, 1]⟩
abbrev S128x11904 : Shape := ⟨2, ![128, 11904]⟩
abbrev S8x512x4992 : Shape := ⟨3, ![8, 512, 4992]⟩
abbrev S4 : Shape := ⟨1, ![4]⟩
abbrev S8 : Shape := ⟨1, ![8]⟩
abbrev S1 : Shape := ⟨1, ![1]⟩
abbrev S32x4992 : Shape := ⟨2, ![32, 4992]⟩
abbrev S1x512x4992 : Shape := ⟨3, ![1, 512, 4992]⟩
abbrev S512x4992 : Shape := ⟨2, ![512, 4992]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128x512 : Shape := ⟨2, ![128, 512]⟩
abbrev S128x128 : Shape := ⟨2, ![128, 128]⟩
abbrev S1x128x4992 : Shape := ⟨3, ![1, 128, 4992]⟩
abbrev S128x1x11904 : Shape := ⟨3, ![128, 1, 11904]⟩

abbrev nBuf : Space → Nat
  | .hbm => 21
  | .vmem => 12
  | .smem => 0
  | _ => 0

abbrev bufTy : (tb : Table) → Fin (tcTables nBuf tb) → BufTy
  | .hbm, ⟨0, _⟩ => ⟨S128x1x4992, .bf16⟩
  | .hbm, ⟨1, _⟩ => ⟨S128x1x4992, .bf16⟩
  | .hbm, ⟨2, _⟩ => ⟨S4992, .bf16⟩
  | .hbm, ⟨3, _⟩ => ⟨S11904x4992, .fp8e4m3⟩
  | .hbm, ⟨4, _⟩ => ⟨S11904, .f32⟩
  | .hbm, ⟨5, _⟩ => ⟨S_, .f32⟩
  | .hbm, ⟨6, _⟩ => ⟨S11904, .bf16⟩
  | .hbm, ⟨7, _⟩ => ⟨S128x4992, .bf16⟩
  | .hbm, ⟨8, _⟩ => ⟨S128x4992, .bf16⟩
  | .hbm, ⟨9, _⟩ => ⟨S39x128, .bf16⟩
  | .hbm, ⟨10, _⟩ => ⟨S93x128, .f32⟩
  | .hbm, ⟨11, _⟩ => ⟨S93x128, .bf16⟩
  | .hbm, ⟨12, _⟩ => ⟨S1x1, .f32⟩
  | .hbm, ⟨13, _⟩ => ⟨S128x11904, .bf16⟩
  | .hbm, ⟨14, _⟩ => ⟨S128x4992, .bf16⟩
  | .hbm, ⟨15, _⟩ => ⟨S128x4992, .fp8e4m3⟩
  | .hbm, ⟨16, _⟩ => ⟨S1x1, .f32⟩
  | .hbm, ⟨17, _⟩ => ⟨S128x1x11904, .bf16⟩
  | .hbm, ⟨18, _⟩ => ⟨S128x1x4992, .bf16⟩
  | .hbm, ⟨19, _⟩ => ⟨S128x1x4992, .fp8e4m3⟩
  | .hbm, ⟨20, _⟩ => ⟨S_, .f32⟩
  | .local _ .vmem, ⟨0, _⟩ => ⟨S128x4992, .bf16⟩
  | .local _ .vmem, ⟨1, _⟩ => ⟨S128x4992, .bf16⟩
  | .local _ .vmem, ⟨2, _⟩ => ⟨S39x128, .bf16⟩
  | .local _ .vmem, ⟨3, _⟩ => ⟨S39x128, .f32⟩
  | .local _ .vmem, ⟨4, _⟩ => ⟨S93x128, .f32⟩
  | .local _ .vmem, ⟨5, _⟩ => ⟨S1x1, .f32⟩
  | .local _ .vmem, ⟨6, _⟩ => ⟨S93x128, .bf16⟩
  | .local _ .vmem, ⟨7, _⟩ => ⟨S93x128, .f32⟩
  | .local _ .vmem, ⟨8, _⟩ => ⟨S128x4992, .bf16⟩
  | .local _ .vmem, ⟨9, _⟩ => ⟨S128x4992, .fp8e4m3⟩
  | .local _ .vmem, ⟨10, _⟩ => ⟨S8x512x4992, .fp8e4m3⟩
  | .local _ .vmem, ⟨11, _⟩ => ⟨S128x11904, .bf16⟩
  | _, _ => ⟨S128x1x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c32_i32 : BitVec 32 := 32#32
  c32_i32
def k0_mult3 : BitVec 32 :=
  let c64_i32 : BitVec 32 := 64#32
  c64_i32
def k0_mult4 : BitVec 32 :=
  let c96_i32 : BitVec 32 := 96#32
  c96_i32
def k0_mult5 : BitVec 32 :=
  let c0_i32_25 : BitVec 32 := 0#32
  c0_i32_25
def k0_mult6 : BitVec 32 :=
  let c512_i32 : BitVec 32 := 512#32
  c512_i32
def k0_mult7 : BitVec 32 :=
  let c1024_i32 : BitVec 32 := 1024#32
  c1024_i32
def k0_mult8 : BitVec 32 :=
  let c1536_i32 : BitVec 32 := 1536#32
  c1536_i32
def k0_mult9 : BitVec 32 :=
  let c2048_i32 : BitVec 32 := 2048#32
  c2048_i32
def k0_mult10 : BitVec 32 :=
  let c2560_i32 : BitVec 32 := 2560#32
  c2560_i32
def k0_mult11 : BitVec 32 :=
  let c3072_i32 : BitVec 32 := 3072#32
  c3072_i32
def k0_mult12 : BitVec 32 :=
  let c3584_i32 : BitVec 32 := 3584#32
  c3584_i32
@[reducible] def k0_t1_loop : Scf.Loop 32 :=
  let c0_i32_75 : BitVec 32 := 0#32
  let c4_i32_76 : BitVec 32 := 4#32
  let v111 : BitVec 32 := Scalar.addi c0_i32_75 c4_i32_76
  let c1_i32_77 : BitVec 32 := 1#32
  ⟨c0_i32_75, v111, c1_i32_77⟩
def k0_mult13 (k0_t1 : Fin k0_t1_loop.trips) : BitVec 32 :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_121 : BitVec 32 := 32#32
  let v158 : BitVec 32 := Scalar.muli v157 c32_i32_121
  v158
def k0_off1 (k0_t1 : Fin k0_t1_loop.trips) : Fin 1 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  ![v157.toNat]
def k0_off2 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_121 : BitVec 32 := 32#32
  let v158 : BitVec 32 := Scalar.muli v157 c32_i32_121
  let v159 : BitVec 32 := v158
  let c0_i32_122 : BitVec 32 := 0#32
  ![v159.toNat, 0]
def k0_mult14 (k0_t1 : Fin k0_t1_loop.trips) : BitVec 32 :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  v168
def k0_off3 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v171 : Index := Scalar.indexCast v169
  let c0_128 : Index := 0#32
  ![v171.toNat, 0]
def k0_off4 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v185 : Index := Scalar.indexCast v169
  let c128 : Index := 128#32
  ![v185.toNat, 128]
def k0_off5 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v199 : Index := Scalar.indexCast v169
  let c256 : Index := 256#32
  ![v199.toNat, 256]
def k0_off6 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v213 : Index := Scalar.indexCast v169
  let c384 : Index := 384#32
  ![v213.toNat, 384]
def k0_off7 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v227 : Index := Scalar.indexCast v169
  let c512 : Index := 512#32
  ![v227.toNat, 512]
def k0_off8 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v241 : Index := Scalar.indexCast v169
  let c640 : Index := 640#32
  ![v241.toNat, 640]
def k0_off9 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v255 : Index := Scalar.indexCast v169
  let c768 : Index := 768#32
  ![v255.toNat, 768]
def k0_off10 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v269 : Index := Scalar.indexCast v169
  let c896 : Index := 896#32
  ![v269.toNat, 896]
def k0_off11 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v283 : Index := Scalar.indexCast v169
  let c1024 : Index := 1024#32
  ![v283.toNat, 1024]
def k0_off12 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v297 : Index := Scalar.indexCast v169
  let c1152 : Index := 1152#32
  ![v297.toNat, 1152]
def k0_off13 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v311 : Index := Scalar.indexCast v169
  let c1280 : Index := 1280#32
  ![v311.toNat, 1280]
def k0_off14 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v325 : Index := Scalar.indexCast v169
  let c1408 : Index := 1408#32
  ![v325.toNat, 1408]
def k0_off15 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v339 : Index := Scalar.indexCast v169
  let c1536 : Index := 1536#32
  ![v339.toNat, 1536]
def k0_off16 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v353 : Index := Scalar.indexCast v169
  let c1664 : Index := 1664#32
  ![v353.toNat, 1664]
def k0_off17 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v367 : Index := Scalar.indexCast v169
  let c1792 : Index := 1792#32
  ![v367.toNat, 1792]
def k0_off18 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v381 : Index := Scalar.indexCast v169
  let c1920 : Index := 1920#32
  ![v381.toNat, 1920]
def k0_off19 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v395 : Index := Scalar.indexCast v169
  let c2048 : Index := 2048#32
  ![v395.toNat, 2048]
def k0_off20 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v409 : Index := Scalar.indexCast v169
  let c2176 : Index := 2176#32
  ![v409.toNat, 2176]
def k0_off21 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v423 : Index := Scalar.indexCast v169
  let c2304 : Index := 2304#32
  ![v423.toNat, 2304]
def k0_off22 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v437 : Index := Scalar.indexCast v169
  let c2432 : Index := 2432#32
  ![v437.toNat, 2432]
def k0_off23 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v451 : Index := Scalar.indexCast v169
  let c2560 : Index := 2560#32
  ![v451.toNat, 2560]
def k0_off24 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v465 : Index := Scalar.indexCast v169
  let c2688 : Index := 2688#32
  ![v465.toNat, 2688]
def k0_off25 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v479 : Index := Scalar.indexCast v169
  let c2816 : Index := 2816#32
  ![v479.toNat, 2816]
def k0_off26 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v493 : Index := Scalar.indexCast v169
  let c2944 : Index := 2944#32
  ![v493.toNat, 2944]
def k0_off27 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v507 : Index := Scalar.indexCast v169
  let c3072 : Index := 3072#32
  ![v507.toNat, 3072]
def k0_off28 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v521 : Index := Scalar.indexCast v169
  let c3200 : Index := 3200#32
  ![v521.toNat, 3200]
def k0_off29 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v535 : Index := Scalar.indexCast v169
  let c3328 : Index := 3328#32
  ![v535.toNat, 3328]
def k0_off30 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v549 : Index := Scalar.indexCast v169
  let c3456 : Index := 3456#32
  ![v549.toNat, 3456]
def k0_off31 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v563 : Index := Scalar.indexCast v169
  let c3584 : Index := 3584#32
  ![v563.toNat, 3584]
def k0_off32 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v577 : Index := Scalar.indexCast v169
  let c3712 : Index := 3712#32
  ![v577.toNat, 3712]
def k0_off33 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v591 : Index := Scalar.indexCast v169
  let c3840 : Index := 3840#32
  ![v591.toNat, 3840]
def k0_off34 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v605 : Index := Scalar.indexCast v169
  let c3968 : Index := 3968#32
  ![v605.toNat, 3968]
def k0_off35 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v619 : Index := Scalar.indexCast v169
  let c4096 : Index := 4096#32
  ![v619.toNat, 4096]
def k0_off36 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v633 : Index := Scalar.indexCast v169
  let c4224 : Index := 4224#32
  ![v633.toNat, 4224]
def k0_off37 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v647 : Index := Scalar.indexCast v169
  let c4352 : Index := 4352#32
  ![v647.toNat, 4352]
def k0_off38 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v661 : Index := Scalar.indexCast v169
  let c4480 : Index := 4480#32
  ![v661.toNat, 4480]
def k0_off39 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v675 : Index := Scalar.indexCast v169
  let c4608 : Index := 4608#32
  ![v675.toNat, 4608]
def k0_off40 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v689 : Index := Scalar.indexCast v169
  let c4736 : Index := 4736#32
  ![v689.toNat, 4736]
def k0_off41 (k0_t1 : Fin k0_t1_loop.trips) : Fin 2 → Nat :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_126 : BitVec 32 := 32#32
  let v168 : BitVec 32 := Scalar.muli v157 c32_i32_126
  let v169 : BitVec 32 := v168
  let v703 : Index := Scalar.indexCast v169
  let c4864 : Index := 4864#32
  ![v703.toNat, 4864]
def k0_mult15 (k0_t1 : Fin k0_t1_loop.trips) : BitVec 32 :=
  let c0_i32_120 : BitVec 32 := 0#32
  let c0_i32_75 : BitVec 32 := 0#32
  let c1_i32_77 : BitVec 32 := 1#32
  let arg29 : BitVec 32 := Scf.iv c0_i32_75 c1_i32_77 k0_t1
  let c1_i32_119 : BitVec 32 := 1#32
  let v156 : BitVec 32 := Scalar.muli arg29 c1_i32_119
  let v157 : BitVec 32 := Scalar.addi c0_i32_120 v156
  let c32_i32_446 : BitVec 32 := 32#32
  let v1621 : BitVec 32 := Scalar.muli v157 c32_i32_446
  v1621
@[reducible] def k0_t2_loop : Scf.Loop 32 :=
  let c0_i32_79 : BitVec 32 := 0#32
  let c23_i32 : BitVec 32 := 23#32
  let v112 : BitVec 32 := Scalar.addi c0_i32_79 c23_i32
  let c1_i32_80 : BitVec 32 := 1#32
  ⟨c0_i32_79, v112, c1_i32_80⟩
def k0_mult16 (k0_t2 : Fin k0_t2_loop.trips) : BitVec 32 :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c512_i32_121 : BitVec 32 := 512#32
  let v159 : BitVec 32 := Scalar.muli v157 c512_i32_121
  v159
def k0_off42 (k0_t2 : Fin k0_t2_loop.trips) : Fin 1 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  ![v158.toNat]
def k0_off43 (k0_t2 : Fin k0_t2_loop.trips) : Fin 3 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  let c0_i32_122 : BitVec 32 := 0#32
  let c0_i32_123 : BitVec 32 := 0#32
  ![v158.toNat, 0, 0]
def k0_off44 (k0_t2 : Fin k0_t2_loop.trips) : Fin 2 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c512_i32_121 : BitVec 32 := 512#32
  let v159 : BitVec 32 := Scalar.muli v157 c512_i32_121
  let v160 : BitVec 32 := v159
  let c0_i32_124 : BitVec 32 := 0#32
  ![v160.toNat, 0]
def k0_off45 (k0_t2 : Fin k0_t2_loop.trips) : Fin 3 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  let v167 : Index := Scalar.indexCast v158
  let c0_127 : Index := 0#32
  let c0_128 : Index := 0#32
  ![v167.toNat, 0, 0]
def k0_mult17 (k0_t2 : Fin k0_t2_loop.trips) : BitVec 32 :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c512_i32_130 : BitVec 32 := 512#32
  let v171 : BitVec 32 := Scalar.muli v157 c512_i32_130
  v171
def k0_off46 (k0_t2 : Fin k0_t2_loop.trips) (c0_i32_137 : BitVec 32) : Fin 2 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c512_i32_130 : BitVec 32 := 512#32
  let v171 : BitVec 32 := Scalar.muli v157 c512_i32_130
  let v172 : BitVec 32 := v171
  let c0_i32_131 : BitVec 32 := 0#32
  let v174 : BitVec 1 := Scalar.cmpi .sgt v172 c0_i32_131
  let v175 : BitVec 32 := Scalar.extui v174
  let c0_i32_132 : BitVec 32 := 0#32
  let v176 : BitVec 1 := Scalar.cmpi .slt v172 c0_i32_132
  let v177 : BitVec 32 := Scalar.extui v176
  let v178 : BitVec 32 := Scalar.subi v175 v177
  let c128_i32 : BitVec 32 := 128#32
  let c0_i32_133 : BitVec 32 := 0#32
  let v179 : BitVec 1 := Scalar.cmpi .sgt c128_i32 c0_i32_133
  let v180 : BitVec 32 := Scalar.extui v179
  let c0_i32_134 : BitVec 32 := 0#32
  let v181 : BitVec 1 := Scalar.cmpi .slt c128_i32 c0_i32_134
  let v182 : BitVec 32 := Scalar.extui v181
  let v183 : BitVec 32 := Scalar.subi v180 v182
  let v184 : BitVec 1 := Scalar.cmpi .ne v178 v183
  let v185 : BitVec 32 := Scalar.remsi v172 c128_i32
  let c0_i32_135 : BitVec 32 := 0#32
  let v186 : BitVec 1 := Scalar.cmpi .ne v185 c0_i32_135
  let v187 : BitVec 1 := Scalar.andi v184 v186
  let v173 : BitVec 32 := Scalar.divsi v172 c128_i32
  let c1_i32_136 : BitVec 32 := 1#32
  let v188 : BitVec 32 := Scalar.subi v173 c1_i32_136
  let v189 : BitVec 32 := Scalar.select v187 v188 v173
  let v190 : BitVec 32 := Scalar.addi v189 c0_i32_137
  let v191 : Index := Scalar.indexCast v190
  let c0_138 : Index := 0#32
  ![v191.toNat, 0]
def k0_off47 (k0_t2 : Fin k0_t2_loop.trips) (c0_i32_140 : BitVec 32) : Fin 2 → Nat :=
  let c0_141 : Index := 0#32
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c512_i32_130 : BitVec 32 := 512#32
  let v171 : BitVec 32 := Scalar.muli v157 c512_i32_130
  let v172 : BitVec 32 := v171
  let v203 : BitVec 32 := Scalar.addi v172 c0_i32_140
  let v204 : Index := Scalar.indexCast v203
  ![0, v204.toNat]
def k0_off48 (k0_t2 : Fin k0_t2_loop.trips) : Fin 2 → Nat :=
  let c0_i32_176 : BitVec 32 := 0#32
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c512_i32_130 : BitVec 32 := 512#32
  let v171 : BitVec 32 := Scalar.muli v157 c512_i32_130
  let v172 : BitVec 32 := v171
  ![0, v172.toNat]
def k0_cond1 (k0_t2 : Fin k0_t2_loop.trips) : BitVec 1 :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32_178 : BitVec 32 := 8#32
  let v315 : BitVec 32 := Scalar.addi v157 c8_i32_178
  let c23_i32_179 : BitVec 32 := 23#32
  let v316 : BitVec 1 := Scalar.cmpi .slt v315 c23_i32_179
  let v317 : BitVec 32 := Scalar.extui v316
  let c0_i32_180 : BitVec 32 := 0#32
  let v318 : BitVec 1 := Scalar.cmpi .ne v317 c0_i32_180
  v318

def k0_mult18 (k0_t2 : Fin k0_t2_loop.trips) : BitVec 32 :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32_184 : BitVec 32 := 8#32
  let v323 : BitVec 32 := Scalar.addi v157 c8_i32_184
  let c512_i32_185 : BitVec 32 := 512#32
  let v324 : BitVec 32 := Scalar.muli v323 c512_i32_185
  v324
def k0_off49 (k0_t2 : Fin k0_t2_loop.trips) : Fin 1 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  ![v158.toNat]
def k0_off50 (k0_t2 : Fin k0_t2_loop.trips) : Fin 3 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  let c0_i32_186 : BitVec 32 := 0#32
  let c0_i32_187 : BitVec 32 := 0#32
  ![v158.toNat, 0, 0]
def k0_off51 (k0_t2 : Fin k0_t2_loop.trips) : Fin 2 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32_184 : BitVec 32 := 8#32
  let v323 : BitVec 32 := Scalar.addi v157 c8_i32_184
  let c512_i32_185 : BitVec 32 := 512#32
  let v324 : BitVec 32 := Scalar.muli v323 c512_i32_185
  let v325 : BitVec 32 := v324
  let c0_i32_188 : BitVec 32 := 0#32
  ![v325.toNat, 0]
def k0_cond2 (k0_t2 : Fin k0_t2_loop.trips) : BitVec 1 :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32_181 : BitVec 32 := 8#32
  let v319 : BitVec 32 := Scalar.addi v157 c8_i32_181
  let c23_i32_182 : BitVec 32 := 23#32
  let v320 : BitVec 1 := Scalar.cmpi .eq v319 c23_i32_182
  let v321 : BitVec 32 := Scalar.extui v320
  let c0_i32_183 : BitVec 32 := 0#32
  let v322 : BitVec 1 := Scalar.cmpi .ne v321 c0_i32_183
  v322

def k0_off52 (k0_t2 : Fin k0_t2_loop.trips) : Fin 1 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  ![v158.toNat]
def k0_off53 (k0_t2 : Fin k0_t2_loop.trips) : Fin 3 → Nat :=
  let c0_i32_120 : BitVec 32 := 0#32
  let c0_i32_79 : BitVec 32 := 0#32
  let c1_i32_80 : BitVec 32 := 1#32
  let arg29 : BitVec 32 := Scf.iv c0_i32_79 c1_i32_80 k0_t2
  let c1_i32_119 : BitVec 32 := 1#32
  let v156 : BitVec 32 := Scalar.muli arg29 c1_i32_119
  let v157 : BitVec 32 := Scalar.addi c0_i32_120 v156
  let c8_i32 : BitVec 32 := 8#32
  let v158 : BitVec 32 := Scalar.remsi v157 c8_i32
  let c0_i32_184 : BitVec 32 := 0#32
  let c0_i32_185 : BitVec 32 := 0#32
  ![v158.toNat, 0, 0]
def k0_mult19 : BitVec 32 :=
  let c0_i32_99 : BitVec 32 := 0#32
  c0_i32_99
def k0_mult20 : BitVec 32 :=
  let c32_i32_104 : BitVec 32 := 32#32
  c32_i32_104
def k0_mult21 : BitVec 32 :=
  let c64_i32_109 : BitVec 32 := 64#32
  c64_i32_109
def k0_mult22 : BitVec 32 :=
  let c96_i32_114 : BitVec 32 := 96#32
  c96_i32_114
-- ==== ReferenceIdeal.lean ====
abbrev S128x1x4992 : Shape := ⟨3, ![128, 1, 4992]⟩
abbrev S4992 : Shape := ⟨1, ![4992]⟩
abbrev S11904x4992 : Shape := ⟨2, ![11904, 4992]⟩
abbrev S11904 : Shape := ⟨1, ![11904]⟩
abbrev S_ : Shape := ⟨0, ![]⟩
abbrev S128x4992 : Shape := ⟨2, ![128, 4992]⟩
abbrev S1x4992 : Shape := ⟨2, ![1, 4992]⟩
abbrev S1x11904 : Shape := ⟨2, ![1, 11904]⟩
abbrev S1x1 : Shape := ⟨2, ![1, 1]⟩
abbrev S128x11904 : Shape := ⟨2, ![128, 11904]⟩
abbrev S128 : Shape := ⟨1, ![128]⟩
abbrev S128x1 : Shape := ⟨2, ![128, 1]⟩
abbrev S128x1x11904 : Shape := ⟨3, ![128, 1, 11904]⟩

abbrev nBuf : Space → Nat
  | .hbm => 21
  | .vmem => 11
  | .smem => 0
  | _ => 0

abbrev bufTy : (tb : Table) → Fin (tcTables nBuf tb) → BufTy
  | .hbm, ⟨0, _⟩ => ⟨S128x1x4992, .bf16⟩
  | .hbm, ⟨1, _⟩ => ⟨S128x1x4992, .bf16⟩
  | .hbm, ⟨2, _⟩ => ⟨S4992, .bf16⟩
  | .hbm, ⟨3, _⟩ => ⟨S11904x4992, .fp8e4m3⟩
  | .hbm, ⟨4, _⟩ => ⟨S11904, .f32⟩
  | .hbm, ⟨5, _⟩ => ⟨S_, .f32⟩
  | .hbm, ⟨6, _⟩ => ⟨S11904, .bf16⟩
  | .hbm, ⟨7, _⟩ => ⟨S128x4992, .bf16⟩
  | .hbm, ⟨8, _⟩ => ⟨S128x4992, .bf16⟩
  | .hbm, ⟨9, _⟩ => ⟨S1x4992, .bf16⟩
  | .hbm, ⟨10, _⟩ => ⟨S1x11904, .f32⟩
  | .hbm, ⟨11, _⟩ => ⟨S1x1, .f32⟩
  | .hbm, ⟨12, _⟩ => ⟨S1x11904, .bf16⟩
  | .hbm, ⟨13, _⟩ => ⟨S128x11904, .bf16⟩
  | .hbm, ⟨14, _⟩ => ⟨S128x4992, .bf16⟩
  | .hbm, ⟨15, _⟩ => ⟨S128x4992, .fp8e4m3⟩
  | .hbm, ⟨16, _⟩ => ⟨S1x1, .f32⟩
  | .hbm, ⟨17, _⟩ => ⟨S128x1x11904, .bf16⟩
  | .hbm, ⟨18, _⟩ => ⟨S128x1x4992, .bf16⟩
  | .hbm, ⟨19, _⟩ => ⟨S128x1x4992, .fp8e4m3⟩
  | .hbm, ⟨20, _⟩ => ⟨S_, .f32⟩
  | .local _ .vmem, ⟨0, _⟩ => ⟨S128x4992, .bf16⟩
  | .local _ .vmem, ⟨1, _⟩ => ⟨S128x4992, .bf16⟩
  | .local _ .vmem, ⟨2, _⟩ => ⟨S1x4992, .bf16⟩
  | .local _ .vmem, ⟨3, _⟩ => ⟨S11904x4992, .fp8e4m3⟩
  | .local _ .vmem, ⟨4, _⟩ => ⟨S1x11904, .f32⟩
  | .local _ .vmem, ⟨5, _⟩ => ⟨S1x1, .f32⟩
  | .local _ .vmem, ⟨6, _⟩ => ⟨S1x11904, .bf16⟩
  | .local _ .vmem, ⟨7, _⟩ => ⟨S128x11904, .bf16⟩
  | .local _ .vmem, ⟨8, _⟩ => ⟨S128x4992, .bf16⟩
  | .local _ .vmem, ⟨9, _⟩ => ⟨S128x4992, .fp8e4m3⟩
  | .local _ .vmem, ⟨10, _⟩ => ⟨S1x1, .f32⟩
  | _, _ => ⟨S128x1x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S128x4992 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4992 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11904x4992 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11904 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x11904 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x11904 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x4992 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x4992 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Base.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.FrameSuffixV
public import Idealize.ShloMosaic.Lib.MixedBatch
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

abbrev xH : Memref sig .tc .hbm S128x4992 .bf16 := Memref.whole main_v0
abbrev rH : Memref sig .tc .hbm S128x4992 .bf16 := Memref.whole main_v1
abbrev xV : Memref sig .tc .vmem S128x4992 .bf16 := Memref.whole cc0_scratch0
abbrev rV : Memref sig .tc .vmem S128x4992 .bf16 := Memref.whole cc0_scratch1
abbrev gF : Memref sig .tc .vmem S39x128 .f32 := Memref.whole cc0_scratch3
abbrev hV : Memref sig .tc .vmem S128x4992 .bf16 := Memref.whole cc0_scratch8
abbrev cV : Memref sig .tc .vmem S128x4992 .fp8e4m3 := Memref.whole cc0_scratch9

/-- Row group `k` (32 rows) of a 128-row array. -/
abbrev rows {sp : Space} {e : EltTy} (M : Memref sig .tc sp S128x4992 e) (k : Fin k0_t1_loop.trips) : Memref sig .tc sp S32x4992 e :=
  M.slice (Rect.unit (s := S128x4992) (k0_off2 k) S32x4992.size (k0_off2_inb k)) (fun _ => rfl)

/-- The points-to of a slice's own elements. -/
abbrev own (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[M.view.set]{q} f

/-- A triple of a program's first part, and the rest from what the first part leaves. -/
theorem wp_seq {α β : Type} {c : Dev nD} {p : Prog (TpuEff nD τ sig (Elt F) Λ₀ .tc) α} {k : α → Prog (TpuEff nD τ sig (Elt F) Λ₀ .tc) β}
    {P : sProp 𝕄} {Q : α → sProp 𝕄} {Q' : β → sProp 𝕄}
    (h : P ⊢ wp frame (wpE (defs₀ (F := F)) Variants.none c none) Set.univ p Q) :
    P ⊢ iprop((∀ a, Q a -∗ wp frame (wpE (defs₀ (F := F)) Variants.none c none) Set.univ (k a) Q') -∗ wp frame (wpE (defs₀ (F := F)) Variants.none c none) Set.univ (p >>= k) Q') := by
  rw [wp_bind]
  exact h.trans (wp_wand _ _ _)

/-- A triple at another postcondition, from what it leaves. -/
theorem wp_mono_r {α : Type} {c : Dev nD} {p : Prog (TpuEff nD τ sig (Elt F) Λ₀ .tc) α} {P : sProp 𝕄} {Q Q' : α → sProp 𝕄}
    (h : P ⊢ wp frame (wpE (defs₀ (F := F)) Variants.none c none) Set.univ p Q) :
    P ⊢ iprop((∀ a, Q a -∗ Q' a) -∗ wp frame (wpE (defs₀ (F := F)) Variants.none c none) Set.univ p Q') :=
  h.trans (wp_wand _ _ _)

end Cert.Kernel.Hand
-- ==== Proof.K.Model.lean ====
module

public import proofs.«01_k».proof.Proof.K.Base
public import Idealize.ShloMosaic.Lib.VecWindow
public import Idealize.ShloMosaic.Lib.Pipeline.Value

/-! What the normalisation computes, as plain functions of the whole input arrays: a 128 by 4992
array is cut in tiles of 32 rows by 128 columns, and every tile of the hidden state and of the codes
is one elementwise expression of the tiles of the inputs. -/

@[expose] public section

noncomputable section

namespace Cert.Kernel.Hand

open Cert.Kernel Cert.Kernel.Gen
open Idealize.ShloMosaic Idealize.ShloMosaic.TcCoe Idealize.ShloMosaic.Tactic

variable {F : FTy → Type} [FloatOps F]

/-- A cast of a shape to itself changes nothing. -/
theorem sc_self {s : Shape} {α : Type} (v : s.Idx → α) (h : s.ShapeCasts s) : shapeCast s v h = v :=
  funext fun i => congrArg v (Shape.reshapeEquiv_self _ i)

theorem tinb : ∀ (k : Fin k0_t1_loop.trips) (t : Fin 39) (a : Fin 2), (![32 * k.val, 128 * t.val] : Fin 2 → ℕ) a + S32x128.size a ≤ S128x4992.size a := by
  decide +kernel

/-- Tile `t` of row group `k` of a 128 by 4992 array. -/
def win {α : Type} (X : S128x4992.Idx → α) (k : Fin k0_t1_loop.trips) (t : Fin 39) : S32x128.Idx → α :=
  VecWindow.window (s := S128x4992) X ![32 * k.val, 128 * t.val] S32x128.size (tinb k t)

theorem trips1 : k0_t1_loop.trips = 4 := by decide +kernel

/-- The row group an index lies in, -/
def grp (j : S128x4992.Idx) : Fin k0_t1_loop.trips := ⟨(j 0).val / 32, by have h : (j 0).val < 128 := (j 0).isLt; have := trips1; omega⟩
/-- its column tile, -/
def tile (j : S128x4992.Idx) : Fin 39 := ⟨(j 1).val / 128, by have h : (j 1).val < 4992 := (j 1).isLt; omega⟩
/-- and its place inside the tile. -/
def loc (j : S128x4992.Idx) : S32x128.Idx := fun a => match a with
  | 0 => ⟨(j 0).val % 32, Nat.mod_lt _ (by decide)⟩
  | 1 => ⟨(j 1).val % 128, Nat.mod_lt _ (by decide)⟩

/-- The array with the given tiles. -/
def mkTiles {α : Type} (T : Fin k0_t1_loop.trips → Fin 39 → S32x128.Idx → α) : S128x4992.Idx → α := fun j => T (grp j) (tile j) (loc j)

/-- The place `x` of tile `t` of row group `k`. -/
def at' (k : Fin k0_t1_loop.trips) (t : Fin 39) (x : S32x128.Idx) : S128x4992.Idx :=
  (Rect.unit (s := S128x4992) ![32 * k.val, 128 * t.val] S32x128.size (tinb k t)).emb x

theorem at'_0 (k) (t) (x) : (at' k t x 0).val = 32 * k.val + (x 0).val := by
  show 32 * k.val + 1 * (x 0).val = _; omega
theorem at'_1 (k) (t) (x) : (at' k t x 1).val = 128 * t.val + (x 1).val := by
  show 128 * t.val + 1 * (x 1).val = _; omega
theorem grp_at' (k) (t) (x) : grp (at' k t x) = k := by
  apply Fin.ext; show (at' k t x 0).val / 32 = _; rw [at'_0]
  have h : (x 0).val < 32 := (x 0).isLt; omega
theorem tile_at' (k) (t) (x) : tile (at' k t x) = t := by
  apply Fin.ext; show (at' k t x 1).val / 128 = _; rw [at'_1]
  have h : (x 1).val < 128 := (x 1).isLt; omega
theorem loc_at' (k) (t) (x) : loc (at' k t x) = x := by
  funext a; apply Fin.ext
  fin_cases a
  · show (at' k t x 0).val % 32 = _; rw [at'_0]
    have h : (x 0).val < 32 := (x 0).isLt; show _ = (x 0).val; omega
  · show (at' k t x 1).val % 128 = _; rw [at'_1]
    have h : (x 1).val < 128 := (x 1).isLt; show _ = (x 1).val; omega
theorem at'_loc (j) : at' (grp j) (tile j) (loc j) = j := by
  funext a; apply Fin.ext
  fin_cases a
  · show (at' _ _ _ 0).val = (j 0).val; rw [at'_0]; show 32 * ((j 0).val / 32) + (j 0).val % 32 = _; omega
  · show (at' _ _ _ 1).val = (j 1).val; rw [at'_1]; show 128 * ((j 1).val / 128) + (j 1).val % 128 = _; omega

theorem mkTiles_at' {α : Type} (T : Fin k0_t1_loop.trips → Fin 39 → S32x128.Idx → α) (k) (t) (x) : mkTiles T (at' k t x) = T k t x := by
  unfold mkTiles; rw [grp_at', tile_at', loc_at']

/-- Storing tile `t` of row group `k` extends what agrees with the array of the tiles by that tile. -/
theorem tile_step {Val : EltTy → Type} {sp : Space} {e : EltTy} (v : View sig .tc sp S128x4992 e)
    (T : Fin k0_t1_loop.trips → Fin 39 → S32x128.Idx → Val e) (k : Fin k0_t1_loop.trips) (t : ℕ) (ht : t < 39)
    {off : Fin 2 → ℕ} (hoff : off = ![32 * k.val, 128 * t]) (inb : ∀ a, off a + S32x128.size a ≤ S128x4992.size a)
    (f : v.ty.Contents Val) (w : S32x128.Idx → Val e) (hw : w = T k ⟨t, ht⟩)
    (hf : ∀ j, grp j = k → (tile j).val < t → v.read Val f j = mkTiles T j) :
    ∀ j, grp j = k → (tile j).val < t + 1 →
      v.read Val ((v.slice (Rect.unit (s := S128x4992) off S32x128.size inb)).write Val f w Finset.univ) j = mkTiles T j := by
  subst hoff
  intro j hk hj
  by_cases he : (tile j).val = t
  · have e : tile j = ⟨t, ht⟩ := Fin.ext he
    have hj' : j = at' k ⟨t, ht⟩ (loc j) := by rw [← hk, ← e, at'_loc]
    conv_rhs => rw [hj', mkTiles_at']
    conv_lhs => rw [hj']
    rw [← hw]
    exact View.read_slice_write_emb (Rect.unit (s := S128x4992) ![32 * k.val, 128 * t] S32x128.size inb) f w (Finset.mem_univ (loc j))
  · refine (View.read_slice_write_of_not_mem (Rect.unit (s := S128x4992) ![32 * k.val, 128 * t] S32x128.size inb) f w _ ?_).trans (hf j hk (by omega))
    intro hm
    obtain ⟨x, -, hx⟩ := Finset.mem_map.mp hm
    have hx' : at' k ⟨t, ht⟩ x = j := hx
    exact he (by rw [← hx', tile_at'])

theorem tile_zero {Val : EltTy → Type} {sp : Space} {e : EltTy} (v : View sig .tc sp S128x4992 e)
    (T : Fin k0_t1_loop.trips → Fin 39 → S32x128.Idx → Val e) (k : Fin k0_t1_loop.trips) (f : v.ty.Contents Val) :
    ∀ j, grp j = k → (tile j).val < 0 → v.read Val f j = mkTiles T j := fun _ _ h => absurd h (Nat.not_lt_zero _)

/-- What lies in the rows `32 k … 32 k + 31` lies in row group `k`, -/
theorem grp_of_mem (k : Fin k0_t1_loop.trips) {j : S128x4992.Idx} (h : j ∈ (Rect.unit (s := S128x4992) (k0_off2 k) S32x4992.size (k0_off2_inb k)).set) : grp j = k := by
  have h0 := (Rect.mem_set_unit.mp h) 0
  rw [k0_off2_eq k] at h0
  have h1 : 32 * k.val ≤ (j 0).val ∧ (j 0).val < 32 * k.val + 32 := h0
  exact Fin.ext (show (j 0).val / 32 = k.val by omega)

/-- and the other way about. -/
theorem mem_of_grp (k : Fin k0_t1_loop.trips) {j : S128x4992.Idx} (h : grp j = k) : j ∈ (Rect.unit (s := S128x4992) (k0_off2 k) S32x4992.size (k0_off2_inb k)).set := by
  have h1 : (j 0).val / 32 = k.val := congrArg Fin.val h
  have h2 : (j 1).val < 4992 := (j 1).isLt
  refine Rect.mem_set_unit.mpr ?_
  rw [k0_off2_eq k]
  intro a; fin_cases a
  · show 32 * k.val ≤ (j 0).val ∧ (j 0).val < 32 * k.val + 32; omega
  · show 0 ≤ (j 1).val ∧ (j 1).val < 0 + 4992; omega

/-- The sum of the two inputs on a tile. -/
def hf (X R : Vec F S128x4992 .bf16) (k : Fin k0_t1_loop.trips) (t : Fin 39) : FVec F S32x128 .f32 :=
  addf (extf .f32 (win X k t) bitsLt_bf16_f32) (extf .f32 (win R k t) bitsLt_bf16_f32)

/-- The hidden state on a tile. -/
def hTile (X R : Vec F S128x4992 .bf16) (k : Fin k0_t1_loop.trips) (t : Fin 39) : FVec F S32x128 .bf16 :=
  truncf .bf16 (hf X R k t) bitsLt_bf16_f32

/-- The hidden state, whole. -/
def hB (X R : Vec F S128x4992 .bf16) : Vec F S128x4992 .bf16 := mkTiles (hTile X R)

/-- The lanewise sum of squares over the first `n` tiles of a row group. -/
def accB (X R : Vec F S128x4992 .bf16) (k : Fin k0_t1_loop.trips) : (n : ℕ) → n ≤ 39 → FVec F S32x128 .f32
  | 0, _ => broadcast S32x128 (Scalar.ofBits .f32 0x00000000#32)
  | n + 1, h => addf (accB X R k n (by omega)) (mulf (hf X R k ⟨n, h⟩) (hf X R k ⟨n, h⟩))

/-- The reciprocal root of the mean square of each row of a row group. -/
def invB (X R : Vec F S128x4992 .bf16) (k : Fin k0_t1_loop.trips) : FVec F S32x1 .f32 :=
  rsqrt (addf (divf (shapeCast S32x1 (multiReduction .add [1] S32 (accB X R k 39 (le_refl _)) 0x00000000#32 reduces_S32x128_S32 (.inl rfl) rfl) shapeCasts_S32_S32x1)
    (broadcast S32x1 (Scalar.ofBits .f32 0x459C0000#32))) (broadcast S32x1 (Scalar.ofBits .f32 0x358637BD#32)))

theorem ginb : ∀ (t : Fin 39) (a : Fin 2), (![t.val, 0] : Fin 2 → ℕ) a + S1x128.size a ≤ S39x128.size a := by
  decide +kernel

/-- The 128 gammas of a column tile. -/
def gWin {α : Type} (G : S39x128.Idx → α) (t : Fin 39) : S1x128.Idx → α :=
  VecWindow.window (s := S39x128) G ![t.val, 0] S1x128.size (ginb t)

/-- The quantised normalised hidden state on a tile. -/
def cTile (s : Vec F S1x1 .f32) (X R : Vec F S128x4992 .bf16) (G : Vec F S39x128 .f32) (k : Fin k0_t1_loop.trips) (t : Fin 39) : FVec F S32x128 .fp8e4m3 :=
  truncf .fp8e4m3 (minimumf (broadcast S32x128 (Scalar.ofBits .f32 0x43E00000#32)) (maximumf (broadcast S32x128 (Scalar.ofBits .f32 0xC3E00000#32))
    (divf (mulf (mulf (hf X R k t) (broadcastTo S32x128 (invB X R k) broadcasts_S32x1_S32x128)) (broadcastTo S32x128 (gWin G t) broadcasts_S1x128_S32x128))
      (broadcastTo S32x128 s broadcasts_S1x1_S32x128)))) bitsLt_fp8e4m3_f32

/-- The codes, whole. -/
def cB (s : Vec F S1x1 .f32) (X R : Vec F S128x4992 .bf16) (G : Vec F S39x128 .f32) : Vec F S128x4992 .fp8e4m3 := mkTiles (cTile s X R G)

/-! A load of one tile of an array reads that tile. -/

variable {Val : EltTy → Type} {sp : Space} {e : EltTy}

theorem rd3 (v : View sig .tc sp S128x4992 e) (f : v.ty.Contents Val) (k : Fin k0_t1_loop.trips) : v.readAt Val (Rect.unit (s := S128x4992) (k0_off3 k) S32x128.size (k0_off3_inb k)).toLoadRect f = win (v.read Val f) k 0 := View.readAt_unit v f _ (k0_off3_eq k) (tinb k 0)
theorem rd4 (v : View sig .tc sp S128x4992 e) (f : v.ty.Contents Val) (k : Fin k0_t1_loop.trips) : v.readAt Val (Rect.unit (s := S128x4992) (k0_off4 k) S32x128.size (k0_off4_inb k)).toLoadRect f = win (v.read Val f) k 1 := View.readAt_unit v f _ (k0_off4_eq k) (tinb k 1)
theorem rd5 (v : View sig .tc sp S128x4992 e) (f : v.ty.Contents Val) (k : Fin k0_t1_loop.trips) : v.readAt Val (Rect.unit (s := S128x4992) (k0_off5 k) S32x128.size (k0_off5_inb k)).toLoadRect f = win (v.read Val f) k 2 := View.readAt_unit v f _ (k0_off5_eq k) (tinb k 2)
theorem rd6 (v : View sig .tc sp S128x4992 e) (f : v.ty.Contents Val) (k : Fin k0_t1_loop.trips) : v.readAt Val (Rect.unit (s := S128x4992) (k0_off6 k) S32x128.size (k0_off6_inb k)).toLoadRect f = win (v.read Val f) k 3 := View.readAt_unit v f _ (k0_off6_eq k) (tinb k 3)
theorem rd7 (v : View sig .tc sp S128x4992 e) (f : v.ty.Contents Val) (k : Fin k0_t1_loop.trips) : v.readAt Val (Rect.unit (s := S128x4992) (k0_off7 k) S32x128.size (k0_off7_inb k)).toLoadRect f = win (v.read Val f) k 4 := View.readAt_unit v f _ (k0_off7_eq k) (tinb k 4)
theorem rd8 (v : View sig .tc sp S128x4992 e) (f : v.ty.Contents Val) (k : Fin k0_t1_loop.trips) : v.readAt Val (Rect.unit (s := S128x4992) (k0_off8 k) S32x128.size (k0_off8_inb k)).toLoadRect f = win (v.read Val f) k 5 := View.readAt_unit v f _ (k0_off8_eq k) (tinb k 5)
theorem rd9 (v : View sig .tc sp S128x4992 e) (f : v.ty.Contents Val) (k : Fin k0_t1_loop.trips) : v.readAt Val (Rect.unit (s := S128x4992) (k0_off9 k) S32x128.size (k0_off9_inb k)).toLoadRect f = win (v.read Val f) k 6 := View.readAt_unit v f _ (k0_off9_eq k) (tinb k 6)
theorem rd10 (v : View sig .tc sp S128x4992 e) (f : v.ty.Contents Val) (k : Fin k0_t1_loop.trips) : v.readAt Val (Rect.unit (s := S128x4992) (k0_off10 k) S32x128.size (k0_off10_inb k)).toLoadRect f = win (v.read Val f) k 7 := View.readAt_unit v f _ (k0_off10_eq k) (tinb k 7)
theorem rd11 (v : View sig .tc sp S128x4992 e) (f : v.ty.Contents Val) (k : Fin k0_t1_loop.trips) : v.readAt Val (Rect.unit (s := S128x4992) (k0_off11 k) S32x128.size (k0_off11_inb k)).toLoadRect f = win (v.read Val f) k 8 := View.readAt_unit v f _ (k0_off11_eq k) (tinb k 8)
theorem rd12 (v : View sig .tc sp S128x4992 e) (f : v.ty.Contents Val) (k : Fin k0_t1_loop.trips) : v.readAt Val (Rect.unit (s := S128x4992) (k0_off12 k) S32x128.size (k0_off12_inb k)).toLoadRect f = win (v.read Val f) k 9 := View.readAt_unit v f _ (k0_off12_eq k) (tinb k 9)
theorem rd13 (v : View sig .tc sp S128x4992 e) (f : v.ty.Contents Val) (k : Fin k0_t1_loop.trips) : v.readAt Val (Rect.unit (s := S128x4992) (k0_off13 k) S32x128.size (k0_off13_inb k)).toLoadRect f = win (v.read Val f) k 10 := View.readAt_unit v f _ (k0_off13_eq k) (tinb k 10)
theorem rd14 (v : View sig .tc sp S128x4992 e) (f : v.ty.Contents Val) (k : Fin k0_t1_loop.trips) : v.readAt Val (Rect.unit (s := S128x4992) (k0_off14 k) S32x128.size (k0_off14_inb k)).toLoadRect f = win (v.read Val f) k 11 := View.readAt_unit v f _ (k0_off14_eq k) (tinb k 11)
theorem rd15 (v : View sig .tc sp S128x4992 e) (f : v.ty.Contents Val) (k : Fin k0_t1_loop.trips) : v.readAt Val (Rect.unit (s := S128x4992) (k0_off15 k) S32x128.size (k0_off15_inb k)).toLoadRect f = win (v.read Val f) k 12 := View.readAt_unit v f _ (k0_off15_eq k) (tinb k 12)
theorem rd16 (v : View sig .tc sp S128x4992 e) (f : v.ty.Contents Val) (k : Fin k0_t1_loop.trips) : v.readAt Val (Rect.unit (s := S128x4992) (k0_off16 k) S32x128.size (k0_off16_inb k)).toLoadRect f = win (v.read Val f) k 13 := View.readAt_unit v f _ (k0_off16_eq k) (tinb k 13)
theorem rd17 (v : View sig .tc sp S128x4992 e) (f : v.ty.Contents Val) (k : Fin k0_t1_loop.trips) : v.readAt Val (Rect.unit (s := S128x4992) (k0_off17 k) S32x128.size (k0_off17_inb k)).toLoadRect f = win (v.read Val f) k 14 := View.readAt_unit v f _ (k0_off17_eq k) (tinb k 14)
theorem rd18 (v : View sig .tc sp S128x4992 e) (f : v.ty.Contents Val) (k : Fin k0_t1_loop.trips) : v.readAt Val (Rect.unit (s := S128x4992) (k0_off18 k) S32x128.size (k0_off18_inb k)).toLoadRect f = win (v.read Val f) k 15 := View.readAt_unit v f _ (k0_off18_eq k) (tinb k 15)
theorem rd19 (v : View sig .tc sp S128x4992 e) (f : v.ty.Contents Val) (k : Fin k0_t1_loop.trips) : v.readAt Val (Rect.unit (s := S128x4992) (k0_off19 k) S32x128.size (k0_off19_inb k)).toLoadRect f = win (v.read Val f) k 16 := View.readAt_unit v f _ (k0_off19_eq k) (tinb k 16)
theorem rd20 (v : View sig .tc sp S128x4992 e) (f : v.ty.Contents Val) (k : Fin k0_t1_loop.trips) : v.readAt Val (Rect.unit (s := S128x4992) (k0_off20 k) S32x128.size (k0_off20_inb k)).toLoadRect f = win (v.read Val f) k 17 := View.readAt_unit v f _ (k0_off20_eq k) (tinb k 17)
theorem rd21 (v : View sig .tc sp S128x4992 e) (f : v.ty.Contents Val) (k : Fin k0_t1_loop.trips) : v.readAt Val (Rect.unit (s := S128x4992) (k0_off21 k) S32x128.size (k0_off21_inb k)).toLoadRect f = win (v.read Val f) k 18 := View.readAt_unit v f _ (k0_off21_eq k) (tinb k 18)
theorem rd22 (v : View sig .tc sp S128x4992 e) (f : v.ty.Contents Val) (k : Fin k0_t1_loop.trips) : v.readAt Val (Rect.unit (s := S128x4992) (k0_off22 k) S32x128.size (k0_off22_inb k)).toLoadRect f = win (v.read Val f) k 19 := View.readAt_unit v f _ (k0_off22_eq k) (tinb k 19)
theorem rd23 (v : View sig .tc sp S128x4992 e) (f : v.ty.Contents Val) (k : Fin k0_t1_loop.trips) : v.readAt Val (Rect.unit (s := S128x4992) (k0_off23 k) S32x128.size (k0_off23_inb k)).toLoadRect f = win (v.read Val f) k 20 := View.readAt_unit v f _ (k0_off23_eq k) (tinb k 20)
theorem rd24 (v : View sig .tc sp S128x4992 e) (f : v.ty.Contents Val) (k : Fin k0_t1_loop.trips) : v.readAt Val (Rect.unit (s := S128x4992) (k0_off24 k) S32x128.size (k0_off24_inb k)).toLoadRect f = win (v.read Val f) k 21 := View.readAt_unit v f _ (k0_off24_eq k) (tinb k 21)
theorem rd25 (v : View sig .tc sp S128x4992 e) (f : v.ty.Contents Val) (k : Fin k0_t1_loop.trips) : v.readAt Val (Rect.unit (s := S128x4992) (k0_off25 k) S32x128.size (k0_off25_inb k)).toLoadRect f = win (v.read Val f) k 22 := View.readAt_unit v f _ (k0_off25_eq k) (tinb k 22)
theorem rd26 (v : View sig .tc sp S128x4992 e) (f : v.ty.Contents Val) (k : Fin k0_t1_loop.trips) : v.readAt Val (Rect.unit (s := S128x4992) (k0_off26 k) S32x128.size (k0_off26_inb k)).toLoadRect f = win (v.read Val f) k 23 := View.readAt_unit v f _ (k0_off26_eq k) (tinb k 23)
theorem rd27 (v : View sig .tc sp S128x4992 e) (f : v.ty.Contents Val) (k : Fin k0_t1_loop.trips) : v.readAt Val (Rect.unit (s := S128x4992) (k0_off27 k) S32x128.size (k0_off27_inb k)).toLoadRect f = win (v.read Val f) k 24 := View.readAt_unit v f _ (k0_off27_eq k) (tinb k 24)
theorem rd28 (v : View sig .tc sp S128x4992 e) (f : v.ty.Contents Val) (k : Fin k0_t1_loop.trips) : v.readAt Val (Rect.unit (s := S128x4992) (k0_off28 k) S32x128.size (k0_off28_inb k)).toLoadRect f = win (v.read Val f) k 25 := View.readAt_unit v f _ (k0_off28_eq k) (tinb k 25)
theorem rd29 (v : View sig .tc sp S128x4992 e) (f : v.ty.Contents Val) (k : Fin k0_t1_loop.trips) : v.readAt Val (Rect.unit (s := S128x4992) (k0_off29 k) S32x128.size (k0_off29_inb k)).toLoadRect f = win (v.read Val f) k 26 := View.readAt_unit v f _ (k0_off29_eq k) (tinb k 26)
theorem rd30 (v : View sig .tc sp S128x4992 e) (f : v.ty.Contents Val) (k : Fin k0_t1_loop.trips) : v.readAt Val (Rect.unit (s := S128x4992) (k0_off30 k) S32x128.size (k0_off30_inb k)).toLoadRect f = win (v.read Val f) k 27 := View.readAt_unit v f _ (k0_off30_eq k) (tinb k 27)
theorem rd31 (v : View sig .tc sp S128x4992 e) (f : v.ty.Contents Val) (k : Fin k0_t1_loop.trips) : v.readAt Val (Rect.unit (s := S128x4992) (k0_off31 k) S32x128.size (k0_off31_inb k)).toLoadRect f = win (v.read Val f) k 28 := View.readAt_unit v f _ (k0_off31_eq k) (tinb k 28)
theorem rd32 (v : View sig .tc sp S128x4992 e) (f : v.ty.Contents Val) (k : Fin k0_t1_loop.trips) : v.readAt Val (Rect.unit (s := S128x4992) (k0_off32 k) S32x128.size (k0_off32_inb k)).toLoadRect f = win (v.read Val f) k 29 := View.readAt_unit v f _ (k0_off32_eq k) (tinb k 29)
theorem rd33 (v : View sig .tc sp S128x4992 e) (f : v.ty.Contents Val) (k : Fin k0_t1_loop.trips) : v.readAt Val (Rect.unit (s := S128x4992) (k0_off33 k) S32x128.size (k0_off33_inb k)).toLoadRect f = win (v.read Val f) k 30 := View.readAt_unit v f _ (k0_off33_eq k) (tinb k 30)
theorem rd34 (v : View sig .tc sp S128x4992 e) (f : v.ty.Contents Val) (k : Fin k0_t1_loop.trips) : v.readAt Val (Rect.unit (s := S128x4992) (k0_off34 k) S32x128.size (k0_off34_inb k)).toLoadRect f = win (v.read Val f) k 31 := View.readAt_unit v f _ (k0_off34_eq k) (tinb k 31)
theorem rd35 (v : View sig .tc sp S128x4992 e) (f : v.ty.Contents Val) (k : Fin k0_t1_loop.trips) : v.readAt Val (Rect.unit (s := S128x4992) (k0_off35 k) S32x128.size (k0_off35_inb k)).toLoadRect f = win (v.read Val f) k 32 := View.readAt_unit v f _ (k0_off35_eq k) (tinb k 32)
theorem rd36 (v : View sig .tc sp S128x4992 e) (f : v.ty.Contents Val) (k : Fin k0_t1_loop.trips) : v.readAt Val (Rect.unit (s := S128x4992) (k0_off36 k) S32x128.size (k0_off36_inb k)).toLoadRect f = win (v.read Val f) k 33 := View.readAt_unit v f _ (k0_off36_eq k) (tinb k 33)
theorem rd37 (v : View sig .tc sp S128x4992 e) (f : v.ty.Contents Val) (k : Fin k0_t1_loop.trips) : v.readAt Val (Rect.unit (s := S128x4992) (k0_off37 k) S32x128.size (k0_off37_inb k)).toLoadRect f = win (v.read Val f) k 34 := View.readAt_unit v f _ (k0_off37_eq k) (tinb k 34)
theorem rd38 (v : View sig .tc sp S128x4992 e) (f : v.ty.Contents Val) (k : Fin k0_t1_loop.trips) : v.readAt Val (Rect.unit (s := S128x4992) (k0_off38 k) S32x128.size (k0_off38_inb k)).toLoadRect f = win (v.read Val f) k 35 := View.readAt_unit v f _ (k0_off38_eq k) (tinb k 35)
theorem rd39 (v : View sig .tc sp S128x4992 e) (f : v.ty.Contents Val) (k : Fin k0_t1_loop.trips) : v.readAt Val (Rect.unit (s := S128x4992) (k0_off39 k) S32x128.size (k0_off39_inb k)).toLoadRect f = win (v.read Val f) k 36 := View.readAt_unit v f _ (k0_off39_eq k) (tinb k 36)
theorem rd40 (v : View sig .tc sp S128x4992 e) (f : v.ty.Contents Val) (k : Fin k0_t1_loop.trips) : v.readAt Val (Rect.unit (s := S128x4992) (k0_off40 k) S32x128.size (k0_off40_inb k)).toLoadRect f = win (v.read Val f) k 37 := View.readAt_unit v f _ (k0_off40_eq k) (tinb k 37)
theorem rd41 (v : View sig .tc sp S128x4992 e) (f : v.ty.Contents Val) (k : Fin k0_t1_loop.trips) : v.readAt Val (Rect.unit (s := S128x4992) (k0_off41 k) S32x128.size (k0_off41_inb k)).toLoadRect f = win (v.read Val f) k 38 := View.readAt_unit v f _ (k0_off41_eq k) (tinb k 38)

/-! The same for the sum on a tile, as the loop body spells it. -/

theorem hf3 (X R : Vec F S128x4992 .bf16) (k : Fin k0_t1_loop.trips) : hf X R k ⟨0, by decide⟩ = addf (extf .f32 (xV.view.readAt (Elt F) (Rect.unit (s := S128x4992) (k0_off3 k) S32x128.size (k0_off3_inb k)).toLoadRect X) bitsLt_bf16_f32) (extf .f32 (rV.view.readAt (Elt F) (Rect.unit (s := S128x4992) (k0_off3 k) S32x128.size (k0_off3_inb k)).toLoadRect R) bitsLt_bf16_f32) := by rw [rd3, rd3]; rfl
theorem hf4 (X R : Vec F S128x4992 .bf16) (k : Fin k0_t1_loop.trips) : hf X R k ⟨1, by decide⟩ = addf (extf .f32 (xV.view.readAt (Elt F) (Rect.unit (s := S128x4992) (k0_off4 k) S32x128.size (k0_off4_inb k)).toLoadRect X) bitsLt_bf16_f32) (extf .f32 (rV.view.readAt (Elt F) (Rect.unit (s := S128x4992) (k0_off4 k) S32x128.size (k0_off4_inb k)).toLoadRect R) bitsLt_bf16_f32) := by rw [rd4, rd4]; rfl
theorem hf5 (X R : Vec F S128x4992 .bf16) (k : Fin k0_t1_loop.trips) : hf X R k ⟨2, by decide⟩ = addf (extf .f32 (xV.view.readAt (Elt F) (Rect.unit (s := S128x4992) (k0_off5 k) S32x128.size (k0_off5_inb k)).toLoadRect X) bitsLt_bf16_f32) (extf .f32 (rV.view.readAt (Elt F) (Rect.unit (s := S128x4992) (k0_off5 k) S32x128.size (k0_off5_inb k)).toLoadRect R) bitsLt_bf16_f32) := by rw [rd5, rd5]; rfl
theorem hf6 (X R : Vec F S128x4992 .bf16) (k : Fin k0_t1_loop.trips) : hf X R k ⟨3, by decide⟩ = addf (extf .f32 (xV.view.readAt (Elt F) (Rect.unit (s := S128x4992) (k0_off6 k) S32x128.size (k0_off6_inb k)).toLoadRect X) bitsLt_bf16_f32) (extf .f32 (rV.view.readAt (Elt F) (Rect.unit (s := S128x4992) (k0_off6 k) S32x128.size (k0_off6_inb k)).toLoadRect R) bitsLt_bf16_f32) := by rw [rd6, rd6]; rfl
theorem hf7 (X R : Vec F S128x4992 .bf16) (k : Fin k0_t1_loop.trips) : hf X R k ⟨4, by decide⟩ = addf (extf .f32 (xV.view.readAt (Elt F) (Rect.unit (s := S128x4992) (k0_off7 k) S32x128.size (k0_off7_inb k)).toLoadRect X) bitsLt_bf16_f32) (extf .f32 (rV.view.readAt (Elt F) (Rect.unit (s := S128x4992) (k0_off7 k) S32x128.size (k0_off7_inb k)).toLoadRect R) bitsLt_bf16_f32) := by rw [rd7, rd7]; rfl
theorem hf8 (X R : Vec F S128x4992 .bf16) (k : Fin k0_t1_loop.trips) : hf X R k ⟨5, by decide⟩ = addf (extf .f32 (xV.view.readAt (Elt F) (Rect.unit (s := S128x4992) (k0_off8 k) S32x128.size (k0_off8_inb k)).toLoadRect X) bitsLt_bf16_f32) (extf .f32 (rV.view.readAt (Elt F) (Rect.unit (s := S128x4992) (k0_off8 k) S32x128.size (k0_off8_inb k)).toLoadRect R) bitsLt_bf16_f32) := by rw [rd8, rd8]; rfl
theorem hf9 (X R : Vec F S128x4992 .bf16) (k : Fin k0_t1_loop.trips) : hf X R k ⟨6, by decide⟩ = addf (extf .f32 (xV.view.readAt (Elt F) (Rect.unit (s := S128x4992) (k0_off9 k) S32x128.size (k0_off9_inb k)).toLoadRect X) bitsLt_bf16_f32) (extf .f32 (rV.view.readAt (Elt F) (Rect.unit (s := S128x4992) (k0_off9 k) S32x128.size (k0_off9_inb k)).toLoadRect R) bitsLt_bf16_f32) := by rw [rd9, rd9]; rfl
theorem hf10 (X R : Vec F S128x4992 .bf16) (k : Fin k0_t1_loop.trips) : hf X R k ⟨7, by decide⟩ = addf (extf .f32 (xV.view.readAt (Elt F) (Rect.unit (s := S128x4992) (k0_off10 k) S32x128.size (k0_off10_inb k)).toLoadRect X) bitsLt_bf16_f32) (extf .f32 (rV.view.readAt (Elt F) (Rect.unit (s := S128x4992) (k0_off10 k) S32x128.size (k0_off10_inb k)).toLoadRect R) bitsLt_bf16_f32) := by rw [rd10, rd10]; rfl
theorem hf11 (X R : Vec F S128x4992 .bf16) (k : Fin k0_t1_loop.trips) : hf X R k ⟨8, by decide⟩ = addf (extf .f32 (xV.view.readAt (Elt F) (Rect.unit (s := S128x4992) (k0_off11 k) S32x128.size (k0_off11_inb k)).toLoadRect X) bitsLt_bf16_f32) (extf .f32 (rV.view.readAt (Elt F) (Rect.unit (s := S128x4992) (k0_off11 k) S32x128.size (k0_off11_inb k)).toLoadRect R) bitsLt_bf16_f32) := by rw [rd11, rd11]; rfl
theorem hf12 (X R : Vec F S128x4992 .bf16) (k : Fin k0_t1_loop.trips) : hf X R k ⟨9, by decide⟩ = addf (extf .f32 (xV.view.readAt (Elt F) (Rect.unit (s := S128x4992) (k0_off12 k) S32x128.size (k0_off12_inb k)).toLoadRect X) bitsLt_bf16_f32) (extf .f32 (rV.view.readAt (Elt F) (Rect.unit (s := S128x4992) (k0_off12 k) S32x128.size (k0_off12_inb k)).toLoadRect R) bitsLt_bf16_f32) := by rw [rd12, rd12]; rfl
theorem hf13 (X R : Vec F S128x4992 .bf16) (k : Fin k0_t1_loop.trips) : hf X R k ⟨10, by decide⟩ = addf (extf .f32 (xV.view.readAt (Elt F) (Rect.unit (s := S128x4992) (k0_off13 k) S32x128.size (k0_off13_inb k)).toLoadRect X) bitsLt_bf16_f32) (extf .f32 (rV.view.readAt (Elt F) (Rect.unit (s := S128x4992) (k0_off13 k) S32x128.size (k0_off13_inb k)).toLoadRect R) bitsLt_bf16_f32) := by rw [rd13, rd13]; rfl
theorem hf14 (X R : Vec F S128x4992 .bf16) (k : Fin k0_t1_loop.trips) : hf X R k ⟨11, by decide⟩ = addf (extf .f32 (xV.view.readAt (Elt F) (Rect.unit (s := S128x4992) (k0_off14 k) S32x128.size (k0_off14_inb k)).toLoadRect X) bitsLt_bf16_f32) (extf .f32 (rV.view.readAt (Elt F) (Rect.unit (s := S128x4992) (k0_off14 k) S32x128.size (k0_off14_inb k)).toLoadRect R) bitsLt_bf16_f32) := by rw [rd14, rd14]; rfl
theorem hf15 (X R : Vec F S128x4992 .bf16) (k : Fin k0_t1_loop.trips) : hf X R k ⟨12, by decide⟩ = addf (extf .f32 (xV.view.readAt (Elt F) (Rect.unit (s := S128x4992) (k0_off15 k) S32x128.size (k0_off15_inb k)).toLoadRect X) bitsLt_bf16_f32) (extf .f32 (rV.view.readAt (Elt F) (Rect.unit (s := S128x4992) (k0_off15 k) S32x128.size (k0_off15_inb k)).toLoadRect R) bitsLt_bf16_f32) := by rw [rd15, rd15]; rfl
theorem hf16 (X R : Vec F S128x4992 .bf16) (k : Fin k0_t1_loop.trips) : hf X R k ⟨13, by decide⟩ = addf (extf .f32 (xV.view.readAt (Elt F) (Rect.unit (s := S128x4992) (k0_off16 k) S32x128.size (k0_off16_inb k)).toLoadRect X) bitsLt_bf16_f32) (extf .f32 (rV.view.readAt (Elt F) (Rect.unit (s := S128x4992) (k0_off16 k) S32x128.size (k0_off16_inb k)).toLoadRect R) bitsLt_bf16_f32) := by rw [rd16, rd16]; rfl
theorem hf17 (X R : Vec F S128x4992 .bf16) (k : Fin k0_t1_loop.trips) : hf X R k ⟨14, by decide⟩ = addf (extf .f32 (xV.view.readAt (Elt F) (Rect.unit (s := S128x4992) (k0_off17 k) S32x128.size (k0_off17_inb k)).toLoadRect X) bitsLt_bf16_f32) (extf .f32 (rV.view.readAt (Elt F) (Rect.unit (s := S128x4992) (k0_off17 k) S32x128.size (k0_off17_inb k)).toLoadRect R) bitsLt_bf16_f32) := by rw [rd17, rd17]; rfl
theorem hf18 (X R : Vec F S128x4992 .bf16) (k : Fin k0_t1_loop.trips) : hf X R k ⟨15, by decide⟩ = addf (extf .f32 (xV.view.readAt (Elt F) (Rect.unit (s := S128x4992) (k0_off18 k) S32x128.size (k0_off18_inb k)).toLoadRect X) bitsLt_bf16_f32) (extf .f32 (rV.view.readAt (Elt F) (Rect.unit (s := S128x4992) (k0_off18 k) S32x128.size (k0_off18_inb k)).toLoadRect R) bitsLt_bf16_f32) := by rw [rd18, rd18]; rfl
theorem hf19 (X R : Vec F S128x4992 .bf16) (k : Fin k0_t1_loop.trips) : hf X R k ⟨16, by decide⟩ = addf (extf .f32 (xV.view.readAt (Elt F) (Rect.unit (s := S128x4992) (k0_off19 k) S32x128.size (k0_off19_inb k)).toLoadRect X) bitsLt_bf16_f32) (extf .f32 (rV.view.readAt (Elt F) (Rect.unit (s := S128x4992) (k0_off19 k) S32x128.size (k0_off19_inb k)).toLoadRect R) bitsLt_bf16_f32) := by rw [rd19, rd19]; rfl
theorem hf20 (X R : Vec F S128x4992 .bf16) (k : Fin k0_t1_loop.trips) : hf X R k ⟨17, by decide⟩ = addf (extf .f32 (xV.view.readAt (Elt F) (Rect.unit (s := S128x4992) (k0_off20 k) S32x128.size (k0_off20_inb k)).toLoadRect X) bitsLt_bf16_f32) (extf .f32 (rV.view.readAt (Elt F) (Rect.unit (s := S128x4992) (k0_off20 k) S32x128.size (k0_off20_inb k)).toLoadRect R) bitsLt_bf16_f32) := by rw [rd20, rd20]; rfl
theorem hf21 (X R : Vec F S128x4992 .bf16) (k : Fin k0_t1_loop.trips) : hf X R k ⟨18, by decide⟩ = addf (extf .f32 (xV.view.readAt (Elt F) (Rect.unit (s := S128x4992) (k0_off21 k) S32x128.size (k0_off21_inb k)).toLoadRect X) bitsLt_bf16_f32) (extf .f32 (rV.view.readAt (Elt F) (Rect.unit (s := S128x4992) (k0_off21 k) S32x128.size (k0_off21_inb k)).toLoadRect R) bitsLt_bf16_f32) := by rw [rd21, rd21]; rfl
theorem hf22 (X R : Vec F S128x4992 .bf16) (k : Fin k0_t1_loop.trips) : hf X R k ⟨19, by decide⟩ = addf (extf .f32 (xV.view.readAt (Elt F) (Rect.unit (s := S128x4992) (k0_off22 k) S32x128.size (k0_off22_inb k)).toLoadRect X) bitsLt_bf16_f32) (extf .f32 (rV.view.readAt (Elt F) (Rect.unit (s := S128x4992) (k0_off22 k) S32x128.size (k0_off22_inb k)).toLoadRect R) bitsLt_bf16_f32) := by rw [rd22, rd22]; rfl
theorem hf23 (X R : Vec F S128x4992 .bf16) (k : Fin k0_t1_loop.trips) : hf X R k ⟨20, by decide⟩ = addf (extf .f32 (xV.view.readAt (Elt F) (Rect.unit (s := S128x4992) (k0_off23 k) S32x128.size (k0_off23_inb k)).toLoadRect X) bitsLt_bf16_f32) (extf .f32 (rV.view.readAt (Elt F) (Rect.unit (s := S128x4992) (k0_off23 k) S32x128.size (k0_off23_inb k)).toLoadRect R) bitsLt_bf16_f32) := by rw [rd23, rd23]; rfl
theorem hf24 (X R : Vec F S128x4992 .bf16) (k : Fin k0_t1_loop.trips) : hf X R k ⟨21, by decide⟩ = addf (extf .f32 (xV.view.readAt (Elt F) (Rect.unit (s := S128x4992) (k0_off24 k) S32x128.size (k0_off24_inb k)).toLoadRect X) bitsLt_bf16_f32) (extf .f32 (rV.view.readAt (Elt F) (Rect.unit (s := S128x4992) (k0_off24 k) S32x128.size (k0_off24_inb k)).toLoadRect R) bitsLt_bf16_f32) := by rw [rd24, rd24]; rfl
theorem hf25 (X R : Vec F S128x4992 .bf16) (k : Fin k0_t1_loop.trips) : hf X R k ⟨22, by decide⟩ = addf (extf .f32 (xV.view.readAt (Elt F) (Rect.unit (s := S128x4992) (k0_off25 k) S32x128.size (k0_off25_inb k)).toLoadRect X) bitsLt_bf16_f32) (extf .f32 (rV.view.readAt (Elt F) (Rect.unit (s := S128x4992) (k0_off25 k) S32x128.size (k0_off25_inb k)).toLoadRect R) bitsLt_bf16_f32) := by rw [rd25, rd25]; rfl
theorem hf26 (X R : Vec F S128x4992 .bf16) (k : Fin k0_t1_loop.trips) : hf X R k ⟨23, by decide⟩ = addf (extf .f32 (xV.view.readAt (Elt F) (Rect.unit (s := S128x4992) (k0_off26 k) S32x128.size (k0_off26_inb k)).toLoadRect X) bitsLt_bf16_f32) (extf .f32 (rV.view.readAt (Elt F) (Rect.unit (s := S128x4992) (k0_off26 k) S32x128.size (k0_off26_inb k)).toLoadRect R) bitsLt_bf16_f32) := by rw [rd26, rd26]; rfl
theorem hf27 (X R : Vec F S128x4992 .bf16) (k : Fin k0_t1_loop.trips) : hf X R k ⟨24, by decide⟩ = addf (extf .f32 (xV.view.readAt (Elt F) (Rect.unit (s := S128x4992) (k0_off27 k) S32x128.size (k0_off27_inb k)).toLoadRect X) bitsLt_bf16_f32) (extf .f32 (rV.view.readAt (Elt F) (Rect.unit (s := S128x4992) (k0_off27 k) S32x128.size (k0_off27_inb k)).toLoadRect R) bitsLt_bf16_f32) := by rw [rd27, rd27]; rfl
theorem hf28 (X R : Vec F S128x4992 .bf16) (k : Fin k0_t1_loop.trips) : hf X R k ⟨25, by decide⟩ = addf (extf .f32 (xV.view.readAt (Elt F) (Rect.unit (s := S128x4992) (k0_off28 k) S32x128.size (k0_off28_inb k)).toLoadRect X) bitsLt_bf16_f32) (extf .f32 (rV.view.readAt (Elt F) (Rect.unit (s := S128x4992) (k0_off28 k) S32x128.size (k0_off28_inb k)).toLoadRect R) bitsLt_bf16_f32) := by rw [rd28, rd28]; rfl
theorem hf29 (X R : Vec F S128x4992 .bf16) (k : Fin k0_t1_loop.trips) : hf X R k ⟨26, by decide⟩ = addf (extf .f32 (xV.view.readAt (Elt F) (Rect.unit (s := S128x4992) (k0_off29 k) S32x128.size (k0_off29_inb k)).toLoadRect X) bitsLt_bf16_f32) (extf .f32 (rV.view.readAt (Elt F) (Rect.unit (s := S128x4992) (k0_off29 k) S32x128.size (k0_off29_inb k)).toLoadRect R) bitsLt_bf16_f32) := by rw [rd29, rd29]; rfl
theorem hf30 (X R : Vec F S128x4992 .bf16) (k : Fin k0_t1_loop.trips) : hf X R k ⟨27, by decide⟩ = addf (extf .f32 (xV.view.readAt (Elt F) (Rect.unit (s := S128x4992) (k0_off30 k) S32x128.size (k0_off30_inb k)).toLoadRect X) bitsLt_bf16_f32) (extf .f32 (rV.view.readAt (Elt F) (Rect.unit (s := S128x4992) (k0_off30 k) S32x128.size (k0_off30_inb k)).toLoadRect R) bitsLt_bf16_f32) := by rw [rd30, rd30]; rfl
theorem hf31 (X R : Vec F S128x4992 .bf16) (k : Fin k0_t1_loop.trips) : hf X R k ⟨28, by decide⟩ = addf (extf .f32 (xV.view.readAt (Elt F) (Rect.unit (s := S128x4992) (k0_off31 k) S32x128.size (k0_off31_inb k)).toLoadRect X) bitsLt_bf16_f32) (extf .f32 (rV.view.readAt (Elt F) (Rect.unit (s := S128x4992) (k0_off31 k) S32x128.size (k0_off31_inb k)).toLoadRect R) bitsLt_bf16_f32) := by rw [rd31, rd31]; rfl
theorem hf32 (X R : Vec F S128x4992 .bf16) (k : Fin k0_t1_loop.trips) : hf X R k ⟨29, by decide⟩ = addf (extf .f32 (xV.view.readAt (Elt F) (Rect.unit (s := S128x4992) (k0_off32 k) S32x128.size (k0_off32_inb k)).toLoadRect X) bitsLt_bf16_f32) (extf .f32 (rV.view.readAt (Elt F) (Rect.unit (s := S128x4992) (k0_off32 k) S32x128.size (k0_off32_inb k)).toLoadRect R) bitsLt_bf16_f32) := by rw [rd32, rd32]; rfl
theorem hf33 (X R : Vec F S128x4992 .bf16) (k : Fin k0_t1_loop.trips) : hf X R k ⟨30, by decide⟩ = addf (extf .f32 (xV.view.readAt (Elt F) (Rect.unit (s := S128x4992) (k0_off33 k) S32x128.size (k0_off33_inb k)).toLoadRect X) bitsLt_bf16_f32) (extf .f32 (rV.view.readAt (Elt F) (Rect.unit (s := S128x4992) (k0_off33 k) S32x128.size (k0_off33_inb k)).toLoadRect R) bitsLt_bf16_f32) := by rw [rd33, rd33]; rfl
theorem hf34 (X R : Vec F S128x4992 .bf16) (k : Fin k0_t1_loop.trips) : hf X R k ⟨31, by decide⟩ = addf (extf .f32 (xV.view.readAt (Elt F) (Rect.unit (s := S128x4992) (k0_off34 k) S32x128.size (k0_off34_inb k)).toLoadRect X) bitsLt_bf16_f32) (extf .f32 (rV.view.readAt (Elt F) (Rect.unit (s := S128x4992) (k0_off34 k) S32x128.size (k0_off34_inb k)).toLoadRect R) bitsLt_bf16_f32) := by rw [rd34, rd34]; rfl
theorem hf35 (X R : Vec F S128x4992 .bf16) (k : Fin k0_t1_loop.trips) : hf X R k ⟨32, by decide⟩ = addf (extf .f32 (xV.view.readAt (Elt F) (Rect.unit (s := S128x4992) (k0_off35 k) S32x128.size (k0_off35_inb k)).toLoadRect X) bitsLt_bf16_f32) (extf .f32 (rV.view.readAt (Elt F) (Rect.unit (s := S128x4992) (k0_off35 k) S32x128.size (k0_off35_inb k)).toLoadRect R) bitsLt_bf16_f32) := by rw [rd35, rd35]; rfl
theorem hf36 (X R : Vec F S128x4992 .bf16) (k : Fin k0_t1_loop.trips) : hf X R k ⟨33, by decide⟩ = addf (extf .f32 (xV.view.readAt (Elt F) (Rect.unit (s := S128x4992) (k0_off36 k) S32x128.size (k0_off36_inb k)).toLoadRect X) bitsLt_bf16_f32) (extf .f32 (rV.view.readAt (Elt F) (Rect.unit (s := S128x4992) (k0_off36 k) S32x128.size (k0_off36_inb k)).toLoadRect R) bitsLt_bf16_f32) := by rw [rd36, rd36]; rfl
theorem hf37 (X R : Vec F S128x4992 .bf16) (k : Fin k0_t1_loop.trips) : hf X R k ⟨34, by decide⟩ = addf (extf .f32 (xV.view.readAt (Elt F) (Rect.unit (s := S128x4992) (k0_off37 k) S32x128.size (k0_off37_inb k)).toLoadRect X) bitsLt_bf16_f32) (extf .f32 (rV.view.readAt (Elt F) (Rect.unit (s := S128x4992) (k0_off37 k) S32x128.size (k0_off37_inb k)).toLoadRect R) bitsLt_bf16_f32) := by rw [rd37, rd37]; rfl
theorem hf38 (X R : Vec F S128x4992 .bf16) (k : Fin k0_t1_loop.trips) : hf X R k ⟨35, by decide⟩ = addf (extf .f32 (xV.view.readAt (Elt F) (Rect.unit (s := S128x4992) (k0_off38 k) S32x128.size (k0_off38_inb k)).toLoadRect X) bitsLt_bf16_f32) (extf .f32 (rV.view.readAt (Elt F) (Rect.unit (s := S128x4992) (k0_off38 k) S32x128.size (k0_off38_inb k)).toLoadRect R) bitsLt_bf16_f32) := by rw [rd38, rd38]; rfl
theorem hf39 (X R : Vec F S128x4992 .bf16) (k : Fin k0_t1_loop.trips) : hf X R k ⟨36, by decide⟩ = addf (extf .f32 (xV.view.readAt (Elt F) (Rect.unit (s := S128x4992) (k0_off39 k) S32x128.size (k0_off39_inb k)).toLoadRect X) bitsLt_bf16_f32) (extf .f32 (rV.view.readAt (Elt F) (Rect.unit (s := S128x4992) (k0_off39 k) S32x128.size (k0_off39_inb k)).toLoadRect R) bitsLt_bf16_f32) := by rw [rd39, rd39]; rfl
theorem hf40 (X R : Vec F S128x4992 .bf16) (k : Fin k0_t1_loop.trips) : hf X R k ⟨37, by decide⟩ = addf (extf .f32 (xV.view.readAt (Elt F) (Rect.unit (s := S128x4992) (k0_off40 k) S32x128.size (k0_off40_inb k)).toLoadRect X) bitsLt_bf16_f32) (extf .f32 (rV.view.readAt (Elt F) (Rect.unit (s := S128x4992) (k0_off40 k) S32x128.size (k0_off40_inb k)).toLoadRect R) bitsLt_bf16_f32) := by rw [rd40, rd40]; rfl
theorem hf41 (X R : Vec F S128x4992 .bf16) (k : Fin k0_t1_loop.trips) : hf X R k ⟨38, by decide⟩ = addf (extf .f32 (xV.view.readAt (Elt F) (Rect.unit (s := S128x4992) (k0_off41 k) S32x128.size (k0_off41_inb k)).toLoadRect X) bitsLt_bf16_f32) (extf .f32 (rV.view.readAt (Elt F) (Rect.unit (s := S128x4992) (k0_off41 k) S32x128.size (k0_off41_inb k)).toLoadRect R) bitsLt_bf16_f32) := by rw [rd41, rd41]; rfl

end Cert.Kernel.Hand
-- ==== Proof.K.T1.lean ====
module

public import proofs.«01_k».proof.Proof.K.Model

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

abbrev xcell (k : Fin k0_t1_loop.trips) : DmaSems sig S_ :=
  (cc0_scratch12.slice (Rect.unit (s := S4) (k0_off1 k) S1.size (k0_off1_inb k))).squeeze S_ squeezes_S1_S_

def dX (c : Dev nD) (k : Fin k0_t1_loop.trips) (X R : Vec F S128x4992 .bf16) : Fin 2 → sProp 𝕄
  | 0 => iprop(own c (rows xV k) fullShare X ∗ own c (rows xH k) fullShare X)
  | 1 => iprop(own c (rows rV k) fullShare R ∗ own c (rows rH k) fullShare R)

set_option maxHeartbeats 2000000 in
theorem norm_t (c : Dev nD) (k : Fin k0_t1_loop.trips) (v110 : Vec F S1x1 .f32) (W : Waits sig Unit)
   (X R h0 : Vec F S128x4992 .bf16) (c0 : Vec F S128x4992 .fp8e4m3) (G : Vec F S39x128 .f32)  :
   iprop(Transfers.Batch (countersEmb (U := Pipeline.UD sig nD τ)) (c : Thread nD τ) (.dma (xcell k).sem) () ((rows xV k).view.dmaCredit) (dX c k X R) 2 0
      ∗ owes (c : Thread nD τ) 0 W
      ∗ own c gF fullShare G
      ∗ own c (rows hV k) fullShare h0 ∗ own c (rows cV k) fullShare c0) ⊢
    wp frame (wpE (defs₀ (F := F)) Variants.none c none) Set.univ
      (k0_part33 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 1#32 k) (fun r =>
        iprop(own c (rows hV k) fullShare (hB X R) ∗ own c (rows cV k) fullShare (cB v110 X R G) ∗ own c gF fullShare G
          ∗ own c (rows xV k) fullShare X ∗ own c (rows xH k) fullShare X ∗ own c (rows rV k) fullShare R ∗ own c (rows rH k) fullShare R
          ∗ semVal ((c : Thread nD τ), SemLoc.dma (xcell k).sem) 0 ∗ ∃ W', owes (c : Thread nD τ) 0 W')) := by
  unfold dX
  iintro ⟨HB, HW, HG, Hh, Hc⟩
  sl_exec
  sl_step
  have einv : invB X R k = norm_t.sl.r_28 k X R := by
    unfold invB
    simp only [accB, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf40, hf41]
    rfl
  have eh : own c (rows hV k) fullShare (norm_t.sl.Hh_w39 k X R h0) ⊢ own c (rows hV k) fullShare (hB X R) := by
    refine .of_eq (pointsTo_congr fun j hj => ?_)
    have hg : grp j = k := grp_of_mem k (by rwa [show (rows hV k).view.set = _ from View.set_slice_whole _ _] at hj)
    refine (show ∀ j, grp j = k → (tile j).val < 39 → hV.view.read (Elt F) (norm_t.sl.Hh_w39 k X R h0) j = mkTiles (hTile X R) j from ?_) j hg (tile j).isLt
    clear hg hj j
    unfold norm_t.sl.Hh_w39
    refine tile_step (Val := Elt F) hV.view (hTile X R) k 38 (by decide) (k0_off41_eq k) (k0_off41_inb k) _ _ ?_ ?_
    · unfold hTile; rw [hf41]; exact sc_self _ _
    unfold norm_t.sl.Hh_w38
    refine tile_step (Val := Elt F) hV.view (hTile X R) k 37 (by decide) (k0_off40_eq k) (k0_off40_inb k) _ _ ?_ ?_
    · unfold hTile; rw [hf40]; exact sc_self _ _
    unfold norm_t.sl.Hh_w37
    refine tile_step (Val := Elt F) hV.view (hTile X R) k 36 (by decide) (k0_off39_eq k) (k0_off39_inb k) _ _ ?_ ?_
    · unfold hTile; rw [hf39]; exact sc_self _ _
    unfold norm_t.sl.Hh_w36
    refine tile_step (Val := Elt F) hV.view (hTile X R) k 35 (by decide) (k0_off38_eq k) (k0_off38_inb k) _ _ ?_ ?_
    · unfold hTile; rw [hf38]; exact sc_self _ _
    unfold norm_t.sl.Hh_w35
    refine tile_step (Val := Elt F) hV.view (hTile X R) k 34 (by decide) (k0_off37_eq k) (k0_off37_inb k) _ _ ?_ ?_
    · unfold hTile; rw [hf37]; exact sc_self _ _
    unfold norm_t.sl.Hh_w34
    refine tile_step (Val := Elt F) hV.view (hTile X R) k 33 (by decide) (k0_off36_eq k) (k0_off36_inb k) _ _ ?_ ?_
    · unfold hTile; rw [hf36]; exact sc_self _ _
    unfold norm_t.sl.Hh_w33
    refine tile_step (Val := Elt F) hV.view (hTile X R) k 32 (by decide) (k0_off35_eq k) (k0_off35_inb k) _ _ ?_ ?_
    · unfold hTile; rw [hf35]; exact sc_self _ _
    unfold norm_t.sl.Hh_w32
    refine tile_step (Val := Elt F) hV.view (hTile X R) k 31 (by decide) (k0_off34_eq k) (k0_off34_inb k) _ _ ?_ ?_
    · unfold hTile; rw [hf34]; unfold norm_t.sl.r_23; exact sc_self _ _
    unfold norm_t.sl.Hh_w31
    refine tile_step (Val := Elt F) hV.view (hTile X R) k 30 (by decide) (k0_off33_eq k) (k0_off33_inb k) _ _ ?_ ?_
    · unfold hTile; rw [hf33]; exact sc_self _ _
    unfold norm_t.sl.Hh_w30
    refine tile_step (Val := Elt F) hV.view (hTile X R) k 29 (by decide) (k0_off32_eq k) (k0_off32_inb k) _ _ ?_ ?_
    · unfold hTile; rw [hf32]; exact sc_self _ _
    unfold norm_t.sl.Hh_w29
    refine tile_step (Val := Elt F) hV.view (hTile X R) k 28 (by decide) (k0_off31_eq k) (k0_off31_inb k) _ _ ?_ ?_
    · unfold hTile; rw [hf31]; exact sc_self _ _
    unfold norm_t.sl.Hh_w28
    refine tile_step (Val := Elt F) hV.view (hTile X R) k 27 (by decide) (k0_off30_eq k) (k0_off30_inb k) _ _ ?_ ?_
    · unfold hTile; rw [hf30]; exact sc_self _ _
    unfold norm_t.sl.Hh_w27
    refine tile_step (Val := Elt F) hV.view (hTile X R) k 26 (by decide) (k0_off29_eq k) (k0_off29_inb k) _ _ ?_ ?_
    · unfold hTile; rw [hf29]; exact sc_self _ _
    unfold norm_t.sl.Hh_w26
    refine tile_step (Val := Elt F) hV.view (hTile X R) k 25 (by decide) (k0_off28_eq k) (k0_off28_inb k) _ _ ?_ ?_
    · unfold hTile; rw [hf28]; exact sc_self _ _
    unfold norm_t.sl.Hh_w25
    refine tile_step (Val := Elt F) hV.view (hTile X R) k 24 (by decide) (k0_off27_eq k) (k0_off27_inb k) _ _ ?_ ?_
    · unfold hTile; rw [hf27]; exact sc_self _ _
    unfold norm_t.sl.Hh_w24
    refine tile_step (Val := Elt F) hV.view (hTile X R) k 23 (by decide) (k0_off26_eq k) (k0_off26_inb k) _ _ ?_ ?_
    · unfold hTile; rw [hf26]; exact sc_self _ _
    unfold norm_t.sl.Hh_w23
    refine tile_step (Val := Elt F) hV.view (hTile X R) k 22 (by decide) (k0_off25_eq k) (k0_off25_inb k) _ _ ?_ ?_
    · unfold hTile; rw [hf25]; exact sc_self _ _
    unfold norm_t.sl.Hh_w22
    refine tile_step (Val := Elt F) hV.view (hTile X R) k 21 (by decide) (k0_off24_eq k) (k0_off24_inb k) _ _ ?_ ?_
    · unfold hTile; rw [hf24]; unfold norm_t.sl.r_16; exact sc_self _ _
    unfold norm_t.sl.Hh_w21
    refine tile_step (Val := Elt F) hV.view (hTile X R) k 20 (by decide) (k0_off23_eq k) (k0_off23_inb k) _ _ ?_ ?_
    · unfold hTile; rw [hf23]; exact sc_self _ _
    unfold norm_t.sl.Hh_w20
    refine tile_step (Val := Elt F) hV.view (hTile X R) k 19 (by decide) (k0_off22_eq k) (k0_off22_inb k) _ _ ?_ ?_
    · unfold hTile; rw [hf22]; exact sc_self _ _
    unfold norm_t.sl.Hh_w19
    refine tile_step (Val := Elt F) hV.view (hTile X R) k 18 (by decide) (k0_off21_eq k) (k0_off21_inb k) _ _ ?_ ?_
    · unfold hTile; rw [hf21]; exact sc_self _ _
    unfold norm_t.sl.Hh_w18
    refine tile_step (Val := Elt F) hV.view (hTile X R) k 17 (by decide) (k0_off20_eq k) (k0_off20_inb k) _ _ ?_ ?_
    · unfold hTile; rw [hf20]; exact sc_self _ _
    unfold norm_t.sl.Hh_w17
    refine tile_step (Val := Elt F) hV.view (hTile X R) k 16 (by decide) (k0_off19_eq k) (k0_off19_inb k) _ _ ?_ ?_
    · unfold hTile; rw [hf19]; exact sc_self _ _
    unfold norm_t.sl.Hh_w16
    refine tile_step (Val := Elt F) hV.view (hTile X R) k 15 (by decide) (k0_off18_eq k) (k0_off18_inb k) _ _ ?_ ?_
    · unfold hTile; rw [hf18]; exact sc_self _ _
    unfold norm_t.sl.Hh_w15
    refine tile_step (Val := Elt F) hV.view (hTile X R) k 14 (by decide) (k0_off17_eq k) (k0_off17_inb k) _ _ ?_ ?_
    · unfold hTile; rw [hf17]; exact sc_self _ _
    unfold norm_t.sl.Hh_w14
    refine tile_step (Val := Elt F) hV.view (hTile X R) k 13 (by decide) (k0_off16_eq k) (k0_off16_inb k) _ _ ?_ ?_
    · unfold hTile; rw [hf16]; exact sc_self _ _
    unfold norm_t.sl.Hh_w13
    refine tile_step (Val := Elt F) hV.view (hTile X R) k 12 (by decide) (k0_off15_eq k) (k0_off15_inb k) _ _ ?_ ?_
    · unfold hTile; rw [hf15]; exact sc_self _ _
    unfold norm_t.sl.Hh_w12
    refine tile_step (Val := Elt F) hV.view (hTile X R) k 11 (by decide) (k0_off14_eq k) (k0_off14_inb k) _ _ ?_ ?_
    · unfold hTile; rw [hf14]; unfold norm_t.sl.r_9; exact sc_self _ _
    unfold norm_t.sl.Hh_w11
    refine tile_step (Val := Elt F) hV.view (hTile X R) k 10 (by decide) (k0_off13_eq k) (k0_off13_inb k) _ _ ?_ ?_
    · unfold hTile; rw [hf13]; exact sc_self _ _
    unfold norm_t.sl.Hh_w10
    refine tile_step (Val := Elt F) hV.view (hTile X R) k 9 (by decide) (k0_off12_eq k) (k0_off12_inb k) _ _ ?_ ?_
    · unfold hTile; rw [hf12]; exact sc_self _ _
    unfold norm_t.sl.Hh_w9
    refine tile_step (Val := Elt F) hV.view (hTile X R) k 8 (by decide) (k0_off11_eq k) (k0_off11_inb k) _ _ ?_ ?_
    · unfold hTile; rw [hf11]; exact sc_self _ _
    unfold norm_t.sl.Hh_w8
    refine tile_step (Val := Elt F) hV.view (hTile X R) k 7 (by decide) (k0_off10_eq k) (k0_off10_inb k) _ _ ?_ ?_
    · unfold hTile; rw [hf10]; exact sc_self _ _
    unfold norm_t.sl.Hh_w7
    refine tile_step (Val := Elt F) hV.view (hTile X R) k 6 (by decide) (k0_off9_eq k) (k0_off9_inb k) _ _ ?_ ?_
    · unfold hTile; rw [hf9]; exact sc_self _ _
    unfold norm_t.sl.Hh_w6
    refine tile_step (Val := Elt F) hV.view (hTile X R) k 5 (by decide) (k0_off8_eq k) (k0_off8_inb k) _ _ ?_ ?_
    · unfold hTile; rw [hf8]; exact sc_self _ _
    unfold norm_t.sl.Hh_w5
    refine tile_step (Val := Elt F) hV.view (hTile X R) k 4 (by decide) (k0_off7_eq k) (k0_off7_inb k) _ _ ?_ ?_
    · unfold hTile; rw [hf7]; exact sc_self _ _
    unfold norm_t.sl.Hh_w4
    refine tile_step (Val := Elt F) hV.view (hTile X R) k 3 (by decide) (k0_off6_eq k) (k0_off6_inb k) _ _ ?_ ?_
    · unfold hTile; rw [hf6]; exact sc_self _ _
    unfold norm_t.sl.Hh_w3
    refine tile_step (Val := Elt F) hV.view (hTile X R) k 2 (by decide) (k0_off5_eq k) (k0_off5_inb k) _ _ ?_ ?_
    · unfold hTile; rw [hf5]; exact sc_self _ _
    unfold norm_t.sl.Hh_w2
    refine tile_step (Val := Elt F) hV.view (hTile X R) k 1 (by decide) (k0_off4_eq k) (k0_off4_inb k) _ _ ?_ ?_
    · unfold hTile; rw [hf4]; unfold norm_t.sl.r_2; exact sc_self _ _
    unfold norm_t.sl.Hh_w1
    refine tile_step (Val := Elt F) hV.view (hTile X R) k 0 (by decide) (k0_off3_eq k) (k0_off3_inb k) _ _ ?_ ?_
    · unfold hTile; rw [hf3]; exact sc_self _ _
    exact tile_zero (Val := Elt F) hV.view (hTile X R) k _
  have ec : own c (rows cV k) fullShare (norm_t.sl.Hc_w78 k v110 X R c0 G) ⊢ own c (rows cV k) fullShare (cB v110 X R G) := by
    refine .of_eq (pointsTo_congr fun j hj => ?_)
    have hg : grp j = k := grp_of_mem k (by rwa [show (rows cV k).view.set = _ from View.set_slice_whole _ _] at hj)
    refine (show ∀ j, grp j = k → (tile j).val < 39 → cV.view.read (Elt F) (norm_t.sl.Hc_w78 k v110 X R c0 G) j = mkTiles (cTile v110 X R G) j from ?_) j hg (tile j).isLt
    clear hg hj j
    unfold norm_t.sl.Hc_w78
    refine tile_step (Val := Elt F) cV.view (cTile v110 X R G) k 38 (by decide) (k0_off41_eq k) (k0_off41_inb k) _ _ ?_ ?_
    · unfold cTile; rw [hf41, einv]; exact sc_self _ _
    unfold norm_t.sl.Hc_w77
    refine tile_step (Val := Elt F) cV.view (cTile v110 X R G) k 37 (by decide) (k0_off40_eq k) (k0_off40_inb k) _ _ ?_ ?_
    · unfold cTile; rw [hf40, einv]; exact sc_self _ _
    unfold norm_t.sl.Hc_w76
    refine tile_step (Val := Elt F) cV.view (cTile v110 X R G) k 36 (by decide) (k0_off39_eq k) (k0_off39_inb k) _ _ ?_ ?_
    · unfold cTile; rw [hf39, einv]; exact sc_self _ _
    unfold norm_t.sl.Hc_w75
    refine tile_step (Val := Elt F) cV.view (cTile v110 X R G) k 35 (by decide) (k0_off38_eq k) (k0_off38_inb k) _ _ ?_ ?_
    · unfold cTile; rw [hf38, einv]; exact sc_self _ _
    unfold norm_t.sl.Hc_w74
    refine tile_step (Val := Elt F) cV.view (cTile v110 X R G) k 34 (by decide) (k0_off37_eq k) (k0_off37_inb k) _ _ ?_ ?_
    · unfold cTile; rw [hf37, einv]; exact sc_self _ _
    unfold norm_t.sl.Hc_w73
    refine tile_step (Val := Elt F) cV.view (cTile v110 X R G) k 33 (by decide) (k0_off36_eq k) (k0_off36_inb k) _ _ ?_ ?_
    · unfold cTile; rw [hf36, einv]; exact sc_self _ _
    unfold norm_t.sl.Hc_w72
    refine tile_step (Val := Elt F) cV.view (cTile v110 X R G) k 32 (by decide) (k0_off35_eq k) (k0_off35_inb k) _ _ ?_ ?_
    · unfold cTile; rw [hf35, einv]; exact sc_self _ _
    unfold norm_t.sl.Hc_w71
    refine tile_step (Val := Elt F) cV.view (cTile v110 X R G) k 31 (by decide) (k0_off34_eq k) (k0_off34_inb k) _ _ ?_ ?_
    · unfold cTile; rw [hf34, einv]; exact sc_self _ _
    unfold norm_t.sl.Hc_w70
    refine tile_step (Val := Elt F) cV.view (cTile v110 X R G) k 30 (by decide) (k0_off33_eq k) (k0_off33_inb k) _ _ ?_ ?_
    · unfold cTile; rw [hf33, einv]; exact sc_self _ _
    unfold norm_t.sl.Hc_w69
    refine tile_step (Val := Elt F) cV.view (cTile v110 X R G) k 29 (by decide) (k0_off32_eq k) (k0_off32_inb k) _ _ ?_ ?_
    · unfold cTile; rw [hf32, einv]; exact sc_self _ _
    unfold norm_t.sl.Hc_w68
    refine tile_step (Val := Elt F) cV.view (cTile v110 X R G) k 28 (by decide) (k0_off31_eq k) (k0_off31_inb k) _ _ ?_ ?_
    · unfold cTile; rw [hf31, einv]; exact sc_self _ _
    unfold norm_t.sl.Hc_w67
    refine tile_step (Val := Elt F) cV.view (cTile v110 X R G) k 27 (by decide) (k0_off30_eq k) (k0_off30_inb k) _ _ ?_ ?_
    · unfold cTile; rw [hf30, einv]; exact sc_self _ _
    unfold norm_t.sl.Hc_w66
    refine tile_step (Val := Elt F) cV.view (cTile v110 X R G) k 26 (by decide) (k0_off29_eq k) (k0_off29_inb k) _ _ ?_ ?_
    · unfold cTile; rw [hf29, einv]; exact sc_self _ _
    unfold norm_t.sl.Hc_w65
    refine tile_step (Val := Elt F) cV.view (cTile v110 X R G) k 25 (by decide) (k0_off28_eq k) (k0_off28_inb k) _ _ ?_ ?_
    · unfold cTile; rw [hf28, einv]; exact sc_self _ _
    unfold norm_t.sl.Hc_w64
    refine tile_step (Val := Elt F) cV.view (cTile v110 X R G) k 24 (by decide) (k0_off27_eq k) (k0_off27_inb k) _ _ ?_ ?_
    · unfold cTile; rw [hf27, einv]; exact sc_self _ _
    unfold norm_t.sl.Hc_w63
    refine tile_step (Val := Elt F) cV.view (cTile v110 X R G) k 23 (by decide) (k0_off26_eq k) (k0_off26_inb k) _ _ ?_ ?_
    · unfold cTile; rw [hf26, einv]; exact sc_self _ _
    unfold norm_t.sl.Hc_w62
    refine tile_step (Val := Elt F) cV.view (cTile v110 X R G) k 22 (by decide) (k0_off25_eq k) (k0_off25_inb k) _ _ ?_ ?_
    · unfold cTile; rw [hf25, einv]; exact sc_self _ _
    unfold norm_t.sl.Hc_w61
    refine tile_step (Val := Elt F) cV.view (cTile v110 X R G) k 21 (by decide) (k0_off24_eq k) (k0_off24_inb k) _ _ ?_ ?_
    · unfold cTile; rw [hf24, einv]; exact sc_self _ _
    unfold norm_t.sl.Hc_w60
    refine tile_step (Val := Elt F) cV.view (cTile v110 X R G) k 20 (by decide) (k0_off23_eq k) (k0_off23_inb k) _ _ ?_ ?_
    · unfold cTile; rw [hf23, einv]; exact sc_self _ _
    unfold norm_t.sl.Hc_w59
    refine tile_step (Val := Elt F) cV.view (cTile v110 X R G) k 19 (by decide) (k0_off22_eq k) (k0_off22_inb k) _ _ ?_ ?_
    · unfold cTile; rw [hf22, einv]; exact sc_self _ _
    unfold norm_t.sl.Hc_w58
    refine tile_step (Val := Elt F) cV.view (cTile v110 X R G) k 18 (by decide) (k0_off21_eq k) (k0_off21_inb k) _ _ ?_ ?_
    · unfold cTile; rw [hf21, einv]; exact sc_self _ _
    unfold norm_t.sl.Hc_w57
    refine tile_step (Val := Elt F) cV.view (cTile v110 X R G) k 17 (by decide) (k0_off20_eq k) (k0_off20_inb k) _ _ ?_ ?_
    · unfold cTile; rw [hf20, einv]; exact sc_self _ _
    unfold norm_t.sl.Hc_w56
    refine tile_step (Val := Elt F) cV.view (cTile v110 X R G) k 16 (by decide) (k0_off19_eq k) (k0_off19_inb k) _ _ ?_ ?_
    · unfold cTile; rw [hf19, einv]; exact sc_self _ _
    unfold norm_t.sl.Hc_w55
    refine tile_step (Val := Elt F) cV.view (cTile v110 X R G) k 15 (by decide) (k0_off18_eq k) (k0_off18_inb k) _ _ ?_ ?_
    · unfold cTile; rw [hf18, einv]; exact sc_self _ _
    unfold norm_t.sl.Hc_w54
    refine tile_step (Val := Elt F) cV.view (cTile v110 X R G) k 14 (by decide) (k0_off17_eq k) (k0_off17_inb k) _ _ ?_ ?_
    · unfold cTile; rw [hf17, einv]; exact sc_self _ _
    unfold norm_t.sl.Hc_w53
    refine tile_step (Val := Elt F) cV.view (cTile v110 X R G) k 13 (by decide) (k0_off16_eq k) (k0_off16_inb k) _ _ ?_ ?_
    · unfold cTile; rw [hf16, einv]; exact sc_self _ _
    unfold norm_t.sl.Hc_w52
    refine tile_step (Val := Elt F) cV.view (cTile v110 X R G) k 12 (by decide) (k0_off15_eq k) (k0_off15_inb k) _ _ ?_ ?_
    · unfold cTile; rw [hf15, einv]; exact sc_self _ _
    unfold norm_t.sl.Hc_w51
    refine tile_step (Val := Elt F) cV.view (cTile v110 X R G) k 11 (by decide) (k0_off14_eq k) (k0_off14_inb k) _ _ ?_ ?_
    · unfold cTile; rw [hf14, einv]; exact sc_self _ _
    unfold norm_t.sl.Hc_w50
    refine tile_step (Val := Elt F) cV.view (cTile v110 X R G) k 10 (by decide) (k0_off13_eq k) (k0_off13_inb k) _ _ ?_ ?_
    · unfold cTile; rw [hf13, einv]; exact sc_self _ _
    unfold norm_t.sl.Hc_w49
    refine tile_step (Val := Elt F) cV.view (cTile v110 X R G) k 9 (by decide) (k0_off12_eq k) (k0_off12_inb k) _ _ ?_ ?_
    · unfold cTile; rw [hf12, einv]; exact sc_self _ _
    unfold norm_t.sl.Hc_w48
    refine tile_step (Val := Elt F) cV.view (cTile v110 X R G) k 8 (by decide) (k0_off11_eq k) (k0_off11_inb k) _ _ ?_ ?_
    · unfold cTile; rw [hf11, einv]; exact sc_self _ _
    unfold norm_t.sl.Hc_w47
    refine tile_step (Val := Elt F) cV.view (cTile v110 X R G) k 7 (by decide) (k0_off10_eq k) (k0_off10_inb k) _ _ ?_ ?_
    · unfold cTile; rw [hf10, einv]; exact sc_self _ _
    unfold norm_t.sl.Hc_w46
    refine tile_step (Val := Elt F) cV.view (cTile v110 X R G) k 6 (by decide) (k0_off9_eq k) (k0_off9_inb k) _ _ ?_ ?_
    · unfold cTile; rw [hf9, einv]; exact sc_self _ _
    unfold norm_t.sl.Hc_w45
    refine tile_step (Val := Elt F) cV.view (cTile v110 X R G) k 5 (by decide) (k0_off8_eq k) (k0_off8_inb k) _ _ ?_ ?_
    · unfold cTile; rw [hf8, einv]; exact sc_self _ _
    unfold norm_t.sl.Hc_w44
    refine tile_step (Val := Elt F) cV.view (cTile v110 X R G) k 4 (by decide) (k0_off7_eq k) (k0_off7_inb k) _ _ ?_ ?_
    · unfold cTile; rw [hf7, einv]; exact sc_self _ _
    unfold norm_t.sl.Hc_w43
    refine tile_step (Val := Elt F) cV.view (cTile v110 X R G) k 3 (by decide) (k0_off6_eq k) (k0_off6_inb k) _ _ ?_ ?_
    · unfold cTile; rw [hf6, einv]; exact sc_self _ _
    unfold norm_t.sl.Hc_w42
    refine tile_step (Val := Elt F) cV.view (cTile v110 X R G) k 2 (by decide) (k0_off5_eq k) (k0_off5_inb k) _ _ ?_ ?_
    · unfold cTile; rw [hf5, einv]; exact sc_self _ _
    unfold norm_t.sl.Hc_w41
    refine tile_step (Val := Elt F) cV.view (cTile v110 X R G) k 1 (by decide) (k0_off4_eq k) (k0_off4_inb k) _ _ ?_ ?_
    · unfold cTile; rw [hf4, einv]; exact sc_self _ _
    unfold norm_t.sl.Hc_w40
    refine tile_step (Val := Elt F) cV.view (cTile v110 X R G) k 0 (by decide) (k0_off3_eq k) (k0_off3_inb k) _ _ ?_ ?_
    · unfold cTile; rw [hf3, einv]; exact sc_self _ _
    exact tile_zero (Val := Elt F) cV.view (cTile v110 X R G) k _
  ihave Hh2 := eh $$ Hh
  ihave Hc2 := ec $$ Hc
  sl_close
end Cert.Kernel.Hand
-- ==== Proof.K.Trip1.lean ====
module

public import proofs.«01_k».proof.Proof.K.T1

/-! One trip of the first loop: the row group's norm, then the two copies out. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev hO : Memref sig .tc .hbm S128x4992 .bf16 := Memref.whole main_v6_1
abbrev cO : Memref sig .tc .hbm S128x4992 .fp8e4m3 := Memref.whole main_v6_2

/-- Row group of copy-out number `j`: two copies per group. -/
def grpOf (j : Fin 8) : Fin k0_t1_loop.trips := ⟨j.val / 2, by have := trips1; have := j.isLt; omega⟩

/-- The units of copy-out `j`: even the hidden state, odd the codes. -/
def outA (j : Fin 8) : ℕ :=
  if j.val % 2 = 0 then (rows hO (grpOf j)).view.amount (.dma cc0_scratch15.sem) else (rows cO (grpOf j)).view.amount (.dma cc0_scratch15.sem)

/-- What copy-out `j` hands back when it has landed. -/
def outD (c : Dev nD) (H : Vec F S128x4992 .bf16) (C : Vec F S128x4992 .fp8e4m3) (j : Fin 8) : sProp 𝕄 :=
  if j.val % 2 = 0 then iprop(own c (rows hO (grpOf j)) fullShare H ∗ own c (rows hV (grpOf j)) fullShare H)
  else iprop(own c (rows cO (grpOf j)) fullShare C ∗ own c (rows cV (grpOf j)) fullShare.right C)

theorem copy_h (c : Dev nD) (k : Fin k0_t1_loop.trips) (f H : Vec F S128x4992 .bf16) :
    own c (rows hO k) fullShare ((rows hO k).view.write (Elt F) f ((rows hV k).view.read (Elt F) H) Finset.univ) = own c (rows hO k) fullShare H :=
  pointsTo_congr fun i hi => by
    obtain ⟨x, -, rfl⟩ := Finset.mem_map.mp hi
    rw [View.write_emb_of_mem _ _ (Finset.mem_univ x)]; rfl

theorem copy_c (c : Dev nD) (k : Fin k0_t1_loop.trips) (f C : Vec F S128x4992 .fp8e4m3) :
    own c (rows cO k) fullShare ((rows cO k).view.write (Elt F) f ((rows cV k).view.read (Elt F) C) Finset.univ) = own c (rows cO k) fullShare C :=
  pointsTo_congr fun i hi => by
    obtain ⟨x, -, rfl⟩ := Finset.mem_map.mp hi
    rw [View.write_emb_of_mem _ _ (Finset.mem_univ x)]; rfl

abbrev OutB (c : Dev nD) (H : Vec F S128x4992 .bf16) (C : Vec F S128x4992 .fp8e4m3) (j u : ℕ) : sProp 𝕄 :=
  Transfers.MixedBatch (countersEmb (U := Pipeline.UD sig nD τ)) (c : Thread nD τ) (.dma cc0_scratch15.sem) () outA (outD c H C) j u

theorem out_lt (k : Fin k0_t1_loop.trips) : 2 * k.val < 8 ∧ 2 * k.val + 1 < 8 := by have h1 := trips1; have h2 := k.isLt; omega
theorem grp_even (k : Fin k0_t1_loop.trips) (h : 2 * k.val < 8) : grpOf ⟨2 * k.val, h⟩ = k := Fin.ext (by show 2 * k.val / 2 = k.val; omega)
theorem grp_odd (k : Fin k0_t1_loop.trips) (h : 2 * k.val + 1 < 8) : grpOf ⟨2 * k.val + 1, h⟩ = k := Fin.ext (by show (2 * k.val + 1) / 2 = k.val; omega)

theorem outA_even (k : Fin k0_t1_loop.trips) (h : 2 * k.val < 8) : (rows hO k).view.amount (.dma cc0_scratch15.sem) = outA ⟨2 * k.val, h⟩ := by
  unfold outA; rw [if_pos (show 2 * k.val % 2 = 0 by omega), grp_even]
theorem outA_odd (k : Fin k0_t1_loop.trips) (h : 2 * k.val + 1 < 8) : (rows cO k).view.amount (.dma cc0_scratch15.sem) = outA ⟨2 * k.val + 1, h⟩ := by
  unfold outA; rw [if_neg (show ¬ (2 * k.val + 1) % 2 = 0 by omega), grp_odd]
theorem outD_even (c : Dev nD) (H : Vec F S128x4992 .bf16) (C : Vec F S128x4992 .fp8e4m3) (k : Fin k0_t1_loop.trips) (h : 2 * k.val < 8) :
    outD c H C ⟨2 * k.val, h⟩ = iprop(own c (rows hO k) fullShare H ∗ own c (rows hV k) fullShare H) := by
  unfold outD; rw [if_pos (show 2 * k.val % 2 = 0 by omega), grp_even]
theorem outD_odd (c : Dev nD) (H : Vec F S128x4992 .bf16) (C : Vec F S128x4992 .fp8e4m3) (k : Fin k0_t1_loop.trips) (h : 2 * k.val + 1 < 8) :
    outD c H C ⟨2 * k.val + 1, h⟩ = iprop(own c (rows cO k) fullShare C ∗ own c (rows cV k) fullShare.right C) := by
  unfold outD; rw [if_neg (show ¬ (2 * k.val + 1) % 2 = 0 by omega), grp_odd]

/-- A share cut in its two halves. -/
theorem own_halves (c : Dev nD) {sp : Space} {S : Shape} {e : EltTy} (M : Memref sig .tc sp S e) (q : PosShare TreeShare) (f : Buf (Elt F) (M.view.loc (c : Thread nD τ))) :
    (own c M q f : sProp 𝕄) ⊣⊢ iprop(own c M q.left f ∗ own c M q.right f) := pointsTo_share (PosShare.mem_left_op_right q)

set_option maxHeartbeats 2000000 in
theorem trip1 (c : Dev nD) (k : Fin k0_t1_loop.trips) (x : BitVec 32) (v110 : Vec F S1x1 .f32) (W : Waits sig Unit)
   (X R h0 oh : Vec F S128x4992 .bf16) (c0 oc : Vec F S128x4992 .fp8e4m3) (G : Vec F S39x128 .f32)  :
   iprop(Transfers.Batch (countersEmb (U := Pipeline.UD sig nD τ)) (c : Thread nD τ) (.dma (xcell k).sem) () ((rows xV k).view.dmaCredit) (dX c k X R) 2 0
      ∗ owes (c : Thread nD τ) 0 W
      ∗ own c gF fullShare G
      ∗ own c (rows hV k) fullShare h0 ∗ own c (rows cV k) fullShare c0 ∗ own c (rows hO k) fullShare oh ∗ own c (rows cO k) fullShare oc
      ∗ OutB c (hB X R) (cB v110 X R G) (2 * k.val) 0) ⊢
    wp frame (wpE (defs₀ (F := F)) Variants.none c none) Set.univ
      (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110 k ()) (fun _ =>
        iprop(own c (rows cV k) fullShare.left (cB v110 X R G) ∗ own c gF fullShare G
          ∗ own c (rows xV k) fullShare X ∗ own c (rows xH k) fullShare X ∗ own c (rows rV k) fullShare R ∗ own c (rows rH k) fullShare R
          ∗ semVal ((c : Thread nD τ), SemLoc.dma (xcell k).sem) 0 ∗ (∃ W', owes (c : Thread nD τ) 0 W')
          ∗ OutB c (hB X R) (cB v110 X R G) (2 * (k.val + 1)) 0)) := by
  iintro ⟨HB, HW, HG, Hh, Hc, Hoh, Hoc, HO⟩
  simp only [k0_t1_body, Prog.lift, Prog.bind_op, Prog.bind_ret, Prog.pure_eq_ret, Prog.bind_assoc]
  iapply (wp_seq (norm_t c k v110 W X R h0 c0 G)) $$ [HB HW HG Hh Hc]
  · sl_close
  iintro %r ⟨Hh, Hc, HG, Hx, Hxh, Hr, Hrh, Hs, ⟨%W', HW⟩⟩
  ihave Hc2 := (own_halves c (rows cV k) fullShare (cB v110 X R G)).1 $$ Hc
  icases Hc2 with ⟨Hcl, Hcr⟩
  iapply (Transfers.wp_dmaMixedBatch (countersEmb (U := Pipeline.UD sig nD τ)) Variants.none (c : Thread nD τ) none (src := rows hV k) (dst := rows hO k) (fs := hB X R) (fd := oh) (q := fullShare) (D := outD c (hB X R) (cB v110 X R G)) () outA
    (subset_refl _) (out_lt k).1 (outA_even k _) (Nat.zero_le _)
    (.of_eq (by rw [outD_even]; exact congrArg (fun P => iprop(P ∗ own c (rows hV k) fullShare (hB X R))) (copy_h c k oh (hB X R))))) $$ [Hh Hoh HO]
  · sl_close
  iintro HO
  iapply (Transfers.wp_dmaMixedBatch (countersEmb (U := Pipeline.UD sig nD τ)) Variants.none (c : Thread nD τ) none (src := rows cV k) (dst := rows cO k) (fs := cB v110 X R G) (fd := oc) (q := fullShare.right) (D := outD c (hB X R) (cB v110 X R G)) () outA
    (subset_refl _) (out_lt k).2 (outA_odd k _) (Nat.zero_le _)
    (.of_eq (by rw [outD_odd]; exact congrArg (fun P => iprop(P ∗ own c (rows cV k) fullShare.right (cB v110 X R G))) (copy_c c k oc (cB v110 X R G))))) $$ [Hcr Hoc HO]
  · sl_close
  iintro HO
  sl_step
  sl_close
end Cert.Kernel.Hand
-- ==== Proof.K.Model2.lean ====
module

public import proofs.«01_k».proof.Proof.K.Model

/-! What the product computes, as plain functions of the codes and the weights, and where the ring of
weight blocks and the columns of the result lie. -/

@[expose] public section

noncomputable section

namespace Cert.Kernel.Hand

open Cert.Kernel Cert.Kernel.Gen
open Idealize.ShloMosaic Idealize.ShloMosaic.TcCoe Idealize.ShloMosaic.Tactic

variable {F : FTy → Type} [FloatOps F]

abbrev wH : Memref sig .tc .hbm S11904x4992 .fp8e4m3 := Memref.whole main_arg3
abbrev wsV : Memref sig .tc .vmem S93x128 .f32 := Memref.whole cc0_scratch4
abbrev bF : Memref sig .tc .vmem S93x128 .f32 := Memref.whole cc0_scratch7
abbrev ringV : Memref sig .tc .vmem S8x512x4992 .fp8e4m3 := Memref.whole cc0_scratch10
abbrev yV : Memref sig .tc .vmem S128x11904 .bf16 := Memref.whole cc0_scratch11
abbrev yO : Memref sig .tc .hbm S128x11904 .bf16 := Memref.whole main_v6_0

theorem trips2 : k0_t2_loop.trips = 23 := by decide +kernel

/-- The rows of weight block `j`, -/
abbrev wrows (j : Fin k0_t2_loop.trips) : Memref sig .tc .hbm S512x4992 .fp8e4m3 :=
  wH.slice (Rect.unit (s := S11904x4992) (k0_off44 j) S512x4992.size (k0_off44_inb j)) (fun _ => rfl)
/-- the slot of the ring it is kept in, -/
abbrev slot (j : Fin k0_t2_loop.trips) : Memref sig .tc .vmem S512x4992 .fp8e4m3 :=
  (ringV.slice (Rect.unit (s := S8x512x4992) (k0_off43 j) S1x512x4992.size (k0_off43_inb j)) (fun _ => rfl)).squeeze S512x4992 squeezes_S1x512x4992_S512x4992
/-- the slot's semaphore, -/
abbrev wcell (j : Fin k0_t2_loop.trips) : DmaSems sig S_ :=
  (cc0_scratch14.slice (Rect.unit (s := S8) (k0_off42 j) S1.size (k0_off42_inb j))).squeeze S_ squeezes_S1_S_
/-- and the columns of the result it gives. -/
abbrev ycols {sp : Space} (M : Memref sig .tc sp S128x11904 .bf16) (j : Fin k0_t2_loop.trips) : Memref sig .tc sp S128x512 .bf16 :=
  M.slice (Rect.unit (s := S128x11904) (k0_off48 j) S128x512.size (k0_off48_inb j)) (fun _ => rfl)

/-- The last 128 rows of the weights, their place in the last slot, and the last columns of the result. -/
abbrev wtail : Memref sig .tc .hbm S128x4992 .fp8e4m3 :=
  wH.slice (Rect.unit (s := S11904x4992) ![11776, 0] S128x4992.size inb_S11904x4992_S128x4992_11776_0) (fun _ => rfl)
abbrev tslot : Memref sig .tc .vmem S128x4992 .fp8e4m3 :=
  (ringV.slice (Rect.unit (s := S8x512x4992) ![7, 0, 0] S1x128x4992.size inb_S8x512x4992_S1x128x4992_7_0_0) (fun _ => rfl)).squeeze S128x4992 squeezes_S1x128x4992_S128x4992
abbrev ytail {sp : Space} (M : Memref sig .tc sp S128x11904 .bf16) : Memref sig .tc sp S128x128 .bf16 :=
  M.slice (Rect.unit (s := S128x11904) ![0, 11776] S128x128.size inb_S128x11904_S128x128_0_11776) (fun _ => rfl)

/-- The ring with weight block `j` in its slot; what lies elsewhere in it is `z`. -/
def ringOf (z : Vec F S8x512x4992 .fp8e4m3) (W : Vec F S11904x4992 .fp8e4m3) (j : Fin k0_t2_loop.trips) : Vec F S8x512x4992 .fp8e4m3 :=
  (slot j).view.write (Elt F) z ((wrows j).view.read (Elt F) W) Finset.univ

theorem last_lt : 15 < k0_t2_loop.trips := by rw [trips2]; decide

/-- The ring with the last rows in the last slot. -/
def ringT (z : Vec F S8x512x4992 .fp8e4m3) (W : Vec F S11904x4992 .fp8e4m3) : Vec F S8x512x4992 .fp8e4m3 :=
  tslot.view.write (Elt F) (ringOf z W ⟨15, last_lt⟩) (wtail.view.read (Elt F) W) Finset.univ

/-- A load of the slot, its unit axis dropped, is the weight block. -/
theorem ring_read (z : Vec F S8x512x4992 .fp8e4m3) (W : Vec F S11904x4992 .fp8e4m3) (j : Fin k0_t2_loop.trips) {o : Fin 3 → ℕ} (ho : o = k0_off43 j)
    (inb : ∀ a, o a + S1x512x4992.size a ≤ S8x512x4992.size a) (h : S1x512x4992.ShapeCasts S512x4992) :
    shapeCast S512x4992 (ringV.view.readAt (Elt F) (Rect.unit (s := S8x512x4992) o S1x512x4992.size inb).toLoadRect (ringOf z W j)) h = (wrows j).view.read (Elt F) W := by
  subst ho
  exact (Memref.read_squeeze_slice ringV (Rect.unit (s := S8x512x4992) (k0_off43 j) S1x512x4992.size inb) (fun _ => rfl) squeezes_S1x512x4992_S512x4992 h (ringOf z W j)).symm.trans
    (View.read_write_univ (v := (slot j).view) (Val := Elt F) z _)

theorem ringT_read (z : Vec F S8x512x4992 .fp8e4m3) (W : Vec F S11904x4992 .fp8e4m3) (h : S1x128x4992.ShapeCasts S128x4992) :
    shapeCast S128x4992 (ringV.view.readAt (Elt F) (Rect.unit (s := S8x512x4992) ![7, 0, 0] S1x128x4992.size inb_S8x512x4992_S1x128x4992_7_0_0).toLoadRect (ringT z W)) h = wtail.view.read (Elt F) W :=
  (Memref.read_squeeze_slice ringV (Rect.unit (s := S8x512x4992) ![7, 0, 0] S1x128x4992.size inb_S8x512x4992_S1x128x4992_7_0_0) (fun _ => rfl) squeezes_S1x128x4992_S128x4992 h (ringT z W)).symm.trans
    (View.read_write_univ (v := tslot.view) (Val := Elt F) _ _)

/-- The codes times weight block `j`, -/
def dotB (C : Vec F S128x4992 .fp8e4m3) (W : Vec F S11904x4992 .fp8e4m3) (j : Fin k0_t2_loop.trips) : FVec F S128x512 .f32 :=
  matmul dot_S128x4992_S512x4992_S128x512_1_1_0_0_n_n none C ((wrows j).view.read (Elt F) W) (constant S128x512 .f32 0x00000000#32)

/-- and times the last rows. -/
def dotT (C : Vec F S128x4992 .fp8e4m3) (W : Vec F S11904x4992 .fp8e4m3) : FVec F S128x128 .f32 :=
  matmul dot_S128x4992_S128x4992_S128x128_1_1_0_0_n_n none C (wtail.view.read (Elt F) W) (constant S128x128 .f32 0x00000000#32)

theorem rinb : ∀ (t : Fin 93) (a : Fin 2), (![t.val, 0] : Fin 2 → ℕ) a + S1x128.size a ≤ S93x128.size a := by
  decide +kernel

/-- Row `t` of a 93 by 128 array: the 128 values of a column tile. -/
def row93 {α : Type} (V : S93x128.Idx → α) (t : Fin 93) : S1x128.Idx → α :=
  VecWindow.window (s := S93x128) V ![t.val, 0] S1x128.size (rinb t)

/-- The dequantised product of a column tile: scaled, the bias added, rounded. -/
def deq (s : Vec F S1x1 .f32) (P : FVec F S128x128 .f32) (ws b : FVec F S1x128 .f32) : FVec F S128x128 .bf16 :=
  truncf .bf16 (addf (mulf P (broadcastTo S128x128 (mulf (broadcastTo S1x128 s broadcasts_S1x1_S1x128) ws) broadcasts_S1x128_S128x128)) (broadcastTo S128x128 b broadcasts_S1x128_S128x128)) bitsLt_bf16_f32

theorem tile_lt (j : Fin k0_t2_loop.trips) (r : Fin 4) : 4 * j.val + r.val < 93 := by have := trips2; have := j.isLt; have := r.isLt; omega

theorem slices4 : ∀ r : Fin 4, S128x512.Slices ![0, 128 * r.val] S128x128 := by
  intro r; fin_cases r
  · exact slices_S128x512_o0_0_S128x128
  · exact slices_S128x512_o0_128_S128x128
  · exact slices_S128x512_o0_256_S128x128
  · exact slices_S128x512_o0_384_S128x128

/-- Column tile `r` of block `j`. -/
def yT (s : Vec F S1x1 .f32) (C : Vec F S128x4992 .fp8e4m3) (W : Vec F S11904x4992 .fp8e4m3) (ws b : Vec F S93x128 .f32) (j : Fin k0_t2_loop.trips) (r : Fin 4) : FVec F S128x128 .bf16 :=
  deq s (extractStridedSlice S128x128 ![0, 128 * r.val] (dotB C W j) (slices4 r)) (row93 ws ⟨4 * j.val + r.val, tile_lt j r⟩) (row93 b ⟨4 * j.val + r.val, tile_lt j r⟩)

/-- The last column tile. -/
def yL (s : Vec F S1x1 .f32) (C : Vec F S128x4992 .fp8e4m3) (W : Vec F S11904x4992 .fp8e4m3) (ws b : Vec F S93x128 .f32) : FVec F S128x128 .bf16 :=
  deq s (dotT C W) (row93 ws ⟨92, by decide⟩) (row93 b ⟨92, by decide⟩)

/-- Column tile `t` of the 93. -/
def yTile (s : Vec F S1x1 .f32) (C : Vec F S128x4992 .fp8e4m3) (W : Vec F S11904x4992 .fp8e4m3) (ws b : Vec F S93x128 .f32) (t : Fin 93) : FVec F S128x128 .bf16 :=
  if h : t.val < 92 then yT s C W ws b ⟨t.val / 4, by have := trips2; omega⟩ ⟨t.val % 4, Nat.mod_lt _ (by decide)⟩ else yL s C W ws b

/-- The column tile an index of the result lies in, -/
def ytile (i : S128x11904.Idx) : Fin 93 := ⟨(i 1).val / 128, by have h : (i 1).val < 11904 := (i 1).isLt; omega⟩
/-- and its place in it. -/
def yloc (i : S128x11904.Idx) : S128x128.Idx := fun a => match a with
  | 0 => ⟨(i 0).val, (i 0).isLt⟩
  | 1 => ⟨(i 1).val % 128, Nat.mod_lt _ (by decide)⟩

/-- The array with the given column tiles. -/
def mkY {α : Type} (T : Fin 93 → S128x128.Idx → α) : S128x11904.Idx → α := fun i => T (ytile i) (yloc i)

/-- The result, whole. -/
def yB (s : Vec F S1x1 .f32) (C : Vec F S128x4992 .fp8e4m3) (W : Vec F S11904x4992 .fp8e4m3) (ws b : Vec F S93x128 .f32) : Vec F S128x11904 .bf16 := mkY (yTile s C W ws b)

theorem yinb : ∀ (t : Fin 93) (a : Fin 2), (![0, 128 * t.val] : Fin 2 → ℕ) a + S128x128.size a ≤ S128x11904.size a := by
  decide +kernel

/-- The place `x` of column tile `t`. -/
def yat (t : Fin 93) (x : S128x128.Idx) : S128x11904.Idx := (Rect.unit (s := S128x11904) ![0, 128 * t.val] S128x128.size (yinb t)).emb x

theorem yat_0 (t) (x) : (yat t x 0).val = (x 0).val := by show 0 + 1 * (x 0).val = _; omega
theorem yat_1 (t) (x) : (yat t x 1).val = 128 * t.val + (x 1).val := by show 128 * t.val + 1 * (x 1).val = _; omega
theorem ytile_yat (t) (x) : ytile (yat t x) = t := by
  apply Fin.ext; show (yat t x 1).val / 128 = _; rw [yat_1]
  have h : (x 1).val < 128 := (x 1).isLt; omega
theorem yloc_yat (t) (x) : yloc (yat t x) = x := by
  funext a; apply Fin.ext
  fin_cases a
  · show (yat t x 0).val = _; rw [yat_0]; rfl
  · show (yat t x 1).val % 128 = _; rw [yat_1]
    have h : (x 1).val < 128 := (x 1).isLt; show _ = (x 1).val; omega
theorem yat_yloc (i) : yat (ytile i) (yloc i) = i := by
  funext a; apply Fin.ext
  fin_cases a
  · show (yat _ _ 0).val = (i 0).val; rw [yat_0]; rfl
  · show (yat _ _ 1).val = (i 1).val; rw [yat_1]; show 128 * ((i 1).val / 128) + (i 1).val % 128 = _; omega
theorem mkY_yat {α : Type} (T : Fin 93 → S128x128.Idx → α) (t) (x) : mkY T (yat t x) = T t x := by
  unfold mkY; rw [ytile_yat, yloc_yat]

/-- Storing column tile `t` extends what agrees with the array of the tiles, from tile `lo` on, by that tile. -/
theorem ytile_step {Val : EltTy → Type} {sp : Space} {e : EltTy} (v : View sig .tc sp S128x11904 e)
    (T : Fin 93 → S128x128.Idx → Val e) (lo t : ℕ) (ht : t < 93)
    {off : Fin 2 → ℕ} (hoff : off = ![0, 128 * t]) (inb : ∀ a, off a + S128x128.size a ≤ S128x11904.size a)
    (f : v.ty.Contents Val) (w : S128x128.Idx → Val e) (hw : w = T ⟨t, ht⟩)
    (hf : ∀ i, lo ≤ (ytile i).val → (ytile i).val < t → v.read Val f i = mkY T i) :
    ∀ i, lo ≤ (ytile i).val → (ytile i).val < t + 1 →
      v.read Val ((v.slice (Rect.unit (s := S128x11904) off S128x128.size inb)).write Val f w Finset.univ) i = mkY T i := by
  subst hoff
  intro i hlo hi
  by_cases he : (ytile i).val = t
  · have e : ytile i = ⟨t, ht⟩ := Fin.ext he
    have hi' : i = yat ⟨t, ht⟩ (yloc i) := by rw [← e, yat_yloc]
    conv_rhs => rw [hi', mkY_yat]
    conv_lhs => rw [hi']
    rw [← hw]
    exact View.read_slice_write_emb (Rect.unit (s := S128x11904) ![0, 128 * t] S128x128.size inb) f w (Finset.mem_univ (yloc i))
  · refine (View.read_slice_write_of_not_mem (Rect.unit (s := S128x11904) ![0, 128 * t] S128x128.size inb) f w _ ?_).trans (hf i hlo (by omega))
    intro hm
    obtain ⟨x, -, hx⟩ := Finset.mem_map.mp hm
    have hx' : yat ⟨t, ht⟩ x = i := hx
    exact he (by rw [← hx', ytile_yat])

theorem ytile_of_mem (k : Fin k0_t2_loop.trips) {i : S128x11904.Idx} (h : i ∈ (Rect.unit (s := S128x11904) (k0_off48 k) S128x512.size (k0_off48_inb k)).set) :
    4 * k.val ≤ (ytile i).val ∧ (ytile i).val < 4 * k.val + 3 + 1 := by
  have h0 := (Rect.mem_set_unit.mp h) 1
  rw [k0_off48_eq k] at h0
  have h1 : 512 * k.val ≤ (i 1).val ∧ (i 1).val < 512 * k.val + 512 := h0
  show 4 * k.val ≤ (i 1).val / 128 ∧ (i 1).val / 128 < 4 * k.val + 3 + 1
  omega

theorem yTile_blk (s : Vec F S1x1 .f32) (C : Vec F S128x4992 .fp8e4m3) (W : Vec F S11904x4992 .fp8e4m3) (ws b : Vec F S93x128 .f32) (j : Fin k0_t2_loop.trips) (r : Fin 4) (h : 4 * j.val + r.val < 93) :
    yTile s C W ws b ⟨4 * j.val + r.val, h⟩ = yT s C W ws b j r := by
  have h1 := trips2; have h2 := j.isLt; have h3 := r.isLt
  unfold yTile
  rw [dif_pos (show 4 * j.val + r.val < 92 by omega)]
  congr 1
  · exact Fin.ext (show (4 * j.val + r.val) / 4 = j.val by omega)
  · exact Fin.ext (show (4 * j.val + r.val) % 4 = r.val by omega)

theorem yTile_last (s : Vec F S1x1 .f32) (C : Vec F S128x4992 .fp8e4m3) (W : Vec F S11904x4992 .fp8e4m3) (ws b : Vec F S93x128 .f32) (h : 92 < 93) :
    yTile s C W ws b ⟨92, h⟩ = yL s C W ws b := by
  unfold yTile
  rw [dif_neg (show ¬ 92 < 92 by decide)]

/-- A load of one row of a 93 by 128 array. -/
theorem rdRow {Val : EltTy → Type} {sp : Space} {e : EltTy} (v : View sig .tc sp S93x128 e) (f : v.ty.Contents Val) (k : Fin k0_t2_loop.trips) (r : Fin 4) :
    v.readAt Val (Rect.unit (s := S93x128) (k0_off46 k (BitVec.ofNat 32 r.val)) S1x128.size (k0_off46_inb k r)).toLoadRect f = row93 (v.read Val f) ⟨4 * k.val + r.val, tile_lt k r⟩ :=
  View.readAt_unit v f _ (k0_off46_eq k r) (rinb ⟨4 * k.val + r.val, tile_lt k r⟩)

end Cert.Kernel.Hand
-- ==== Proof.K.Trip2.lean ====
module

public import proofs.«01_k».proof.Proof.K.Trip1
public import proofs.«01_k».proof.Proof.K.Model2

/-! One trip of the second loop: the block's weights arrive, its columns of the result are computed and sent, and the slot is
used for the block eight further on, or for the last rows. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the arrival of weight block `j` hands back. -/
def dW (c : Dev nD) (z : Vec F S8x512x4992 .fp8e4m3) (Wv : Vec F S11904x4992 .fp8e4m3) (j : Fin k0_t2_loop.trips) : Fin 1 → sProp 𝕄 :=
  fun _ => iprop(own c (slot j) fullShare (ringOf z Wv j) ∗ own c (wrows j) fullShare Wv)

/-- What the arrival of the last rows hands back. -/
def dT (c : Dev nD) (z : Vec F S8x512x4992 .fp8e4m3) (Wv : Vec F S11904x4992 .fp8e4m3)   : Fin 1 → sProp 𝕄 :=
  fun _ => iprop(own c (slot ⟨15, last_lt⟩) fullShare (ringT z Wv) ∗ own c wtail fullShare Wv)

instance (c : Dev nD) (z) (Wv : Vec F S11904x4992 .fp8e4m3) (j) (t) : Storable (upEmb : UEmb _ 𝕄) (dW c z Wv j t) := by unfold dW; infer_instance
instance (c : Dev nD) (z) (Wv : Vec F S11904x4992 .fp8e4m3) (t) : Storable (upEmb : UEmb _ 𝕄) (dT c z Wv t) := by unfold dT; infer_instance

/-- Weight block `j` on its way. -/
abbrev WB (c : Dev nD) (z : Vec F S8x512x4992 .fp8e4m3) (Wv : Vec F S11904x4992 .fp8e4m3) (j : Fin k0_t2_loop.trips) : sProp 𝕄 :=
  Transfers.Batch (countersEmb (U := Pipeline.UD sig nD τ)) (c : Thread nD τ) (.dma (wcell j).sem) () ((slot j).view.dmaCredit) (dW c z Wv j) 1 0

/-- The last rows on their way. -/
abbrev TB (c : Dev nD) (z : Vec F S8x512x4992 .fp8e4m3) (Wv : Vec F S11904x4992 .fp8e4m3) : sProp 𝕄 :=
  Transfers.Batch (countersEmb (U := Pipeline.UD sig nD τ)) (c : Thread nD τ) (.dma (wcell ⟨15, last_lt⟩).sem) () (tslot.view.dmaCredit) (dT c z Wv) 1 0

/-- The units of copy-out `j` of the result: 23 blocks of columns, then the last columns. -/
def yA (j : Fin 24) : ℕ :=
  if h : j.val < 23 then (ycols yO ⟨j.val, by rw [trips2]; exact h⟩).view.amount (.dma cc0_scratch17.sem) else (ytail yO).view.amount (.dma cc0_scratch17.sem)

/-- What copy-out `j` of the result hands back. -/
def yD (c : Dev nD) (Y : Vec F S128x11904 .bf16) (j : Fin 24) : sProp 𝕄 :=
  if h : j.val < 23 then iprop(own c (ycols yO ⟨j.val, by rw [trips2]; exact h⟩) fullShare Y ∗ own c (ycols yV ⟨j.val, by rw [trips2]; exact h⟩) fullShare Y)
  else iprop(own c (ytail yO) fullShare Y ∗ own c (ytail yV) fullShare Y)

abbrev YB (c : Dev nD) (Y : Vec F S128x11904 .bf16) (j u : ℕ) : sProp 𝕄 :=
  Transfers.MixedBatch (countersEmb (U := Pipeline.UD sig nD τ)) (c : Thread nD τ) (.dma cc0_scratch17.sem) () yA (yD c Y) j u

theorem y_lt (k : Fin k0_t2_loop.trips) : k.val < 24 := by have h1 := trips2; have h2 := k.isLt; omega
theorem y_lt' (k : Fin k0_t2_loop.trips) : k.val < 23 := by have h1 := trips2; have h2 := k.isLt; omega
theorem yA_blk (k : Fin k0_t2_loop.trips) : (ycols yO k).view.amount (.dma cc0_scratch17.sem) = yA ⟨k.val, y_lt k⟩ := by
  unfold yA; rw [dif_pos (y_lt' k)]
theorem yD_blk (c : Dev nD) (Y : Vec F S128x11904 .bf16) (k : Fin k0_t2_loop.trips) :
    yD c Y ⟨k.val, y_lt k⟩ = iprop(own c (ycols yO k) fullShare Y ∗ own c (ycols yV k) fullShare Y) := by
  unfold yD; rw [dif_pos (y_lt' k)]

theorem copy_y (c : Dev nD) (k : Fin k0_t2_loop.trips) (f Y : Vec F S128x11904 .bf16) :
    own c (ycols yO k) fullShare ((ycols yO k).view.write (Elt F) f ((ycols yV k).view.read (Elt F) Y) Finset.univ) = own c (ycols yO k) fullShare Y :=
  pointsTo_congr fun i hi => by
    obtain ⟨x, -, rfl⟩ := Finset.mem_map.mp hi
    rw [View.write_emb_of_mem _ _ (Finset.mem_univ x)]; rfl

/-- Offsets printed in another way name the same cell, slot and rows. -/
theorem cell_eq {o : Fin 1 → ℕ} (j : Fin k0_t2_loop.trips) (h : o = k0_off42 j) (inb : ∀ a, o a + S1.size a ≤ S8.size a) :
    ((cc0_scratch14.slice (Rect.unit (s := S8) o S1.size inb)).squeeze S_ squeezes_S1_S_).sem = (wcell j).sem := by subst h; rfl
theorem slot_eq (c : Dev nD) {o : Fin 3 → ℕ} (j : Fin k0_t2_loop.trips) (h : o = k0_off43 j) (inb : ∀ a, o a + S1x512x4992.size a ≤ S8x512x4992.size a) (q : PosShare TreeShare) (f : Vec F S8x512x4992 .fp8e4m3) :
    (own c ((ringV.slice (Rect.unit (s := S8x512x4992) o S1x512x4992.size inb) (fun _ => rfl)).squeeze S512x4992 squeezes_S1x512x4992_S512x4992) q f : sProp 𝕄) = own c (slot j) q f := by subst h; rfl
theorem wrows_eq (c : Dev nD) {o : Fin 2 → ℕ} (j : Fin k0_t2_loop.trips) (h : o = k0_off44 j) (inb : ∀ a, o a + S512x4992.size a ≤ S11904x4992.size a) (q : PosShare TreeShare) (f : Vec F S11904x4992 .fp8e4m3) :
    (own c (wH.slice (Rect.unit (s := S11904x4992) o S512x4992.size inb) (fun _ => rfl)) q f : sProp 𝕄) = own c (wrows j) q f := by subst h; rfl

theorem WB_eq (c : Dev nD) (z : Vec F S8x512x4992 .fp8e4m3) (Wv : Vec F S11904x4992 .fp8e4m3) (j : Fin k0_t2_loop.trips) {o : Fin 1 → ℕ} {o' : Fin 3 → ℕ} (h : o = k0_off42 j) (h' : o' = k0_off43 j)
    (inb : ∀ a, o a + S1.size a ≤ S8.size a) (inb' : ∀ a, o' a + S1x512x4992.size a ≤ S8x512x4992.size a) :
    (Transfers.Batch (countersEmb (U := Pipeline.UD sig nD τ)) (c : Thread nD τ) (.dma ((cc0_scratch14.slice (Rect.unit (s := S8) o S1.size inb)).squeeze S_ squeezes_S1_S_).sem) ()
      (((ringV.slice (Rect.unit (s := S8x512x4992) o' S1x512x4992.size inb') (fun _ => rfl)).squeeze S512x4992 squeezes_S1x512x4992_S512x4992).view.dmaCredit) (dW c z Wv j) 1 0 : sProp 𝕄) = WB c z Wv j := by
  subst h; subst h'; rfl

/-- The arrival of weight block `j` in a slot: what the slot held before does not matter. -/
theorem issue_w (c : Dev nD) (z fd : Vec F S8x512x4992 .fp8e4m3) (Wv : Vec F S11904x4992 .fp8e4m3) (j : Fin k0_t2_loop.trips) {o : Fin 3 → ℕ} {o' : Fin 2 → ℕ} (h : o = k0_off43 j) (h' : o' = k0_off44 j)
    (inb : ∀ a, o a + S1x512x4992.size a ≤ S8x512x4992.size a) (inb' : ∀ a, o' a + S512x4992.size a ≤ S11904x4992.size a) (t : Fin 1) :
    iprop(own c ((ringV.slice (Rect.unit (s := S8x512x4992) o S1x512x4992.size inb) (fun _ => rfl)).squeeze S512x4992 squeezes_S1x512x4992_S512x4992) fullShare
        (((ringV.slice (Rect.unit (s := S8x512x4992) o S1x512x4992.size inb) (fun _ => rfl)).squeeze S512x4992 squeezes_S1x512x4992_S512x4992).view.write (Elt F) fd
          ((wH.slice (Rect.unit (s := S11904x4992) o' S512x4992.size inb') (fun _ => rfl)).view.read (Elt F) Wv) Finset.univ)
      ∗ own c (wH.slice (Rect.unit (s := S11904x4992) o' S512x4992.size inb') (fun _ => rfl)) fullShare Wv) ⊢ (dW c z Wv j t : sProp 𝕄) := by
  subst h; subst h'
  refine .of_eq (congrArg (fun P => iprop(P ∗ own c (wrows j) fullShare Wv)) (pointsTo_congr fun i hi => ?_))
  obtain ⟨x, -, rfl⟩ := Finset.mem_map.mp hi
  unfold ringOf
  rw [View.write_emb_of_mem _ _ (Finset.mem_univ x)]
  exact (View.write_emb_of_mem _ _ (Finset.mem_univ x)).symm

theorem cond1_iff : ∀ k : Fin k0_t2_loop.trips, k0_cond1 k = 1#1 ↔ k.val + 8 < 23 := by decide +kernel
theorem cond2_iff : ∀ k : Fin k0_t2_loop.trips, k0_cond2 k = 1#1 ↔ k.val = 15 := by decide +kernel

/-- The block eight further on: the next one in the same slot. -/
abbrev nxt (k : Fin k0_t2_loop.trips) (h : k.val + 8 < 23) : Fin k0_t2_loop.trips := ⟨k.val + 8, lt_of_lt_of_eq h trips2.symm⟩

theorem off49_nxt (k : Fin k0_t2_loop.trips) (h : k.val + 8 < 23) : k0_off49 k = k0_off42 (nxt k h) := by
  rw [k0_off49_eq, k0_off42_eq]; show _ = ![(k.val + 8) % 8]; rw [show (k.val + 8) % 8 = k.val % 8 by omega]
theorem off50_nxt (k : Fin k0_t2_loop.trips) (h : k.val + 8 < 23) : k0_off50 k = k0_off43 (nxt k h) := by
  rw [k0_off50_eq, k0_off43_eq]; show _ = ![(k.val + 8) % 8, 0, 0]; rw [show (k.val + 8) % 8 = k.val % 8 by omega]
theorem off51_nxt (k : Fin k0_t2_loop.trips) (h : k.val + 8 < 23) : k0_off51 k = k0_off44 (nxt k h) := by
  rw [k0_off51_eq, k0_off44_eq]; show _ = ![512 * (k.val + 8), 0]; rw [show 512 * (k.val + 8) = 512 * k.val + 4096 by omega]
theorem off49_42 (k : Fin k0_t2_loop.trips) : k0_off49 k = k0_off42 k := by rw [k0_off49_eq, k0_off42_eq]
theorem off50_43 (k : Fin k0_t2_loop.trips) : k0_off50 k = k0_off43 k := by rw [k0_off50_eq, k0_off43_eq]
theorem off45_43 (k : Fin k0_t2_loop.trips) : k0_off45 k = k0_off43 k := by rw [k0_off45_eq, k0_off43_eq]
theorem off52_42 (k : Fin k0_t2_loop.trips) : k0_off52 k = k0_off42 k := by rw [k0_off52_eq, k0_off42_eq]

/-- What trip `k` needs for the slot's next use, -/
def preX (c : Dev nD) (Wv : Vec F S11904x4992 .fp8e4m3) (k : Fin k0_t2_loop.trips) : sProp 𝕄 :=
  if h : k.val + 8 < 23 then own c (wrows (nxt k h)) fullShare Wv else if k.val = 15 then own c wtail fullShare Wv else iprop(emp)
/-- and what it leaves of the slot. -/
def postX (c : Dev nD) (z : Vec F S8x512x4992 .fp8e4m3) (Wv : Vec F S11904x4992 .fp8e4m3) (k : Fin k0_t2_loop.trips) : sProp 𝕄 :=
  if h : k.val + 8 < 23 then WB c z Wv (nxt k h) else if k.val = 15 then TB c z Wv
  else iprop(own c (slot k) fullShare (ringOf z Wv k) ∗ semVal ((c : Thread nD τ), SemLoc.dma (wcell k).sem) 0)

theorem pay155_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 0, tile_lt k 0⟩) (hb : b1 = row93 b ⟨4 * k.val + 0, tile_lt k 0⟩) :
    k0_pay155 v110 D w1 b1 = yT v110 C Wv ws b k 0 := by
  subst hD; subst hw; subst hb; exact sc_self _ _

theorem pay159_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 3, tile_lt k 3⟩) (hb : b1 = row93 b ⟨4 * k.val + 3, tile_lt k 3⟩) :
    k0_pay159 v110 D w1 b1 = yT v110 C Wv ws b k 3 := by
  subst hD; subst hw; subst hb; exact sc_self _ _

theorem pay156_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 1, tile_lt k 1⟩) (hb : b1 = row93 b ⟨4 * k.val + 1, tile_lt k 1⟩) :
    k0_pay157 (k0_pay156 v110 D w1 b1) = yT v110 C Wv ws b k 1 := by
  subst hD; subst hw; subst hb; exact sc_self _ _

theorem pay158_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 2, tile_lt k 2⟩) (hb : b1 = row93 b ⟨4 * k.val + 2, tile_lt k 2⟩) :
    k0_pay158 v110 D w1 b1 = yT v110 C Wv ws b k 2 := by
  subst hD; subst hw; subst hb; exact sc_self _ _

theorem dot_eq (z : Vec F S8x512x4992 .fp8e4m3) (C : Vec F S128x4992 .fp8e4m3) (Wv : Vec F S11904x4992 .fp8e4m3) (k : Fin k0_t2_loop.trips) :
    k0_pay154 (cV.view.readAt (Elt F) (Rect.unit (s := S128x4992) ![0, 0] S128x4992.size inb_S128x4992_S128x4992_0_0).toLoadRect C)
      (ringV.view.readAt (Elt F) (Rect.unit (s := S8x512x4992) (k0_off45 k) S1x512x4992.size (k0_off45_inb k)).toLoadRect (ringOf z Wv k)) = dotB C Wv k := by
  unfold k0_pay154 dotB
  rw [ring_read z Wv k (off45_43 k), View.readAt_full]
  rfl

theorem issue_t (c : Dev nD) (z : Vec F S8x512x4992 .fp8e4m3) (Wv : Vec F S11904x4992 .fp8e4m3) {o : Fin 3 → ℕ} (h : o = ![7, 0, 0])
    (inb : ∀ a, o a + S1x128x4992.size a ≤ S8x512x4992.size a) (t : Fin 1) :
    iprop((ringV.view.loc (c : Thread nD τ) ↦[(slot ⟨15, last_lt⟩).view.set]{fullShare}
        (((ringV.slice (Rect.unit (s := S8x512x4992) o S1x128x4992.size inb) (fun _ => rfl)).squeeze S128x4992 squeezes_S1x128x4992_S128x4992).view.write (Elt F) (ringOf z Wv ⟨15, last_lt⟩)
          (wtail.view.read (Elt F) Wv) Finset.univ))
      ∗ own c wtail fullShare Wv) ⊢ (dT c z Wv t : sProp 𝕄) := by
  subst h; exact .rfl

theorem TB_eq (c : Dev nD) (z : Vec F S8x512x4992 .fp8e4m3) (Wv : Vec F S11904x4992 .fp8e4m3) {o : Fin 1 → ℕ} {o' : Fin 3 → ℕ} (h : o = k0_off42 ⟨15, last_lt⟩) (h' : o' = ![7, 0, 0])
    (inb : ∀ a, o a + S1.size a ≤ S8.size a) (inb' : ∀ a, o' a + S1x128x4992.size a ≤ S8x512x4992.size a) :
    (Transfers.Batch (countersEmb (U := Pipeline.UD sig nD τ)) (c : Thread nD τ) (.dma ((cc0_scratch14.slice (Rect.unit (s := S8) o S1.size inb)).squeeze S_ squeezes_S1_S_).sem) ()
      (((ringV.slice (Rect.unit (s := S8x512x4992) o' S1x128x4992.size inb') (fun _ => rfl)).squeeze S128x4992 squeezes_S1x128x4992_S128x4992).view.dmaCredit) (dT c z Wv) 1 0 : sProp 𝕄) = TB c z Wv := by
  subst h; subst h'; rfl

theorem ring_set {S' : Shape} (r : Rect S8x512x4992) (hr : ∀ a, r.stride a = 1) (hq : r.shape.Squeezes S') :
    ((ringV.slice r hr).squeeze S' hq).view.set = r.set := by
  refine Eq.trans ?_ (View.set_slice_whole cc0_scratch10 r)
  exact View.set_reshape _ _

theorem tslot_sub {o : Fin 3 → ℕ} (h : o = ![7, 0, 0]) (inb : ∀ a, o a + S1x128x4992.size a ≤ S8x512x4992.size a) :
    ((ringV.slice (Rect.unit (s := S8x512x4992) o S1x128x4992.size inb) (fun _ => rfl)).squeeze S128x4992 squeezes_S1x128x4992_S128x4992).view.set ⊆ (slot ⟨15, last_lt⟩).view.set := by
  subst h
  intro i hi
  have h1 := (ring_set _ _ _) ▸ hi
  rw [ring_set]
  refine Rect.mem_set_unit.mpr fun a => ?_
  have h2 := Rect.mem_set_unit.mp h1 a
  rw [k0_off43_eq]
  fin_cases a
  · exact h2
  · exact ⟨h2.1, lt_of_lt_of_le h2.2 (show (0 : ℕ) + 128 ≤ 0 + 512 by decide)⟩
  · exact h2

theorem off53_last : k0_off53 ⟨15, last_lt⟩ = ![7, 0, 0] := (k0_off53_eq _).trans rfl

set_option maxHeartbeats 2000000 in
theorem trip2 (c : Dev nD) (k : Fin k0_t2_loop.trips) (v110 : Vec F S1x1 .f32) (W : Waits sig Unit)
   (z : Vec F S8x512x4992 .fp8e4m3) (C : Vec F S128x4992 .fp8e4m3) (Wv : Vec F S11904x4992 .fp8e4m3) (ws b : Vec F S93x128 .f32) (y0 yo : Vec F S128x11904 .bf16) :
   iprop(WB c z Wv k
      ∗ owes (c : Thread nD τ) 0 W
      ∗ own c cV fullShare.left C ∗ own c wsV fullShare ws ∗ own c bF fullShare b
      ∗ own c (ycols yV k) fullShare y0 ∗ own c (ycols yO k) fullShare yo
      ∗ YB c (yB v110 C Wv ws b) k.val 0 ∗ preX c Wv k) ⊢
    wp frame (wpE (defs₀ (F := F)) Variants.none c none) Set.univ
      (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32 k ())
      (fun _ => iprop(own c (wrows k) fullShare Wv ∗ (∃ W', owes (c : Thread nD τ) 0 W')
          ∗ own c cV fullShare.left C ∗ own c wsV fullShare ws ∗ own c bF fullShare b
          ∗ YB c (yB v110 C Wv ws b) (k.val + 1) 0 ∗ postX c z Wv k)) := by
  unfold WB dW
  iintro ⟨HB, HW, HC, Hws, Hb, Hy, Hyo, HY, HX⟩
  sl_exec
  have hoff : ∀ r : Fin 4, k0_off47 k (BitVec.ofNat 32 (128 * r.val)) = ![0, 128 * (4 * k.val + r.val)] := fun r => by
    rw [k0_off47_eq, show 512 * k.val + 128 * r.val = 128 * (4 * k.val + r.val) by omega]
  have ey : own c (ycols yV k) fullShare (trip2.sl.Hy_w4 k v110 z C Wv ws b y0) ⊢ own c (ycols yV k) fullShare (yB v110 C Wv ws b) := by
    refine .of_eq (pointsTo_congr fun j hj => ?_)
    have hg := ytile_of_mem k (by rwa [show (ycols yV k).view.set = _ from View.set_slice_whole _ _] at hj)
    refine (show ∀ j, 4 * k.val ≤ (ytile j).val → (ytile j).val < 4 * k.val + 3 + 1 → yV.view.read (Elt F) (trip2.sl.Hy_w4 k v110 z C Wv ws b y0) j = mkY (yTile v110 C Wv ws b) j from ?_) j hg.1 hg.2
    clear hg hj j
    unfold trip2.sl.Hy_w4
    refine ytile_step (Val := Elt F) yV.view (yTile v110 C Wv ws b) (4 * k.val) (4 * k.val + 3) (tile_lt k 3) (hoff 3) (k0_off47_inb k 3) _ _ ?_ ?_
    · refine Eq.trans ?_ (yTile_blk v110 C Wv ws b k 3 (tile_lt k 3)).symm
      exact pay159_eq C Wv ws b k (dot_eq z C Wv k) (rdRow wsV.view ws k 3) (rdRow bF.view b k 3)
    unfold trip2.sl.Hy_w3
    refine ytile_step (Val := Elt F) yV.view (yTile v110 C Wv ws b) (4 * k.val) (4 * k.val + 2) (tile_lt k 2) (hoff 2) (k0_off47_inb k 2) _ _ ?_ ?_
    · refine Eq.trans ?_ (yTile_blk v110 C Wv ws b k 2 (tile_lt k 2)).symm
      exact pay158_eq C Wv ws b k (dot_eq z C Wv k) (rdRow wsV.view ws k 2) (rdRow bF.view b k 2)
    unfold trip2.sl.Hy_w2
    refine ytile_step (Val := Elt F) yV.view (yTile v110 C Wv ws b) (4 * k.val) (4 * k.val + 1) (tile_lt k 1) (hoff 1) (k0_off47_inb k 1) _ _ ?_ ?_
    · refine Eq.trans ?_ (yTile_blk v110 C Wv ws b k 1 (tile_lt k 1)).symm
      exact pay156_eq C Wv ws b k (dot_eq z C Wv k) (rdRow wsV.view ws k 1) (rdRow bF.view b k 1)
    unfold trip2.sl.Hy_w1
    refine ytile_step (Val := Elt F) yV.view (yTile v110 C Wv ws b) (4 * k.val) (4 * k.val + 0) (tile_lt k 0) (hoff 0) (k0_off47_inb k 0) _ _ ?_ ?_
    · refine Eq.trans ?_ (yTile_blk v110 C Wv ws b k 0 (tile_lt k 0)).symm
      exact pay155_eq C Wv ws b k (dot_eq z C Wv k) (rdRow wsV.view ws k 0) (rdRow bF.view b k 0)
    intro i h1 h2; exact absurd h2 (by omega)
  ihave Hy := ey $$ Hy
  iapply (Transfers.wp_dmaMixedBatch (countersEmb (U := Pipeline.UD sig nD τ)) Variants.none (c : Thread nD τ) none (src := ycols yV k) (dst := ycols yO k) (fs := yB v110 C Wv ws b) (fd := yo) (q := fullShare) (D := yD c (yB v110 C Wv ws b)) () yA
    (subset_refl _) (y_lt k) (yA_blk k) (Nat.zero_le _)
    (.of_eq (by rw [yD_blk]; exact congrArg (fun P => iprop(P ∗ own c (ycols yV k) fullShare (yB v110 C Wv ws b))) (copy_y c k yo (yB v110 C Wv ws b))))) $$ [Hy Hyo HY]
  · sl_close
  iintro HY
  by_cases h : k.val + 8 < 23
  · have h1 : k0_cond1 k = 1#1 := (cond1_iff k).2 h
    have h2 : ¬ k0_cond2 k = 1#1 := fun e => by have := (cond2_iff k).1 e; omega
    rw [show postX c z Wv k = WB c z Wv (nxt k h) from by unfold postX; rw [dif_pos h]]
    ihave HX := (show preX c Wv k ⊢ _ from .of_eq (by unfold preX; rw [dif_pos h, ← wrows_eq c (nxt k h) (off51_nxt k h) (k0_off51_inb k h1)])) $$ HX
    ihave HB_dst0 := (show own c (slot k) fullShare (ringOf z Wv k) ⊢ _ from .of_eq (slot_eq c k (off50_43 k) (k0_off50_inb k h1) fullShare _).symm) $$ HB_dst0
    ihave HB := (show semVal ((c : Thread nD τ), SemLoc.dma (wcell k).sem) 0 ⊢ (_ : sProp 𝕄) from .of_eq (by rw [← cell_eq k (off49_42 k) (k0_off49_inb k h1)])) $$ HB
    imod (Transfers.batch_alloc' (Lvl := ℕ) (countersEmb (U := Pipeline.UD sig nD τ)) (c : Thread nD τ) ()
      (((ringV.slice (Rect.unit (s := S8x512x4992) (k0_off50 k) S1x512x4992.size (k0_off50_inb k h1)) (fun _ => rfl)).squeeze S512x4992 squeezes_S1x512x4992_S512x4992).view.dmaCredit)
      (dW c z Wv (nxt k h)) (E := Set.univ)) $$ HB with HB
    simp only [dif_pos h1, dif_neg h2, Prog.lift, Prog.bind_op, Prog.bind_ret, Prog.pure_eq_ret, Prog.bind_assoc]
    iapply (Transfers.wp_dmaBatch (countersEmb (U := Pipeline.UD sig nD τ)) Variants.none (c : Thread nD τ) none
      (src := wH.slice (Rect.unit (s := S11904x4992) (k0_off51 k) S512x4992.size (k0_off51_inb k h1)) (fun _ => rfl))
      (dst := (ringV.slice (Rect.unit (s := S8x512x4992) (k0_off50 k) S1x512x4992.size (k0_off50_inb k h1)) (fun _ => rfl)).squeeze S512x4992 squeezes_S1x512x4992_S512x4992)
      (fs := Wv) (fd := ringOf z Wv k) (q := fullShare) (D := dW c z Wv (nxt k h)) () _
      rfl (subset_refl _) Nat.one_pos (Nat.zero_le _) (by exact issue_w c z (ringOf z Wv k) Wv (nxt k h) (off50_nxt k h) (off51_nxt k h) (k0_off50_inb k h1) (k0_off51_inb k h1) _)) $$ [HX HB_dst0 HB]
    · sl_close
    iintro HB
    ihave HB := (show _ ⊢ WB c z Wv (nxt k h) from .of_eq (WB_eq c z Wv (nxt k h) (off49_nxt k h) (off50_nxt k h) (k0_off49_inb k h1) (k0_off50_inb k h1))) $$ HB
    sl_step
    sl_step
    sl_close
  · have h1 : ¬ k0_cond1 k = 1#1 := fun e => h ((cond1_iff k).1 e)
    by_cases h' : k.val = 15
    · obtain rfl : k = ⟨15, last_lt⟩ := Fin.ext h'
      have h2 : k0_cond2 ⟨15, last_lt⟩ = 1#1 := (cond2_iff _).2 rfl
      rw [show postX c z Wv ⟨15, last_lt⟩ = TB c z Wv from by unfold postX; rw [dif_neg h, if_pos h']]
      ihave HX := (show preX c Wv ⟨15, last_lt⟩ ⊢ own c wtail fullShare Wv from .of_eq (by unfold preX; rw [dif_neg h, if_pos h'])) $$ HX
      ihave HB := (show semVal ((c : Thread nD τ), SemLoc.dma (wcell ⟨15, last_lt⟩).sem) 0 ⊢ (_ : sProp 𝕄) from .of_eq (by rw [← cell_eq ⟨15, last_lt⟩ (off52_42 _) (k0_off52_inb ⟨15, last_lt⟩ h2)])) $$ HB
      imod (Transfers.batch_alloc' (Lvl := ℕ) (countersEmb (U := Pipeline.UD sig nD τ)) (c : Thread nD τ) ()
        (((ringV.slice (Rect.unit (s := S8x512x4992) (k0_off53 ⟨15, last_lt⟩) S1x128x4992.size (k0_off53_inb ⟨15, last_lt⟩ h2)) (fun _ => rfl)).squeeze S128x4992 squeezes_S1x128x4992_S128x4992).view.dmaCredit)
        (dT c z Wv) (E := Set.univ)) $$ HB with HB
      simp only [dif_neg h1, dif_pos h2, Prog.lift, Prog.bind_op, Prog.bind_ret, Prog.pure_eq_ret, Prog.bind_assoc]
      sl_step
      iapply (Transfers.wp_dmaBatch (countersEmb (U := Pipeline.UD sig nD τ)) Variants.none (c : Thread nD τ) none
        (src := wtail)
        (dst := (ringV.slice (Rect.unit (s := S8x512x4992) (k0_off53 ⟨15, last_lt⟩) S1x128x4992.size (k0_off53_inb ⟨15, last_lt⟩ h2)) (fun _ => rfl)).squeeze S128x4992 squeezes_S1x128x4992_S128x4992)
        (fs := Wv) (fd := ringOf z Wv ⟨15, last_lt⟩) (q := fullShare) (D := dT c z Wv) () _
        rfl (tslot_sub off53_last (k0_off53_inb ⟨15, last_lt⟩ h2)) Nat.one_pos (Nat.zero_le _) (by exact issue_t c z Wv off53_last (k0_off53_inb ⟨15, last_lt⟩ h2) _)) $$ [HX HB_dst0 HB]
      · sl_close
      iintro HB
      ihave HB := (show _ ⊢ TB c z Wv from .of_eq (TB_eq c z Wv (off52_42 _) off53_last (k0_off52_inb ⟨15, last_lt⟩ h2) (k0_off53_inb ⟨15, last_lt⟩ h2))) $$ HB
      sl_step
      sl_close
    · have h2 : ¬ k0_cond2 k = 1#1 := fun e => h' ((cond2_iff k).1 e)
      rw [show postX c z Wv k = iprop(own c (slot k) fullShare (ringOf z Wv k) ∗ semVal ((c : Thread nD τ), SemLoc.dma (wcell k).sem) 0) from by unfold postX; rw [dif_neg h, if_neg h']]
      ihave HX := (show preX c Wv k ⊢ iprop(emp) from .of_eq (by unfold preX; rw [dif_neg h, if_neg h'])) $$ HX
      simp only [dif_neg h1, dif_neg h2, Prog.lift, Prog.bind_op, Prog.bind_ret, Prog.pure_eq_ret, Prog.bind_assoc]
      sl_step
      sl_step
      sl_close
end Cert.Kernel.Hand
-- ==== Proof.K.Loops.lean ====
module

public import proofs.«01_k».proof.Proof.K.Trip2

/-! The two loops, each by one trip: what stands for the trips to come and for the trips done. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Trips done leave `Post`, trips to come hold `Pre`; trip `k` takes the one and gives the other. -/
theorem seq_step {n : ℕ} (Pre Post : Fin n → sProp 𝕄) (k : Fin n) :
    bigSep Finset.univ (fun j : Fin n => if k.val ≤ j.val then Pre j else Post j)
      ⊢ iprop(Pre k ∗ (Post k -∗ bigSep Finset.univ (fun j : Fin n => if k.val + 1 ≤ j.val then Pre j else Post j))) := by
  have e1 : bigSep Finset.univ (fun j : Fin n => if k.val ≤ j.val then Pre j else Post j)
      = iprop((if k.val ≤ k.val then Pre k else Post k) ∗ bigSep (Finset.univ.erase k) (fun j : Fin n => if k.val ≤ j.val then Pre j else Post j)) := bigSep_erase (Finset.mem_univ k)
  have e2 : bigSep Finset.univ (fun j : Fin n => if k.val + 1 ≤ j.val then Pre j else Post j)
      = iprop((if k.val + 1 ≤ k.val then Pre k else Post k) ∗ bigSep (Finset.univ.erase k) (fun j : Fin n => if k.val + 1 ≤ j.val then Pre j else Post j)) := bigSep_erase (Finset.mem_univ k)
  rw [e1, e2, if_pos le_rfl, if_neg (Nat.not_succ_le_self _)]
  have e : bigSep (Finset.univ.erase k) (fun j : Fin n => if k.val ≤ j.val then Pre j else Post j)
      = bigSep (Finset.univ.erase k) (fun j : Fin n => if k.val + 1 ≤ j.val then Pre j else Post j) :=
    bigSep_congr fun j hj => by
      have hne : j.val ≠ k.val := fun h => (Finset.ne_of_mem_erase hj) (Fin.ext h)
      by_cases h : k.val ≤ j.val
      · rw [if_pos h, if_pos (by omega)]
      · rw [if_neg h, if_neg (by omega)]
  rw [e]
  iintro ⟨HP, HR⟩
  isplitl [HP]; · iexact HP
  iintro HQ
  isplitl [HQ]; · iexact HQ
  iexact HR

theorem seq_start {n : ℕ} (Pre Post : Fin n → sProp 𝕄) :
    bigSep Finset.univ (fun j : Fin n => if 0 ≤ j.val then Pre j else Post j) = bigSep Finset.univ Pre :=
  bigSep_congr fun j _ => if_pos (Nat.zero_le _)

theorem seq_end {n : ℕ} (Pre Post : Fin n → sProp 𝕄) :
    bigSep Finset.univ (fun j : Fin n => if n ≤ j.val then Pre j else Post j) = bigSep Finset.univ Post :=
  bigSep_congr fun j _ => if_neg (Nat.not_le.mpr j.isLt)

section One
variable (c : Dev nD) (v110 : Vec F S1x1 .f32) (X R h0 oh : Vec F S128x4992 .bf16) (c0 oc : Vec F S128x4992 .fp8e4m3) (G : Vec F S39x128 .f32)

/-- What a row group holds before its trip of the first loop, -/
def pre1 (k : Fin k0_t1_loop.trips) : sProp 𝕄 :=
  iprop(Transfers.Batch (countersEmb (U := Pipeline.UD sig nD τ)) (c : Thread nD τ) (.dma (xcell k).sem) () ((rows xV k).view.dmaCredit) (dX c k X R) 2 0
    ∗ own c (rows hV k) fullShare h0 ∗ own c (rows cV k) fullShare c0 ∗ own c (rows hO k) fullShare oh ∗ own c (rows cO k) fullShare oc)

/-- and after it: the hidden state and half of the codes are on their way out. -/
def post1 (k : Fin k0_t1_loop.trips) : sProp 𝕄 :=
  iprop(own c (rows cV k) fullShare.left (cB v110 X R G)
    ∗ own c (rows xV k) fullShare X ∗ own c (rows xH k) fullShare X ∗ own c (rows rV k) fullShare R ∗ own c (rows rH k) fullShare R
    ∗ semVal ((c : Thread nD τ), SemLoc.dma (xcell k).sem) 0)

def inv1 (k : ℕ) : sProp 𝕄 :=
  iprop(bigSep Finset.univ (fun j : Fin k0_t1_loop.trips => if k ≤ j.val then pre1 c X R h0 oh c0 oc j else post1 c v110 X R G j)
    ∗ own c gF fullShare G ∗ (∃ W, owes (c : Thread nD τ) 0 W) ∗ OutB c (hB X R) (cB v110 X R G) (2 * k) 0)

set_option maxHeartbeats 1000000 in
theorem step1 (x : BitVec 32) (k : Fin k0_t1_loop.trips) (a : Unit) :
    inv1 c v110 X R h0 oh c0 oc G k.val ⊢ wp frame (wpE (defs₀ (F := F)) Variants.none c none) Set.univ
      (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110 k a)
      (fun _ => inv1 c v110 X R h0 oh c0 oc G (k.val + 1)) := by
  cases a
  unfold inv1
  iintro ⟨HS, HG, ⟨%W, HW⟩, HO⟩
  ihave HS := (seq_step (pre1 c X R h0 oh c0 oc) (post1 c v110 X R G) k) $$ HS
  icases HS with ⟨HP, HS⟩
  unfold pre1
  icases HP with ⟨HB, Hh, Hc, Hoh, Hoc⟩
  iapply (wp_mono_r (trip1 c k x v110 W X R h0 oh c0 oc G)) $$ [HB HG Hh Hc Hoh Hoc HW HO]
  · sl_close
  iintro %r ⟨Hc, HG, Hx, Hxh, Hr, Hrh, Hs, ⟨%W', HW⟩, HO⟩
  isplitl [HS Hc Hx Hxh Hr Hrh Hs]
  · iapply HS
    unfold post1
    sl_close
  sl_close

set_option maxRecDepth 16384 in
theorem loop1 (x : BitVec 32) :
    iprop(bigSep Finset.univ (pre1 c X R h0 oh c0 oc) ∗ own c gF fullShare G ∗ (∃ W, owes (c : Thread nD τ) 0 W) ∗ OutB c (hB X R) (cB v110 X R G) 0 0)
     ⊢ wp frame (wpE (defs₀ (F := F)) Variants.none c none) Set.univ
      (Scf.Loop.for k0_t1_loop k0_t1_ok ⟨⟩ (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110))
      (fun _ => iprop(bigSep Finset.univ (post1 c v110 X R G) ∗ own c gF fullShare G ∗ (∃ W, owes (c : Thread nD τ) 0 W) ∗ OutB c (hB X R) (cB v110 X R G) 8 0)) := by
  have e0 : inv1 c v110 X R h0 oh c0 oc G 0 = iprop(bigSep Finset.univ (pre1 c X R h0 oh c0 oc) ∗ own c gF fullShare G ∗ (∃ W, owes (c : Thread nD τ) 0 W) ∗ OutB c (hB X R) (cB v110 X R G) 0 0) := by
    unfold inv1; rw [seq_start]
  have e1 : inv1 c v110 X R h0 oh c0 oc G k0_t1_loop.trips = iprop(bigSep Finset.univ (post1 c v110 X R G) ∗ own c gF fullShare G ∗ (∃ W, owes (c : Thread nD τ) 0 W) ∗ OutB c (hB X R) (cB v110 X R G) 8 0) := by
    unfold inv1
    have h : OutB c (hB X R) (cB v110 X R G) (2 * k0_t1_loop.trips) 0 = OutB c (hB X R) (cB v110 X R G) 8 0 := congrArg (fun n => OutB c (hB X R) (cB v110 X R G) n 0) (by rw [trips1])
    rw [seq_end, h]
  rw [← e0, ← e1]
  iintro HI
  iapply (Scf.wp_for frame (wpE (defs₀ (F := F)) Variants.none c none) Set.univ k0_t1_loop.lb k0_t1_loop.ub k0_t1_loop.st k0_t1_ok () (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110) (fun k _ => inv1 c v110 X R h0 oh c0 oc G k) (step1 c v110 X R h0 oh c0 oc G x))
  isplitl [HI]; · iexact HI
  iintro %a HI
  iexact HI
end One

section Two
variable (c : Dev nD) (v110 : Vec F S1x1 .f32) (z : Vec F S8x512x4992 .fp8e4m3) (C : Vec F S128x4992 .fp8e4m3) (Wv : Vec F S11904x4992 .fp8e4m3) (ws b : Vec F S93x128 .f32) (y0 yo : Vec F S128x11904 .bf16)

/-- What trip `k` of the second loop takes: its columns and the weights its slot is filled with next, -/
def pre2 (k : Fin k0_t2_loop.trips) : sProp 𝕄 :=
  iprop(preX c Wv k ∗ own c (ycols yV k) fullShare y0 ∗ own c (ycols yO k) fullShare yo)

/-- the slot's next use, -/
def FX (k : Fin k0_t2_loop.trips) : sProp 𝕄 :=
  if h : k.val + 8 < 23 then WB c z Wv (nxt k h) else if k.val = 15 then TB c z Wv else iprop(emp)

/-- the slot, when it has none, -/
def LX (k : Fin k0_t2_loop.trips) : sProp 𝕄 :=
  if k.val + 8 < 23 then iprop(emp) else if k.val = 15 then iprop(emp)
  else iprop(own c (slot k) fullShare (ringOf z Wv k) ∗ semVal ((c : Thread nD τ), SemLoc.dma (wcell k).sem) 0)

/-- and what the trip leaves. -/
def post2 (k : Fin k0_t2_loop.trips) : sProp 𝕄 := iprop(own c (wrows k) fullShare Wv ∗ LX c z Wv k)

theorem postX_split (k : Fin k0_t2_loop.trips) : postX c z Wv k ⊢ iprop(FX c z Wv k ∗ LX c z Wv k) := by
  unfold postX FX LX
  by_cases h : k.val + 8 < 23
  · rw [dif_pos h, dif_pos h, if_pos h]; iintro H; isplitl [H]; · iexact H
    iempintro
  · rw [dif_neg h, dif_neg h, if_neg h]
    by_cases h' : k.val = 15
    · rw [if_pos h', if_pos h', if_pos h']; iintro H; isplitl [H]; · iexact H
      iempintro
    · rw [if_neg h', if_neg h', if_neg h']; iintro H; isplitr; · iempintro
      iexact H

/-- The blocks on their way at trip `k`. -/
def flying (k : ℕ) : Finset (Fin k0_t2_loop.trips) := Finset.univ.filter fun j => k ≤ j.val ∧ j.val < k + 8

/-- What is on its way at trip `k`: eight blocks, at the end the last rows. -/
def flights (k : ℕ) : sProp 𝕄 := iprop(bigSep (flying k) (WB c z Wv) ∗ (if 15 < k then TB c z Wv else iprop(emp)))

theorem mem_flying {k : ℕ} {j : Fin k0_t2_loop.trips} : j ∈ flying k ↔ k ≤ j.val ∧ j.val < k + 8 := by
  unfold flying; rw [Finset.mem_filter]; exact and_iff_right (Finset.mem_univ j)

theorem flights_step (k : Fin k0_t2_loop.trips) :
    flights c z Wv k.val ⊢ iprop(WB c z Wv k ∗ (FX c z Wv k -∗ flights c z Wv (k.val + 1))) := by
  have ht := trips2
  unfold flights FX
  have e1 : bigSep (flying k.val) (WB c z Wv) = iprop(WB c z Wv k ∗ bigSep ((flying k.val).erase k) (WB c z Wv)) :=
    bigSep_erase (mem_flying.2 ⟨le_rfl, by omega⟩ : k ∈ flying k.val)
  rw [e1]
  by_cases h : k.val + 8 < 23
  · have hs : flying (k.val + 1) = insert (nxt k h) ((flying k.val).erase k) := by
      ext j; rw [Finset.mem_insert, Finset.mem_erase, mem_flying, mem_flying, Ne, Fin.ext_iff, Fin.ext_iff]
      show _ ↔ j.val = k.val + 8 ∨ _
      omega
    have hn : nxt k h ∉ (flying k.val).erase k := by
      rw [Finset.mem_erase, mem_flying]; show ¬ (_ ∧ _ ∧ k.val + 8 < k.val + 8); omega
    have e2 : bigSep (insert (nxt k h) ((flying k.val).erase k)) (WB c z Wv) = iprop(WB c z Wv (nxt k h) ∗ bigSep ((flying k.val).erase k) (WB c z Wv)) := bigSep_insert hn
    rw [dif_pos h, hs, e2, if_neg (by omega), if_neg (by omega)]
    iintro ⟨⟨HW, HR⟩, HE⟩
    isplitl [HW]; · iexact HW
    iintro HN
    isplitr [HE]
    · isplitl [HN]; · iexact HN
      iexact HR
    · iexact HE
  · have hs : flying (k.val + 1) = (flying k.val).erase k := by
      ext j; rw [Finset.mem_erase, mem_flying, mem_flying, Ne, Fin.ext_iff]
      have := j.isLt
      omega
    rw [dif_neg h, hs]
    by_cases h' : k.val = 15
    · rw [if_pos h', if_neg (by omega), if_pos (by omega)]
      iintro ⟨⟨HW, HR⟩, HE⟩
      isplitl [HW]; · iexact HW
      iintro HN
      isplitl [HR]; · iexact HR
      iexact HN
    · rw [if_neg h', if_pos (by omega), if_pos (by omega)]
      iintro ⟨⟨HW, HR⟩, HE⟩
      isplitl [HW]; · iexact HW
      iintro HN
      isplitl [HR]; · iexact HR
      iexact HE

def inv2 (k : ℕ) : sProp 𝕄 :=
  iprop(bigSep Finset.univ (fun j : Fin k0_t2_loop.trips => if k ≤ j.val then pre2 c Wv y0 yo j else post2 c z Wv j)
    ∗ flights c z Wv k ∗ (∃ W, owes (c : Thread nD τ) 0 W)
    ∗ own c cV fullShare.left C ∗ own c wsV fullShare ws ∗ own c bF fullShare b ∗ YB c (yB v110 C Wv ws b) k 0)

set_option maxHeartbeats 1000000 in
theorem step2 (k : Fin k0_t2_loop.trips) (a : Unit) :
    inv2 c v110 z C Wv ws b y0 yo k.val ⊢ wp frame (wpE (defs₀ (F := F)) Variants.none c none) Set.univ
      (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32 k a)
      (fun _ => inv2 c v110 z C Wv ws b y0 yo (k.val + 1)) := by
  cases a
  unfold inv2
  iintro ⟨HS, HF, ⟨%W, HW⟩, HC, Hws, Hb, HY⟩
  ihave HS := (seq_step (pre2 c Wv y0 yo) (post2 c z Wv) k) $$ HS
  icases HS with ⟨HP, HS⟩
  ihave HF := (flights_step c z Wv k) $$ HF
  icases HF with ⟨HB, HF⟩
  unfold pre2
  icases HP with ⟨HX, Hy, Hyo⟩
  iapply (wp_mono_r (trip2 c k v110 W z C Wv ws b y0 yo)) $$ [HB HW HC Hws Hb Hy Hyo HY HX]
  · sl_close
  iintro %r ⟨Hw, ⟨%W', HW⟩, HC, Hws, Hb, HY, HX⟩
  ihave HX := (postX_split c z Wv k) $$ HX
  icases HX with ⟨HX, HL⟩
  isplitl [HS Hw HL]
  · iapply HS
    unfold post2
    isplitl [Hw]; · iexact Hw
    iexact HL
  isplitl [HF HX]
  · iapply HF
    iexact HX
  sl_close

theorem loop2 :
    iprop(bigSep Finset.univ (pre2 c Wv y0 yo) ∗ flights c z Wv 0 ∗ (∃ W, owes (c : Thread nD τ) 0 W)
      ∗ own c cV fullShare.left C ∗ own c wsV fullShare ws ∗ own c bF fullShare b ∗ YB c (yB v110 C Wv ws b) 0 0)
     ⊢ wp frame (wpE (defs₀ (F := F)) Variants.none c none) Set.univ
      (Scf.Loop.for k0_t2_loop k0_t2_ok ⟨⟩ (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32))
      (fun _ => iprop(bigSep Finset.univ (post2 c z Wv) ∗ TB c z Wv ∗ (∃ W, owes (c : Thread nD τ) 0 W)
        ∗ own c cV fullShare.left C ∗ own c wsV fullShare ws ∗ own c bF fullShare b ∗ YB c (yB v110 C Wv ws b) 23 0)) := by
  have e0 : inv2 c v110 z C Wv ws b y0 yo 0 = iprop(bigSep Finset.univ (pre2 c Wv y0 yo) ∗ flights c z Wv 0 ∗ (∃ W, owes (c : Thread nD τ) 0 W)
      ∗ own c cV fullShare.left C ∗ own c wsV fullShare ws ∗ own c bF fullShare b ∗ YB c (yB v110 C Wv ws b) 0 0) := by
    unfold inv2; rw [seq_start]
  have hf : flying k0_t2_loop.trips = ∅ := by
    ext j; rw [mem_flying]; have := j.isLt; exact ⟨fun h => absurd h.1 (by omega), fun h => absurd h (Finset.notMem_empty _)⟩
  have e1 : inv2 c v110 z C Wv ws b y0 yo k0_t2_loop.trips ⊢ iprop(bigSep Finset.univ (post2 c z Wv) ∗ TB c z Wv ∗ (∃ W, owes (c : Thread nD τ) 0 W)
        ∗ own c cV fullShare.left C ∗ own c wsV fullShare ws ∗ own c bF fullShare b ∗ YB c (yB v110 C Wv ws b) 23 0) := by
    unfold inv2 flights
    have hY : YB c (yB v110 C Wv ws b) k0_t2_loop.trips 0 = YB c (yB v110 C Wv ws b) 23 0 := congrArg (fun n => YB c (yB v110 C Wv ws b) n 0) trips2
    rw [seq_end, hf, if_pos last_lt, hY]
    iintro ⟨HS, ⟨-, HT⟩, HR⟩
    isplitl [HS]; · iexact HS
    isplitl [HT]; · iexact HT
    iexact HR
  rw [← e0]
  iintro HI
  iapply (Scf.wp_for frame (wpE (defs₀ (F := F)) Variants.none c none) Set.univ k0_t2_loop.lb k0_t2_loop.ub k0_t2_loop.st k0_t2_ok () (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32) (fun k _ => inv2 c v110 z C Wv ws b y0 yo k) (step2 c v110 z C Wv ws b y0 yo))
  isplitl [HI]; · iexact HI
  iintro %a HI
  iapply e1
  iexact HI
end Two

end Cert.Kernel.Hand
-- ==== Proof.K.Split.lean ====
module

public import proofs.«01_k».proof.Proof.K.Loops

/-! The arrays cut along the kernel's blocks: 4 row groups, 23 weight blocks and the last rows, 8 slots, 23 blocks of columns
and the last columns. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- An array is its slices along rectangles that cover it. -/
theorem own_cut (c : Dev nD) {sp : Space} {s : Shape} {e : EltTy} (M : Memref sig .tc sp s e) (q : PosShare TreeShare) (f : Buf (Elt F) (M.view.loc (c : Thread nD τ)))
    {B : Type} [Fintype B] [DecidableEq B] (R : B → Rect s) (hR : ∀ b a, (R b).stride a = 1)
    (hd : ∀ b b', b ≠ b' → Disjoint (R b).set (R b').set) (hc : ∀ i, ∃ b, i ∈ (R b).set) :
    (own c M q f : sProp 𝕄) = bigSep Finset.univ fun b => own c (M.slice (R b) (hR b)) q f := by
  have hs : ∀ b, (M.slice (R b) (hR b)).view.set = (R b).set.map M.view.emb := fun b => View.set_slice _ _
  have hu : M.view.set = Finset.univ.biUnion fun b => (M.slice (R b) (hR b)).view.set := by
    ext x
    constructor
    · intro hx
      obtain ⟨i, -, rfl⟩ := Finset.mem_map.mp hx
      obtain ⟨b, hb⟩ := hc i
      exact Finset.mem_biUnion.mpr ⟨b, Finset.mem_univ _, by rw [hs]; exact Finset.mem_map_of_mem _ hb⟩
    · intro hx
      obtain ⟨b, -, hb⟩ := Finset.mem_biUnion.mp hx
      rw [hs] at hb
      obtain ⟨i, -, rfl⟩ := Finset.mem_map.mp hb
      exact Finset.mem_map_of_mem _ (Finset.mem_univ _)
  let K : B → Finset (Idx (M.view.loc (c : Thread nD τ))) := fun b => (R b).set.map M.view.emb
  have hu' : M.view.set = Finset.univ.biUnion K := hu.trans (by
    ext x; simp only [Finset.mem_biUnion, hs]; rfl)
  have h1 : (M.view.loc (c : Thread nD τ) ↦[Finset.univ.biUnion K]{q} f : sProp 𝕄) = bigSep Finset.univ fun t => M.view.loc (c : Thread nD τ) ↦[K t]{q} f := pointsTo_biUnion (ℓ := M.view.loc (c : Thread nD τ)) (q := q) (f := f) Finset.univ K fun b _ b' _ h => (Finset.disjoint_map _).mpr (hd b b' h)
  rw [← hu'] at h1
  refine h1.trans (bigSep_congr fun b _ => ?_)
  show _ = (M.view.loc (c : Thread nD τ) ↦[(M.slice (R b) (hR b)).view.set]{q} f : sProp 𝕄)
  rw [hs]

theorem sep_comm_eq (P Q : sProp 𝕄) : iprop(P ∗ Q) = iprop(Q ∗ P) := BI.equiv_iff.mp ⟨BI.sep_comm, BI.sep_comm⟩

/-- The same with one more rectangle beside the numbered ones. -/
theorem own_cut_tail (c : Dev nD) {sp : Space} {s : Shape} {e : EltTy} (M : Memref sig .tc sp s e) (q : PosShare TreeShare) (f : Buf (Elt F) (M.view.loc (c : Thread nD τ)))
    {B : Type} [Fintype B] [DecidableEq B] (R : B → Rect s) (hR : ∀ b a, (R b).stride a = 1) (T : Rect s) (hT : ∀ a, T.stride a = 1)
    (hd : ∀ b b', b ≠ b' → Disjoint (R b).set (R b').set) (ht : ∀ b, Disjoint (R b).set T.set) (hc : ∀ i, i ∉ T.set → ∃ b, i ∈ (R b).set) :
    (own c M q f : sProp 𝕄) = iprop((bigSep Finset.univ fun b => own c (M.slice (R b) (hR b)) q f) ∗ own c (M.slice T hT) q f) := by
  have e := own_cut c M q f (B := Option B) (fun o => o.elim T R) (fun o => by cases o; exacts [hT, hR _])
    (fun o o' h => by
      cases o <;> cases o'
      · exact absurd rfl h
      · exact (ht _).symm
      · exact ht _
      · exact hd _ _ fun h' => h (congrArg some h'))
    (fun i => by
      by_cases h : i ∈ T.set
      · exact ⟨none, h⟩
      · obtain ⟨b, hb⟩ := hc i h; exact ⟨some b, hb⟩)
  refine e.trans ?_
  have hu : (Finset.univ : Finset (Option B)) = insert none (Finset.univ.map Function.Embedding.some) := by
    ext o; cases o <;> simp
  rw [hu]
  refine (bigSep_insert (by simp)).trans ?_
  rw [bigSep_map]
  exact sep_comm_eq _ _

/-- A 128-row array is its four row groups. -/
theorem own_rows (c : Dev nD) {sp : Space} {e : EltTy} (M : Memref sig .tc sp S128x4992 e) (q : PosShare TreeShare) (f : Buf (Elt F) (M.view.loc (c : Thread nD τ))) :
    (own c M q f : sProp 𝕄) = bigSep Finset.univ fun k => own c (rows M k) q f :=
  own_cut c M q f (fun k => Rect.unit (s := S128x4992) (k0_off2 k) S32x4992.size (k0_off2_inb k)) (fun _ _ => rfl)
    (fun k k' h => Finset.disjoint_left.mpr fun i hi hi' => h ((grp_of_mem k hi).symm.trans (grp_of_mem k' hi')))
    (fun i => ⟨grp i, mem_of_grp _ rfl⟩)

theorem mem_wrows (j : Fin k0_t2_loop.trips) (i : S11904x4992.Idx) :
    i ∈ (Rect.unit (s := S11904x4992) (k0_off44 j) S512x4992.size (k0_off44_inb j)).set ↔ 512 * j.val ≤ (i 0).val ∧ (i 0).val < 512 * j.val + 512 := by
  rw [Rect.mem_set_unit, k0_off44_eq j]
  refine ⟨fun h => h 0, fun h a => ?_⟩
  fin_cases a
  · exact h
  · exact ⟨Nat.zero_le _, (show (i 1).val < 0 + 4992 from by have := (i 1).isLt; exact this.trans_eq (Nat.zero_add _).symm)⟩

theorem mem_wtail (i : S11904x4992.Idx) :
    i ∈ (Rect.unit (s := S11904x4992) ![11776, 0] S128x4992.size inb_S11904x4992_S128x4992_11776_0).set ↔ 11776 ≤ (i 0).val := by
  rw [Rect.mem_set_unit]
  refine ⟨fun h => (h 0).1, fun h a => ?_⟩
  fin_cases a
  · exact ⟨h, (i 0).isLt⟩
  · exact ⟨Nat.zero_le _, (i 1).isLt.trans_eq (Nat.zero_add _).symm⟩

/-- The weights are 23 blocks of rows and the last rows. -/
theorem own_w (c : Dev nD) (q : PosShare TreeShare) (f : Vec F S11904x4992 .fp8e4m3) :
    (own c wH q f : sProp 𝕄) = iprop((bigSep Finset.univ fun j => own c (wrows j) q f) ∗ own c wtail q f) := by
  have ht := trips2
  refine own_cut_tail c wH q f (fun j => Rect.unit (s := S11904x4992) (k0_off44 j) S512x4992.size (k0_off44_inb j)) (fun _ _ => rfl)
    (Rect.unit (s := S11904x4992) ![11776, 0] S128x4992.size inb_S11904x4992_S128x4992_11776_0) (fun _ => rfl) ?_ ?_ ?_
  · intro j j' h
    refine Finset.disjoint_left.mpr fun i hi hi' => h (Fin.ext ?_)
    have h1 := (mem_wrows j i).1 hi; have h2 := (mem_wrows j' i).1 hi'; omega
  · intro j
    refine Finset.disjoint_left.mpr fun i hi hi' => ?_
    have h1 := (mem_wrows j i).1 hi; have h2 := (mem_wtail i).1 hi'; have := j.isLt; omega
  · intro i hi
    have h1 : ¬ 11776 ≤ (i 0).val := fun h => hi ((mem_wtail i).2 h)
    exact ⟨⟨(i 0).val / 512, by omega⟩, (mem_wrows _ i).2 (by show 512 * ((i 0).val / 512) ≤ _ ∧ _ < 512 * ((i 0).val / 512) + 512; omega)⟩

theorem mem_ycols (j : Fin k0_t2_loop.trips) (i : S128x11904.Idx) :
    i ∈ (Rect.unit (s := S128x11904) (k0_off48 j) S128x512.size (k0_off48_inb j)).set ↔ 512 * j.val ≤ (i 1).val ∧ (i 1).val < 512 * j.val + 512 := by
  rw [Rect.mem_set_unit, k0_off48_eq j]
  refine ⟨fun h => h 1, fun h a => ?_⟩
  fin_cases a
  · exact ⟨Nat.zero_le _, (i 0).isLt.trans_eq (Nat.zero_add _).symm⟩
  · exact h

theorem mem_ytail (i : S128x11904.Idx) :
    i ∈ (Rect.unit (s := S128x11904) ![0, 11776] S128x128.size inb_S128x11904_S128x128_0_11776).set ↔ 11776 ≤ (i 1).val := by
  rw [Rect.mem_set_unit]
  refine ⟨fun h => (h 1).1, fun h a => ?_⟩
  fin_cases a
  · exact ⟨Nat.zero_le _, (i 0).isLt.trans_eq (Nat.zero_add _).symm⟩
  · exact ⟨h, (i 1).isLt⟩

/-- The result is 23 blocks of columns and the last columns. -/
theorem own_y (c : Dev nD) {sp : Space} (M : Memref sig .tc sp S128x11904 .bf16) (q : PosShare TreeShare) (f : Buf (Elt F) (M.view.loc (c : Thread nD τ))) :
    (own c M q f : sProp 𝕄) = iprop((bigSep Finset.univ fun j => own c (ycols M j) q f) ∗ own c (ytail M) q f) := by
  have ht := trips2
  refine own_cut_tail c M q f (fun j => Rect.unit (s := S128x11904) (k0_off48 j) S128x512.size (k0_off48_inb j)) (fun _ _ => rfl)
    (Rect.unit (s := S128x11904) ![0, 11776] S128x128.size inb_S128x11904_S128x128_0_11776) (fun _ => rfl) ?_ ?_ ?_
  · intro j j' h
    refine Finset.disjoint_left.mpr fun i hi hi' => h (Fin.ext ?_)
    have h1 := (mem_ycols j i).1 hi; have h2 := (mem_ycols j' i).1 hi'; omega
  · intro j
    refine Finset.disjoint_left.mpr fun i hi hi' => ?_
    have h1 := (mem_ycols j i).1 hi; have h2 := (mem_ytail i).1 hi'; have := j.isLt; omega
  · intro i hi
    have h1 : ¬ 11776 ≤ (i 1).val := fun h => hi ((mem_ytail i).2 h)
    exact ⟨⟨(i 1).val / 512, by omega⟩, (mem_ycols _ i).2 (by show 512 * ((i 1).val / 512) ≤ _ ∧ _ < 512 * ((i 1).val / 512) + 512; omega)⟩

/-- Slot `b` of the ring's eight, as a block number: block `b` is the first one kept there. -/
def sl8 (b : Fin 8) : Fin k0_t2_loop.trips := ⟨b.val, by have := trips2; have := b.isLt; omega⟩

theorem mem_slot (j : Fin k0_t2_loop.trips) (i : S8x512x4992.Idx) : i ∈ (slot j).view.set ↔ (i 0).val = j.val % 8 := by
  rw [ring_set, Rect.mem_set_unit, k0_off43_eq j]
  constructor
  · intro h
    have h0 : j.val % 8 ≤ (i 0).val ∧ (i 0).val < j.val % 8 + 1 := h 0
    omega
  · intro h a
    fin_cases a
    · exact (show j.val % 8 ≤ (i 0).val ∧ (i 0).val < j.val % 8 + 1 by omega)
    · exact ⟨Nat.zero_le _, (i 1).isLt.trans_eq (Nat.zero_add _).symm⟩
    · exact ⟨Nat.zero_le _, (i 2).isLt.trans_eq (Nat.zero_add _).symm⟩

/-- The elements of a slot. -/
def slotSet (b : Fin 8) : Finset S8x512x4992.Idx := (slot (sl8 b)).view.set

theorem slots_disjoint (b b' : Fin 8) (h : b ≠ b') : Disjoint (slotSet b) (slotSet b') :=
  Finset.disjoint_left.mpr fun i hi hi' => h (Fin.ext (by
    have h1 : (i 0).val = b.val % 8 := (mem_slot (sl8 b) i).1 hi
    have h2 : (i 0).val = b'.val % 8 := (mem_slot (sl8 b') i).1 hi'
    omega))

theorem slots_cover : (Finset.univ : Finset (Fin 8)).biUnion (fun b => slotSet b) = Finset.univ := by
  refine Finset.eq_univ_iff_forall.mpr fun i => Finset.mem_biUnion.mpr ⟨⟨(i 0).val, (i 0).isLt⟩, Finset.mem_univ _, (mem_slot (sl8 _) i).2 ?_⟩
  have h : (i 0).val < 8 := (i 0).isLt
  show (i 0).val = (i 0).val % 8
  omega

/-- The ring is its eight slots. -/
theorem own_ring (c : Dev nD) (f : Vec F S8x512x4992 .fp8e4m3) :
    (own c ringV fullShare f : sProp 𝕄) = bigSep Finset.univ fun b => own c (slot (sl8 b)) fullShare f := by
  have h : (ringV.view.loc (c : Thread nD τ) ↦{fullShare} f : sProp 𝕄) = bigSep Finset.univ fun b => ringV.view.loc (c : Thread nD τ) ↦[slotSet b]{fullShare} f := Ring.pointsTo_blocks (ℓ := ringV.view.loc (c : Thread nD τ)) (q := fullShare) slotSet slots_disjoint slots_cover f
  refine Eq.trans ?_ h
  show (ringV.view.loc (c : Thread nD τ) ↦[ringV.view.set]{fullShare} f : sProp 𝕄) = _
  rw [show ringV.view.set = Finset.univ from View.set_whole _]

theorem own_ring_join (c : Dev nD) (z : Vec F S8x512x4992 .fp8e4m3) :
    (bigSep Finset.univ fun b => iprop(∃ f : Vec F S8x512x4992 .fp8e4m3, own c (slot (sl8 b)) fullShare f) : sProp 𝕄) ⊢ iprop(∃ g : Vec F S8x512x4992 .fp8e4m3, own c ringV fullShare g) := by
  have h : bigSep Finset.univ (fun b => iprop(∃ f, ringV.view.loc (c : Thread nD τ) ↦[slotSet b]{fullShare} f)) ⊢ (iprop(∃ g, ringV.view.loc (c : Thread nD τ) ↦{fullShare} g) : sProp 𝕄) := Ring.pointsTo_blocks_join_exists (ℓ := ringV.view.loc (c : Thread nD τ)) (q := fullShare) slotSet slots_disjoint slots_cover z
  refine BIBase.Entails.trans h ?_
  iintro ⟨%g, H⟩
  iexists g
  iapply (show ((ringV.view.loc (c : Thread nD τ) ↦{fullShare} g : sProp 𝕄)) ⊢ (ringV.view.loc (c : Thread nD τ) ↦[ringV.view.set]{fullShare} g : sProp 𝕄) from .of_eq (by rw [show ringV.view.set = Finset.univ from View.set_whole _])) $$ H

theorem g_lt (n : ℕ) (h : n < 4) : n < k0_t1_loop.trips := by rw [trips1]; exact h

theorem bigSep_four {n : ℕ} (h : n = 4) (Φ : Fin n → sProp 𝕄) :
    bigSep Finset.univ Φ = iprop(Φ ⟨0, by omega⟩ ∗ Φ ⟨1, by omega⟩ ∗ Φ ⟨2, by omega⟩ ∗ Φ ⟨3, by omega⟩) := by
  subst h
  exact bigSep_univ_eq_bigSepL [0, 1, 2, 3] (by decide) (by decide) Φ

/-- Over the four row groups, one by one. -/
theorem bigSep_groups (Φ : Fin k0_t1_loop.trips → sProp 𝕄) :
    bigSep Finset.univ Φ = iprop(Φ ⟨0, g_lt 0 (by decide)⟩ ∗ Φ ⟨1, g_lt 1 (by decide)⟩ ∗ Φ ⟨2, g_lt 2 (by decide)⟩ ∗ Φ ⟨3, g_lt 3 (by decide)⟩) :=
  bigSep_four trips1 Φ

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.Kernel.Hand
-- ==== Proof.K.Issue.lean ====
module

public import proofs.«01_k».proof.Proof.K.Split

/-! The kernel's single copies, as steps: the two copies of a row group, and a weight block. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row group `k` of both arrays on its way, `j` of the two copies started. -/
abbrev XB (c : Dev nD) (k : Fin k0_t1_loop.trips) (X R : Vec F S128x4992 .bf16) (j : ℕ) : sProp 𝕄 :=
  Transfers.Batch (countersEmb (U := Pipeline.UD sig nD τ)) (c : Thread nD τ) (.dma (xcell k).sem) () ((rows xV k).view.dmaCredit) (dX c k X R) j 0

instance (c : Dev nD) (k) (X R : Vec F S128x4992 .bf16) (t) : Storable (upEmb : UEmb _ 𝕄) (dX c k X R t) := by
  match t with
  | 0 => unfold dX; infer_instance
  | 1 => unfold dX; infer_instance

theorem land_x (c : Dev nD) (k : Fin k0_t1_loop.trips) (x0 X : Vec F S128x4992 .bf16) :
    (own c (rows xV k) fullShare ((rows xV k).view.write (Elt F) x0 ((rows xH k).view.read (Elt F) X) Finset.univ) : sProp 𝕄) = own c (rows xV k) fullShare X :=
  pointsTo_congr fun i hi => by
    obtain ⟨x, -, rfl⟩ := Finset.mem_map.mp hi
    rw [View.write_emb_of_mem _ _ (Finset.mem_univ x)]; rfl

theorem land_r (c : Dev nD) (k : Fin k0_t1_loop.trips) (x0 X : Vec F S128x4992 .bf16) :
    (own c (rows rV k) fullShare ((rows rV k).view.write (Elt F) x0 ((rows rH k).view.read (Elt F) X) Finset.univ) : sProp 𝕄) = own c (rows rV k) fullShare X :=
  pointsTo_congr fun i hi => by
    obtain ⟨x, -, rfl⟩ := Finset.mem_map.mp hi
    rw [View.write_emb_of_mem _ _ (Finset.mem_univ x)]; rfl

section Steps
variable {α : Type} (c : Dev nD)

theorem step_x0 (k : Fin k0_t1_loop.trips) (X R x0 : Vec F S128x4992 .bf16) {o : Fin 1 → ℕ} {o' : Fin 2 → ℕ} (h : o = k0_off1 k) (h' : o' = k0_off2 k)
    {inb : ∀ a, o a + S1.size a ≤ S4.size a} {inb' : ∀ a, o' a + S32x4992.size a ≤ S128x4992.size a} {hs hd ht}
    (K : PUnit → Prog (TpuEff nD τ sig (Elt F) Λ₀ .tc) α) (Q : α → sProp 𝕄) :
    iprop((own c (rows xV k) fullShare x0 ∗ own c (rows xH k) fullShare X ∗ XB c k X R 0) ∗ (XB c k X R 1 -∗ wp frame (wpE (defs₀ (F := F)) Variants.none c none) Set.univ (K ⟨⟩) Q))
      ⊢ wp frame (wpE (defs₀ (F := F)) Variants.none c none) Set.univ
        (.op (.enqueueDma (xH.slice (Rect.unit (s := S128x4992) o' S32x4992.size inb') (fun _ => rfl)) (.here (xV.slice (Rect.unit (s := S128x4992) o' S32x4992.size inb') (fun _ => rfl)))
          (.dma ((cc0_scratch12.slice (Rect.unit (s := S4) o S1.size inb)).squeeze S_ squeezes_S1_S_).sem) hs hd ht) K) Q := by
  subst h; subst h'
  iintro ⟨⟨H1, H2, HB⟩, HK⟩
  iapply (Transfers.wp_dmaBatch (countersEmb (U := Pipeline.UD sig nD τ)) Variants.none (c : Thread nD τ) none (src := rows xH k) (dst := rows xV k) (fs := X) (fd := x0) (q := fullShare) (D := dX c k X R) () ((rows xV k).view.dmaCredit)
    rfl (subset_refl _) (Nat.two_pos) (Nat.zero_le _)
    (by exact .of_eq (congrArg (fun P => iprop(P ∗ own c (rows xH k) fullShare X)) (land_x c k x0 X)))) $$ [H1 H2 HB]
  · sl_close
  iintro HB
  iapply HK
  iexact HB

theorem step_x1 (k : Fin k0_t1_loop.trips) (X R x0 : Vec F S128x4992 .bf16) {o : Fin 1 → ℕ} {o' : Fin 2 → ℕ} (h : o = k0_off1 k) (h' : o' = k0_off2 k)
    {inb : ∀ a, o a + S1.size a ≤ S4.size a} {inb' : ∀ a, o' a + S32x4992.size a ≤ S128x4992.size a} {hs hd ht}
    (K : PUnit → Prog (TpuEff nD τ sig (Elt F) Λ₀ .tc) α) (Q : α → sProp 𝕄) :
    iprop((own c (rows rV k) fullShare x0 ∗ own c (rows rH k) fullShare R ∗ XB c k X R 1) ∗ (XB c k X R 2 -∗ wp frame (wpE (defs₀ (F := F)) Variants.none c none) Set.univ (K ⟨⟩) Q))
      ⊢ wp frame (wpE (defs₀ (F := F)) Variants.none c none) Set.univ
        (.op (.enqueueDma (rH.slice (Rect.unit (s := S128x4992) o' S32x4992.size inb') (fun _ => rfl)) (.here (rV.slice (Rect.unit (s := S128x4992) o' S32x4992.size inb') (fun _ => rfl)))
          (.dma ((cc0_scratch12.slice (Rect.unit (s := S4) o S1.size inb)).squeeze S_ squeezes_S1_S_).sem) hs hd ht) K) Q := by
  subst h; subst h'
  iintro ⟨⟨H1, H2, HB⟩, HK⟩
  iapply (Transfers.wp_dmaBatch (countersEmb (U := Pipeline.UD sig nD τ)) Variants.none (c : Thread nD τ) none (src := rows rH k) (dst := rows rV k) (fs := R) (fd := x0) (q := fullShare) (D := dX c k X R) () ((rows xV k).view.dmaCredit)
    rfl (subset_refl _) (Nat.one_lt_two) (Nat.zero_le _)
    (by exact .of_eq (congrArg (fun P => iprop(P ∗ own c (rows rH k) fullShare R)) (land_r c k x0 R)))) $$ [H1 H2 HB]
  · sl_close
  iintro HB
  iapply HK
  iexact HB

/-- The flight of weight block `j` before it starts. -/
abbrev WB0 (c : Dev nD) (z : Vec F S8x512x4992 .fp8e4m3) (Wv : Vec F S11904x4992 .fp8e4m3) (j : Fin k0_t2_loop.trips) : sProp 𝕄 :=
  Transfers.Batch (countersEmb (U := Pipeline.UD sig nD τ)) (c : Thread nD τ) (.dma (wcell j).sem) () ((slot j).view.dmaCredit) (dW c z Wv j) 0 0

theorem step_w (j : Fin k0_t2_loop.trips) (z fd : Vec F S8x512x4992 .fp8e4m3) (Wv : Vec F S11904x4992 .fp8e4m3) {o : Fin 1 → ℕ} {o2 : Fin 3 → ℕ} {o3 : Fin 2 → ℕ} (h : o = k0_off42 j) (h2 : o2 = k0_off43 j) (h3 : o3 = k0_off44 j)
    {inb : ∀ a, o a + S1.size a ≤ S8.size a} {inb2 : ∀ a, o2 a + S1x512x4992.size a ≤ S8x512x4992.size a} {inb3 : ∀ a, o3 a + S512x4992.size a ≤ S11904x4992.size a} {hs hd ht}
    (K : PUnit → Prog (TpuEff nD τ sig (Elt F) Λ₀ .tc) α) (Q : α → sProp 𝕄) :
    iprop((own c (slot j) fullShare fd ∗ own c (wrows j) fullShare Wv ∗ WB0 c z Wv j) ∗ (WB c z Wv j -∗ wp frame (wpE (defs₀ (F := F)) Variants.none c none) Set.univ (K ⟨⟩) Q))
      ⊢ wp frame (wpE (defs₀ (F := F)) Variants.none c none) Set.univ
        (.op (.enqueueDma (wH.slice (Rect.unit (s := S11904x4992) o3 S512x4992.size inb3) (fun _ => rfl)) (.here ((ringV.slice (Rect.unit (s := S8x512x4992) o2 S1x512x4992.size inb2) (fun _ => rfl)).squeeze S512x4992 squeezes_S1x512x4992_S512x4992))
          (.dma ((cc0_scratch14.slice (Rect.unit (s := S8) o S1.size inb)).squeeze S_ squeezes_S1_S_).sem) hs hd ht) K) Q := by
  subst h; subst h2; subst h3
  iintro ⟨⟨H1, H2, HB⟩, HK⟩
  iapply (Transfers.wp_dmaBatch (countersEmb (U := Pipeline.UD sig nD τ)) Variants.none (c : Thread nD τ) none (src := wrows j) (dst := slot j) (fs := Wv) (fd := fd) (q := fullShare) (D := dW c z Wv j) () ((slot j).view.dmaCredit)
    rfl (subset_refl _) (Nat.one_pos) (Nat.zero_le _)
    (by exact issue_w c z fd Wv j rfl rfl _ _ _)) $$ [H1 H2 HB]
  · sl_close
  iintro HB
  iapply HK
  iexact HB
end Steps

end Cert.Kernel.Hand
-- ==== Proof.K.Start.lean ====
module

public import proofs.«01_k».proof.Proof.K.Issue

/-! The kernel's start: the small arrays, the row groups and the first weight blocks are fetched. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev gH : Memref sig .tc .hbm S39x128 .bf16 := Memref.whole main_v2
abbrev gV : Memref sig .tc .vmem S39x128 .bf16 := Memref.whole cc0_scratch2
abbrev wsH : Memref sig .tc .hbm S93x128 .f32 := Memref.whole main_v3
abbrev sH : Memref sig .tc .hbm S1x1 .f32 := Memref.whole main_v5
abbrev sV : Memref sig .tc .vmem S1x1 .f32 := Memref.whole cc0_scratch5
abbrev bH : Memref sig .tc .hbm S93x128 .bf16 := Memref.whole main_v4
abbrev bV : Memref sig .tc .vmem S93x128 .bf16 := Memref.whole cc0_scratch6
abbrev sO : Memref sig .tc .hbm S1x1 .f32 := Memref.whole main_v6_3

/-- What the arrival of a whole array hands back. -/
def dS (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) : Fin 1 → sProp 𝕄 :=
  fun _ => iprop(own c N fullShare g ∗ own c M q f)

instance (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) (t) : Storable (upEmb : UEmb _ 𝕄) (dS c M N q f g t) := by
  unfold dS; infer_instance

/-- A whole array on its way on semaphore `sm`. -/
abbrev SB (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) (sm : DmaSem sig) (j : ℕ) : sProp 𝕄 :=
  Transfers.Batch (countersEmb (U := Pipeline.UD sig nD τ)) (c : Thread nD τ) (.dma sm) () (N.view.dmaCredit) (dS c M N q f g) j 0

theorem step_s {α : Type} (c : Dev nD) {sp sp' : Space} {s : Shape} {e : EltTy} (M : Memref sig .tc sp s e) (N : Memref sig .tc sp' s e) (q : PosShare TreeShare)
    (f : Buf (Elt F) (M.view.loc (c : Thread nD τ))) (g g' : Buf (Elt F) (N.view.loc (c : Thread nD τ))) (sm : DmaSem sig) {hs hd ht}
    (hg : ∀ i ∈ N.view.set, N.view.write (Elt F) g (M.view.read (Elt F) f) Finset.univ i = g' i)
    (K : PUnit → Prog (TpuEff nD τ sig (Elt F) Λ₀ .tc) α) (Q : α → sProp 𝕄) :
    iprop((own c M q f ∗ own c N fullShare g ∗ SB c M N q f g' sm 0) ∗ (SB c M N q f g' sm 1 -∗ wp frame (wpE (defs₀ (F := F)) Variants.none c none) Set.univ (K ⟨⟩) Q))
      ⊢ wp frame (wpE (defs₀ (F := F)) Variants.none c none) Set.univ (.op (.enqueueDma M (.here N) (.dma sm) hs hd ht) K) Q := by
  iintro ⟨⟨H1, H2, HB⟩, HK⟩
  iapply (Transfers.wp_dmaBatch (countersEmb (U := Pipeline.UD sig nD τ)) Variants.none (c : Thread nD τ) none (src := M) (dst := N) (fs := f) (fd := g) (q := q) (D := dS c M N q f g') () (N.view.dmaCredit)
    rfl (subset_refl _) (Nat.one_pos) (Nat.zero_le _)
    (by exact .of_eq (congrArg (fun P => iprop(P ∗ own c M q f)) (pointsTo_congr hg)))) $$ [H1 H2 HB]
  · sl_close
  iintro HB
  iapply HK
  iexact HB

theorem step_sw {α : Type} (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) (sm : DmaSem sig) {hs hd} (h0 : 0 < N.view.dmaCredit)
    (K : PUnit → Prog (TpuEff nD τ sig (Elt F) Λ₀ .tc) α) (Q : α → sProp 𝕄) :
    iprop((SB c M N q f g sm 1 ∗ (∃ W, owes (c : Thread nD τ) 0 W)) ∗ ((own c N fullShare g ∗ own c M q f ∗ semVal ((c : Thread nD τ), SemLoc.dma sm) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 sm M N hs hd) K) Q := by
  iintro ⟨⟨HB, ⟨%W, HW⟩⟩, HK⟩
  iapply (Transfers.wp_waitBatchLast (countersEmb (U := Pipeline.UD sig nD τ)) Variants.none (c : Thread nD τ) none (D := dS c M N q f g) () rfl h0 (by rw [Nat.zero_add, Nat.mul_one])) $$ [HB HW]
  · sl_close
  iintro ⟨HD, HS, HW⟩
  iapply HK
  ihave HD2 := (show bigSep Finset.univ (dS c M N q f g) ⊢ iprop(own c N fullShare g ∗ own c M q f) from .of_eq (bigSep_univ_eq_bigSepL [0] (by decide) (by decide) _)) $$ HD
  icases HD2 with ⟨H1, H2⟩
  isplitl [H1]; · iexact H1
  isplitl [H2]; · iexact H2
  isplitl [HS]; · iexact HS
  iexists _
  iexact HW

theorem g0lt : 0 < k0_t1_loop.trips := g_lt 0 (by decide)
theorem g1lt : 1 < k0_t1_loop.trips := g_lt 1 (by decide)
theorem g2lt : 2 < k0_t1_loop.trips := g_lt 2 (by decide)
theorem g3lt : 3 < k0_t1_loop.trips := g_lt 3 (by decide)

section Parts
variable (c : Dev nD) (X R x0 r0 : Vec F S128x4992 .bf16) (Gm g0 : Vec F S39x128 .bf16) (ws w0 : Vec F S93x128 .f32) (s s0 : Vec F S1x1 .f32) (b b0 : Vec F S93x128 .bf16)
  (z : Vec F S8x512x4992 .fp8e4m3) (Wv : Vec F S11904x4992 .fp8e4m3)

/-- What the start of row group `k` takes. -/
abbrev gin (k : Fin k0_t1_loop.trips) : sProp 𝕄 :=
  iprop(own c (rows xV k) fullShare x0 ∗ own c (rows xH k) fullShare X ∗ own c (rows rV k) fullShare r0 ∗ own c (rows rH k) fullShare R ∗ XB c k X R 0)

/-- What the start of weight block `j` takes. -/
abbrev wpre (j : Fin k0_t2_loop.trips) : sProp 𝕄 := iprop(own c (slot j) fullShare z ∗ own c (wrows j) fullShare Wv ∗ WB0 c z Wv j)

abbrev m0 : DmaSem sig := ((cc0_scratch13.slice (Rect.unit (s := S4) ![0] S1.size inb_S4_S1_0)).squeeze S_ squeezes_S1_S_).sem
abbrev m1 : DmaSem sig := ((cc0_scratch13.slice (Rect.unit (s := S4) ![1] S1.size inb_S4_S1_1)).squeeze S_ squeezes_S1_S_).sem
abbrev m2 : DmaSem sig := ((cc0_scratch13.slice (Rect.unit (s := S4) ![2] S1.size inb_S4_S1_2)).squeeze S_ squeezes_S1_S_).sem
abbrev m3 : DmaSem sig := ((cc0_scratch13.slice (Rect.unit (s := S4) ![3] S1.size inb_S4_S1_3)).squeeze S_ squeezes_S1_S_).sem

/-- The small arrays before they are fetched, -/
abbrev sin : sProp 𝕄 :=
  iprop((own c gH fullShare Gm ∗ own c gV fullShare g0 ∗ SB c gH gV fullShare Gm Gm m0 0)
    ∗ (own c wsH fullShare ws ∗ own c wsV fullShare w0 ∗ SB c wsH wsV fullShare ws ws m1 0)
    ∗ (own c sH fullShare s ∗ own c sV fullShare s0 ∗ SB c sH sV fullShare s s m2 0)
    ∗ (own c bH fullShare b ∗ own c bV fullShare b0 ∗ SB c bH bV fullShare b b m3 0))

/-- and on their way. -/
abbrev sgo : sProp 𝕄 :=
  iprop(SB c gH gV fullShare Gm Gm m0 1 ∗ SB c wsH wsV fullShare ws ws m1 1 ∗ SB c sH sV fullShare s s m2 1 ∗ SB c bH bV fullShare b b m3 1)

theorem p38 :
    iprop(sin c Gm g0 ws w0 s s0 b b0 ∗ gin c X R x0 r0 ⟨0, g0lt⟩ ∗ gin c X R x0 r0 ⟨1, g1lt⟩)
      ⊢ wp frame (wpE (defs₀ (F := F)) Variants.none c none) Set.univ (k0_part38 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
        (fun _ => iprop(sgo c Gm ws s b ∗ XB c ⟨0, g0lt⟩ X R 2 ∗ XB c ⟨1, g1lt⟩ X R 2)) := by
  iintro ⟨⟨⟨A1, A2, A3⟩, ⟨B1, B2, B3⟩, ⟨C1, C2, C3⟩, ⟨D1, D2, D3⟩⟩, ⟨E1, E2, E3, E4, E5⟩, ⟨F1, F2, F3, F4, F5⟩⟩
  simp only [k0_part38, Prog.lift, Prog.bind_op, Prog.bind_ret, Prog.pure_eq_ret, Prog.bind_assoc]
  iapply (step_s c gH gV fullShare Gm g0 Gm m0 (by intro i hi; obtain ⟨x, -, rfl⟩ := Finset.mem_map.mp hi; rw [View.write_emb_of_mem _ _ (Finset.mem_univ x)]; rfl))
  isplitl [A1 A2 A3]
  · sl_close
  iintro A3
  iapply (step_s c wsH wsV fullShare ws w0 ws m1 (by intro i hi; obtain ⟨x, -, rfl⟩ := Finset.mem_map.mp hi; rw [View.write_emb_of_mem _ _ (Finset.mem_univ x)]; rfl))
  isplitl [B1 B2 B3]
  · sl_close
  iintro B3
  iapply (step_s c sH sV fullShare s s0 s m2 (by intro i hi; obtain ⟨x, -, rfl⟩ := Finset.mem_map.mp hi; rw [View.write_emb_of_mem _ _ (Finset.mem_univ x)]; rfl))
  isplitl [C1 C2 C3]
  · sl_close
  iintro C3
  iapply (step_s c bH bV fullShare b b0 b m3 (by intro i hi; obtain ⟨x, -, rfl⟩ := Finset.mem_map.mp hi; rw [View.write_emb_of_mem _ _ (Finset.mem_univ x)]; rfl))
  isplitl [D1 D2 D3]
  · sl_close
  iintro D3
  iapply (step_x0 c ⟨0, g0lt⟩ X R x0 ((k0_off1_eq ⟨0, g0lt⟩).trans rfl).symm ((k0_off2_eq ⟨0, g0lt⟩).trans rfl).symm)
  isplitl [E1 E2 E5]
  · sl_close
  iintro E5
  iapply (step_x1 c ⟨0, g0lt⟩ X R r0 ((k0_off1_eq ⟨0, g0lt⟩).trans rfl).symm ((k0_off2_eq ⟨0, g0lt⟩).trans rfl).symm)
  isplitl [E3 E4 E5]
  · sl_close
  iintro E5
  iapply (step_x0 c ⟨1, g1lt⟩ X R x0 ((k0_off1_eq ⟨1, g1lt⟩).trans rfl).symm ((k0_off2_eq ⟨1, g1lt⟩).trans rfl).symm)
  isplitl [F1 F2 F5]
  · sl_close
  iintro F5
  iapply (step_x1 c ⟨1, g1lt⟩ X R r0 ((k0_off1_eq ⟨1, g1lt⟩).trans rfl).symm ((k0_off2_eq ⟨1, g1lt⟩).trans rfl).symm)
  isplitl [F3 F4 F5]
  · sl_close
  iintro F5
  sl_step
  sl_close

theorem p39 :
    iprop(gin c X R x0 r0 ⟨2, g2lt⟩ ∗ gin c X R x0 r0 ⟨3, g3lt⟩ ∗ wpre c z Wv (sl8 0) ∗ wpre c z Wv (sl8 1))
      ⊢ wp frame (wpE (defs₀ (F := F)) Variants.none c none) Set.univ (k0_part39 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
        (fun _ => iprop(XB c ⟨2, g2lt⟩ X R 2 ∗ XB c ⟨3, g3lt⟩ X R 2 ∗ WB c z Wv (sl8 0) ∗ WB c z Wv (sl8 1))) := by
  iintro ⟨⟨E1, E2, E3, E4, E5⟩, ⟨F1, F2, F3, F4, F5⟩, ⟨A1, A2, A3⟩, ⟨B1, B2, B3⟩⟩
  simp only [k0_part39, Prog.lift, Prog.bind_op, Prog.bind_ret, Prog.pure_eq_ret, Prog.bind_assoc]
  iapply (step_x0 c ⟨2, g2lt⟩ X R x0 ((k0_off1_eq ⟨2, g2lt⟩).trans rfl).symm ((k0_off2_eq ⟨2, g2lt⟩).trans rfl).symm)
  isplitl [E1 E2 E5]
  · sl_close
  iintro E5
  iapply (step_x1 c ⟨2, g2lt⟩ X R r0 ((k0_off1_eq ⟨2, g2lt⟩).trans rfl).symm ((k0_off2_eq ⟨2, g2lt⟩).trans rfl).symm)
  isplitl [E3 E4 E5]
  · sl_close
  iintro E5
  iapply (step_x0 c ⟨3, g3lt⟩ X R x0 ((k0_off1_eq ⟨3, g3lt⟩).trans rfl).symm ((k0_off2_eq ⟨3, g3lt⟩).trans rfl).symm)
  isplitl [F1 F2 F5]
  · sl_close
  iintro F5
  iapply (step_x1 c ⟨3, g3lt⟩ X R r0 ((k0_off1_eq ⟨3, g3lt⟩).trans rfl).symm ((k0_off2_eq ⟨3, g3lt⟩).trans rfl).symm)
  isplitl [F3 F4 F5]
  · sl_close
  iintro F5
  iapply (step_w c (sl8 0) z z Wv ((k0_off42_eq (sl8 0)).trans rfl).symm ((k0_off43_eq (sl8 0)).trans rfl).symm ((k0_off44_eq (sl8 0)).trans rfl).symm)
  isplitl [A1 A2 A3]
  · sl_close
  iintro A3
  iapply (step_w c (sl8 1) z z Wv ((k0_off42_eq (sl8 1)).trans rfl).symm ((k0_off43_eq (sl8 1)).trans rfl).symm ((k0_off44_eq (sl8 1)).trans rfl).symm)
  isplitl [B1 B2 B3]
  · sl_close
  iintro B3
  sl_step
  sl_close

theorem p40 :
    iprop(wpre c z Wv (sl8 2) ∗ wpre c z Wv (sl8 3) ∗ wpre c z Wv (sl8 4) ∗ wpre c z Wv (sl8 5) ∗ wpre c z Wv (sl8 6))
      ⊢ wp frame (wpE (defs₀ (F := F)) Variants.none c none) Set.univ (k0_part40 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
        (fun _ => iprop(WB c z Wv (sl8 2) ∗ WB c z Wv (sl8 3) ∗ WB c z Wv (sl8 4) ∗ WB c z Wv (sl8 5) ∗ WB c z Wv (sl8 6))) := by
  iintro ⟨⟨A1, A2, A3⟩, ⟨B1, B2, B3⟩, ⟨C1, C2, C3⟩, ⟨D1, D2, D3⟩, ⟨E1, E2, E3⟩⟩
  simp only [k0_part40, Prog.lift, Prog.bind_op, Prog.bind_ret, Prog.pure_eq_ret, Prog.bind_assoc]
  iapply (step_w c (sl8 2) z z Wv ((k0_off42_eq (sl8 2)).trans rfl).symm ((k0_off43_eq (sl8 2)).trans rfl).symm ((k0_off44_eq (sl8 2)).trans rfl).symm)
  isplitl [A1 A2 A3]
  · sl_close
  iintro A3
  iapply (step_w c (sl8 3) z z Wv ((k0_off42_eq (sl8 3)).trans rfl).symm ((k0_off43_eq (sl8 3)).trans rfl).symm ((k0_off44_eq (sl8 3)).trans rfl).symm)
  isplitl [B1 B2 B3]
  · sl_close
  iintro B3
  iapply (step_w c (sl8 4) z z Wv ((k0_off42_eq (sl8 4)).trans rfl).symm ((k0_off43_eq (sl8 4)).trans rfl).symm ((k0_off44_eq (sl8 4)).trans rfl).symm)
  isplitl [C1 C2 C3]
  · sl_close
  iintro C3
  iapply (step_w c (sl8 5) z z Wv ((k0_off42_eq (sl8 5)).trans rfl).symm ((k0_off43_eq (sl8 5)).trans rfl).symm ((k0_off44_eq (sl8 5)).trans rfl).symm)
  isplitl [D1 D2 D3]
  · sl_close
  iintro D3
  iapply (step_w c (sl8 6) z z Wv ((k0_off42_eq (sl8 6)).trans rfl).symm ((k0_off43_eq (sl8 6)).trans rfl).symm ((k0_off44_eq (sl8 6)).trans rfl).symm)
  isplitl [E1 E2 E3]
  · sl_close
  iintro E3
  sl_step
  sl_close

/-- Part 41 up to the end of the first loop. -/
theorem p41 (x : BitVec 32) (gf0 : Vec F S39x128 .f32) (bf0 : Vec F S93x128 .f32) (so0 : Vec F S1x1 .f32) (h0 oh : Vec F S128x4992 .bf16) (c0 oc : Vec F S128x4992 .fp8e4m3) :
    iprop(sgo c Gm ws s b ∗ wpre c z Wv (sl8 7) ∗ own c gF fullShare gf0 ∗ own c bF fullShare bf0 ∗ own c sO fullShare so0 ∗ SB c sV sO fullShare.right s s cc0_scratch16.sem 0
        ∗ bigSep Finset.univ (pre1 c X R h0 oh c0 oc) ∗ (∃ W, owes (c : Thread nD τ) 0 W) ∗ OutB c (hB X R) (cB s X R (k0_pay160 Gm)) 0 0)
      ⊢ wp frame (wpE (defs₀ (F := F)) Variants.none c none) Set.univ (k0_part41 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x)
        (fun r => iprop(⌜r = ⟨s, 0#32, 23#32⟩⌝
          ∗ (own c gH fullShare Gm ∗ own c gV fullShare Gm ∗ own c wsH fullShare ws ∗ own c wsV fullShare ws ∗ own c sH fullShare s ∗ own c sV fullShare.left s ∗ own c bH fullShare b ∗ own c bV fullShare b)
          ∗ (semVal ((c : Thread nD τ), SemLoc.dma m0) 0 ∗ semVal ((c : Thread nD τ), SemLoc.dma m1) 0 ∗ semVal ((c : Thread nD τ), SemLoc.dma m2) 0 ∗ semVal ((c : Thread nD τ), SemLoc.dma m3) 0)
          ∗ WB c z Wv (sl8 7) ∗ own c gF fullShare (k0_pay160 Gm) ∗ own c bF fullShare (k0_pay161 b) ∗ SB c sV sO fullShare.right s s cc0_scratch16.sem 1
          ∗ bigSep Finset.univ (post1 c s X R (k0_pay160 Gm)) ∗ (∃ W, owes (c : Thread nD τ) 0 W) ∗ OutB c (hB X R) (cB s X R (k0_pay160 Gm)) 8 0)) := by
  iintro ⟨⟨HA, HB, HC, HD⟩, ⟨E1, E2, E3⟩, HG, HBF, HSO, HS, HP, HW, HO⟩
  simp only [k0_part41, Prog.lift, Prog.bind_op, Prog.bind_ret, Prog.pure_eq_ret, Prog.bind_assoc]
  iapply (step_w c (sl8 7) z z Wv ((k0_off42_eq (sl8 7)).trans rfl).symm ((k0_off43_eq (sl8 7)).trans rfl).symm ((k0_off44_eq (sl8 7)).trans rfl).symm)
  isplitl [E1 E2 E3]
  · sl_close
  iintro E3
  iapply (step_sw c gH gV fullShare Gm Gm m0 (by decide))
  isplitl [HA HW]
  · isplitl [HA]; · iexact HA
    iexact HW
  iintro ⟨A2, A1, A3, HW⟩
  iapply (step_sw c wsH wsV fullShare ws ws m1 (by decide))
  isplitl [HB HW]
  · isplitl [HB]; · iexact HB
    iexact HW
  iintro ⟨B2, B1, B3, HW⟩
  iapply (step_sw c sH sV fullShare s s m2 (by decide))
  isplitl [HC HW]
  · isplitl [HC]; · iexact HC
    iexact HW
  iintro ⟨C2, C1, C3, HW⟩
  iapply (step_sw c bH bV fullShare b b m3 (by decide))
  isplitl [HD HW]
  · isplitl [HD]; · iexact HD
    iexact HW
  iintro ⟨D2, D1, D3, HW⟩
  ihave C2 := (own_halves c sV fullShare s).1 $$ C2
  icases C2 with ⟨C2, C4⟩
  iapply (step_s c sV sO fullShare.right s so0 s cc0_scratch16.sem (by intro i hi; obtain ⟨x, -, rfl⟩ := Finset.mem_map.mp hi; rw [View.write_emb_of_mem _ _ (Finset.mem_univ x)]; rfl))
  isplitl [C4 HSO HS]
  · sl_close
  iintro HS
  icases HW with ⟨%W, HW⟩
  sl_step
  sl_step
  sl_step
  sl_step
  sl_step
  sl_step
  sl_step
  have eo2 : (![0, 0] : Fin 2 → ℕ) = fun _ => 0 := by funext a; fin_cases a <;> rfl
  have er : (Memref.whole cc0_scratch5 : Memref sig .tc .vmem S1x1 .f32).view.readAt (Elt F) (Rect.unit (s := S1x1) ![0, 0] S1x1.size inb_S1x1_S1x1_0_0).toLoadRect s = s :=
    Memref.readAt_unit_zero (Elt F) cc0_scratch5 eo2 _ s
  have eg : (Memref.whole cc0_scratch2 : Memref sig .tc .vmem S39x128 .bf16).view.readAt (Elt F) (Rect.unit (s := S39x128) ![0, 0] S39x128.size inb_S39x128_S39x128_0_0).toLoadRect Gm = Gm :=
    Memref.readAt_unit_zero (Elt F) cc0_scratch2 eo2 _ Gm
  have eb : (Memref.whole cc0_scratch6 : Memref sig .tc .vmem S93x128 .bf16).view.readAt (Elt F) (Rect.unit (s := S93x128) ![0, 0] S93x128.size inb_S93x128_S93x128_0_0).toLoadRect b = b :=
    Memref.readAt_unit_zero (Elt F) cc0_scratch6 eo2 _ b
  have ewg : ∀ v : Vec F S39x128 .f32, ((Memref.whole cc0_scratch3 : Memref sig .tc .vmem S39x128 .f32).access (Rect.unit (s := S39x128) ![0, 0] S39x128.size inb_S39x128_S39x128_0_0)).write (Elt F) gf0 v Finset.univ = v :=
    fun v => Memref.write_access_unit_zero_univ (Elt F) cc0_scratch3 eo2 _ gf0 v
  have ewb : ∀ v : Vec F S93x128 .f32, ((Memref.whole cc0_scratch7 : Memref sig .tc .vmem S93x128 .f32).access (Rect.unit (s := S93x128) ![0, 0] S93x128.size inb_S93x128_S93x128_0_0)).write (Elt F) bf0 v Finset.univ = v :=
    fun v => Memref.write_access_unit_zero_univ (Elt F) cc0_scratch7 eo2 _ bf0 v
  rw [er, eg, eb, ewg, ewb]
  iapply (wp_seq (loop1 c s X R h0 oh c0 oc (k0_pay160 Gm) x)) $$ [HP HG HW HO]
  · isplitl [HP]; · iexact HP
    isplitl [HG]; · iexact HG
    isplitl [HW]; · iexists W; iexact HW
    iexact HO
  iintro %r ⟨HP, HG, HW, HO⟩
  sl_step
  isplitr; · ipureintro; rfl
  isplitl [A1 A2 B1 B2 C1 C2 D1 D2]
  · sl_close
  isplitl [A3 B3 C3 D3]
  · sl_close
  isplitl [E3]; · iexact E3
  isplitl [HG]; · iexact HG
  isplitl [HBF]; · iexact HBF
  isplitl [HS]; · iexact HS
  isplitl [HP]; · iexact HP
  isplitl [HW]; · iexact HW
  iexact HO

end Parts

end Cert.Kernel.Hand
-- ==== Proof.K.Finish.lean ====
module

public import proofs.«01_k».proof.Proof.K.Start

/-! The kernel's end: the second loop, the last columns of the result, and the waits for what was sent out. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem y_sum : Transfers.sumTo yA 24 = yO.view.dmaCredit := by decide +kernel
theorem yA_pos : ∀ t, 0 < yA t := by decide +kernel
theorem outA_pos : ∀ t, 0 < outA t := by decide +kernel
theorem tslot_pos : 0 < tslot.view.dmaCredit := by decide +kernel
theorem out_le9 : ∀ m : Fin 9, Transfers.sumTo outA m.val ≤ Transfers.sumTo outA 8 := by decide +kernel
theorem out_le (n : ℕ) (h : n < 8) : Transfers.sumTo outA (n + 1) ≤ Transfers.sumTo outA 8 := out_le9 ⟨n + 1, Nat.succ_lt_succ h⟩

theorem step_h {α : Type} (c : Dev nD) (H : Vec F S128x4992 .bf16) (C : Vec F S128x4992 .fp8e4m3) (k : Fin k0_t1_loop.trips) (n m : ℕ) (hn : n = 2 * k.val) (hm : m = n + 1) {o : Fin 2 → ℕ} (h : o = k0_off2 k)
    {inb : ∀ a, o a + S32x4992.size a ≤ S128x4992.size a} {hs hd}
    (K : PUnit → Prog (TpuEff nD τ sig (Elt F) Λ₀ .tc) α) (Q : α → sProp 𝕄) :
    iprop((OutB c H C 8 (Transfers.sumTo outA n) ∗ (∃ W, owes (c : Thread nD τ) 0 W)) ∗ ((OutB c H C 8 (Transfers.sumTo outA m) ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch15.sem (hV.slice (Rect.unit (s := S128x4992) o S32x4992.size inb) (fun _ => rfl)) (hO.slice (Rect.unit (s := S128x4992) o S32x4992.size inb) (fun _ => rfl)) hs hd) K) Q := by
  subst h; subst hn; subst hm
  have hs1 : Transfers.sumTo outA (2 * k.val + 1) = Transfers.sumTo outA (2 * k.val) + (rows hO k).view.dmaCredit := by
    rw [Transfers.sumTo_succ outA (out_lt k).1, ← outA_even]
  have hu := hs1 ▸ out_le _ (out_lt k).1
  iintro ⟨⟨HB, ⟨%W, HW⟩⟩, HK⟩
  iapply (Transfers.wp_waitMixedBatch (countersEmb (U := Pipeline.UD sig nD τ)) Variants.none (c : Thread nD τ) none (A := outA) (D := outD c H C) () (u := Transfers.sumTo outA (2 * k.val)) (j := 8) rfl hu) $$ [HB HW]
  · isplitl [HB]; · iexact HB
    iexact HW
  iintro ⟨HB, HW⟩
  iapply HK
  isplitl [HB]
  · rw [hs1]; iexact HB
  iexists _
  iexact HW

theorem step_c {α : Type} (c : Dev nD) (H : Vec F S128x4992 .bf16) (C : Vec F S128x4992 .fp8e4m3) (k : Fin k0_t1_loop.trips) (n m : ℕ) (hn : n = 2 * k.val + 1) (hm : m = n + 1) {o : Fin 2 → ℕ} (h : o = k0_off2 k)
    {inb : ∀ a, o a + S32x4992.size a ≤ S128x4992.size a} {hs hd}
    (K : PUnit → Prog (TpuEff nD τ sig (Elt F) Λ₀ .tc) α) (Q : α → sProp 𝕄) :
    iprop((OutB c H C 8 (Transfers.sumTo outA n) ∗ (∃ W, owes (c : Thread nD τ) 0 W)) ∗ ((OutB c H C 8 (Transfers.sumTo outA m) ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch15.sem (cV.slice (Rect.unit (s := S128x4992) o S32x4992.size inb) (fun _ => rfl)) (cO.slice (Rect.unit (s := S128x4992) o S32x4992.size inb) (fun _ => rfl)) hs hd) K) Q := by
  subst h; subst hn; subst hm
  have hs1 : Transfers.sumTo outA (2 * k.val + 1 + 1) = Transfers.sumTo outA (2 * k.val + 1) + (rows cO k).view.dmaCredit := by
    rw [Transfers.sumTo_succ outA (out_lt k).2, ← outA_odd]
  have hu := hs1 ▸ out_le _ (out_lt k).2
  iintro ⟨⟨HB, ⟨%W, HW⟩⟩, HK⟩
  iapply (Transfers.wp_waitMixedBatch (countersEmb (U := Pipeline.UD sig nD τ)) Variants.none (c : Thread nD τ) none (A := outA) (D := outD c H C) () (u := Transfers.sumTo outA (2 * k.val + 1)) (j := 8) rfl hu) $$ [HB HW]
  · isplitl [HB]; · iexact HB
    iexact HW
  iintro ⟨HB, HW⟩
  iapply HK
  isplitl [HB]
  · rw [hs1]; iexact HB
  iexists _
  iexact HW

theorem step_tw {α : Type} (c : Dev nD) (z : Vec F S8x512x4992 .fp8e4m3) (Wv : Vec F S11904x4992 .fp8e4m3) {o : Fin 1 → ℕ} (h : o = k0_off42 ⟨15, last_lt⟩) {inb : ∀ a, o a + S1.size a ≤ S8.size a} {hs hd}
    (K : PUnit → Prog (TpuEff nD τ sig (Elt F) Λ₀ .tc) α) (Q : α → sProp 𝕄) :
    iprop((TB c z Wv ∗ (∃ W, owes (c : Thread nD τ) 0 W)) ∗ ((own c (slot ⟨15, last_lt⟩) fullShare (ringT z Wv) ∗ own c wtail fullShare Wv ∗ semVal ((c : Thread nD τ), SemLoc.dma (wcell ⟨15, last_lt⟩).sem) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 ((cc0_scratch14.slice (Rect.unit (s := S8) o S1.size inb)).squeeze S_ squeezes_S1_S_).sem wtail tslot hs hd) K) Q := by
  subst h
  iintro ⟨⟨HB, ⟨%W, HW⟩⟩, HK⟩
  iapply (Transfers.wp_waitBatchLast (countersEmb (U := Pipeline.UD sig nD τ)) Variants.none (c : Thread nD τ) none (D := dT c z Wv) () rfl tslot_pos (by rw [Nat.zero_add, Nat.mul_one])) $$ [HB HW]
  · isplitl [HB]; · iexact HB
    iexact HW
  iintro ⟨HD, HS, HW⟩
  iapply HK
  ihave HD2 := (show bigSep Finset.univ (dT c z Wv) ⊢ iprop(own c (slot ⟨15, last_lt⟩) fullShare (ringT z Wv) ∗ own c wtail fullShare Wv) from .of_eq (bigSep_univ_eq_bigSepL [0] (by decide) (by decide) _)) $$ HD
  icases HD2 with ⟨H1, H2⟩
  isplitl [H1]; · iexact H1
  isplitl [H2]; · iexact H2
  isplitl [HS]; · iexact HS
  iexists _
  iexact HW

abbrev rT : Rect S8x512x4992 := Rect.unit (s := S8x512x4992) ![7, 0, 0] S1x128x4992.size inb_S8x512x4992_S1x128x4992_7_0_0
theorem rT_sub (c : Dev nD) : (ringV.view.setOn rT.toLoadRect.set : Finset (Idx (ringV.view.loc (c : Thread nD τ)))) ⊆ ((slot ⟨15, last_lt⟩).view.set : Finset (Idx (ringV.view.loc (c : Thread nD τ)))) := by
  intro i hi
  rw [mem_slot]
  obtain ⟨x, hx, rfl⟩ := Finset.mem_map.mp hi
  have h := (Rect.mem_set_unit.mp (by exact hx)) 0
  have h1 : 7 ≤ (x 0).val := h.1
  have h2 : (x 0).val < 7 + 1 := h.2
  show (x 0).val = 15 % 8
  omega

/-- A load of the last slot's first rows, the slot owned. -/
theorem step_lr {α : Type} (c : Dev nD) (f : Vec F S8x512x4992 .fp8e4m3) {hl}
    (K : (rT.toLoadRect.shape.Idx → Elt F .fp8e4m3) → Prog (TpuEff nD τ sig (Elt F) Λ₀ .tc) α) (Q : α → sProp 𝕄) :
    iprop(own c (slot ⟨15, last_lt⟩) fullShare f ∗ (own c (slot ⟨15, last_lt⟩) fullShare f -∗ wp frame (wpE (defs₀ (F := F)) Variants.none c none) Set.univ (K (ringV.view.readAt (Elt F) rT.toLoadRect f)) Q))
      ⊢ wp frame (wpE (defs₀ (F := F)) Variants.none c none) Set.univ (.op (.load ringV rT.toLoadRect hl) K) Q := by
  iintro ⟨H, HK⟩
  iapply (wp_load Variants.none (c : Thread nD τ) none Set.univ (S := (slot ⟨15, last_lt⟩).view.set) (q := fullShare) (f := f) (rT_sub c)) $$ [H]
  · iexact H
  iexact HK

abbrev rY : Rect S128x11904 := Rect.unit (s := S128x11904) ![0, 11776] S128x128.size inb_S128x11904_S128x128_0_11776
theorem rY_sub (c : Dev nD) : ((yV.access rY).set : Finset (Idx ((yV.access rY).loc (c : Thread nD τ)))) ⊆ ((ytail yV).view.set : Finset (Idx (yV.view.loc (c : Thread nD τ)))) := fun _ h => h
/-- A load and a store of the result's last columns. -/
theorem step_ly {α : Type} (c : Dev nD) (f : Vec F S128x11904 .bf16) {hl}
    (K : (rY.toLoadRect.shape.Idx → Elt F .bf16) → Prog (TpuEff nD τ sig (Elt F) Λ₀ .tc) α) (Q : α → sProp 𝕄) :
    iprop(own c (ytail yV) fullShare f ∗ (own c (ytail yV) fullShare f -∗ wp frame (wpE (defs₀ (F := F)) Variants.none c none) Set.univ (K ((yV.access rY).read (Elt F) f)) Q))
      ⊢ wp frame (wpE (defs₀ (F := F)) Variants.none c none) Set.univ (.op (.load yV rY.toLoadRect hl) K) Q := by
  iintro ⟨H, HK⟩
  iapply (wp_load_rect (r := rY) Variants.none (c : Thread nD τ) none Set.univ (S := (ytail yV).view.set) (q := fullShare) (f := f) (rY_sub c)) $$ [H]
  · iexact H
  iexact HK
theorem step_sy {α : Type} (c : Dev nD) (f : Vec F S128x11904 .bf16) (w : rY.shape.Idx → Elt F .bf16) {hx hm}
    (K : PUnit → Prog (TpuEff nD τ sig (Elt F) Λ₀ .tc) α) (Q : α → sProp 𝕄) :
    iprop(own c (ytail yV) fullShare f ∗ (own c (ytail yV) fullShare ((yV.access rY).write (Elt F) f w Finset.univ) -∗ wp frame (wpE (defs₀ (F := F)) Variants.none c none) Set.univ (K ⟨⟩) Q))
      ⊢ wp frame (wpE (defs₀ (F := F)) Variants.none c none) Set.univ (.op (.store yV rY w Finset.univ hx hm) K) Q := by
  iintro ⟨H, HK⟩
  iapply (wp_store (r := rY) Variants.none (c : Thread nD τ) none Set.univ (S := (ytail yV).view.set) (f := f) (by rw [View.setOn_univ])) $$ [H]
  · iexact H
  iexact HK

theorem copy_yt (c : Dev nD) (f Y : Vec F S128x11904 .bf16) :
    own c (ytail yO) fullShare ((ytail yO).view.write (Elt F) f ((ytail yV).view.read (Elt F) Y) Finset.univ) = own c (ytail yO) fullShare Y :=
  pointsTo_congr fun i hi => by
    obtain ⟨x, -, rfl⟩ := Finset.mem_map.mp hi
    rw [View.write_emb_of_mem _ _ (Finset.mem_univ x)]; rfl

theorem yA_last : (ytail yO).view.amount (.dma cc0_scratch17.sem) = yA ⟨23, by decide⟩ := by
  unfold yA; rw [dif_neg (by decide)]
theorem yD_last (c : Dev nD) (Y : Vec F S128x11904 .bf16) : yD c Y ⟨23, by decide⟩ = iprop(own c (ytail yO) fullShare Y ∗ own c (ytail yV) fullShare Y) := by
  unfold yD; rw [dif_neg (by decide)]

theorem pay162_eq {v110 : Vec F S1x1 .f32} {C C' : Vec F S128x4992 .fp8e4m3} {r : Vec F S1x128x4992 .fp8e4m3} {w1 b1 : Vec F S1x128 .f32} (Wv : Vec F S11904x4992 .fp8e4m3) (ws b : Vec F S93x128 .f32)
    (hC : C' = C) (hr : shapeCast S128x4992 r shapeCasts_S1x128x4992_S128x4992 = wtail.view.read (Elt F) Wv) (hw : w1 = row93 ws ⟨92, by decide⟩) (hb : b1 = row93 b ⟨92, by decide⟩) :
    k0_pay162 v110 C' r w1 b1 = yL v110 C Wv ws b := by
  subst hC; subst hw; subst hb
  unfold yL dotT; rw [← hr]; exact sc_self _ _

theorem ytail_write (c : Dev nD) (v110 : Vec F S1x1 .f32) (C : Vec F S128x4992 .fp8e4m3) (Wv : Vec F S11904x4992 .fp8e4m3) (ws b : Vec F S93x128 .f32) (y0 : Vec F S128x11904 .bf16) (w : rY.shape.Idx → Elt F .bf16)
    (hw : w = yL v110 C Wv ws b) :
    own c (ytail yV) fullShare ((yV.access rY).write (Elt F) y0 w Finset.univ) = own c (ytail yV) fullShare (yB v110 C Wv ws b) := by
  refine pointsTo_congr fun j hj => ?_
  have h1 := (mem_ytail j).1 (by rwa [show (ytail yV).view.set = _ from View.set_slice_whole _ _] at hj)
  have h2 : (j 1).val < 11904 := (j 1).isLt
  refine ytile_step (Val := Elt F) yV.view (yTile v110 C Wv ws b) 92 92 (by decide) rfl inb_S128x11904_S128x128_0_11776 y0 w
    (hw.trans (yTile_last v110 C Wv ws b (by decide)).symm) (fun i h h' => absurd h (by omega)) j ?_ ?_
  · show 92 ≤ (j 1).val / 128; omega
  · show (j 1).val / 128 < 92 + 1; omega

set_option maxHeartbeats 1000000 in
theorem p42 (c : Dev nD) (v110 : Vec F S1x1 .f32) (z : Vec F S8x512x4992 .fp8e4m3) (H : Vec F S128x4992 .bf16) (C : Vec F S128x4992 .fp8e4m3) (Wv : Vec F S11904x4992 .fp8e4m3) (ws b : Vec F S93x128 .f32) (y0 yo : Vec F S128x11904 .bf16) :
    iprop(bigSep Finset.univ (pre2 c Wv y0 yo) ∗ flights c z Wv 0 ∗ (∃ W, owes (c : Thread nD τ) 0 W)
      ∗ own c cV fullShare.left C ∗ own c wsV fullShare ws ∗ own c bF fullShare b ∗ YB c (yB v110 C Wv ws b) 0 0
      ∗ own c (ytail yV) fullShare y0 ∗ own c (ytail yO) fullShare yo ∗ OutB c H C 8 0)
     ⊢ wp frame (wpE (defs₀ (F := F)) Variants.none c none) Set.univ (k0_part42 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32)
      (fun _ => iprop(bigSep Finset.univ (post2 c z Wv) ∗ (own c (slot ⟨15, last_lt⟩) fullShare (ringT z Wv) ∗ own c wtail fullShare Wv ∗ semVal ((c : Thread nD τ), SemLoc.dma (wcell ⟨15, last_lt⟩).sem) 0)
        ∗ (∃ W, owes (c : Thread nD τ) 0 W)
        ∗ own c cV fullShare.left C ∗ own c wsV fullShare ws ∗ own c bF fullShare b ∗ YB c (yB v110 C Wv ws b) 24 0 ∗ OutB c H C 8 (Transfers.sumTo outA 1))) := by
  iintro ⟨HP, HF, HW, HC, Hws, Hb, HY, Hy, Hyo, HO⟩
  simp only [k0_part42, Prog.lift, Prog.bind_op, Prog.bind_ret, Prog.pure_eq_ret, Prog.bind_assoc]
  iapply (wp_seq (loop2 c v110 z C Wv ws b y0 yo)) $$ [HP HF HW HC Hws Hb HY]
  · isplitl [HP]; · iexact HP
    isplitl [HF]; · iexact HF
    isplitl [HW]; · iexact HW
    isplitl [HC]; · iexact HC
    isplitl [Hws]; · iexact Hws
    isplitl [Hb]; · iexact Hb
    iexact HY
  iintro %r ⟨HP, HT, HW, HC, Hws, Hb, HY⟩
  iapply (step_tw c z Wv ((k0_off42_eq ⟨15, last_lt⟩).trans rfl).symm)
  isplitl [HT HW]
  · isplitl [HT]; · iexact HT
    iexact HW
  iintro ⟨HR, HWT, HS, HW⟩
  icases HW with ⟨%W, HW⟩
  sl_step
  iapply (step_lr c (ringT z Wv))
  isplitl [HR]; · iexact HR
  iintro HR
  sl_step
  sl_step
  iapply (step_ly c y0)
  isplitl [Hy]; · iexact Hy
  iintro Hy
  iapply (step_sy c y0)
  isplitl [Hy]; · iexact Hy
  iintro Hy
  have he := ytail_write c v110 C Wv ws b y0 _
    (pay162_eq (C' := cV.view.readAt (Elt F) (Rect.unit (s := S128x4992) ![0, 0] S128x4992.size inb_S128x4992_S128x4992_0_0).toLoadRect C) Wv ws b (View.readAt_full _ _ _) (ringT_read z Wv _) (View.readAt_unit wsV.view ws inb_S93x128_S1x128_92_0 rfl (rinb ⟨92, by decide⟩)) (View.readAt_unit bF.view b inb_S93x128_S1x128_92_0 rfl (rinb ⟨92, by decide⟩)))
  unfold k0_pay162 at he
  ihave Hy := (show _ ⊢ own c (ytail yV) fullShare (yB v110 C Wv ws b) from .of_eq he) $$ Hy
  iapply (Transfers.wp_dmaMixedBatch (countersEmb (U := Pipeline.UD sig nD τ)) Variants.none (c : Thread nD τ) none (src := ytail yV) (dst := ytail yO) (fs := yB v110 C Wv ws b) (fd := yo) (q := fullShare) (D := yD c (yB v110 C Wv ws b)) () yA
    (subset_refl _) (show 23 < 24 by decide) yA_last (Nat.zero_le _)
    (.of_eq (by rw [yD_last]; exact congrArg (fun P => iprop(P ∗ own c (ytail yV) fullShare (yB v110 C Wv ws b))) (copy_yt c yo (yB v110 C Wv ws b))))) $$ [Hy Hyo HY]
  · sl_close
  iintro HY
  iapply (step_h c H C ⟨0, g_lt 0 (by decide)⟩ 0 1 rfl rfl ((k0_off2_eq ⟨0, g_lt 0 (by decide)⟩).trans rfl).symm)
  isplitl [HO HW]
  · isplitl [HO]; · iexact HO
    iexists _
    iexact HW
  iintro ⟨HO, HW⟩
  sl_step
  isplitl [HP]; · iexact HP
  isplitl [HR HWT HS]; · sl_close
  isplitl [HW]; · iexact HW
  sl_close

end Cert.Kernel.Hand
-- ==== Proof.K.Core.lean ====
module

public import proofs.«01_k».proof.Proof.K.Finish

/-! The kernel's whole run, its arrays cut into the pieces the transfers move. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem step_cl {α : Type} (c : Dev nD) (H : Vec F S128x4992 .bf16) (C : Vec F S128x4992 .fp8e4m3) {o : Fin 2 → ℕ} (h : o = k0_off2 ⟨3, g3lt⟩)
    {inb : ∀ a, o a + S32x4992.size a ≤ S128x4992.size a} {hs hd}
    (K : PUnit → Prog (TpuEff nD τ sig (Elt F) Λ₀ .tc) α) (Q : α → sProp 𝕄) :
    iprop((OutB c H C 8 (Transfers.sumTo outA 7) ∗ (∃ W, owes (c : Thread nD τ) 0 W)) ∗ ((bigSep Finset.univ (outD c H C) ∗ semVal ((c : Thread nD τ), SemLoc.dma cc0_scratch15.sem) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch15.sem (cV.slice (Rect.unit (s := S128x4992) o S32x4992.size inb) (fun _ => rfl)) (cO.slice (Rect.unit (s := S128x4992) o S32x4992.size inb) (fun _ => rfl)) hs hd) K) Q := by
  subst h
  have hs1 : Transfers.sumTo outA 7 + (rows cO ⟨3, g3lt⟩).view.dmaCredit = Transfers.sumTo outA 8 := by
    exact (congrArg (Transfers.sumTo outA 7 + ·) (outA_odd ⟨3, g3lt⟩ (out_lt ⟨3, g3lt⟩).2)).trans (Transfers.sumTo_succ outA (show 7 < 8 by decide)).symm
  iintro ⟨⟨HB, ⟨%W, HW⟩⟩, HK⟩
  iapply (Transfers.wp_waitMixedBatchAll (countersEmb (U := Pipeline.UD sig nD τ)) Variants.none (c : Thread nD τ) none (A := outA) (D := outD c H C) () (u := Transfers.sumTo outA 7) rfl outA_pos hs1) $$ [HB HW]
  · isplitl [HB]; · iexact HB
    iexact HW
  iintro ⟨HD, HS, HW⟩
  iapply HK
  isplitl [HD]; · iexact HD
  isplitl [HS]; · iexact HS
  iexists _
  iexact HW

theorem step_y {α : Type} (c : Dev nD) (Y : Vec F S128x11904 .bf16) {hs hd}
    (K : PUnit → Prog (TpuEff nD τ sig (Elt F) Λ₀ .tc) α) (Q : α → sProp 𝕄) :
    iprop((YB c Y 24 0 ∗ (∃ W, owes (c : Thread nD τ) 0 W)) ∗ ((bigSep Finset.univ (yD c Y) ∗ semVal ((c : Thread nD τ), SemLoc.dma cc0_scratch17.sem) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch17.sem yV yO hs hd) K) Q := by
  iintro ⟨⟨HB, ⟨%W, HW⟩⟩, HK⟩
  iapply (Transfers.wp_waitMixedBatchAll (countersEmb (U := Pipeline.UD sig nD τ)) Variants.none (c : Thread nD τ) none (A := yA) (D := yD c Y) () (u := 0) rfl yA_pos ((Nat.zero_add _).trans y_sum.symm)) $$ [HB HW]
  · isplitl [HB]; · iexact HB
    iexact HW
  iintro ⟨HD, HS, HW⟩
  iapply HK
  isplitl [HD]; · iexact HD
  isplitl [HS]; · iexact HS
  iexists _
  iexact HW

theorem sO_pos : 0 < sO.view.dmaCredit := by decide +kernel

section Core
variable (c : Dev nD) (X R x0 r0 : Vec F S128x4992 .bf16) (Gm g0 : Vec F S39x128 .bf16) (ws w0 : Vec F S93x128 .f32) (s s0 : Vec F S1x1 .f32) (b b0 : Vec F S93x128 .bf16)
  (z : Vec F S8x512x4992 .fp8e4m3) (Wv : Vec F S11904x4992 .fp8e4m3) (gf0 : Vec F S39x128 .f32) (bf0 : Vec F S93x128 .f32) (so0 : Vec F S1x1 .f32)
  (h0 oh : Vec F S128x4992 .bf16) (c0 oc : Vec F S128x4992 .fp8e4m3) (y0 yo : Vec F S128x11904 .bf16)

/-- Four of the arrays' groups on their way make the first loop's precondition. -/
theorem pre1_all : iprop((XB c ⟨0, g0lt⟩ X R 2 ∗ XB c ⟨1, g1lt⟩ X R 2 ∗ XB c ⟨2, g2lt⟩ X R 2 ∗ XB c ⟨3, g3lt⟩ X R 2)
      ∗ own c hV fullShare h0 ∗ own c cV fullShare c0 ∗ own c hO fullShare oh ∗ own c cO fullShare oc)
    ⊢ bigSep Finset.univ (pre1 c X R h0 oh c0 oc) := by
  rw [own_rows c hV, own_rows c cV, own_rows c hO, own_rows c cO]
  refine BIBase.Entails.trans ?_ (.of_eq (show iprop(bigSep Finset.univ (fun k => XB c k X R 2) ∗ bigSep Finset.univ (fun k => own c (rows hV k) fullShare h0) ∗ bigSep Finset.univ (fun k => own c (rows cV k) fullShare c0) ∗ bigSep Finset.univ (fun k => own c (rows hO k) fullShare oh) ∗ bigSep Finset.univ (fun k => own c (rows cO k) fullShare oc)) = _ from ?_))
  · rw [bigSep_groups (fun k => XB c k X R 2)]
  · rw [← bigSep_sep', ← bigSep_sep', ← bigSep_sep', ← bigSep_sep']; rfl

/-- The first loop's postcondition, the groups put together. -/
theorem post1_all (v : Vec F S1x1 .f32) (G : Vec F S39x128 .f32) : bigSep Finset.univ (post1 c v X R G)
    ⊢ iprop(own c cV fullShare.left (cB v X R G) ∗ own c xV fullShare X ∗ own c xH fullShare X ∗ own c rV fullShare R ∗ own c rH fullShare R
      ∗ bigSep Finset.univ (fun k => semVal ((c : Thread nD τ), SemLoc.dma (xcell k).sem) 0)) := by
  rw [own_rows c cV, own_rows c xV, own_rows c xH, own_rows c rV, own_rows c rH]
  refine .of_eq (Eq.symm ?_)
  rw [← bigSep_sep', ← bigSep_sep', ← bigSep_sep', ← bigSep_sep', ← bigSep_sep']; rfl

theorem flights0 : iprop(WB c z Wv (sl8 0) ∗ WB c z Wv (sl8 1) ∗ WB c z Wv (sl8 2) ∗ WB c z Wv (sl8 3) ∗ WB c z Wv (sl8 4) ∗ WB c z Wv (sl8 5) ∗ WB c z Wv (sl8 6) ∗ WB c z Wv (sl8 7))
    ⊢ flights c z Wv 0 := by
  unfold flights
  have e : bigSep (flying 0) (WB c z Wv) = iprop(WB c z Wv (sl8 0) ∗ WB c z Wv (sl8 1) ∗ WB c z Wv (sl8 2) ∗ WB c z Wv (sl8 3) ∗ WB c z Wv (sl8 4) ∗ WB c z Wv (sl8 5) ∗ WB c z Wv (sl8 6) ∗ WB c z Wv (sl8 7)) :=
    bigSep_eq_bigSepL_of_eq [sl8 0, sl8 1, sl8 2, sl8 3, sl8 4, sl8 5, sl8 6, sl8 7] (by decide +kernel) (by decide +kernel) _
  rw [if_neg (by omega), e]
  exact BI.sep_emp.2

/-- What the run starts from, the batches allocated. -/
abbrev corePre : sProp 𝕄 :=
  iprop(sin c Gm g0 ws w0 s s0 b b0
    ∗ (gin c X R x0 r0 ⟨0, g0lt⟩ ∗ gin c X R x0 r0 ⟨1, g1lt⟩ ∗ gin c X R x0 r0 ⟨2, g2lt⟩ ∗ gin c X R x0 r0 ⟨3, g3lt⟩)
    ∗ (wpre c z Wv (sl8 0) ∗ wpre c z Wv (sl8 1) ∗ wpre c z Wv (sl8 2) ∗ wpre c z Wv (sl8 3) ∗ wpre c z Wv (sl8 4) ∗ wpre c z Wv (sl8 5) ∗ wpre c z Wv (sl8 6) ∗ wpre c z Wv (sl8 7))
    ∗ (own c gF fullShare gf0 ∗ own c bF fullShare bf0 ∗ own c sO fullShare so0 ∗ SB c sV sO fullShare.right s s cc0_scratch16.sem 0)
    ∗ (own c hV fullShare h0 ∗ own c cV fullShare c0 ∗ own c hO fullShare oh ∗ own c cO fullShare oc)
    ∗ (bigSep Finset.univ (pre2 c Wv y0 yo) ∗ own c (ytail yV) fullShare y0 ∗ own c (ytail yO) fullShare yo ∗ YB c (yB s (cB s X R (k0_pay160 Gm)) Wv ws (k0_pay161 b)) 0 0)
    ∗ OutB c (hB X R) (cB s X R (k0_pay160 Gm)) 0 0 ∗ (∃ W, owes (c : Thread nD τ) 0 W))

/-- What it leaves. -/
abbrev corePost : sProp 𝕄 :=
  iprop((own c gH fullShare Gm ∗ own c gV fullShare Gm ∗ own c wsH fullShare ws ∗ own c wsV fullShare ws ∗ own c sH fullShare s ∗ own c sV fullShare.left s ∗ own c bH fullShare b ∗ own c bV fullShare b)
    ∗ (semVal ((c : Thread nD τ), SemLoc.dma m0) 0 ∗ semVal ((c : Thread nD τ), SemLoc.dma m1) 0 ∗ semVal ((c : Thread nD τ), SemLoc.dma m2) 0 ∗ semVal ((c : Thread nD τ), SemLoc.dma m3) 0)
    ∗ (own c gF fullShare (k0_pay160 Gm) ∗ own c bF fullShare (k0_pay161 b))
    ∗ (own c cV fullShare.left (cB s X R (k0_pay160 Gm)) ∗ own c xV fullShare X ∗ own c xH fullShare X ∗ own c rV fullShare R ∗ own c rH fullShare R
      ∗ bigSep Finset.univ (fun k => semVal ((c : Thread nD τ), SemLoc.dma (xcell k).sem) 0))
    ∗ bigSep Finset.univ (post2 c z Wv) ∗ (own c (slot ⟨15, last_lt⟩) fullShare (ringT z Wv) ∗ own c wtail fullShare Wv ∗ semVal ((c : Thread nD τ), SemLoc.dma (wcell ⟨15, last_lt⟩).sem) 0)
    ∗ (bigSep Finset.univ (outD c (hB X R) (cB s X R (k0_pay160 Gm))) ∗ semVal ((c : Thread nD τ), SemLoc.dma cc0_scratch15.sem) 0)
    ∗ (own c sO fullShare s ∗ own c sV fullShare.right s ∗ semVal ((c : Thread nD τ), SemLoc.dma cc0_scratch16.sem) 0)
    ∗ (bigSep Finset.univ (yD c (yB s (cB s X R (k0_pay160 Gm)) Wv ws (k0_pay161 b))) ∗ semVal ((c : Thread nD τ), SemLoc.dma cc0_scratch17.sem) 0)
    ∗ (∃ W, owes (c : Thread nD τ) 0 W))

set_option maxHeartbeats 1000000 in
theorem core : corePre c X R x0 r0 Gm g0 ws w0 s s0 b b0 z Wv gf0 bf0 so0 h0 oh c0 oc y0 yo
     ⊢ wp frame (wpE (defs₀ (F := F)) Variants.none c none) Set.univ (cc0_add_rmsnorm_fp8_linear (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
      (fun _ => corePost c X R Gm ws s b z Wv) := by
  iintro ⟨HS, ⟨HG0, HG1, HG2, HG3⟩, ⟨Hw0, Hw1, Hw2, Hw3, Hw4, Hw5, Hw6, Hw7⟩, ⟨HgF, HbF, HsO, HSB⟩, HH, ⟨HP2, Hyt, Hyot, HY⟩, HO, HW⟩
  simp only [cc0_add_rmsnorm_fp8_linear, Prog.lift, Prog.bind_op, Prog.bind_ret, Prog.pure_eq_ret, Prog.bind_assoc]
  iapply (wp_seq (p38 c X R x0 r0 Gm g0 ws w0 s s0 b b0)) $$ [HS HG0 HG1]
  · isplitl [HS]; · iexact HS
    isplitl [HG0]; · iexact HG0
    iexact HG1
  iintro %r ⟨HS, HX0, HX1⟩
  iapply (wp_seq (p39 c X R x0 r0 z Wv)) $$ [HG2 HG3 Hw0 Hw1]
  · isplitl [HG2]; · iexact HG2
    isplitl [HG3]; · iexact HG3
    isplitl [Hw0]; · iexact Hw0
    iexact Hw1
  iintro %r ⟨HX2, HX3, Hw0, Hw1⟩
  iapply (wp_seq (p40 c z Wv)) $$ [Hw2 Hw3 Hw4 Hw5 Hw6]
  · isplitl [Hw2]; · iexact Hw2
    isplitl [Hw3]; · iexact Hw3
    isplitl [Hw4]; · iexact Hw4
    isplitl [Hw5]; · iexact Hw5
    iexact Hw6
  iintro %x ⟨Hw2, Hw3, Hw4, Hw5, Hw6⟩
  ihave HP := (pre1_all c X R h0 oh c0 oc) $$ [HX0 HX1 HX2 HX3 HH]
  · isplitr [HH]
    · isplitl [HX0]; · iexact HX0
      isplitl [HX1]; · iexact HX1
      isplitl [HX2]; · iexact HX2
      iexact HX3
    iexact HH
  iapply (wp_seq (p41 c X R Gm ws s b z Wv x gf0 bf0 so0 h0 oh c0 oc)) $$ [HS Hw7 HgF HbF HsO HSB HP HW HO]
  · isplitl [HS]; · iexact HS
    isplitl [Hw7]; · iexact Hw7
    isplitl [HgF]; · iexact HgF
    isplitl [HbF]; · iexact HbF
    isplitl [HsO]; · iexact HsO
    isplitl [HSB]; · iexact HSB
    isplitl [HP]; · iexact HP
    isplitl [HW]; · iexact HW
    iexact HO
  iintro %r ⟨%hr, ⟨A1, A2, A3, A4, A5, A6, A7, A8⟩, HM, Hw7, HgF, HbF, HSB, HP, HW, HO⟩
  subst hr
  ihave HP := (post1_all c X R s (k0_pay160 Gm)) $$ HP
  icases HP with ⟨HC, HP⟩
  ihave HF := (flights0 c z Wv) $$ [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  iapply (wp_seq (p42 c s z (hB X R) (cB s X R (k0_pay160 Gm)) Wv ws (k0_pay161 b) y0 yo)) $$ [HP2 HF HW HC A4 HbF HY Hyt Hyot HO]
  · isplitl [HP2]; · iexact HP2
    isplitl [HF]; · iexact HF
    isplitl [HW]; · iexact HW
    isplitl [HC]; · iexact HC
    isplitl [A4]; · iexact A4
    isplitl [HbF]; · iexact HbF
    isplitl [HY]; · iexact HY
    isplitl [Hyt]; · iexact Hyt
    isplitl [Hyot]; · iexact Hyot
    iexact HO
  iintro %r ⟨HP2, HT, HW, HC, A4, HbF, HY, HO⟩
  iapply (step_c c (hB X R) (cB s X R (k0_pay160 Gm)) ⟨0, g0lt⟩ 1 2 rfl rfl ((k0_off2_eq ⟨0, g0lt⟩).trans rfl).symm)
  isplitl [HO HW]
  · isplitl [HO]; · iexact HO
    iexact HW
  iintro ⟨HO, HW⟩
  iapply (step_h c (hB X R) (cB s X R (k0_pay160 Gm)) ⟨1, g1lt⟩ 2 3 rfl rfl ((k0_off2_eq ⟨1, g1lt⟩).trans rfl).symm)
  isplitl [HO HW]
  · isplitl [HO]; · iexact HO
    iexact HW
  iintro ⟨HO, HW⟩
  iapply (step_c c (hB X R) (cB s X R (k0_pay160 Gm)) ⟨1, g1lt⟩ 3 4 rfl rfl ((k0_off2_eq ⟨1, g1lt⟩).trans rfl).symm)
  isplitl [HO HW]
  · isplitl [HO]; · iexact HO
    iexact HW
  iintro ⟨HO, HW⟩
  iapply (step_h c (hB X R) (cB s X R (k0_pay160 Gm)) ⟨2, g2lt⟩ 4 5 rfl rfl ((k0_off2_eq ⟨2, g2lt⟩).trans rfl).symm)
  isplitl [HO HW]
  · isplitl [HO]; · iexact HO
    iexact HW
  iintro ⟨HO, HW⟩
  iapply (step_c c (hB X R) (cB s X R (k0_pay160 Gm)) ⟨2, g2lt⟩ 5 6 rfl rfl ((k0_off2_eq ⟨2, g2lt⟩).trans rfl).symm)
  isplitl [HO HW]
  · isplitl [HO]; · iexact HO
    iexact HW
  iintro ⟨HO, HW⟩
  iapply (step_h c (hB X R) (cB s X R (k0_pay160 Gm)) ⟨3, g3lt⟩ 6 7 rfl rfl ((k0_off2_eq ⟨3, g3lt⟩).trans rfl).symm)
  isplitl [HO HW]
  · isplitl [HO]; · iexact HO
    iexact HW
  iintro ⟨HO, HW⟩
  iapply (step_cl c (hB X R) (cB s X R (k0_pay160 Gm)) ((k0_off2_eq ⟨3, g3lt⟩).trans rfl).symm)
  isplitl [HO HW]
  · isplitl [HO]; · iexact HO
    iexact HW
  iintro ⟨HO, HO15, HW⟩
  iapply (step_sw c sV sO fullShare.right s s cc0_scratch16.sem sO_pos)
  isplitl [HSB HW]
  · isplitl [HSB]; · iexact HSB
    iexact HW
  iintro ⟨HsO, HsV, H16, HW⟩
  iapply (step_y c (yB s (cB s X R (k0_pay160 Gm)) Wv ws (k0_pay161 b)))
  isplitl [HY HW]
  · isplitl [HY]; · iexact HY
    iexact HW
  iintro ⟨HY, H17, HW⟩
  sl_step
  isplitl [A1 A2 A3 A4 A5 A6 A7 A8]; · sl_close
  isplitl [HM]; · iexact HM
  isplitl [HgF HbF]; · sl_close
  isplitl [HC HP]
  · isplitl [HC]; · iexact HC
    iexact HP
  isplitl [HP2]; · iexact HP2
  isplitl [HT]; · iexact HT
  isplitl [HO HO15]; · sl_close
  isplitl [HsO HsV H16]; · sl_close
  isplitl [HY H17]; · sl_close
  iexact HW

end Core

end Cert.Kernel.Hand
-- ==== Proof.K.Gather.lean ====
module

public import proofs.«01_k».proof.Proof.K.Core

/-! Cutting the arrays before the run, and putting the pieces together after it. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem t_lt (n : ℕ) (h : n < 23) : n < k0_t2_loop.trips := by rw [trips2]; exact h

theorem bigSep_last {n m : ℕ} (h : m = n + 1) (Φ : Fin m → sProp 𝕄) :
    bigSep Finset.univ Φ = iprop(bigSep Finset.univ (fun k : Fin n => Φ ⟨k.val, by omega⟩) ∗ Φ ⟨n, by omega⟩) := by
  subst h
  rw [Fin.univ_castSuccEmb, Finset.cons_eq_insert, bigSep_insert (by rw [Finset.mem_map]; rintro ⟨x, -, hx⟩; exact absurd (congrArg Fin.val hx) (Nat.ne_of_lt x.isLt)), bigSep_map]
  exact sep_comm_eq _ _

theorem bigSep_23 {n : ℕ} (h : n = 23) (Φ : Fin n → sProp 𝕄) :
    bigSep Finset.univ Φ = iprop(Φ ⟨0, by omega⟩ ∗ Φ ⟨1, by omega⟩ ∗ Φ ⟨2, by omega⟩ ∗ Φ ⟨3, by omega⟩ ∗ Φ ⟨4, by omega⟩ ∗ Φ ⟨5, by omega⟩ ∗ Φ ⟨6, by omega⟩ ∗ Φ ⟨7, by omega⟩ ∗ Φ ⟨8, by omega⟩ ∗ Φ ⟨9, by omega⟩ ∗ Φ ⟨10, by omega⟩ ∗ Φ ⟨11, by omega⟩ ∗ Φ ⟨12, by omega⟩ ∗ Φ ⟨13, by omega⟩ ∗ Φ ⟨14, by omega⟩ ∗ Φ ⟨15, by omega⟩ ∗ Φ ⟨16, by omega⟩ ∗ Φ ⟨17, by omega⟩ ∗ Φ ⟨18, by omega⟩ ∗ Φ ⟨19, by omega⟩ ∗ Φ ⟨20, by omega⟩ ∗ Φ ⟨21, by omega⟩ ∗ Φ ⟨22, by omega⟩) := by
  subst h
  exact bigSep_univ_eq_bigSepL [0, 1, 2, 3, 4, 5, 6, 7, 8, 9, 10, 11, 12, 13, 14, 15, 16, 17, 18, 19, 20, 21, 22] (by decide) (by decide) Φ

theorem shift_all {n : ℕ} (hn : n = 23) (Φ Ψ : Fin n → sProp 𝕄) (T : sProp 𝕄)
    (h1 : ∀ k (h : k < n) (h' : k + 8 < n), Ψ ⟨k, h⟩ = Φ ⟨k + 8, h'⟩) (h2 : ∀ h : 15 < n, Ψ ⟨15, h⟩ = T) (h3 : ∀ k (h : k < n), 15 < k → Ψ ⟨k, h⟩ = iprop(emp)) :
    iprop(bigSep Finset.univ Φ ∗ T) ⊢ iprop((Φ ⟨0, by omega⟩ ∗ Φ ⟨1, by omega⟩ ∗ Φ ⟨2, by omega⟩ ∗ Φ ⟨3, by omega⟩ ∗ Φ ⟨4, by omega⟩ ∗ Φ ⟨5, by omega⟩ ∗ Φ ⟨6, by omega⟩ ∗ Φ ⟨7, by omega⟩) ∗ bigSep Finset.univ Ψ) := by
  rw [bigSep_23 hn Φ, bigSep_23 hn Ψ, h1 0 (by omega) (by omega), h1 1 (by omega) (by omega), h1 2 (by omega) (by omega), h1 3 (by omega) (by omega), h1 4 (by omega) (by omega), h1 5 (by omega) (by omega), h1 6 (by omega) (by omega), h1 7 (by omega) (by omega), h1 8 (by omega) (by omega), h1 9 (by omega) (by omega), h1 10 (by omega) (by omega), h1 11 (by omega) (by omega), h1 12 (by omega) (by omega), h1 13 (by omega) (by omega), h1 14 (by omega) (by omega), h2, h3 16 (by omega) (by decide), h3 17 (by omega) (by decide), h3 18 (by omega) (by decide), h3 19 (by omega) (by decide), h3 20 (by omega) (by decide), h3 21 (by omega) (by decide), h3 22 (by omega) (by decide)]
  iintro ⟨⟨W0, W1, W2, W3, W4, W5, W6, W7, W8, W9, W10, W11, W12, W13, W14, W15, W16, W17, W18, W19, W20, W21, W22⟩, WT⟩
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  isplitl [W18]; · iexact W18
  isplitl [W19]; · iexact W19
  isplitl [W20]; · iexact W20
  isplitl [W21]; · iexact W21
  isplitl [W22]; · iexact W22
  isplitl [WT]; · iexact WT
  sl_close

theorem tail_all {n : ℕ} (hn : n = 23) (Φ Ψ : Fin n → sProp 𝕄)
    (h1 : ∀ k (h : k < n), k < 16 → Ψ ⟨k, h⟩ = iprop(emp)) (h2 : ∀ k (h : k < n), 15 < k → Ψ ⟨k, h⟩ = Φ ⟨k, h⟩) :
    bigSep Finset.univ Ψ ⊢ iprop(Φ ⟨16, by omega⟩ ∗ Φ ⟨17, by omega⟩ ∗ Φ ⟨18, by omega⟩ ∗ Φ ⟨19, by omega⟩ ∗ Φ ⟨20, by omega⟩ ∗ Φ ⟨21, by omega⟩ ∗ Φ ⟨22, by omega⟩) := by
  rw [bigSep_23 hn Ψ, h1 0 (by omega) (by decide), h1 1 (by omega) (by decide), h1 2 (by omega) (by decide), h1 3 (by omega) (by decide), h1 4 (by omega) (by decide), h1 5 (by omega) (by decide), h1 6 (by omega) (by decide), h1 7 (by omega) (by decide), h1 8 (by omega) (by decide), h1 9 (by omega) (by decide), h1 10 (by omega) (by decide), h1 11 (by omega) (by decide), h1 12 (by omega) (by decide), h1 13 (by omega) (by decide), h1 14 (by omega) (by decide), h1 15 (by omega) (by decide), h2 16 (by omega) (by decide), h2 17 (by omega) (by decide), h2 18 (by omega) (by decide), h2 19 (by omega) (by decide), h2 20 (by omega) (by decide), h2 21 (by omega) (by decide), h2 22 (by omega) (by decide)]
  iintro ⟨-, -, -, -, -, -, -, -, -, -, -, -, -, -, -, -, HS⟩
  iexact HS

/-- The result's pieces, and those of the copy it was sent from, are the two arrays. -/
theorem y_all (c : Dev nD) (Y : Vec F S128x11904 .bf16) : bigSep Finset.univ (yD c Y) ⊢ iprop(own c yO fullShare Y ∗ own c yV fullShare Y) := by
  rw [bigSep_last (show 24 = k0_t2_loop.trips + 1 by rw [trips2]), own_y c yO, own_y c yV]
  have e1 : (fun k : Fin k0_t2_loop.trips => yD c Y ⟨k.val, by have := k.isLt; have := trips2; omega⟩) = fun k => iprop(own c (ycols yO k) fullShare Y ∗ own c (ycols yV k) fullShare Y) :=
    funext fun k => yD_blk c Y k
  have e2 : yD c Y ⟨k0_t2_loop.trips, by have := trips2; omega⟩ = iprop(own c (ytail yO) fullShare Y ∗ own c (ytail yV) fullShare Y) :=
    (congrArg (yD c Y) (Fin.ext trips2)).trans (yD_last c Y)
  rw [e1, e2, bigSep_sep']
  iintro ⟨⟨H1, H2⟩, H3, H4⟩
  isplitl [H1 H3]
  · isplitl [H1]; · iexact H1
    iexact H3
  isplitl [H2]; · iexact H2
  iexact H4

/-- The sent groups, and those they were sent from, are the arrays. -/
theorem out_all (c : Dev nD) (H : Vec F S128x4992 .bf16) (C : Vec F S128x4992 .fp8e4m3) :
    bigSep Finset.univ (outD c H C) ⊢ iprop(own c hO fullShare H ∗ own c hV fullShare H ∗ own c cO fullShare C ∗ own c cV fullShare.right C) := by
  rw [bigSep_eight, own_rows c hO, own_rows c hV, own_rows c cO, own_rows c cV, bigSep_groups, bigSep_groups, bigSep_groups, bigSep_groups]
  have e0 := outD_even c H C ⟨0, g0lt⟩ (by decide)
  have e1 := outD_odd c H C ⟨0, g0lt⟩ (by decide)
  have e2 := outD_even c H C ⟨1, g1lt⟩ (by decide)
  have e3 := outD_odd c H C ⟨1, g1lt⟩ (by decide)
  have e4 := outD_even c H C ⟨2, g2lt⟩ (by decide)
  have e5 := outD_odd c H C ⟨2, g2lt⟩ (by decide)
  have e6 := outD_even c H C ⟨3, g3lt⟩ (by decide)
  have e7 := outD_odd c H C ⟨3, g3lt⟩ (by decide)
  rw [show outD c H C 0 = _ from e0, show outD c H C 1 = _ from e1, show outD c H C 2 = _ from e2, show outD c H C 3 = _ from e3, show outD c H C 4 = _ from e4, show outD c H C 5 = _ from e5, show outD c H C 6 = _ from e6, show outD c H C 7 = _ from e7]
  iintro ⟨⟨A0, B0⟩, ⟨C0, D0⟩, ⟨A1, B1⟩, ⟨C1, D1⟩, ⟨A2, B2⟩, ⟨C2, D2⟩, ⟨A3, B3⟩, C3, D3⟩
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0 C1 C2 C3]
  · isplitl [C0]; · iexact C0
    isplitl [C1]; · iexact C1
    isplitl [C2]; · iexact C2
    iexact C3
  isplitl [D0]; · iexact D0
  isplitl [D1]; · iexact D1
  isplitl [D2]; · iexact D2
  iexact D3

theorem preX_next (c : Dev nD) (Wv : Vec F S11904x4992 .fp8e4m3) (k : ℕ) (h : k < 23) (h' : k + 8 < 23) : preX c Wv ⟨k, t_lt k h⟩ = own c (wrows ⟨k + 8, t_lt (k + 8) h'⟩) fullShare Wv := by
  unfold preX; rw [dif_pos (show (⟨k, t_lt k h⟩ : Fin k0_t2_loop.trips).val + 8 < 23 from h')]
theorem preX_tail (c : Dev nD) (Wv : Vec F S11904x4992 .fp8e4m3) : preX c Wv ⟨15, t_lt 15 (by decide)⟩ = own c wtail fullShare Wv := by
  unfold preX; rw [dif_neg (show ¬ 15 + 8 < 23 by decide), if_pos rfl]
theorem preX_none (c : Dev nD) (Wv : Vec F S11904x4992 .fp8e4m3) (k : ℕ) (h : k < 23) (h' : 15 < k) : preX c Wv ⟨k, t_lt k h⟩ = iprop(emp) := by
  unfold preX; rw [dif_neg (show ¬ k + 8 < 23 by omega), if_neg (show ¬ k = 15 by omega)]
theorem LX_none (c : Dev nD) (z : Vec F S8x512x4992 .fp8e4m3) (Wv : Vec F S11904x4992 .fp8e4m3) (k : ℕ) (h : k < 23) (h' : k < 16) : LX c z Wv ⟨k, t_lt k h⟩ = iprop(emp) := by
  unfold LX
  by_cases e : k < 15
  · rw [if_pos (show k + 8 < 23 by omega)]
  · rw [if_neg (show ¬ k + 8 < 23 by omega), if_pos (show k = 15 by omega)]
/-- The slot of the last blocks is the one its number names. -/
theorem LX_some (c : Dev nD) (z : Vec F S8x512x4992 .fp8e4m3) (Wv : Vec F S11904x4992 .fp8e4m3) (k : ℕ) (h : k < 23) (h' : 15 < k) :
    LX c z Wv ⟨k, t_lt k h⟩ = iprop(own c (slot ⟨k, t_lt k h⟩) fullShare (ringOf z Wv ⟨k, t_lt k h⟩) ∗ semVal ((c : Thread nD τ), SemLoc.dma (wcell ⟨k, t_lt k h⟩).sem) 0) := by
  unfold LX; rw [if_neg (show ¬ k + 8 < 23 by omega), if_neg (show ¬ k = 15 by omega)]
theorem slot_mod (c : Dev nD) (j : Fin k0_t2_loop.trips) (b : Fin 8) (h : j.val % 8 = b.val) (f : Vec F S8x512x4992 .fp8e4m3) :
    iprop(own c (slot j) fullShare f ∗ semVal ((c : Thread nD τ), SemLoc.dma (wcell j).sem) 0) ⊢ (iprop((∃ f : Vec F S8x512x4992 .fp8e4m3, own c (slot (sl8 b)) fullShare f) ∗ semVal ((c : Thread nD τ), SemLoc.dma (wcell (sl8 b)).sem) 0) : sProp 𝕄) := by
  have hb := b.isLt
  have e1 : k0_off43 j = k0_off43 (sl8 b) := by
    rw [k0_off43_eq, k0_off43_eq, h, show (sl8 b).val % 8 = b.val from Nat.mod_eq_of_lt hb]
  have e2 : k0_off42 j = k0_off42 (sl8 b) := by
    rw [k0_off42_eq, k0_off42_eq, h, show (sl8 b).val % 8 = b.val from Nat.mod_eq_of_lt hb]
  rw [show own c (slot j) fullShare f = own c (slot (sl8 b)) fullShare f from slot_eq c (sl8 b) e1 (k0_off43_inb j) fullShare f, show (wcell j).sem = (wcell (sl8 b)).sem from cell_eq (sl8 b) e2 (k0_off42_inb j)]
  iintro ⟨H, HS⟩
  isplitl [H]
  · iexists f
    iexact H
  iexact HS

/-- The weights: the first eight blocks, and what the loop fetches. -/
theorem w_all (c : Dev nD) (Wv : Vec F S11904x4992 .fp8e4m3) : own c wH fullShare Wv
    ⊢ iprop((own c (wrows (sl8 0)) fullShare Wv ∗ own c (wrows (sl8 1)) fullShare Wv ∗ own c (wrows (sl8 2)) fullShare Wv ∗ own c (wrows (sl8 3)) fullShare Wv ∗ own c (wrows (sl8 4)) fullShare Wv ∗ own c (wrows (sl8 5)) fullShare Wv ∗ own c (wrows (sl8 6)) fullShare Wv ∗ own c (wrows (sl8 7)) fullShare Wv) ∗ bigSep Finset.univ (preX c Wv)) := by
  rw [own_w]
  exact shift_all trips2 (fun k => own c (wrows k) fullShare Wv) (preX c Wv) (own c wtail fullShare Wv)
    (fun k h h' => preX_next c Wv k (by rwa [trips2] at h) (by rwa [trips2] at h')) (fun _ => preX_tail c Wv) (fun k h h' => preX_none c Wv k (by rwa [trips2] at h) h')

/-- The ring and its semaphores at the end. -/
theorem ring_all (c : Dev nD) (z : Vec F S8x512x4992 .fp8e4m3) (Wv : Vec F S11904x4992 .fp8e4m3) :
    iprop(bigSep Finset.univ (post2 c z Wv) ∗ own c (slot ⟨15, last_lt⟩) fullShare (ringT z Wv) ∗ own c wtail fullShare Wv ∗ semVal ((c : Thread nD τ), SemLoc.dma (wcell ⟨15, last_lt⟩).sem) 0)
    ⊢ (iprop(own c wH fullShare Wv ∗ (∃ g : Vec F S8x512x4992 .fp8e4m3, own c ringV fullShare g) ∗ bigSep Finset.univ (fun b : Fin 8 => semVal ((c : Thread nD τ), SemLoc.dma (wcell (sl8 b)).sem) 0)) : sProp 𝕄) := by
  have e : bigSep Finset.univ (post2 c z Wv) = iprop(bigSep Finset.univ (fun k => own c (wrows k) fullShare Wv) ∗ bigSep Finset.univ (LX c z Wv)) :=
    bigSep_sep' Finset.univ (fun k => own c (wrows k) fullShare Wv) (LX c z Wv)
  rw [e, own_w]
  iintro ⟨⟨HW, HL⟩, ST, WT, SS⟩
  ihave HL := (tail_all trips2 (fun k => iprop(own c (slot k) fullShare (ringOf z Wv k) ∗ semVal ((c : Thread nD τ), SemLoc.dma (wcell k).sem) 0)) (LX c z Wv)
    (fun k h h' => LX_none c z Wv k (by rwa [trips2] at h) h') (fun k h h' => LX_some c z Wv k (by rwa [trips2] at h) h')) $$ HL
  icases HL with ⟨S0, S1, S2, S3, S4, S5, S6⟩
  ihave S0 := (slot_mod c ⟨16, t_lt 16 (by decide)⟩ 0 rfl _) $$ S0
  icases S0 with ⟨S0, N0⟩
  ihave S1 := (slot_mod c ⟨17, t_lt 17 (by decide)⟩ 1 rfl _) $$ S1
  icases S1 with ⟨S1, N1⟩
  ihave S2 := (slot_mod c ⟨18, t_lt 18 (by decide)⟩ 2 rfl _) $$ S2
  icases S2 with ⟨S2, N2⟩
  ihave S3 := (slot_mod c ⟨19, t_lt 19 (by decide)⟩ 3 rfl _) $$ S3
  icases S3 with ⟨S3, N3⟩
  ihave S4 := (slot_mod c ⟨20, t_lt 20 (by decide)⟩ 4 rfl _) $$ S4
  icases S4 with ⟨S4, N4⟩
  ihave S5 := (slot_mod c ⟨21, t_lt 21 (by decide)⟩ 5 rfl _) $$ S5
  icases S5 with ⟨S5, N5⟩
  ihave S6 := (slot_mod c ⟨22, t_lt 22 (by decide)⟩ 6 rfl _) $$ S6
  icases S6 with ⟨S6, N6⟩
  ihave ST := (slot_mod c ⟨15, last_lt⟩ 7 rfl _) $$ [ST SS]
  · isplitl [ST]; · iexact ST
    iexact SS
  icases ST with ⟨S7, N7⟩
  isplitl [HW WT]
  · isplitl [HW]; · iexact HW
    iexact WT
  isplitl [S0 S1 S2 S3 S4 S5 S6 S7]
  · iapply (own_ring_join c z)
    rw [bigSep_eight]
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  rw [bigSep_eight]
  isplitl [N0]; · iexact N0
  isplitl [N1]; · iexact N1
  isplitl [N2]; · iexact N2
  isplitl [N3]; · iexact N3
  isplitl [N4]; · iexact N4
  isplitl [N5]; · iexact N5
  isplitl [N6]; · iexact N6
  iexact N7

end Cert.Kernel.Hand
-- ==== Proof.K.Body.lean ====
module

public import proofs.«01_k».proof.Proof.K.Gather

/-! The kernel's run over whole arrays: what it takes and what it leaves. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance (c : Dev nD) (H : Vec F S128x4992 .bf16) (C : Vec F S128x4992 .fp8e4m3) (t) : Storable (upEmb : UEmb _ 𝕄) (outD c H C t) := by
  unfold outD; split <;> infer_instance
instance (c : Dev nD) (Y : Vec F S128x11904 .bf16) (t) : Storable (upEmb : UEmb _ 𝕄) (yD c Y t) := by
  unfold yD; split <;> infer_instance

theorem xc0 : (xcell ⟨0, g0lt⟩).sem = (0 : DmaSem sig) := by decide +kernel
theorem xc1 : (xcell ⟨1, g1lt⟩).sem = (1 : DmaSem sig) := by decide +kernel
theorem xc2 : (xcell ⟨2, g2lt⟩).sem = (2 : DmaSem sig) := by decide +kernel
theorem xc3 : (xcell ⟨3, g3lt⟩).sem = (3 : DmaSem sig) := by decide +kernel
theorem mc0 : m0 = (4 : DmaSem sig) := by decide +kernel
theorem mc1 : m1 = (5 : DmaSem sig) := by decide +kernel
theorem mc2 : m2 = (6 : DmaSem sig) := by decide +kernel
theorem mc3 : m3 = (7 : DmaSem sig) := by decide +kernel
theorem wc0 : (wcell (sl8 0)).sem = (8 : DmaSem sig) := by decide +kernel
theorem wc1 : (wcell (sl8 1)).sem = (9 : DmaSem sig) := by decide +kernel
theorem wc2 : (wcell (sl8 2)).sem = (10 : DmaSem sig) := by decide +kernel
theorem wc3 : (wcell (sl8 3)).sem = (11 : DmaSem sig) := by decide +kernel
theorem wc4 : (wcell (sl8 4)).sem = (12 : DmaSem sig) := by decide +kernel
theorem wc5 : (wcell (sl8 5)).sem = (13 : DmaSem sig) := by decide +kernel
theorem wc6 : (wcell (sl8 6)).sem = (14 : DmaSem sig) := by decide +kernel
theorem wc7 : (wcell (sl8 7)).sem = (15 : DmaSem sig) := by decide +kernel
theorem oc16 : cc0_scratch15.sem = (16 : DmaSem sig) := by decide +kernel
theorem oc17 : cc0_scratch16.sem = (17 : DmaSem sig) := by decide +kernel
theorem oc18 : cc0_scratch17.sem = (18 : DmaSem sig) := by decide +kernel

/-- The scratch buffers, each at some contents, -/
def scrS (c : Dev nD) : sProp 𝕄 := iprop((∃ f : Vec F S128x4992 .bf16, own c xV fullShare f) ∗ (∃ f : Vec F S128x4992 .bf16, own c rV fullShare f) ∗ (∃ f : Vec F S39x128 .bf16, own c gV fullShare f) ∗ (∃ f : Vec F S39x128 .f32, own c gF fullShare f) ∗ (∃ f : Vec F S93x128 .f32, own c wsV fullShare f) ∗ (∃ f : Vec F S1x1 .f32, own c sV fullShare f) ∗ (∃ f : Vec F S93x128 .bf16, own c bV fullShare f) ∗ (∃ f : Vec F S93x128 .f32, own c bF fullShare f) ∗ (∃ f : Vec F S128x4992 .bf16, own c hV fullShare f) ∗ (∃ f : Vec F S128x4992 .fp8e4m3, own c cV fullShare f) ∗ (∃ f : Vec F S8x512x4992 .fp8e4m3, own c ringV fullShare f) ∗ (∃ f : Vec F S128x11904 .bf16, own c yV fullShare f))
/-- the semaphores at zero, -/
def semS (c : Dev nD) : sProp 𝕄 := iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0)
/-- the arrays read, -/
def inS (c : Dev nD) (X R : Vec F S128x4992 .bf16) (Gm : Vec F S39x128 .bf16) (Wv : Vec F S11904x4992 .fp8e4m3) (ws : Vec F S93x128 .f32) (s : Vec F S1x1 .f32) (b : Vec F S93x128 .bf16) : sProp 𝕄 :=
  iprop(own c xH fullShare X ∗ own c rH fullShare R ∗ own c gH fullShare Gm ∗ own c wH fullShare Wv ∗ own c wsH fullShare ws ∗ own c sH fullShare s ∗ own c bH fullShare b)
/-- and the arrays written. -/
def outS (c : Dev nD) (y : Vec F S128x11904 .bf16) (h : Vec F S128x4992 .bf16) (C : Vec F S128x4992 .fp8e4m3) (s : Vec F S1x1 .f32) : sProp 𝕄 :=
  iprop(own c yO fullShare y ∗ own c hO fullShare h ∗ own c cO fullShare C ∗ own c sO fullShare s)

set_option maxHeartbeats 2000000 in
/-- The kernel's run, over whole arrays. -/
theorem body (c : Dev nD) (X R : Vec F S128x4992 .bf16) (Gm : Vec F S39x128 .bf16) (Wv : Vec F S11904x4992 .fp8e4m3) (ws : Vec F S93x128 .f32) (s : Vec F S1x1 .f32) (b : Vec F S93x128 .bf16)
    (yo : Vec F S128x11904 .bf16) (oh : Vec F S128x4992 .bf16) (oc : Vec F S128x4992 .fp8e4m3) (so0 : Vec F S1x1 .f32) :
    iprop(scrS c ∗ semS c ∗ inS c X R Gm Wv ws s b ∗ outS c yo oh oc so0 ∗ (∃ W, owes (c : Thread nD τ) 0 W))
     ⊢ wp frame (wpE (defs₀ (F := F)) Variants.none c none) Set.univ (cc0_add_rmsnorm_fp8_linear (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
      (fun _ => iprop(scrS c ∗ semS c ∗ inS c X R Gm Wv ws s b
        ∗ outS c (yB s (cB s X R (k0_pay160 Gm)) Wv ws (k0_pay161 b)) (hB X R) (cB s X R (k0_pay160 Gm)) s ∗ (∃ W, owes (c : Thread nD τ) 0 W))) := by
  unfold scrS semS inS outS
  iintro ⟨⟨⟨%x0, HxV⟩, ⟨%r0, HrV⟩, ⟨%g0, HgV⟩, ⟨%gf0, HgF⟩, ⟨%w0, HwsV⟩, ⟨%s0, HsV⟩, ⟨%b0, HbV⟩, ⟨%bf0, HbF⟩, ⟨%h0, HhV⟩, ⟨%c0, HcV⟩, ⟨%z, Hring⟩, ⟨%y0, HyV⟩⟩,
    ⟨S0, S1, S2, S3, S4, S5, S6, S7, S8, S9, S10, S11, S12, S13, S14, S15, S16, S17, S18⟩, ⟨HxH, HrH, HgH, HwH, HwsH, HsH, HbH⟩, ⟨HyO, HhO, HcO, HsO⟩, HW⟩
  ihave S0 := (show semVal ((c : Thread nD τ), SemLoc.dma (sig := sig) 0) 0 ⊢ (semVal ((c : Thread nD τ), SemLoc.dma (xcell ⟨0, g0lt⟩).sem) 0 : sProp 𝕄) from .of_eq (by rw [xc0])) $$ S0
  ihave S1 := (show semVal ((c : Thread nD τ), SemLoc.dma (sig := sig) 1) 0 ⊢ (semVal ((c : Thread nD τ), SemLoc.dma (xcell ⟨1, g1lt⟩).sem) 0 : sProp 𝕄) from .of_eq (by rw [xc1])) $$ S1
  ihave S2 := (show semVal ((c : Thread nD τ), SemLoc.dma (sig := sig) 2) 0 ⊢ (semVal ((c : Thread nD τ), SemLoc.dma (xcell ⟨2, g2lt⟩).sem) 0 : sProp 𝕄) from .of_eq (by rw [xc2])) $$ S2
  ihave S3 := (show semVal ((c : Thread nD τ), SemLoc.dma (sig := sig) 3) 0 ⊢ (semVal ((c : Thread nD τ), SemLoc.dma (xcell ⟨3, g3lt⟩).sem) 0 : sProp 𝕄) from .of_eq (by rw [xc3])) $$ S3
  ihave S4 := (show semVal ((c : Thread nD τ), SemLoc.dma (sig := sig) 4) 0 ⊢ (semVal ((c : Thread nD τ), SemLoc.dma m0) 0 : sProp 𝕄) from .of_eq (by rw [mc0])) $$ S4
  ihave S5 := (show semVal ((c : Thread nD τ), SemLoc.dma (sig := sig) 5) 0 ⊢ (semVal ((c : Thread nD τ), SemLoc.dma m1) 0 : sProp 𝕄) from .of_eq (by rw [mc1])) $$ S5
  ihave S6 := (show semVal ((c : Thread nD τ), SemLoc.dma (sig := sig) 6) 0 ⊢ (semVal ((c : Thread nD τ), SemLoc.dma m2) 0 : sProp 𝕄) from .of_eq (by rw [mc2])) $$ S6
  ihave S7 := (show semVal ((c : Thread nD τ), SemLoc.dma (sig := sig) 7) 0 ⊢ (semVal ((c : Thread nD τ), SemLoc.dma m3) 0 : sProp 𝕄) from .of_eq (by rw [mc3])) $$ S7
  ihave S8 := (show semVal ((c : Thread nD τ), SemLoc.dma (sig := sig) 8) 0 ⊢ (semVal ((c : Thread nD τ), SemLoc.dma (wcell (sl8 0)).sem) 0 : sProp 𝕄) from .of_eq (by rw [wc0])) $$ S8
  ihave S9 := (show semVal ((c : Thread nD τ), SemLoc.dma (sig := sig) 9) 0 ⊢ (semVal ((c : Thread nD τ), SemLoc.dma (wcell (sl8 1)).sem) 0 : sProp 𝕄) from .of_eq (by rw [wc1])) $$ S9
  ihave S10 := (show semVal ((c : Thread nD τ), SemLoc.dma (sig := sig) 10) 0 ⊢ (semVal ((c : Thread nD τ), SemLoc.dma (wcell (sl8 2)).sem) 0 : sProp 𝕄) from .of_eq (by rw [wc2])) $$ S10
  ihave S11 := (show semVal ((c : Thread nD τ), SemLoc.dma (sig := sig) 11) 0 ⊢ (semVal ((c : Thread nD τ), SemLoc.dma (wcell (sl8 3)).sem) 0 : sProp 𝕄) from .of_eq (by rw [wc3])) $$ S11
  ihave S12 := (show semVal ((c : Thread nD τ), SemLoc.dma (sig := sig) 12) 0 ⊢ (semVal ((c : Thread nD τ), SemLoc.dma (wcell (sl8 4)).sem) 0 : sProp 𝕄) from .of_eq (by rw [wc4])) $$ S12
  ihave S13 := (show semVal ((c : Thread nD τ), SemLoc.dma (sig := sig) 13) 0 ⊢ (semVal ((c : Thread nD τ), SemLoc.dma (wcell (sl8 5)).sem) 0 : sProp 𝕄) from .of_eq (by rw [wc5])) $$ S13
  ihave S14 := (show semVal ((c : Thread nD τ), SemLoc.dma (sig := sig) 14) 0 ⊢ (semVal ((c : Thread nD τ), SemLoc.dma (wcell (sl8 6)).sem) 0 : sProp 𝕄) from .of_eq (by rw [wc6])) $$ S14
  ihave S15 := (show semVal ((c : Thread nD τ), SemLoc.dma (sig := sig) 15) 0 ⊢ (semVal ((c : Thread nD τ), SemLoc.dma (wcell (sl8 7)).sem) 0 : sProp 𝕄) from .of_eq (by rw [wc7])) $$ S15
  imod (Transfers.batch_alloc' (Lvl := ℕ) (countersEmb (U := Pipeline.UD sig nD τ)) (c : Thread nD τ) () ((rows xV ⟨0, g0lt⟩).view.dmaCredit) (dX c ⟨0, g0lt⟩ X R) (E := Set.univ)) $$ S0 with S0
  imod (Transfers.batch_alloc' (Lvl := ℕ) (countersEmb (U := Pipeline.UD sig nD τ)) (c : Thread nD τ) () ((rows xV ⟨1, g1lt⟩).view.dmaCredit) (dX c ⟨1, g1lt⟩ X R) (E := Set.univ)) $$ S1 with S1
  imod (Transfers.batch_alloc' (Lvl := ℕ) (countersEmb (U := Pipeline.UD sig nD τ)) (c : Thread nD τ) () ((rows xV ⟨2, g2lt⟩).view.dmaCredit) (dX c ⟨2, g2lt⟩ X R) (E := Set.univ)) $$ S2 with S2
  imod (Transfers.batch_alloc' (Lvl := ℕ) (countersEmb (U := Pipeline.UD sig nD τ)) (c : Thread nD τ) () ((rows xV ⟨3, g3lt⟩).view.dmaCredit) (dX c ⟨3, g3lt⟩ X R) (E := Set.univ)) $$ S3 with S3
  imod (Transfers.batch_alloc' (Lvl := ℕ) (countersEmb (U := Pipeline.UD sig nD τ)) (c : Thread nD τ) () (gV.view.dmaCredit) (dS c gH gV fullShare Gm Gm) (E := Set.univ)) $$ S4 with S4
  imod (Transfers.batch_alloc' (Lvl := ℕ) (countersEmb (U := Pipeline.UD sig nD τ)) (c : Thread nD τ) () (wsV.view.dmaCredit) (dS c wsH wsV fullShare ws ws) (E := Set.univ)) $$ S5 with S5
  imod (Transfers.batch_alloc' (Lvl := ℕ) (countersEmb (U := Pipeline.UD sig nD τ)) (c : Thread nD τ) () (sV.view.dmaCredit) (dS c sH sV fullShare s s) (E := Set.univ)) $$ S6 with S6
  imod (Transfers.batch_alloc' (Lvl := ℕ) (countersEmb (U := Pipeline.UD sig nD τ)) (c : Thread nD τ) () (bV.view.dmaCredit) (dS c bH bV fullShare b b) (E := Set.univ)) $$ S7 with S7
  imod (Transfers.batch_alloc' (Lvl := ℕ) (countersEmb (U := Pipeline.UD sig nD τ)) (c : Thread nD τ) () ((slot (sl8 0)).view.dmaCredit) (dW c z Wv (sl8 0)) (E := Set.univ)) $$ S8 with S8
  imod (Transfers.batch_alloc' (Lvl := ℕ) (countersEmb (U := Pipeline.UD sig nD τ)) (c : Thread nD τ) () ((slot (sl8 1)).view.dmaCredit) (dW c z Wv (sl8 1)) (E := Set.univ)) $$ S9 with S9
  imod (Transfers.batch_alloc' (Lvl := ℕ) (countersEmb (U := Pipeline.UD sig nD τ)) (c : Thread nD τ) () ((slot (sl8 2)).view.dmaCredit) (dW c z Wv (sl8 2)) (E := Set.univ)) $$ S10 with S10
  imod (Transfers.batch_alloc' (Lvl := ℕ) (countersEmb (U := Pipeline.UD sig nD τ)) (c : Thread nD τ) () ((slot (sl8 3)).view.dmaCredit) (dW c z Wv (sl8 3)) (E := Set.univ)) $$ S11 with S11
  imod (Transfers.batch_alloc' (Lvl := ℕ) (countersEmb (U := Pipeline.UD sig nD τ)) (c : Thread nD τ) () ((slot (sl8 4)).view.dmaCredit) (dW c z Wv (sl8 4)) (E := Set.univ)) $$ S12 with S12
  imod (Transfers.batch_alloc' (Lvl := ℕ) (countersEmb (U := Pipeline.UD sig nD τ)) (c : Thread nD τ) () ((slot (sl8 5)).view.dmaCredit) (dW c z Wv (sl8 5)) (E := Set.univ)) $$ S13 with S13
  imod (Transfers.batch_alloc' (Lvl := ℕ) (countersEmb (U := Pipeline.UD sig nD τ)) (c : Thread nD τ) () ((slot (sl8 6)).view.dmaCredit) (dW c z Wv (sl8 6)) (E := Set.univ)) $$ S14 with S14
  imod (Transfers.batch_alloc' (Lvl := ℕ) (countersEmb (U := Pipeline.UD sig nD τ)) (c : Thread nD τ) () ((slot (sl8 7)).view.dmaCredit) (dW c z Wv (sl8 7)) (E := Set.univ)) $$ S15 with S15
  ihave S16 := (show semVal ((c : Thread nD τ), SemLoc.dma (sig := sig) 16) 0 ⊢ (semVal ((c : Thread nD τ), SemLoc.dma cc0_scratch15.sem) 0 : sProp 𝕄) from .of_eq (by rw [oc16])) $$ S16
  ihave S17 := (show semVal ((c : Thread nD τ), SemLoc.dma (sig := sig) 17) 0 ⊢ (semVal ((c : Thread nD τ), SemLoc.dma cc0_scratch16.sem) 0 : sProp 𝕄) from .of_eq (by rw [oc17])) $$ S17
  ihave S18 := (show semVal ((c : Thread nD τ), SemLoc.dma (sig := sig) 18) 0 ⊢ (semVal ((c : Thread nD τ), SemLoc.dma cc0_scratch17.sem) 0 : sProp 𝕄) from .of_eq (by rw [oc18])) $$ S18
  imod (Transfers.mixedBatch_alloc' (Lvl := ℕ) (countersEmb (U := Pipeline.UD sig nD τ)) (c : Thread nD τ) () outA (outD c (hB X R) (cB s X R (k0_pay160 Gm))) (sm := SemLoc.dma cc0_scratch15.sem) (E := Set.univ)) $$ S16 with S16
  imod (Transfers.batch_alloc' (Lvl := ℕ) (countersEmb (U := Pipeline.UD sig nD τ)) (c : Thread nD τ) () (sO.view.dmaCredit) (dS c sV sO fullShare.right s s) (E := Set.univ)) $$ S17 with S17
  imod (Transfers.mixedBatch_alloc' (Lvl := ℕ) (countersEmb (U := Pipeline.UD sig nD τ)) (c : Thread nD τ) () yA (yD c (yB s (cB s X R (k0_pay160 Gm)) Wv ws (k0_pay161 b))) (sm := SemLoc.dma cc0_scratch17.sem) (E := Set.univ)) $$ S18 with S18
  ihave HxV := (show own c xV fullShare x0 ⊢ _ from .of_eq ((own_rows c xV fullShare x0).trans (bigSep_groups _))) $$ HxV
  icases HxV with ⟨XV0, XV1, XV2, XV3⟩
  ihave HxH := (show own c xH fullShare X ⊢ _ from .of_eq ((own_rows c xH fullShare X).trans (bigSep_groups _))) $$ HxH
  icases HxH with ⟨XH0, XH1, XH2, XH3⟩
  ihave HrV := (show own c rV fullShare r0 ⊢ _ from .of_eq ((own_rows c rV fullShare r0).trans (bigSep_groups _))) $$ HrV
  icases HrV with ⟨RV0, RV1, RV2, RV3⟩
  ihave HrH := (show own c rH fullShare R ⊢ _ from .of_eq ((own_rows c rH fullShare R).trans (bigSep_groups _))) $$ HrH
  icases HrH with ⟨RH0, RH1, RH2, RH3⟩
  ihave HwH := (w_all c Wv) $$ HwH
  icases HwH with ⟨⟨WH0, WH1, WH2, WH3, WH4, WH5, WH6, WH7⟩, HPX⟩
  ihave Hring := (show own c ringV fullShare z ⊢ _ from .of_eq ((own_ring c z).trans (bigSep_eight _))) $$ Hring
  icases Hring with ⟨Z0, Z1, Z2, Z3, Z4, Z5, Z6, Z7⟩
  ihave HyV := (show own c yV fullShare y0 ⊢ _ from .of_eq (own_y c yV fullShare y0)) $$ HyV
  icases HyV with ⟨HyV, HyVt⟩
  ihave HyO := (show own c yO fullShare yo ⊢ _ from .of_eq (own_y c yO fullShare yo)) $$ HyO
  icases HyO with ⟨HyO, HyOt⟩
  ihave HP2 := (show iprop(bigSep Finset.univ (preX c Wv) ∗ bigSep Finset.univ (fun k => own c (ycols yV k) fullShare y0) ∗ bigSep Finset.univ (fun k => own c (ycols yO k) fullShare yo)) ⊢ bigSep Finset.univ (pre2 c Wv y0 yo) from .of_eq (by rw [← bigSep_sep', ← bigSep_sep']; rfl)) $$ [HPX HyV HyO]
  · isplitl [HPX]; · iexact HPX
    isplitl [HyV]; · iexact HyV
    iexact HyO
  iapply (wp_mono_r (core c X R x0 r0 Gm g0 ws w0 s s0 b b0 z Wv gf0 bf0 so0 h0 oh c0 oc y0 yo)) $$ [S0 S1 S2 S3 S4 S5 S6 S7 S8 S9 S10 S11 S12 S13 S14 S15 S16 S17 S18 XV0 XV1 XV2 XV3 XH0 XH1 XH2 XH3 RV0 RV1 RV2 RV3 RH0 RH1 RH2 RH3 WH0 Z0 WH1 Z1 WH2 Z2 WH3 Z3 WH4 Z4 WH5 Z5 WH6 Z6 WH7 Z7 HgH HgV HwsH HwsV HsH HsV HbH HbV HgF HbF HsO HhV HcV HhO HcO HP2 HyVt HyOt HW]
  · isplitl [HgH HgV HwsH HwsV HsH HsV HbH HbV S4 S5 S6 S7]
    · isplitl [HgH HgV S4]; · sl_close
      isplitl [HwsH HwsV S5]; · sl_close
      isplitl [HsH HsV S6]; · sl_close
      sl_close
    isplitl [S0 S1 S2 S3 XV0 XV1 XV2 XV3 XH0 XH1 XH2 XH3 RV0 RV1 RV2 RV3 RH0 RH1 RH2 RH3]
    · isplitl [XV0 XH0 RV0 RH0 S0]
      · isplitl [XV0]; · iexact XV0
        isplitl [XH0]; · iexact XH0
        isplitl [RV0]; · iexact RV0
        isplitl [RH0]; · iexact RH0
        iexact S0
      isplitl [XV1 XH1 RV1 RH1 S1]
      · isplitl [XV1]; · iexact XV1
        isplitl [XH1]; · iexact XH1
        isplitl [RV1]; · iexact RV1
        isplitl [RH1]; · iexact RH1
        iexact S1
      isplitl [XV2 XH2 RV2 RH2 S2]
      · isplitl [XV2]; · iexact XV2
        isplitl [XH2]; · iexact XH2
        isplitl [RV2]; · iexact RV2
        isplitl [RH2]; · iexact RH2
        iexact S2
      · isplitl [XV3]; · iexact XV3
        isplitl [XH3]; · iexact XH3
        isplitl [RV3]; · iexact RV3
        isplitl [RH3]; · iexact RH3
        iexact S3
    isplitl [WH0 Z0 S8 WH1 Z1 S9 WH2 Z2 S10 WH3 Z3 S11 WH4 Z4 S12 WH5 Z5 S13 WH6 Z6 S14 WH7 Z7 S15]
    · isplitl [Z0 WH0 S8]
      · isplitl [Z0]; · iexact Z0
        isplitl [WH0]; · iexact WH0
        iexact S8
      isplitl [Z1 WH1 S9]
      · isplitl [Z1]; · iexact Z1
        isplitl [WH1]; · iexact WH1
        iexact S9
      isplitl [Z2 WH2 S10]
      · isplitl [Z2]; · iexact Z2
        isplitl [WH2]; · iexact WH2
        iexact S10
      isplitl [Z3 WH3 S11]
      · isplitl [Z3]; · iexact Z3
        isplitl [WH3]; · iexact WH3
        iexact S11
      isplitl [Z4 WH4 S12]
      · isplitl [Z4]; · iexact Z4
        isplitl [WH4]; · iexact WH4
        iexact S12
      isplitl [Z5 WH5 S13]
      · isplitl [Z5]; · iexact Z5
        isplitl [WH5]; · iexact WH5
        iexact S13
      isplitl [Z6 WH6 S14]
      · isplitl [Z6]; · iexact Z6
        isplitl [WH6]; · iexact WH6
        iexact S14
      · isplitl [Z7]; · iexact Z7
        isplitl [WH7]; · iexact WH7
        iexact S15
    isplitl [HgF HbF HsO S17]; · sl_close
    isplitl [HhV HcV HhO HcO]; · sl_close
    isplitl [HP2 HyVt HyOt S18]
    · isplitl [HP2]; · iexact HP2
      isplitl [HyVt]; · iexact HyVt
      isplitl [HyOt]; · iexact HyOt
      iexact S18
    isplitl [S16]; · iexact S16
    iexact HW
  iintro %r ⟨⟨A1, A2, A3, A4, A5, A6, A7, A8⟩, ⟨S4, S5, S6, S7⟩, ⟨HgF, HbF⟩, ⟨HcV, HxV, HxH, HrV, HrH, HXS⟩, HP2, HT, ⟨HO, S16⟩, ⟨HsO, HsV, S17⟩, ⟨HY, S18⟩, HW⟩
  ihave HR := (ring_all c z Wv) $$ [HP2 HT]
  · isplitl [HP2]; · iexact HP2
    iexact HT
  icases HR with ⟨HwH, Hring, HWS⟩
  ihave HO := (out_all c (hB X R) (cB s X R (k0_pay160 Gm))) $$ HO
  icases HO with ⟨HhO, HhV, HcO, HcR⟩
  ihave HY := (y_all c _) $$ HY
  icases HY with ⟨HyO, HyV⟩
  ihave HcV := (own_halves c cV fullShare (cB s X R (k0_pay160 Gm))).2 $$ [HcV HcR]
  · isplitl [HcV]; · iexact HcV
    iexact HcR
  ihave HsV := (own_halves c sV fullShare s).2 $$ [A6 HsV]
  · isplitl [A6]; · iexact A6
    iexact HsV
  ihave HXS := (show bigSep Finset.univ (fun k => semVal ((c : Thread nD τ), SemLoc.dma (xcell k).sem) 0) ⊢ (iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0) : sProp 𝕄) from .of_eq (by rw [bigSep_groups, xc0, xc1, xc2, xc3])) $$ HXS
  icases HXS with ⟨S0, S1, S2, S3⟩
  ihave HWS := (show bigSep Finset.univ (fun b : Fin 8 => semVal ((c : Thread nD τ), SemLoc.dma (wcell (sl8 b)).sem) 0) ⊢ (iprop(semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0) : sProp 𝕄) from .of_eq (by rw [bigSep_eight, wc0, wc1, wc2, wc3, wc4, wc5, wc6, wc7])) $$ HWS
  icases HWS with ⟨S8, S9, S10, S11, S12, S13, S14, S15⟩
  ihave S4 := (show (semVal ((c : Thread nD τ), SemLoc.dma m0) 0 : sProp 𝕄) ⊢ semVal ((c : Thread nD τ), SemLoc.dma (sig := sig) 4) 0 from .of_eq (by rw [mc0])) $$ S4
  ihave S5 := (show (semVal ((c : Thread nD τ), SemLoc.dma m1) 0 : sProp 𝕄) ⊢ semVal ((c : Thread nD τ), SemLoc.dma (sig := sig) 5) 0 from .of_eq (by rw [mc1])) $$ S5
  ihave S6 := (show (semVal ((c : Thread nD τ), SemLoc.dma m2) 0 : sProp 𝕄) ⊢ semVal ((c : Thread nD τ), SemLoc.dma (sig := sig) 6) 0 from .of_eq (by rw [mc2])) $$ S6
  ihave S7 := (show (semVal ((c : Thread nD τ), SemLoc.dma m3) 0 : sProp 𝕄) ⊢ semVal ((c : Thread nD τ), SemLoc.dma (sig := sig) 7) 0 from .of_eq (by rw [mc3])) $$ S7
  ihave S16 := (show (semVal ((c : Thread nD τ), SemLoc.dma cc0_scratch15.sem) 0 : sProp 𝕄) ⊢ semVal ((c : Thread nD τ), SemLoc.dma (sig := sig) 16) 0 from .of_eq (by rw [oc16])) $$ S16
  ihave S17 := (show (semVal ((c : Thread nD τ), SemLoc.dma cc0_scratch16.sem) 0 : sProp 𝕄) ⊢ semVal ((c : Thread nD τ), SemLoc.dma (sig := sig) 17) 0 from .of_eq (by rw [oc17])) $$ S17
  ihave S18 := (show (semVal ((c : Thread nD τ), SemLoc.dma cc0_scratch17.sem) 0 : sProp 𝕄) ⊢ semVal ((c : Thread nD τ), SemLoc.dma (sig := sig) 18) 0 from .of_eq (by rw [oc18])) $$ S18
  isplitl [HxV HrV A2 HgF A4 HsV A8 HbF HhV HcV Hring HyV]
  · isplitl [HxV]
    · iexists _
      iexact HxV
    isplitl [HrV]
    · iexists _
      iexact HrV
    isplitl [A2]
    · iexists _
      iexact A2
    isplitl [HgF]
    · iexists _
      iexact HgF
    isplitl [A4]
    · iexists _
      iexact A4
    isplitl [HsV]
    · iexists _
      iexact HsV
    isplitl [A8]
    · iexists _
      iexact A8
    isplitl [HbF]
    · iexists _
      iexact HbF
    isplitl [HhV]
    · iexists _
      iexact HhV
    isplitl [HcV]
    · iexists _
      iexact HcV
    isplitl [Hring]; · iexact Hring
    iexists _
    iexact HyV
  isplitl [S0 S1 S2 S3 S4 S5 S6 S7 S8 S9 S10 S11 S12 S13 S14 S15 S16 S17 S18]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexact S18
  isplitl [HxH HrH A1 HwH A3 A5 A7]
  · isplitl [HxH]; · iexact HxH
    isplitl [HrH]; · iexact HrH
    isplitl [A1]; · iexact A1
    isplitl [HwH]; · iexact HwH
    isplitl [A3]; · iexact A3
    isplitl [A5]; · iexact A5
    iexact A7
  isplitl [HyO HhO HcO HsO]
  · isplitl [HyO]; · iexact HyO
    isplitl [HhO]; · iexact HhO
    isplitl [HcO]; · iexact HcO
    iexact HsO
  iexact HW

end Cert.Kernel.Hand
-- ==== Proof.K.Launch.lean ====
module

public import proofs.«01_k».proof.Proof.K.Body
public import proofs.«01_k».proof.Proof.Gen.Kernel.Frame
public import Idealize.ShloMosaic.Lib.Pipeline.FrameSuffixV

/-! The run of the whole program: it ends, its semaphores at zero, its arguments as they were, and its four results the
reshapes of what the kernel's run leaves. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxRecDepth 16384

open Idealize.ShloMosaic.Pipeline (Dat Cfg Window BodyObligation cellOf)

variable (m : (ℓ : Loc nD τ sig) → Buf (Elt F) ℓ) (ρ : Dev nD → PrngReg)

/-- The kernel's own semaphores. -/
abbrev osem0 : Fin 19 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 19 → SemLoc sig) j
set_option maxRecDepth 16384 in
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄) = semS c := by
  rw [Pipeline.ownSems0_eq_of_list c osem0 [0, 1, 2, 3, 4, 5, 6, 7, 8, 9, 10, 11, 12, 13, 14, 15, 16, 17, 18] (by decide) (by decide)]; rfl

/-- The arrays read, -/
def H0 : Finset (Ref sig .tc) := {main_v0, main_v1, main_v2, main_arg3, main_v3, main_v5, main_v4}
/-- and the arrays written. -/
def R0 : Finset (Ref sig .tc) := {main_v6_0, main_v6_1, main_v6_2, main_v6_3}
theorem H0_sub : H0 ⊆ Pipeline.restRefs sig (cfg0.spec) := by decide
theorem R0_sub : R0 ⊆ Pipeline.restRefs sig (cfg0.spec) \ H0 := by decide

/-- What the kernel's run leaves in its four results. -/
abbrev leftC (c : Dev nD) : Vec F S128x4992 .fp8e4m3 := cB (V m c main_v5) (V m c main_v0) (V m c main_v1) (k0_pay160 (V m c main_v2))
abbrev leftH (c : Dev nD) : Vec F S128x4992 .bf16 := hB (V m c main_v0) (V m c main_v1)
abbrev leftY (c : Dev nD) : Vec F S128x11904 .bf16 := yB (V m c main_v5) (leftC m c) (V m c main_arg3) (V m c main_v3) (k0_pay161 (V m c main_v4))

/-- The same, at each reference. -/
def G (c : Dev nD) (b : Ref sig .tc) : Buf (Elt F) ((c.tc : Thread nD τ).loc b) :=
  if h0 : main_v6_0 = b then h0 ▸ leftY m c
  else if h1 : main_v6_1 = b then h1 ▸ leftH m c
  else if h2 : main_v6_2 = b then h2 ▸ leftC m c
  else if h3 : main_v6_3 = b then h3 ▸ V m c main_v5
  else V m c b
theorem G_y (c : Dev nD) : G m c main_v6_0 = leftY m c := by unfold G; rw [dif_pos rfl]
theorem G_h (c : Dev nD) : G m c main_v6_1 = leftH m c := by unfold G; rw [dif_neg (by decide), dif_pos rfl]
theorem G_c (c : Dev nD) : G m c main_v6_2 = leftC m c := by unfold G; rw [dif_neg (by decide), dif_neg (by decide), dif_pos rfl]
theorem G_s (c : Dev nD) : G m c main_v6_3 = V m c main_v5 := by unfold G; rw [dif_neg (by decide), dif_neg (by decide), dif_neg (by decide), dif_pos rfl]

theorem own_whole (c : Dev nD) (b : Ref sig .tc) (f : Buf (Elt F) ((c.tc : Thread nD τ).loc b)) :
    (iprop(((c.tc : Thread nD τ).loc b) ↦{fullShare} f) : sProp 𝕄) = own c (Memref.whole b) fullShare f := by
  unfold own; rw [show (Memref.whole b).view.set = Finset.univ from View.set_whole _]

theorem ex_whole (c : Dev nD) (b : Ref sig .tc) :
    (iprop(∃ f : Buf (Elt F) ((c.tc : Thread nD τ).loc b), ((c.tc : Thread nD τ).loc b) ↦{fullShare} f) : sProp 𝕄)
      = iprop(∃ f : Buf (Elt F) ((c.tc : Thread nD τ).loc b), own c (Memref.whole b) fullShare f) := by
  simp only [own_whole]

theorem H0_eq (c : Dev nD) : (bigSep H0 (fun b => ((c.tc : Thread nD τ).loc b) ↦{fullShare} V m c b) : sProp 𝕄)
    = inS c (V m c main_v0) (V m c main_v1) (V m c main_v2) (V m c main_arg3) (V m c main_v3) (V m c main_v5) (V m c main_v4) := by
  rw [BI.bigSep_eq_bigSepL_of_eq [main_v0, main_v1, main_v2, main_arg3, main_v3, main_v5, main_v4] (by decide) (by decide)]
  unfold inS
  rw [← own_whole c main_v0, ← own_whole c main_v1, ← own_whole c main_v2, ← own_whole c main_arg3, ← own_whole c main_v3, ← own_whole c main_v5, ← own_whole c main_v4]
  rfl
theorem R0_eq (c : Dev nD) (f : (b : Ref sig .tc) → Buf (Elt F) ((c.tc : Thread nD τ).loc b)) :
    (bigSep R0 (fun b => ((c.tc : Thread nD τ).loc b) ↦{fullShare} f b) : sProp 𝕄)
    = outS c (f main_v6_0) (f main_v6_1) (f main_v6_2) (f main_v6_3) := by
  rw [BI.bigSep_eq_bigSepL_of_eq [main_v6_0, main_v6_1, main_v6_2, main_v6_3] (by decide) (by decide)]
  unfold outS
  rw [← own_whole c main_v6_0, ← own_whole c main_v6_1, ← own_whole c main_v6_2, ← own_whole c main_v6_3]
  rfl
theorem scr_eq (c : Dev nD) : (Pipeline.scopedRest (Ix := Unit) (Name := ℕ) (U := Pipeline.UD sig nD τ) (Lvl := ℕ) (Val := Elt F) (cfg0.spec) c : sProp 𝕄) = scrS c := by
  rw [scopedRest0_eq]
  rw [ex_whole c cc0_scratch0, ex_whole c cc0_scratch1, ex_whole c cc0_scratch2, ex_whole c cc0_scratch3, ex_whole c cc0_scratch4, ex_whole c cc0_scratch5, ex_whole c cc0_scratch6, ex_whole c cc0_scratch7, ex_whole c cc0_scratch8, ex_whole c cc0_scratch9, ex_whole c cc0_scratch10, ex_whole c cc0_scratch11]
  rfl

/-- What the region holds between its steps, at results' contents `g`. -/
theorem Phi_eq (c : Dev nD) (g : (c : Dev nD) → (b : Ref sig .tc) → Buf (Elt F) ((c.tc : Thread nD τ).loc b)) :
    (Pipeline.ΦDRV osem0 (cfg0.spec) H0 R0 (V m) g c : sProp 𝕄)
    = iprop(scrS c ∗ semS c ∗ inS c (V m c main_v0) (V m c main_v1) (V m c main_v2) (V m c main_arg3) (V m c main_v3) (V m c main_v5) (V m c main_v4)
      ∗ outS c (g c main_v6_0) (g c main_v6_1) (g c main_v6_2) (g c main_v6_3)) := by
  unfold Pipeline.ΦDRV
  rw [scr_eq, ownSems00_eq, H0_eq, R0_eq]

/-- The region's data: no windows; before its one step the results are as launched, after it as the run leaves them. -/
def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Pipeline.ΦDRV osem0 (cfg0.spec) H0 R0 (V m) (V m) c else Pipeline.ΦDRV osem0 (cfg0.spec) H0 R0 (V m) (G m) c
  q _ := fullShare
  owed _ := 0

theorem Phi_before (c : Dev nD) (t) (h : t.val = 0) : (dats m 0 c).Φ t = Pipeline.ΦDRV osem0 (cfg0.spec) H0 R0 (V m) (V m) c := by
  dsimp only [dats]; rw [if_pos h]
theorem Phi_after (c : Dev nD) (t) (h : ¬ t.val = 0) : (dats m 0 c).Φ t = Pipeline.ΦDRV osem0 (cfg0.spec) H0 R0 (V m) (G m) c := by
  dsimp only [dats]; rw [if_neg h]

theorem A_eq (c : Dev nD) (w : Fin cfg0.W) : (dats m 0 c).A w = V m c (Pipeline.arrRef (cfg0.spec) w) := w.elim0

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [Phi_before m c (Fin.castSucc t0_0) rfl, Phi_after m c (Fin.succ t0_0) (Nat.succ_ne_zero _),
    Phi_eq, Phi_eq, G_y, G_h, G_c, G_s]
  unfold Dat.owesAt Pipeline.owesWithin
  rw [show (dats m 0 c).owed (Fin.castSucc t0_0) = 0 from rfl, show (dats m 0 c).owed (Fin.succ t0_0) = 0 from rfl]
  iintro ⟨⟨Hs, Hm, Hi, Ho⟩, ⟨%W, -, HW⟩, -⟩
  iapply (wp_mono_r (body c (V m c main_v0) (V m c main_v1) (V m c main_v2) (V m c main_arg3) (V m c main_v3) (V m c main_v5) (V m c main_v4)
      (V m c main_v6_0) (V m c main_v6_1) (V m c main_v6_2) (V m c main_v6_3))) $$ [Hs Hm Hi Ho HW]
  · isplitl [Hs]; · iexact Hs
    isplitl [Hm]; · iexact Hm
    isplitl [Hi]; · iexact Hi
    isplitl [Ho]; · iexact Ho
    iexists W; iexact HW
  · iintro %a ⟨Hs, Hm, Hi, Ho, ⟨%W', HW⟩⟩
    isplitl [Hs Hm Hi Ho]
    · isplitl [Hs]; · iexact Hs
      isplitl [Hm]; · iexact Hm
      isplitl [Hi]; · iexact Hi
      iexact Ho
    isplitl [HW]
    · iexists W'; isplitr; · ipureintro; exact fun _ _ => Or.inl trivial
      iexact HW
    iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from Finset.univ_eq_empty, BI.bigSep_empty, BI.bigSep_empty, defs₀_row]
  exact triple_restated (sound_body m c t) rfl .rfl fun _ => .rfl

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers at the end: the last host lines over the region's leavings. -/
abbrev VE (c : Dev nD) : Valuation τ sig (Elt F) :=
  StableHlo.after [hostOps1].flatten (Pipeline.withArrays (cfg0.spec) c (Pipeline.withR (V0 m c) R0 c (G m c)) fun w => (dats m 0 c).arrAt w cfg0.N)

set_option backward.isDefEq.respectTransparency.types false in
theorem run_main : θ_run defs (onTc (τ := τ) (main (F := F))) (s₀ m ρ)
    (fun r => (∀ c : Dev nD, ∀ b ∈ Pipeline.restRefs sig (cfg0.spec), r.2.mem ((c.tc : Thread nD τ).loc b) = VE m c (Proc.devRef .tc b)) ∧ r.2.sem = fun _ => 0) :=
  Pipeline.θ_run_frame_dmaR_aroundV (Q' := _) (hQ' := fun _ h => ⟨fun c => (h.1 c).2, h.2⟩) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m)
    (hin := fun c => .of_eq (Phi_before m c 0 rfl).symm) (hout := fun c => .of_eq (Phi_after m c (Fin.last _) (by decide)))

theorem VE_main_arg0 (c : Dev nD) : VE m c (Proc.devRef .tc main_arg0) = m ((c : Thread nD τ).loc main_arg0) := by
  unfold VE
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg0 (by exact (by decide : ∀ w, Pipeline.arrRef (cfg0.spec) w ≠ main_arg0)),
    Pipeline.withR_of_not_mem _ _ _ _ main_arg0 (by decide)]
  exact V_main_arg0 m c
theorem VE_main_arg1 (c : Dev nD) : VE m c (Proc.devRef .tc main_arg1) = m ((c : Thread nD τ).loc main_arg1) := by
  unfold VE
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg1 (by exact (by decide : ∀ w, Pipeline.arrRef (cfg0.spec) w ≠ main_arg1)),
    Pipeline.withR_of_not_mem _ _ _ _ main_arg1 (by decide)]
  exact V_main_arg1 m c
theorem VE_main_arg2 (c : Dev nD) : VE m c (Proc.devRef .tc main_arg2) = m ((c : Thread nD τ).loc main_arg2) := by
  unfold VE
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg2 (by exact (by decide : ∀ w, Pipeline.arrRef (cfg0.spec) w ≠ main_arg2)),
    Pipeline.withR_of_not_mem _ _ _ _ main_arg2 (by decide)]
  exact V_main_arg2 m c
theorem VE_main_arg3 (c : Dev nD) : VE m c (Proc.devRef .tc main_arg3) = m ((c : Thread nD τ).loc main_arg3) := by
  unfold VE
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg3 (by exact (by decide : ∀ w, Pipeline.arrRef (cfg0.spec) w ≠ main_arg3)),
    Pipeline.withR_of_not_mem _ _ _ _ main_arg3 (by decide)]
  exact V_main_arg3 m c
theorem VE_main_arg4 (c : Dev nD) : VE m c (Proc.devRef .tc main_arg4) = m ((c : Thread nD τ).loc main_arg4) := by
  unfold VE
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg4 (by exact (by decide : ∀ w, Pipeline.arrRef (cfg0.spec) w ≠ main_arg4)),
    Pipeline.withR_of_not_mem _ _ _ _ main_arg4 (by decide)]
  exact V_main_arg4 m c
theorem VE_main_arg5 (c : Dev nD) : VE m c (Proc.devRef .tc main_arg5) = m ((c : Thread nD τ).loc main_arg5) := by
  unfold VE
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg5 (by exact (by decide : ∀ w, Pipeline.arrRef (cfg0.spec) w ≠ main_arg5)),
    Pipeline.withR_of_not_mem _ _ _ _ main_arg5 (by decide)]
  exact V_main_arg5 m c
theorem VE_main_arg6 (c : Dev nD) : VE m c (Proc.devRef .tc main_arg6) = m ((c : Thread nD τ).loc main_arg6) := by
  unfold VE
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg6 (by exact (by decide : ∀ w, Pipeline.arrRef (cfg0.spec) w ≠ main_arg6)),
    Pipeline.withR_of_not_mem _ _ _ _ main_arg6 (by decide)]
  exact V_main_arg6 m c
theorem VE_main_v7 (c : Dev nD) : VE m c (Proc.devRef .tc main_v7) = shapeCast S128x1x11904 (leftY m c) shapeCasts_S128x11904_S128x1x11904 := by
  unfold VE
  have e : Pipeline.withArrays (cfg0.spec) c (Pipeline.withR (V0 m c) R0 c (G m c)) (fun w => (dats m 0 c).arrAt w cfg0.N) (Proc.devRef .tc main_v6_0) = leftY m c :=
    (Pipeline.withArrays_of_ne (cfg0.spec) c _ _ main_v6_0 (by exact (by decide : ∀ w, Pipeline.arrRef (cfg0.spec) w ≠ main_v6_0))).trans
      ((Pipeline.withR_of_mem (V0 m c) R0 c (G m c) main_v6_0 (by decide)).trans (G_y m c))
  rw [← e]
  generalize Pipeline.withArrays (cfg0.spec) c _ _ = U
  unfold hostOps1
  simp only [List.flatten_cons, List.flatten_nil, List.append_nil]
  after_results
  rfl
theorem VE_main_v8 (c : Dev nD) : VE m c (Proc.devRef .tc main_v8) = shapeCast S128x1x4992 (leftH m c) shapeCasts_S128x4992_S128x1x4992 := by
  unfold VE
  have e : Pipeline.withArrays (cfg0.spec) c (Pipeline.withR (V0 m c) R0 c (G m c)) (fun w => (dats m 0 c).arrAt w cfg0.N) (Proc.devRef .tc main_v6_1) = leftH m c :=
    (Pipeline.withArrays_of_ne (cfg0.spec) c _ _ main_v6_1 (by exact (by decide : ∀ w, Pipeline.arrRef (cfg0.spec) w ≠ main_v6_1))).trans
      ((Pipeline.withR_of_mem (V0 m c) R0 c (G m c) main_v6_1 (by decide)).trans (G_h m c))
  rw [← e]
  generalize Pipeline.withArrays (cfg0.spec) c _ _ = U
  unfold hostOps1
  simp only [List.flatten_cons, List.flatten_nil, List.append_nil]
  after_results
  rfl
theorem VE_main_v9 (c : Dev nD) : VE m c (Proc.devRef .tc main_v9) = shapeCast S128x1x4992 (leftC m c) shapeCasts_S128x4992_S128x1x4992 := by
  unfold VE
  have e : Pipeline.withArrays (cfg0.spec) c (Pipeline.withR (V0 m c) R0 c (G m c)) (fun w => (dats m 0 c).arrAt w cfg0.N) (Proc.devRef .tc main_v6_2) = leftC m c :=
    (Pipeline.withArrays_of_ne (cfg0.spec) c _ _ main_v6_2 (by exact (by decide : ∀ w, Pipeline.arrRef (cfg0.spec) w ≠ main_v6_2))).trans
      ((Pipeline.withR_of_mem (V0 m c) R0 c (G m c) main_v6_2 (by decide)).trans (G_c m c))
  rw [← e]
  generalize Pipeline.withArrays (cfg0.spec) c _ _ = U
  unfold hostOps1
  simp only [List.flatten_cons, List.flatten_nil, List.append_nil]
  after_results
  rfl
theorem VE_main_v10 (c : Dev nD) : VE m c (Proc.devRef .tc main_v10) = shapeCast S_ ((V m c main_v5 : Vec F S1x1 .f32)) shapeCasts_S1x1_S_ := by
  unfold VE
  have e : Pipeline.withArrays (cfg0.spec) c (Pipeline.withR (V0 m c) R0 c (G m c)) (fun w => (dats m 0 c).arrAt w cfg0.N) (Proc.devRef .tc main_v6_3) = (V m c main_v5 : Vec F S1x1 .f32) :=
    (Pipeline.withArrays_of_ne (cfg0.spec) c _ _ main_v6_3 (by exact (by decide : ∀ w, Pipeline.arrRef (cfg0.spec) w ≠ main_v6_3))).trans
      ((Pipeline.withR_of_mem (V0 m c) R0 c (G m c) main_v6_3 (by decide)).trans (G_s m c))
  rw [← e]
  generalize Pipeline.withArrays (cfg0.spec) c _ _ = U
  unfold hostOps1
  simp only [List.flatten_cons, List.flatten_nil, List.append_nil]
  after_results
  rfl
theorem V_main_v0 (c : Dev nD) : V m c main_v0 = shapeCast S128x4992 (m ((c : Thread nD τ).loc main_arg0)) shapeCasts_S128x1x4992_S128x4992 := by
  unfold V V0 hostOps0
  simp only [List.flatten_cons, List.flatten_nil, List.append_nil]
  after_results
  rfl
theorem V_main_v1 (c : Dev nD) : V m c main_v1 = shapeCast S128x4992 (m ((c : Thread nD τ).loc main_arg1)) shapeCasts_S128x1x4992_S128x4992 := by
  unfold V V0 hostOps0
  simp only [List.flatten_cons, List.flatten_nil, List.append_nil]
  after_results
  rfl
theorem V_main_v2 (c : Dev nD) : V m c main_v2 = shapeCast S39x128 (m ((c : Thread nD τ).loc main_arg2)) shapeCasts_S4992_S39x128 := by
  unfold V V0 hostOps0
  simp only [List.flatten_cons, List.flatten_nil, List.append_nil]
  after_results
  rfl
theorem V_main_v3 (c : Dev nD) : V m c main_v3 = shapeCast S93x128 (m ((c : Thread nD τ).loc main_arg4)) shapeCasts_S11904_S93x128 := by
  unfold V V0 hostOps0
  simp only [List.flatten_cons, List.flatten_nil, List.append_nil]
  after_results
  rfl
theorem V_main_v4 (c : Dev nD) : V m c main_v4 = shapeCast S93x128 (m ((c : Thread nD τ).loc main_arg6)) shapeCasts_S11904_S93x128 := by
  unfold V V0 hostOps0
  simp only [List.flatten_cons, List.flatten_nil, List.append_nil]
  after_results
  rfl
theorem V_main_v5 (c : Dev nD) : V m c main_v5 = shapeCast S1x1 (m ((c : Thread nD τ).loc main_arg5)) shapeCasts_S_S1x1 := by
  unfold V V0 hostOps0
  simp only [List.flatten_cons, List.flatten_nil, List.append_nil]
  after_results
  rfl

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 (Pipeline.mem_restRefs_of main_arg0 (by decide) (by decide))).trans (VE_main_arg0 m c), (h.1 c main_arg1 (Pipeline.mem_restRefs_of main_arg1 (by decide) (by decide))).trans (VE_main_arg1 m c), (h.1 c main_arg2 (Pipeline.mem_restRefs_of main_arg2 (by decide) (by decide))).trans (VE_main_arg2 m c), (h.1 c main_arg3 (Pipeline.mem_restRefs_of main_arg3 (by decide) (by decide))).trans (VE_main_arg3 m c), (h.1 c main_arg4 (Pipeline.mem_restRefs_of main_arg4 (by decide) (by decide))).trans (VE_main_arg4 m c), (h.1 c main_arg5 (Pipeline.mem_restRefs_of main_arg5 (by decide) (by decide))).trans (VE_main_arg5 m c), (h.1 c main_arg6 (Pipeline.mem_restRefs_of main_arg6 (by decide) (by decide))).trans (VE_main_arg6 m c)⟩, h.2⟩) (run_main m ρ)

/-- The results. -/
theorem values : θ_run defs (onTc (τ := τ) (main (F := F))) ⟨m, fun _ => 0, ρ⟩ (fun r => ∀ c : Dev nD,
      r.2.mem ((c.tc : Thread nD τ).loc main_v7) = shapeCast S128x1x11904 (leftY m c) shapeCasts_S128x11904_S128x1x11904
      ∧ r.2.mem ((c.tc : Thread nD τ).loc main_v8) = shapeCast S128x1x4992 (leftH m c) shapeCasts_S128x4992_S128x1x4992
      ∧ r.2.mem ((c.tc : Thread nD τ).loc main_v9) = shapeCast S128x1x4992 (leftC m c) shapeCasts_S128x4992_S128x1x4992
      ∧ r.2.mem ((c.tc : Thread nD τ).loc main_v10) = shapeCast S_ ((V m c main_v5 : Vec F S1x1 .f32)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c main_v7 (Pipeline.mem_restRefs_of main_v7 (by decide) (by decide))).trans (VE_main_v7 m c), (h.1 c main_v8 (Pipeline.mem_restRefs_of main_v8 (by decide) (by decide))).trans (VE_main_v8 m c), (h.1 c main_v9 (Pipeline.mem_restRefs_of main_v9 (by decide) (by decide))).trans (VE_main_v9 m c), (h.1 c main_v10 (Pipeline.mem_restRefs_of main_v10 (by decide) (by decide))).trans (VE_main_v10 m c), (h.1 c main_arg0 (Pipeline.mem_restRefs_of main_arg0 (by decide) (by decide))).trans (VE_main_arg0 m c), (h.1 c main_arg1 (Pipeline.mem_restRefs_of main_arg1 (by decide) (by decide))).trans (VE_main_arg1 m c), (h.1 c main_arg2 (Pipeline.mem_restRefs_of main_arg2 (by decide) (by decide))).trans (VE_main_arg2 m c), (h.1 c main_arg3 (Pipeline.mem_restRefs_of main_arg3 (by decide) (by decide))).trans (VE_main_arg3 m c), (h.1 c main_arg4 (Pipeline.mem_restRefs_of main_arg4 (by decide) (by decide))).trans (VE_main_arg4 m c), (h.1 c main_arg5 (Pipeline.mem_restRefs_of main_arg5 (by decide) (by decide))).trans (VE_main_arg5 m c), (h.1 c main_arg6 (Pipeline.mem_restRefs_of main_arg6 (by decide) (by decide))).trans (VE_main_arg6 m c)⟩) (run_main m ρ)

end Cert.Kernel.Hand

end
-- ==== Proof.KI.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffixV
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

abbrev xH : Memref sig .tc .hbm S128x4992 .bf16 := Memref.whole main_v0
abbrev rH : Memref sig .tc .hbm S128x4992 .bf16 := Memref.whole main_v1
abbrev xV : Memref sig .tc .vmem S128x4992 .bf16 := Memref.whole cc0_scratch0
abbrev rV : Memref sig .tc .vmem S128x4992 .bf16 := Memref.whole cc0_scratch1
abbrev gF : Memref sig .tc .vmem S39x128 .f32 := Memref.whole cc0_scratch3
abbrev hV : Memref sig .tc .vmem S128x4992 .bf16 := Memref.whole cc0_scratch8
abbrev cV : Memref sig .tc .vmem S128x4992 .fp8e4m3 := Memref.whole cc0_scratch9

/-- Row group `k` (32 rows) of a 128-row array. -/
abbrev rows {sp : Space} {e : EltTy} (M : Memref sig .tc sp S128x4992 e) (k : Fin k0_t1_loop.trips) : Memref sig .tc sp S32x4992 e :=
  M.slice (Rect.unit (s := S128x4992) (k0_off2 k) S32x4992.size (k0_off2_inb k)) (fun _ => rfl)

/-- The points-to of a slice's own elements. -/
abbrev own (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[M.view.set]{q} f

/-- A triple of a program's first part, and the rest from what the first part leaves. -/
theorem wp_seq {α β : Type} {c : Dev nD} {p : Prog (TpuEff nD τ sig (Elt F) Λ₀ .tc) α} {k : α → Prog (TpuEff nD τ sig (Elt F) Λ₀ .tc) β}
    {P : sProp 𝕄} {Q : α → sProp 𝕄} {Q' : β → sProp 𝕄}
    (h : P ⊢ wp frame (wpE (defs₀ (F := F)) Variants.none c none) Set.univ p Q) :
    P ⊢ iprop((∀ a, Q a -∗ wp frame (wpE (defs₀ (F := F)) Variants.none c none) Set.univ (k a) Q') -∗ wp frame (wpE (defs₀ (F := F)) Variants.none c none) Set.univ (p >>= k) Q') := by
  rw [wp_bind]
  exact h.trans (wp_wand _ _ _)

/-- A triple at another postcondition, from what it leaves. -/
theorem wp_mono_r {α : Type} {c : Dev nD} {p : Prog (TpuEff nD τ sig (Elt F) Λ₀ .tc) α} {P : sProp 𝕄} {Q Q' : α → sProp 𝕄}
    (h : P ⊢ wp frame (wpE (defs₀ (F := F)) Variants.none c none) Set.univ p Q) :
    P ⊢ iprop((∀ a, Q a -∗ Q' a) -∗ wp frame (wpE (defs₀ (F := F)) Variants.none c none) Set.univ p Q') :=
  h.trans (wp_wand _ _ _)

end Cert.KernelIdeal.Hand
-- ==== Proof.KI.Model.lean ====
module

public import proofs.«01_k».proof.Proof.KI.Base
public import Idealize.ShloMosaic.Lib.VecWindow
public import Idealize.ShloMosaic.Lib.Pipeline.Value

/-! What the normalisation computes, as plain functions of the whole input arrays: a 128 by 4992
array is cut in tiles of 32 rows by 128 columns, and every tile of the hidden state and of the codes
is one elementwise expression of the tiles of the inputs. -/

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A cast of a shape to itself changes nothing. -/
theorem sc_self {s : Shape} {α : Type} (v : s.Idx → α) (h : s.ShapeCasts s) : shapeCast s v h = v :=
  funext fun i => congrArg v (Shape.reshapeEquiv_self _ i)

theorem tinb : ∀ (k : Fin k0_t1_loop.trips) (t : Fin 39) (a : Fin 2), (![32 * k.val, 128 * t.val] : Fin 2 → ℕ) a + S32x128.size a ≤ S128x4992.size a := by
  decide +kernel

/-- Tile `t` of row group `k` of a 128 by 4992 array. -/
def win {α : Type} (X : S128x4992.Idx → α) (k : Fin k0_t1_loop.trips) (t : Fin 39) : S32x128.Idx → α :=
  VecWindow.window (s := S128x4992) X ![32 * k.val, 128 * t.val] S32x128.size (tinb k t)

theorem trips1 : k0_t1_loop.trips = 4 := by decide +kernel

/-- The row group an index lies in, -/
def grp (j : S128x4992.Idx) : Fin k0_t1_loop.trips := ⟨(j 0).val / 32, by have h : (j 0).val < 128 := (j 0).isLt; have := trips1; omega⟩
/-- its column tile, -/
def tile (j : S128x4992.Idx) : Fin 39 := ⟨(j 1).val / 128, by have h : (j 1).val < 4992 := (j 1).isLt; omega⟩
/-- and its place inside the tile. -/
def loc (j : S128x4992.Idx) : S32x128.Idx := fun a => match a with
  | 0 => ⟨(j 0).val % 32, Nat.mod_lt _ (by decide)⟩
  | 1 => ⟨(j 1).val % 128, Nat.mod_lt _ (by decide)⟩

/-- The array with the given tiles. -/
def mkTiles {α : Type} (T : Fin k0_t1_loop.trips → Fin 39 → S32x128.Idx → α) : S128x4992.Idx → α := fun j => T (grp j) (tile j) (loc j)

/-- The place `x` of tile `t` of row group `k`. -/
def at' (k : Fin k0_t1_loop.trips) (t : Fin 39) (x : S32x128.Idx) : S128x4992.Idx :=
  (Rect.unit (s := S128x4992) ![32 * k.val, 128 * t.val] S32x128.size (tinb k t)).emb x

theorem at'_0 (k) (t) (x) : (at' k t x 0).val = 32 * k.val + (x 0).val := by
  show 32 * k.val + 1 * (x 0).val = _; omega
theorem at'_1 (k) (t) (x) : (at' k t x 1).val = 128 * t.val + (x 1).val := by
  show 128 * t.val + 1 * (x 1).val = _; omega
theorem grp_at' (k) (t) (x) : grp (at' k t x) = k := by
  apply Fin.ext; show (at' k t x 0).val / 32 = _; rw [at'_0]
  have h : (x 0).val < 32 := (x 0).isLt; omega
theorem tile_at' (k) (t) (x) : tile (at' k t x) = t := by
  apply Fin.ext; show (at' k t x 1).val / 128 = _; rw [at'_1]
  have h : (x 1).val < 128 := (x 1).isLt; omega
theorem loc_at' (k) (t) (x) : loc (at' k t x) = x := by
  funext a; apply Fin.ext
  fin_cases a
  · show (at' k t x 0).val % 32 = _; rw [at'_0]
    have h : (x 0).val < 32 := (x 0).isLt; show _ = (x 0).val; omega
  · show (at' k t x 1).val % 128 = _; rw [at'_1]
    have h : (x 1).val < 128 := (x 1).isLt; show _ = (x 1).val; omega
theorem at'_loc (j) : at' (grp j) (tile j) (loc j) = j := by
  funext a; apply Fin.ext
  fin_cases a
  · show (at' _ _ _ 0).val = (j 0).val; rw [at'_0]; show 32 * ((j 0).val / 32) + (j 0).val % 32 = _; omega
  · show (at' _ _ _ 1).val = (j 1).val; rw [at'_1]; show 128 * ((j 1).val / 128) + (j 1).val % 128 = _; omega

theorem mkTiles_at' {α : Type} (T : Fin k0_t1_loop.trips → Fin 39 → S32x128.Idx → α) (k) (t) (x) : mkTiles T (at' k t x) = T k t x := by
  unfold mkTiles; rw [grp_at', tile_at', loc_at']

/-- Storing tile `t` of row group `k` extends what agrees with the array of the tiles by that tile. -/
theorem tile_step {Val : EltTy → Type} {sp : Space} {e : EltTy} (v : View sig .tc sp S128x4992 e)
    (T : Fin k0_t1_loop.trips → Fin 39 → S32x128.Idx → Val e) (k : Fin k0_t1_loop.trips) (t : ℕ) (ht : t < 39)
    {off : Fin 2 → ℕ} (hoff : off = ![32 * k.val, 128 * t]) (inb : ∀ a, off a + S32x128.size a ≤ S128x4992.size a)
    (f : v.ty.Contents Val) (w : S32x128.Idx → Val e) (hw : w = T k ⟨t, ht⟩)
    (hf : ∀ j, grp j = k → (tile j).val < t → v.read Val f j = mkTiles T j) :
    ∀ j, grp j = k → (tile j).val < t + 1 →
      v.read Val ((v.slice (Rect.unit (s := S128x4992) off S32x128.size inb)).write Val f w Finset.univ) j = mkTiles T j := by
  subst hoff
  intro j hk hj
  by_cases he : (tile j).val = t
  · have e : tile j = ⟨t, ht⟩ := Fin.ext he
    have hj' : j = at' k ⟨t, ht⟩ (loc j) := by rw [← hk, ← e, at'_loc]
    conv_rhs => rw [hj', mkTiles_at']
    conv_lhs => rw [hj']
    rw [← hw]
    exact View.read_slice_write_emb (Rect.unit (s := S128x4992) ![32 * k.val, 128 * t] S32x128.size inb) f w (Finset.mem_univ (loc j))
  · refine (View.read_slice_write_of_not_mem (Rect.unit (s := S128x4992) ![32 * k.val, 128 * t] S32x128.size inb) f w _ ?_).trans (hf j hk (by omega))
    intro hm
    obtain ⟨x, -, hx⟩ := Finset.mem_map.mp hm
    have hx' : at' k ⟨t, ht⟩ x = j := hx
    exact he (by rw [← hx', tile_at'])

theorem tile_zero {Val : EltTy → Type} {sp : Space} {e : EltTy} (v : View sig .tc sp S128x4992 e)
    (T : Fin k0_t1_loop.trips → Fin 39 → S32x128.Idx → Val e) (k : Fin k0_t1_loop.trips) (f : v.ty.Contents Val) :
    ∀ j, grp j = k → (tile j).val < 0 → v.read Val f j = mkTiles T j := fun _ _ h => absurd h (Nat.not_lt_zero _)

/-- What lies in the rows `32 k … 32 k + 31` lies in row group `k`, -/
theorem grp_of_mem (k : Fin k0_t1_loop.trips) {j : S128x4992.Idx} (h : j ∈ (Rect.unit (s := S128x4992) (k0_off2 k) S32x4992.size (k0_off2_inb k)).set) : grp j = k := by
  have h0 := (Rect.mem_set_unit.mp h) 0
  rw [k0_off2_eq k] at h0
  have h1 : 32 * k.val ≤ (j 0).val ∧ (j 0).val < 32 * k.val + 32 := h0
  exact Fin.ext (show (j 0).val / 32 = k.val by omega)

/-- and the other way about. -/
theorem mem_of_grp (k : Fin k0_t1_loop.trips) {j : S128x4992.Idx} (h : grp j = k) : j ∈ (Rect.unit (s := S128x4992) (k0_off2 k) S32x4992.size (k0_off2_inb k)).set := by
  have h1 : (j 0).val / 32 = k.val := congrArg Fin.val h
  have h2 : (j 1).val < 4992 := (j 1).isLt
  refine Rect.mem_set_unit.mpr ?_
  rw [k0_off2_eq k]
  intro a; fin_cases a
  · show 32 * k.val ≤ (j 0).val ∧ (j 0).val < 32 * k.val + 32; omega
  · show 0 ≤ (j 1).val ∧ (j 1).val < 0 + 4992; omega

/-- The sum of the two inputs on a tile. -/
def hf (X R : Vec F S128x4992 .bf16) (k : Fin k0_t1_loop.trips) (t : Fin 39) : FVec F S32x128 .f32 :=
  addf (extf .f32 (win X k t) bitsLt_bf16_f32) (extf .f32 (win R k t) bitsLt_bf16_f32)

/-- The hidden state on a tile. -/
def hTile (X R : Vec F S128x4992 .bf16) (k : Fin k0_t1_loop.trips) (t : Fin 39) : FVec F S32x128 .bf16 :=
  truncf .bf16 (hf X R k t) bitsLt_bf16_f32

/-- The hidden state, whole. -/
def hB (X R : Vec F S128x4992 .bf16) : Vec F S128x4992 .bf16 := mkTiles (hTile X R)

/-- The lanewise sum of squares over the first `n` tiles of a row group. -/
def accB (X R : Vec F S128x4992 .bf16) (k : Fin k0_t1_loop.trips) : (n : ℕ) → n ≤ 39 → FVec F S32x128 .f32
  | 0, _ => broadcast S32x128 (Scalar.ofBits .f32 0x00000000#32)
  | n + 1, h => addf (accB X R k n (by omega)) (mulf (hf X R k ⟨n, h⟩) (hf X R k ⟨n, h⟩))

/-- The reciprocal root of the mean square of each row of a row group. -/
def invB (X R : Vec F S128x4992 .bf16) (k : Fin k0_t1_loop.trips) : FVec F S32x1 .f32 :=
  rsqrt (addf (divf (shapeCast S32x1 (multiReduction .add [1] S32 (accB X R k 39 (le_refl _)) 0x00000000#32 reduces_S32x128_S32 (.inl rfl) rfl) shapeCasts_S32_S32x1)
    (broadcast S32x1 (Scalar.ofBits .f32 0x459C0000#32))) (broadcast S32x1 (Scalar.ofBits .f32 0x358637BD#32)))

theorem ginb : ∀ (t : Fin 39) (a : Fin 2), (![t.val, 0] : Fin 2 → ℕ) a + S1x128.size a ≤ S39x128.size a := by
  decide +kernel

/-- The 128 gammas of a column tile. -/
def gWin {α : Type} (G : S39x128.Idx → α) (t : Fin 39) : S1x128.Idx → α :=
  VecWindow.window (s := S39x128) G ![t.val, 0] S1x128.size (ginb t)

/-- The quantised normalised hidden state on a tile. -/
def cTile (s : Vec F S1x1 .f32) (X R : Vec F S128x4992 .bf16) (G : Vec F S39x128 .f32) (k : Fin k0_t1_loop.trips) (t : Fin 39) : FVec F S32x128 .fp8e4m3 :=
  truncf .fp8e4m3 (minimumf (broadcast S32x128 (Scalar.ofBits .f32 0x43E00000#32)) (maximumf (broadcast S32x128 (Scalar.ofBits .f32 0xC3E00000#32))
    (divf (mulf (mulf (hf X R k t) (broadcastTo S32x128 (invB X R k) broadcasts_S32x1_S32x128)) (broadcastTo S32x128 (gWin G t) broadcasts_S1x128_S32x128))
      (broadcastTo S32x128 s broadcasts_S1x1_S32x128)))) bitsLt_fp8e4m3_f32

/-- The codes, whole. -/
def cB (s : Vec F S1x1 .f32) (X R : Vec F S128x4992 .bf16) (G : Vec F S39x128 .f32) : Vec F S128x4992 .fp8e4m3 := mkTiles (cTile s X R G)

/-! A load of one tile of an array reads that tile. -/

variable {Val : EltTy → Type} {sp : Space} {e : EltTy}

theorem rd3 (v : View sig .tc sp S128x4992 e) (f : v.ty.Contents Val) (k : Fin k0_t1_loop.trips) : v.readAt Val (Rect.unit (s := S128x4992) (k0_off3 k) S32x128.size (k0_off3_inb k)).toLoadRect f = win (v.read Val f) k 0 := View.readAt_unit v f _ (k0_off3_eq k) (tinb k 0)
theorem rd4 (v : View sig .tc sp S128x4992 e) (f : v.ty.Contents Val) (k : Fin k0_t1_loop.trips) : v.readAt Val (Rect.unit (s := S128x4992) (k0_off4 k) S32x128.size (k0_off4_inb k)).toLoadRect f = win (v.read Val f) k 1 := View.readAt_unit v f _ (k0_off4_eq k) (tinb k 1)
theorem rd5 (v : View sig .tc sp S128x4992 e) (f : v.ty.Contents Val) (k : Fin k0_t1_loop.trips) : v.readAt Val (Rect.unit (s := S128x4992) (k0_off5 k) S32x128.size (k0_off5_inb k)).toLoadRect f = win (v.read Val f) k 2 := View.readAt_unit v f _ (k0_off5_eq k) (tinb k 2)
theorem rd6 (v : View sig .tc sp S128x4992 e) (f : v.ty.Contents Val) (k : Fin k0_t1_loop.trips) : v.readAt Val (Rect.unit (s := S128x4992) (k0_off6 k) S32x128.size (k0_off6_inb k)).toLoadRect f = win (v.read Val f) k 3 := View.readAt_unit v f _ (k0_off6_eq k) (tinb k 3)
theorem rd7 (v : View sig .tc sp S128x4992 e) (f : v.ty.Contents Val) (k : Fin k0_t1_loop.trips) : v.readAt Val (Rect.unit (s := S128x4992) (k0_off7 k) S32x128.size (k0_off7_inb k)).toLoadRect f = win (v.read Val f) k 4 := View.readAt_unit v f _ (k0_off7_eq k) (tinb k 4)
theorem rd8 (v : View sig .tc sp S128x4992 e) (f : v.ty.Contents Val) (k : Fin k0_t1_loop.trips) : v.readAt Val (Rect.unit (s := S128x4992) (k0_off8 k) S32x128.size (k0_off8_inb k)).toLoadRect f = win (v.read Val f) k 5 := View.readAt_unit v f _ (k0_off8_eq k) (tinb k 5)
theorem rd9 (v : View sig .tc sp S128x4992 e) (f : v.ty.Contents Val) (k : Fin k0_t1_loop.trips) : v.readAt Val (Rect.unit (s := S128x4992) (k0_off9 k) S32x128.size (k0_off9_inb k)).toLoadRect f = win (v.read Val f) k 6 := View.readAt_unit v f _ (k0_off9_eq k) (tinb k 6)
theorem rd10 (v : View sig .tc sp S128x4992 e) (f : v.ty.Contents Val) (k : Fin k0_t1_loop.trips) : v.readAt Val (Rect.unit (s := S128x4992) (k0_off10 k) S32x128.size (k0_off10_inb k)).toLoadRect f = win (v.read Val f) k 7 := View.readAt_unit v f _ (k0_off10_eq k) (tinb k 7)
theorem rd11 (v : View sig .tc sp S128x4992 e) (f : v.ty.Contents Val) (k : Fin k0_t1_loop.trips) : v.readAt Val (Rect.unit (s := S128x4992) (k0_off11 k) S32x128.size (k0_off11_inb k)).toLoadRect f = win (v.read Val f) k 8 := View.readAt_unit v f _ (k0_off11_eq k) (tinb k 8)
theorem rd12 (v : View sig .tc sp S128x4992 e) (f : v.ty.Contents Val) (k : Fin k0_t1_loop.trips) : v.readAt Val (Rect.unit (s := S128x4992) (k0_off12 k) S32x128.size (k0_off12_inb k)).toLoadRect f = win (v.read Val f) k 9 := View.readAt_unit v f _ (k0_off12_eq k) (tinb k 9)
theorem rd13 (v : View sig .tc sp S128x4992 e) (f : v.ty.Contents Val) (k : Fin k0_t1_loop.trips) : v.readAt Val (Rect.unit (s := S128x4992) (k0_off13 k) S32x128.size (k0_off13_inb k)).toLoadRect f = win (v.read Val f) k 10 := View.readAt_unit v f _ (k0_off13_eq k) (tinb k 10)
theorem rd14 (v : View sig .tc sp S128x4992 e) (f : v.ty.Contents Val) (k : Fin k0_t1_loop.trips) : v.readAt Val (Rect.unit (s := S128x4992) (k0_off14 k) S32x128.size (k0_off14_inb k)).toLoadRect f = win (v.read Val f) k 11 := View.readAt_unit v f _ (k0_off14_eq k) (tinb k 11)
theorem rd15 (v : View sig .tc sp S128x4992 e) (f : v.ty.Contents Val) (k : Fin k0_t1_loop.trips) : v.readAt Val (Rect.unit (s := S128x4992) (k0_off15 k) S32x128.size (k0_off15_inb k)).toLoadRect f = win (v.read Val f) k 12 := View.readAt_unit v f _ (k0_off15_eq k) (tinb k 12)
theorem rd16 (v : View sig .tc sp S128x4992 e) (f : v.ty.Contents Val) (k : Fin k0_t1_loop.trips) : v.readAt Val (Rect.unit (s := S128x4992) (k0_off16 k) S32x128.size (k0_off16_inb k)).toLoadRect f = win (v.read Val f) k 13 := View.readAt_unit v f _ (k0_off16_eq k) (tinb k 13)
theorem rd17 (v : View sig .tc sp S128x4992 e) (f : v.ty.Contents Val) (k : Fin k0_t1_loop.trips) : v.readAt Val (Rect.unit (s := S128x4992) (k0_off17 k) S32x128.size (k0_off17_inb k)).toLoadRect f = win (v.read Val f) k 14 := View.readAt_unit v f _ (k0_off17_eq k) (tinb k 14)
theorem rd18 (v : View sig .tc sp S128x4992 e) (f : v.ty.Contents Val) (k : Fin k0_t1_loop.trips) : v.readAt Val (Rect.unit (s := S128x4992) (k0_off18 k) S32x128.size (k0_off18_inb k)).toLoadRect f = win (v.read Val f) k 15 := View.readAt_unit v f _ (k0_off18_eq k) (tinb k 15)
theorem rd19 (v : View sig .tc sp S128x4992 e) (f : v.ty.Contents Val) (k : Fin k0_t1_loop.trips) : v.readAt Val (Rect.unit (s := S128x4992) (k0_off19 k) S32x128.size (k0_off19_inb k)).toLoadRect f = win (v.read Val f) k 16 := View.readAt_unit v f _ (k0_off19_eq k) (tinb k 16)
theorem rd20 (v : View sig .tc sp S128x4992 e) (f : v.ty.Contents Val) (k : Fin k0_t1_loop.trips) : v.readAt Val (Rect.unit (s := S128x4992) (k0_off20 k) S32x128.size (k0_off20_inb k)).toLoadRect f = win (v.read Val f) k 17 := View.readAt_unit v f _ (k0_off20_eq k) (tinb k 17)
theorem rd21 (v : View sig .tc sp S128x4992 e) (f : v.ty.Contents Val) (k : Fin k0_t1_loop.trips) : v.readAt Val (Rect.unit (s := S128x4992) (k0_off21 k) S32x128.size (k0_off21_inb k)).toLoadRect f = win (v.read Val f) k 18 := View.readAt_unit v f _ (k0_off21_eq k) (tinb k 18)
theorem rd22 (v : View sig .tc sp S128x4992 e) (f : v.ty.Contents Val) (k : Fin k0_t1_loop.trips) : v.readAt Val (Rect.unit (s := S128x4992) (k0_off22 k) S32x128.size (k0_off22_inb k)).toLoadRect f = win (v.read Val f) k 19 := View.readAt_unit v f _ (k0_off22_eq k) (tinb k 19)
theorem rd23 (v : View sig .tc sp S128x4992 e) (f : v.ty.Contents Val) (k : Fin k0_t1_loop.trips) : v.readAt Val (Rect.unit (s := S128x4992) (k0_off23 k) S32x128.size (k0_off23_inb k)).toLoadRect f = win (v.read Val f) k 20 := View.readAt_unit v f _ (k0_off23_eq k) (tinb k 20)
theorem rd24 (v : View sig .tc sp S128x4992 e) (f : v.ty.Contents Val) (k : Fin k0_t1_loop.trips) : v.readAt Val (Rect.unit (s := S128x4992) (k0_off24 k) S32x128.size (k0_off24_inb k)).toLoadRect f = win (v.read Val f) k 21 := View.readAt_unit v f _ (k0_off24_eq k) (tinb k 21)
theorem rd25 (v : View sig .tc sp S128x4992 e) (f : v.ty.Contents Val) (k : Fin k0_t1_loop.trips) : v.readAt Val (Rect.unit (s := S128x4992) (k0_off25 k) S32x128.size (k0_off25_inb k)).toLoadRect f = win (v.read Val f) k 22 := View.readAt_unit v f _ (k0_off25_eq k) (tinb k 22)
theorem rd26 (v : View sig .tc sp S128x4992 e) (f : v.ty.Contents Val) (k : Fin k0_t1_loop.trips) : v.readAt Val (Rect.unit (s := S128x4992) (k0_off26 k) S32x128.size (k0_off26_inb k)).toLoadRect f = win (v.read Val f) k 23 := View.readAt_unit v f _ (k0_off26_eq k) (tinb k 23)
theorem rd27 (v : View sig .tc sp S128x4992 e) (f : v.ty.Contents Val) (k : Fin k0_t1_loop.trips) : v.readAt Val (Rect.unit (s := S128x4992) (k0_off27 k) S32x128.size (k0_off27_inb k)).toLoadRect f = win (v.read Val f) k 24 := View.readAt_unit v f _ (k0_off27_eq k) (tinb k 24)
theorem rd28 (v : View sig .tc sp S128x4992 e) (f : v.ty.Contents Val) (k : Fin k0_t1_loop.trips) : v.readAt Val (Rect.unit (s := S128x4992) (k0_off28 k) S32x128.size (k0_off28_inb k)).toLoadRect f = win (v.read Val f) k 25 := View.readAt_unit v f _ (k0_off28_eq k) (tinb k 25)
theorem rd29 (v : View sig .tc sp S128x4992 e) (f : v.ty.Contents Val) (k : Fin k0_t1_loop.trips) : v.readAt Val (Rect.unit (s := S128x4992) (k0_off29 k) S32x128.size (k0_off29_inb k)).toLoadRect f = win (v.read Val f) k 26 := View.readAt_unit v f _ (k0_off29_eq k) (tinb k 26)
theorem rd30 (v : View sig .tc sp S128x4992 e) (f : v.ty.Contents Val) (k : Fin k0_t1_loop.trips) : v.readAt Val (Rect.unit (s := S128x4992) (k0_off30 k) S32x128.size (k0_off30_inb k)).toLoadRect f = win (v.read Val f) k 27 := View.readAt_unit v f _ (k0_off30_eq k) (tinb k 27)
theorem rd31 (v : View sig .tc sp S128x4992 e) (f : v.ty.Contents Val) (k : Fin k0_t1_loop.trips) : v.readAt Val (Rect.unit (s := S128x4992) (k0_off31 k) S32x128.size (k0_off31_inb k)).toLoadRect f = win (v.read Val f) k 28 := View.readAt_unit v f _ (k0_off31_eq k) (tinb k 28)
theorem rd32 (v : View sig .tc sp S128x4992 e) (f : v.ty.Contents Val) (k : Fin k0_t1_loop.trips) : v.readAt Val (Rect.unit (s := S128x4992) (k0_off32 k) S32x128.size (k0_off32_inb k)).toLoadRect f = win (v.read Val f) k 29 := View.readAt_unit v f _ (k0_off32_eq k) (tinb k 29)
theorem rd33 (v : View sig .tc sp S128x4992 e) (f : v.ty.Contents Val) (k : Fin k0_t1_loop.trips) : v.readAt Val (Rect.unit (s := S128x4992) (k0_off33 k) S32x128.size (k0_off33_inb k)).toLoadRect f = win (v.read Val f) k 30 := View.readAt_unit v f _ (k0_off33_eq k) (tinb k 30)
theorem rd34 (v : View sig .tc sp S128x4992 e) (f : v.ty.Contents Val) (k : Fin k0_t1_loop.trips) : v.readAt Val (Rect.unit (s := S128x4992) (k0_off34 k) S32x128.size (k0_off34_inb k)).toLoadRect f = win (v.read Val f) k 31 := View.readAt_unit v f _ (k0_off34_eq k) (tinb k 31)
theorem rd35 (v : View sig .tc sp S128x4992 e) (f : v.ty.Contents Val) (k : Fin k0_t1_loop.trips) : v.readAt Val (Rect.unit (s := S128x4992) (k0_off35 k) S32x128.size (k0_off35_inb k)).toLoadRect f = win (v.read Val f) k 32 := View.readAt_unit v f _ (k0_off35_eq k) (tinb k 32)
theorem rd36 (v : View sig .tc sp S128x4992 e) (f : v.ty.Contents Val) (k : Fin k0_t1_loop.trips) : v.readAt Val (Rect.unit (s := S128x4992) (k0_off36 k) S32x128.size (k0_off36_inb k)).toLoadRect f = win (v.read Val f) k 33 := View.readAt_unit v f _ (k0_off36_eq k) (tinb k 33)
theorem rd37 (v : View sig .tc sp S128x4992 e) (f : v.ty.Contents Val) (k : Fin k0_t1_loop.trips) : v.readAt Val (Rect.unit (s := S128x4992) (k0_off37 k) S32x128.size (k0_off37_inb k)).toLoadRect f = win (v.read Val f) k 34 := View.readAt_unit v f _ (k0_off37_eq k) (tinb k 34)
theorem rd38 (v : View sig .tc sp S128x4992 e) (f : v.ty.Contents Val) (k : Fin k0_t1_loop.trips) : v.readAt Val (Rect.unit (s := S128x4992) (k0_off38 k) S32x128.size (k0_off38_inb k)).toLoadRect f = win (v.read Val f) k 35 := View.readAt_unit v f _ (k0_off38_eq k) (tinb k 35)
theorem rd39 (v : View sig .tc sp S128x4992 e) (f : v.ty.Contents Val) (k : Fin k0_t1_loop.trips) : v.readAt Val (Rect.unit (s := S128x4992) (k0_off39 k) S32x128.size (k0_off39_inb k)).toLoadRect f = win (v.read Val f) k 36 := View.readAt_unit v f _ (k0_off39_eq k) (tinb k 36)
theorem rd40 (v : View sig .tc sp S128x4992 e) (f : v.ty.Contents Val) (k : Fin k0_t1_loop.trips) : v.readAt Val (Rect.unit (s := S128x4992) (k0_off40 k) S32x128.size (k0_off40_inb k)).toLoadRect f = win (v.read Val f) k 37 := View.readAt_unit v f _ (k0_off40_eq k) (tinb k 37)
theorem rd41 (v : View sig .tc sp S128x4992 e) (f : v.ty.Contents Val) (k : Fin k0_t1_loop.trips) : v.readAt Val (Rect.unit (s := S128x4992) (k0_off41 k) S32x128.size (k0_off41_inb k)).toLoadRect f = win (v.read Val f) k 38 := View.readAt_unit v f _ (k0_off41_eq k) (tinb k 38)

/-! The same for the sum on a tile, as the loop body spells it. -/

theorem hf3 (X R : Vec F S128x4992 .bf16) (k : Fin k0_t1_loop.trips) : hf X R k ⟨0, by decide⟩ = addf (extf .f32 (xV.view.readAt (Elt F) (Rect.unit (s := S128x4992) (k0_off3 k) S32x128.size (k0_off3_inb k)).toLoadRect X) bitsLt_bf16_f32) (extf .f32 (rV.view.readAt (Elt F) (Rect.unit (s := S128x4992) (k0_off3 k) S32x128.size (k0_off3_inb k)).toLoadRect R) bitsLt_bf16_f32) := by rw [rd3, rd3]; rfl
theorem hf4 (X R : Vec F S128x4992 .bf16) (k : Fin k0_t1_loop.trips) : hf X R k ⟨1, by decide⟩ = addf (extf .f32 (xV.view.readAt (Elt F) (Rect.unit (s := S128x4992) (k0_off4 k) S32x128.size (k0_off4_inb k)).toLoadRect X) bitsLt_bf16_f32) (extf .f32 (rV.view.readAt (Elt F) (Rect.unit (s := S128x4992) (k0_off4 k) S32x128.size (k0_off4_inb k)).toLoadRect R) bitsLt_bf16_f32) := by rw [rd4, rd4]; rfl
theorem hf5 (X R : Vec F S128x4992 .bf16) (k : Fin k0_t1_loop.trips) : hf X R k ⟨2, by decide⟩ = addf (extf .f32 (xV.view.readAt (Elt F) (Rect.unit (s := S128x4992) (k0_off5 k) S32x128.size (k0_off5_inb k)).toLoadRect X) bitsLt_bf16_f32) (extf .f32 (rV.view.readAt (Elt F) (Rect.unit (s := S128x4992) (k0_off5 k) S32x128.size (k0_off5_inb k)).toLoadRect R) bitsLt_bf16_f32) := by rw [rd5, rd5]; rfl
theorem hf6 (X R : Vec F S128x4992 .bf16) (k : Fin k0_t1_loop.trips) : hf X R k ⟨3, by decide⟩ = addf (extf .f32 (xV.view.readAt (Elt F) (Rect.unit (s := S128x4992) (k0_off6 k) S32x128.size (k0_off6_inb k)).toLoadRect X) bitsLt_bf16_f32) (extf .f32 (rV.view.readAt (Elt F) (Rect.unit (s := S128x4992) (k0_off6 k) S32x128.size (k0_off6_inb k)).toLoadRect R) bitsLt_bf16_f32) := by rw [rd6, rd6]; rfl
theorem hf7 (X R : Vec F S128x4992 .bf16) (k : Fin k0_t1_loop.trips) : hf X R k ⟨4, by decide⟩ = addf (extf .f32 (xV.view.readAt (Elt F) (Rect.unit (s := S128x4992) (k0_off7 k) S32x128.size (k0_off7_inb k)).toLoadRect X) bitsLt_bf16_f32) (extf .f32 (rV.view.readAt (Elt F) (Rect.unit (s := S128x4992) (k0_off7 k) S32x128.size (k0_off7_inb k)).toLoadRect R) bitsLt_bf16_f32) := by rw [rd7, rd7]; rfl
theorem hf8 (X R : Vec F S128x4992 .bf16) (k : Fin k0_t1_loop.trips) : hf X R k ⟨5, by decide⟩ = addf (extf .f32 (xV.view.readAt (Elt F) (Rect.unit (s := S128x4992) (k0_off8 k) S32x128.size (k0_off8_inb k)).toLoadRect X) bitsLt_bf16_f32) (extf .f32 (rV.view.readAt (Elt F) (Rect.unit (s := S128x4992) (k0_off8 k) S32x128.size (k0_off8_inb k)).toLoadRect R) bitsLt_bf16_f32) := by rw [rd8, rd8]; rfl
theorem hf9 (X R : Vec F S128x4992 .bf16) (k : Fin k0_t1_loop.trips) : hf X R k ⟨6, by decide⟩ = addf (extf .f32 (xV.view.readAt (Elt F) (Rect.unit (s := S128x4992) (k0_off9 k) S32x128.size (k0_off9_inb k)).toLoadRect X) bitsLt_bf16_f32) (extf .f32 (rV.view.readAt (Elt F) (Rect.unit (s := S128x4992) (k0_off9 k) S32x128.size (k0_off9_inb k)).toLoadRect R) bitsLt_bf16_f32) := by rw [rd9, rd9]; rfl
theorem hf10 (X R : Vec F S128x4992 .bf16) (k : Fin k0_t1_loop.trips) : hf X R k ⟨7, by decide⟩ = addf (extf .f32 (xV.view.readAt (Elt F) (Rect.unit (s := S128x4992) (k0_off10 k) S32x128.size (k0_off10_inb k)).toLoadRect X) bitsLt_bf16_f32) (extf .f32 (rV.view.readAt (Elt F) (Rect.unit (s := S128x4992) (k0_off10 k) S32x128.size (k0_off10_inb k)).toLoadRect R) bitsLt_bf16_f32) := by rw [rd10, rd10]; rfl
theorem hf11 (X R : Vec F S128x4992 .bf16) (k : Fin k0_t1_loop.trips) : hf X R k ⟨8, by decide⟩ = addf (extf .f32 (xV.view.readAt (Elt F) (Rect.unit (s := S128x4992) (k0_off11 k) S32x128.size (k0_off11_inb k)).toLoadRect X) bitsLt_bf16_f32) (extf .f32 (rV.view.readAt (Elt F) (Rect.unit (s := S128x4992) (k0_off11 k) S32x128.size (k0_off11_inb k)).toLoadRect R) bitsLt_bf16_f32) := by rw [rd11, rd11]; rfl
theorem hf12 (X R : Vec F S128x4992 .bf16) (k : Fin k0_t1_loop.trips) : hf X R k ⟨9, by decide⟩ = addf (extf .f32 (xV.view.readAt (Elt F) (Rect.unit (s := S128x4992) (k0_off12 k) S32x128.size (k0_off12_inb k)).toLoadRect X) bitsLt_bf16_f32) (extf .f32 (rV.view.readAt (Elt F) (Rect.unit (s := S128x4992) (k0_off12 k) S32x128.size (k0_off12_inb k)).toLoadRect R) bitsLt_bf16_f32) := by rw [rd12, rd12]; rfl
theorem hf13 (X R : Vec F S128x4992 .bf16) (k : Fin k0_t1_loop.trips) : hf X R k ⟨10, by decide⟩ = addf (extf .f32 (xV.view.readAt (Elt F) (Rect.unit (s := S128x4992) (k0_off13 k) S32x128.size (k0_off13_inb k)).toLoadRect X) bitsLt_bf16_f32) (extf .f32 (rV.view.readAt (Elt F) (Rect.unit (s := S128x4992) (k0_off13 k) S32x128.size (k0_off13_inb k)).toLoadRect R) bitsLt_bf16_f32) := by rw [rd13, rd13]; rfl
theorem hf14 (X R : Vec F S128x4992 .bf16) (k : Fin k0_t1_loop.trips) : hf X R k ⟨11, by decide⟩ = addf (extf .f32 (xV.view.readAt (Elt F) (Rect.unit (s := S128x4992) (k0_off14 k) S32x128.size (k0_off14_inb k)).toLoadRect X) bitsLt_bf16_f32) (extf .f32 (rV.view.readAt (Elt F) (Rect.unit (s := S128x4992) (k0_off14 k) S32x128.size (k0_off14_inb k)).toLoadRect R) bitsLt_bf16_f32) := by rw [rd14, rd14]; rfl
theorem hf15 (X R : Vec F S128x4992 .bf16) (k : Fin k0_t1_loop.trips) : hf X R k ⟨12, by decide⟩ = addf (extf .f32 (xV.view.readAt (Elt F) (Rect.unit (s := S128x4992) (k0_off15 k) S32x128.size (k0_off15_inb k)).toLoadRect X) bitsLt_bf16_f32) (extf .f32 (rV.view.readAt (Elt F) (Rect.unit (s := S128x4992) (k0_off15 k) S32x128.size (k0_off15_inb k)).toLoadRect R) bitsLt_bf16_f32) := by rw [rd15, rd15]; rfl
theorem hf16 (X R : Vec F S128x4992 .bf16) (k : Fin k0_t1_loop.trips) : hf X R k ⟨13, by decide⟩ = addf (extf .f32 (xV.view.readAt (Elt F) (Rect.unit (s := S128x4992) (k0_off16 k) S32x128.size (k0_off16_inb k)).toLoadRect X) bitsLt_bf16_f32) (extf .f32 (rV.view.readAt (Elt F) (Rect.unit (s := S128x4992) (k0_off16 k) S32x128.size (k0_off16_inb k)).toLoadRect R) bitsLt_bf16_f32) := by rw [rd16, rd16]; rfl
theorem hf17 (X R : Vec F S128x4992 .bf16) (k : Fin k0_t1_loop.trips) : hf X R k ⟨14, by decide⟩ = addf (extf .f32 (xV.view.readAt (Elt F) (Rect.unit (s := S128x4992) (k0_off17 k) S32x128.size (k0_off17_inb k)).toLoadRect X) bitsLt_bf16_f32) (extf .f32 (rV.view.readAt (Elt F) (Rect.unit (s := S128x4992) (k0_off17 k) S32x128.size (k0_off17_inb k)).toLoadRect R) bitsLt_bf16_f32) := by rw [rd17, rd17]; rfl
theorem hf18 (X R : Vec F S128x4992 .bf16) (k : Fin k0_t1_loop.trips) : hf X R k ⟨15, by decide⟩ = addf (extf .f32 (xV.view.readAt (Elt F) (Rect.unit (s := S128x4992) (k0_off18 k) S32x128.size (k0_off18_inb k)).toLoadRect X) bitsLt_bf16_f32) (extf .f32 (rV.view.readAt (Elt F) (Rect.unit (s := S128x4992) (k0_off18 k) S32x128.size (k0_off18_inb k)).toLoadRect R) bitsLt_bf16_f32) := by rw [rd18, rd18]; rfl
theorem hf19 (X R : Vec F S128x4992 .bf16) (k : Fin k0_t1_loop.trips) : hf X R k ⟨16, by decide⟩ = addf (extf .f32 (xV.view.readAt (Elt F) (Rect.unit (s := S128x4992) (k0_off19 k) S32x128.size (k0_off19_inb k)).toLoadRect X) bitsLt_bf16_f32) (extf .f32 (rV.view.readAt (Elt F) (Rect.unit (s := S128x4992) (k0_off19 k) S32x128.size (k0_off19_inb k)).toLoadRect R) bitsLt_bf16_f32) := by rw [rd19, rd19]; rfl
theorem hf20 (X R : Vec F S128x4992 .bf16) (k : Fin k0_t1_loop.trips) : hf X R k ⟨17, by decide⟩ = addf (extf .f32 (xV.view.readAt (Elt F) (Rect.unit (s := S128x4992) (k0_off20 k) S32x128.size (k0_off20_inb k)).toLoadRect X) bitsLt_bf16_f32) (extf .f32 (rV.view.readAt (Elt F) (Rect.unit (s := S128x4992) (k0_off20 k) S32x128.size (k0_off20_inb k)).toLoadRect R) bitsLt_bf16_f32) := by rw [rd20, rd20]; rfl
theorem hf21 (X R : Vec F S128x4992 .bf16) (k : Fin k0_t1_loop.trips) : hf X R k ⟨18, by decide⟩ = addf (extf .f32 (xV.view.readAt (Elt F) (Rect.unit (s := S128x4992) (k0_off21 k) S32x128.size (k0_off21_inb k)).toLoadRect X) bitsLt_bf16_f32) (extf .f32 (rV.view.readAt (Elt F) (Rect.unit (s := S128x4992) (k0_off21 k) S32x128.size (k0_off21_inb k)).toLoadRect R) bitsLt_bf16_f32) := by rw [rd21, rd21]; rfl
theorem hf22 (X R : Vec F S128x4992 .bf16) (k : Fin k0_t1_loop.trips) : hf X R k ⟨19, by decide⟩ = addf (extf .f32 (xV.view.readAt (Elt F) (Rect.unit (s := S128x4992) (k0_off22 k) S32x128.size (k0_off22_inb k)).toLoadRect X) bitsLt_bf16_f32) (extf .f32 (rV.view.readAt (Elt F) (Rect.unit (s := S128x4992) (k0_off22 k) S32x128.size (k0_off22_inb k)).toLoadRect R) bitsLt_bf16_f32) := by rw [rd22, rd22]; rfl
theorem hf23 (X R : Vec F S128x4992 .bf16) (k : Fin k0_t1_loop.trips) : hf X R k ⟨20, by decide⟩ = addf (extf .f32 (xV.view.readAt (Elt F) (Rect.unit (s := S128x4992) (k0_off23 k) S32x128.size (k0_off23_inb k)).toLoadRect X) bitsLt_bf16_f32) (extf .f32 (rV.view.readAt (Elt F) (Rect.unit (s := S128x4992) (k0_off23 k) S32x128.size (k0_off23_inb k)).toLoadRect R) bitsLt_bf16_f32) := by rw [rd23, rd23]; rfl
theorem hf24 (X R : Vec F S128x4992 .bf16) (k : Fin k0_t1_loop.trips) : hf X R k ⟨21, by decide⟩ = addf (extf .f32 (xV.view.readAt (Elt F) (Rect.unit (s := S128x4992) (k0_off24 k) S32x128.size (k0_off24_inb k)).toLoadRect X) bitsLt_bf16_f32) (extf .f32 (rV.view.readAt (Elt F) (Rect.unit (s := S128x4992) (k0_off24 k) S32x128.size (k0_off24_inb k)).toLoadRect R) bitsLt_bf16_f32) := by rw [rd24, rd24]; rfl
theorem hf25 (X R : Vec F S128x4992 .bf16) (k : Fin k0_t1_loop.trips) : hf X R k ⟨22, by decide⟩ = addf (extf .f32 (xV.view.readAt (Elt F) (Rect.unit (s := S128x4992) (k0_off25 k) S32x128.size (k0_off25_inb k)).toLoadRect X) bitsLt_bf16_f32) (extf .f32 (rV.view.readAt (Elt F) (Rect.unit (s := S128x4992) (k0_off25 k) S32x128.size (k0_off25_inb k)).toLoadRect R) bitsLt_bf16_f32) := by rw [rd25, rd25]; rfl
theorem hf26 (X R : Vec F S128x4992 .bf16) (k : Fin k0_t1_loop.trips) : hf X R k ⟨23, by decide⟩ = addf (extf .f32 (xV.view.readAt (Elt F) (Rect.unit (s := S128x4992) (k0_off26 k) S32x128.size (k0_off26_inb k)).toLoadRect X) bitsLt_bf16_f32) (extf .f32 (rV.view.readAt (Elt F) (Rect.unit (s := S128x4992) (k0_off26 k) S32x128.size (k0_off26_inb k)).toLoadRect R) bitsLt_bf16_f32) := by rw [rd26, rd26]; rfl
theorem hf27 (X R : Vec F S128x4992 .bf16) (k : Fin k0_t1_loop.trips) : hf X R k ⟨24, by decide⟩ = addf (extf .f32 (xV.view.readAt (Elt F) (Rect.unit (s := S128x4992) (k0_off27 k) S32x128.size (k0_off27_inb k)).toLoadRect X) bitsLt_bf16_f32) (extf .f32 (rV.view.readAt (Elt F) (Rect.unit (s := S128x4992) (k0_off27 k) S32x128.size (k0_off27_inb k)).toLoadRect R) bitsLt_bf16_f32) := by rw [rd27, rd27]; rfl
theorem hf28 (X R : Vec F S128x4992 .bf16) (k : Fin k0_t1_loop.trips) : hf X R k ⟨25, by decide⟩ = addf (extf .f32 (xV.view.readAt (Elt F) (Rect.unit (s := S128x4992) (k0_off28 k) S32x128.size (k0_off28_inb k)).toLoadRect X) bitsLt_bf16_f32) (extf .f32 (rV.view.readAt (Elt F) (Rect.unit (s := S128x4992) (k0_off28 k) S32x128.size (k0_off28_inb k)).toLoadRect R) bitsLt_bf16_f32) := by rw [rd28, rd28]; rfl
theorem hf29 (X R : Vec F S128x4992 .bf16) (k : Fin k0_t1_loop.trips) : hf X R k ⟨26, by decide⟩ = addf (extf .f32 (xV.view.readAt (Elt F) (Rect.unit (s := S128x4992) (k0_off29 k) S32x128.size (k0_off29_inb k)).toLoadRect X) bitsLt_bf16_f32) (extf .f32 (rV.view.readAt (Elt F) (Rect.unit (s := S128x4992) (k0_off29 k) S32x128.size (k0_off29_inb k)).toLoadRect R) bitsLt_bf16_f32) := by rw [rd29, rd29]; rfl
theorem hf30 (X R : Vec F S128x4992 .bf16) (k : Fin k0_t1_loop.trips) : hf X R k ⟨27, by decide⟩ = addf (extf .f32 (xV.view.readAt (Elt F) (Rect.unit (s := S128x4992) (k0_off30 k) S32x128.size (k0_off30_inb k)).toLoadRect X) bitsLt_bf16_f32) (extf .f32 (rV.view.readAt (Elt F) (Rect.unit (s := S128x4992) (k0_off30 k) S32x128.size (k0_off30_inb k)).toLoadRect R) bitsLt_bf16_f32) := by rw [rd30, rd30]; rfl
theorem hf31 (X R : Vec F S128x4992 .bf16) (k : Fin k0_t1_loop.trips) : hf X R k ⟨28, by decide⟩ = addf (extf .f32 (xV.view.readAt (Elt F) (Rect.unit (s := S128x4992) (k0_off31 k) S32x128.size (k0_off31_inb k)).toLoadRect X) bitsLt_bf16_f32) (extf .f32 (rV.view.readAt (Elt F) (Rect.unit (s := S128x4992) (k0_off31 k) S32x128.size (k0_off31_inb k)).toLoadRect R) bitsLt_bf16_f32) := by rw [rd31, rd31]; rfl
theorem hf32 (X R : Vec F S128x4992 .bf16) (k : Fin k0_t1_loop.trips) : hf X R k ⟨29, by decide⟩ = addf (extf .f32 (xV.view.readAt (Elt F) (Rect.unit (s := S128x4992) (k0_off32 k) S32x128.size (k0_off32_inb k)).toLoadRect X) bitsLt_bf16_f32) (extf .f32 (rV.view.readAt (Elt F) (Rect.unit (s := S128x4992) (k0_off32 k) S32x128.size (k0_off32_inb k)).toLoadRect R) bitsLt_bf16_f32) := by rw [rd32, rd32]; rfl
theorem hf33 (X R : Vec F S128x4992 .bf16) (k : Fin k0_t1_loop.trips) : hf X R k ⟨30, by decide⟩ = addf (extf .f32 (xV.view.readAt (Elt F) (Rect.unit (s := S128x4992) (k0_off33 k) S32x128.size (k0_off33_inb k)).toLoadRect X) bitsLt_bf16_f32) (extf .f32 (rV.view.readAt (Elt F) (Rect.unit (s := S128x4992) (k0_off33 k) S32x128.size (k0_off33_inb k)).toLoadRect R) bitsLt_bf16_f32) := by rw [rd33, rd33]; rfl
theorem hf34 (X R : Vec F S128x4992 .bf16) (k : Fin k0_t1_loop.trips) : hf X R k ⟨31, by decide⟩ = addf (extf .f32 (xV.view.readAt (Elt F) (Rect.unit (s := S128x4992) (k0_off34 k) S32x128.size (k0_off34_inb k)).toLoadRect X) bitsLt_bf16_f32) (extf .f32 (rV.view.readAt (Elt F) (Rect.unit (s := S128x4992) (k0_off34 k) S32x128.size (k0_off34_inb k)).toLoadRect R) bitsLt_bf16_f32) := by rw [rd34, rd34]; rfl
theorem hf35 (X R : Vec F S128x4992 .bf16) (k : Fin k0_t1_loop.trips) : hf X R k ⟨32, by decide⟩ = addf (extf .f32 (xV.view.readAt (Elt F) (Rect.unit (s := S128x4992) (k0_off35 k) S32x128.size (k0_off35_inb k)).toLoadRect X) bitsLt_bf16_f32) (extf .f32 (rV.view.readAt (Elt F) (Rect.unit (s := S128x4992) (k0_off35 k) S32x128.size (k0_off35_inb k)).toLoadRect R) bitsLt_bf16_f32) := by rw [rd35, rd35]; rfl
theorem hf36 (X R : Vec F S128x4992 .bf16) (k : Fin k0_t1_loop.trips) : hf X R k ⟨33, by decide⟩ = addf (extf .f32 (xV.view.readAt (Elt F) (Rect.unit (s := S128x4992) (k0_off36 k) S32x128.size (k0_off36_inb k)).toLoadRect X) bitsLt_bf16_f32) (extf .f32 (rV.view.readAt (Elt F) (Rect.unit (s := S128x4992) (k0_off36 k) S32x128.size (k0_off36_inb k)).toLoadRect R) bitsLt_bf16_f32) := by rw [rd36, rd36]; rfl
theorem hf37 (X R : Vec F S128x4992 .bf16) (k : Fin k0_t1_loop.trips) : hf X R k ⟨34, by decide⟩ = addf (extf .f32 (xV.view.readAt (Elt F) (Rect.unit (s := S128x4992) (k0_off37 k) S32x128.size (k0_off37_inb k)).toLoadRect X) bitsLt_bf16_f32) (extf .f32 (rV.view.readAt (Elt F) (Rect.unit (s := S128x4992) (k0_off37 k) S32x128.size (k0_off37_inb k)).toLoadRect R) bitsLt_bf16_f32) := by rw [rd37, rd37]; rfl
theorem hf38 (X R : Vec F S128x4992 .bf16) (k : Fin k0_t1_loop.trips) : hf X R k ⟨35, by decide⟩ = addf (extf .f32 (xV.view.readAt (Elt F) (Rect.unit (s := S128x4992) (k0_off38 k) S32x128.size (k0_off38_inb k)).toLoadRect X) bitsLt_bf16_f32) (extf .f32 (rV.view.readAt (Elt F) (Rect.unit (s := S128x4992) (k0_off38 k) S32x128.size (k0_off38_inb k)).toLoadRect R) bitsLt_bf16_f32) := by rw [rd38, rd38]; rfl
theorem hf39 (X R : Vec F S128x4992 .bf16) (k : Fin k0_t1_loop.trips) : hf X R k ⟨36, by decide⟩ = addf (extf .f32 (xV.view.readAt (Elt F) (Rect.unit (s := S128x4992) (k0_off39 k) S32x128.size (k0_off39_inb k)).toLoadRect X) bitsLt_bf16_f32) (extf .f32 (rV.view.readAt (Elt F) (Rect.unit (s := S128x4992) (k0_off39 k) S32x128.size (k0_off39_inb k)).toLoadRect R) bitsLt_bf16_f32) := by rw [rd39, rd39]; rfl
theorem hf40 (X R : Vec F S128x4992 .bf16) (k : Fin k0_t1_loop.trips) : hf X R k ⟨37, by decide⟩ = addf (extf .f32 (xV.view.readAt (Elt F) (Rect.unit (s := S128x4992) (k0_off40 k) S32x128.size (k0_off40_inb k)).toLoadRect X) bitsLt_bf16_f32) (extf .f32 (rV.view.readAt (Elt F) (Rect.unit (s := S128x4992) (k0_off40 k) S32x128.size (k0_off40_inb k)).toLoadRect R) bitsLt_bf16_f32) := by rw [rd40, rd40]; rfl
theorem hf41 (X R : Vec F S128x4992 .bf16) (k : Fin k0_t1_loop.trips) : hf X R k ⟨38, by decide⟩ = addf (extf .f32 (xV.view.readAt (Elt F) (Rect.unit (s := S128x4992) (k0_off41 k) S32x128.size (k0_off41_inb k)).toLoadRect X) bitsLt_bf16_f32) (extf .f32 (rV.view.readAt (Elt F) (Rect.unit (s := S128x4992) (k0_off41 k) S32x128.size (k0_off41_inb k)).toLoadRect R) bitsLt_bf16_f32) := by rw [rd41, rd41]; rfl

end Cert.KernelIdeal.Hand
-- ==== Proof.KI.T1.lean ====
module

public import proofs.«01_k».proof.Proof.KI.Model

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

abbrev xcell (k : Fin k0_t1_loop.trips) : DmaSems sig S_ :=
  (cc0_scratch12.slice (Rect.unit (s := S4) (k0_off1 k) S1.size (k0_off1_inb k))).squeeze S_ squeezes_S1_S_

def dX (c : Dev nD) (k : Fin k0_t1_loop.trips) (X R : Vec F S128x4992 .bf16) : Fin 2 → sProp 𝕄
  | 0 => iprop(own c (rows xV k) fullShare X ∗ own c (rows xH k) fullShare X)
  | 1 => iprop(own c (rows rV k) fullShare R ∗ own c (rows rH k) fullShare R)

set_option maxHeartbeats 2000000 in
theorem norm_t (c : Dev nD) (k : Fin k0_t1_loop.trips) (v110 : Vec F S1x1 .f32) (W : Waits sig Unit)
   (X R h0 : Vec F S128x4992 .bf16) (c0 : Vec F S128x4992 .fp8e4m3) (G : Vec F S39x128 .f32)  :
   iprop(Transfers.Batch (countersEmb (U := Pipeline.UD sig nD τ)) (c : Thread nD τ) (.dma (xcell k).sem) () ((rows xV k).view.dmaCredit) (dX c k X R) 2 0
      ∗ owes (c : Thread nD τ) 0 W
      ∗ own c gF fullShare G
      ∗ own c (rows hV k) fullShare h0 ∗ own c (rows cV k) fullShare c0) ⊢
    wp frame (wpE (defs₀ (F := F)) Variants.none c none) Set.univ
      (k0_part33 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 1#32 k) (fun r =>
        iprop(own c (rows hV k) fullShare (hB X R) ∗ own c (rows cV k) fullShare (cB v110 X R G) ∗ own c gF fullShare G
          ∗ own c (rows xV k) fullShare X ∗ own c (rows xH k) fullShare X ∗ own c (rows rV k) fullShare R ∗ own c (rows rH k) fullShare R
          ∗ semVal ((c : Thread nD τ), SemLoc.dma (xcell k).sem) 0 ∗ ∃ W', owes (c : Thread nD τ) 0 W')) := by
  unfold dX
  iintro ⟨HB, HW, HG, Hh, Hc⟩
  sl_exec
  sl_step
  have einv : invB X R k = norm_t.sl.r_28 k X R := by
    unfold invB
    simp only [accB, hf3, hf4, hf5, hf6, hf7, hf8, hf9, hf10, hf11, hf12, hf13, hf14, hf15, hf16, hf17, hf18, hf19, hf20, hf21, hf22, hf23, hf24, hf25, hf26, hf27, hf28, hf29, hf30, hf31, hf32, hf33, hf34, hf35, hf36, hf37, hf38, hf39, hf40, hf41]
    rfl
  have eh : own c (rows hV k) fullShare (norm_t.sl.Hh_w39 k X R h0) ⊢ own c (rows hV k) fullShare (hB X R) := by
    refine .of_eq (pointsTo_congr fun j hj => ?_)
    have hg : grp j = k := grp_of_mem k (by rwa [show (rows hV k).view.set = _ from View.set_slice_whole _ _] at hj)
    refine (show ∀ j, grp j = k → (tile j).val < 39 → hV.view.read (Elt F) (norm_t.sl.Hh_w39 k X R h0) j = mkTiles (hTile X R) j from ?_) j hg (tile j).isLt
    clear hg hj j
    unfold norm_t.sl.Hh_w39
    refine tile_step (Val := Elt F) hV.view (hTile X R) k 38 (by decide) (k0_off41_eq k) (k0_off41_inb k) _ _ ?_ ?_
    · unfold hTile; rw [hf41]; exact sc_self _ _
    unfold norm_t.sl.Hh_w38
    refine tile_step (Val := Elt F) hV.view (hTile X R) k 37 (by decide) (k0_off40_eq k) (k0_off40_inb k) _ _ ?_ ?_
    · unfold hTile; rw [hf40]; exact sc_self _ _
    unfold norm_t.sl.Hh_w37
    refine tile_step (Val := Elt F) hV.view (hTile X R) k 36 (by decide) (k0_off39_eq k) (k0_off39_inb k) _ _ ?_ ?_
    · unfold hTile; rw [hf39]; exact sc_self _ _
    unfold norm_t.sl.Hh_w36
    refine tile_step (Val := Elt F) hV.view (hTile X R) k 35 (by decide) (k0_off38_eq k) (k0_off38_inb k) _ _ ?_ ?_
    · unfold hTile; rw [hf38]; exact sc_self _ _
    unfold norm_t.sl.Hh_w35
    refine tile_step (Val := Elt F) hV.view (hTile X R) k 34 (by decide) (k0_off37_eq k) (k0_off37_inb k) _ _ ?_ ?_
    · unfold hTile; rw [hf37]; exact sc_self _ _
    unfold norm_t.sl.Hh_w34
    refine tile_step (Val := Elt F) hV.view (hTile X R) k 33 (by decide) (k0_off36_eq k) (k0_off36_inb k) _ _ ?_ ?_
    · unfold hTile; rw [hf36]; exact sc_self _ _
    unfold norm_t.sl.Hh_w33
    refine tile_step (Val := Elt F) hV.view (hTile X R) k 32 (by decide) (k0_off35_eq k) (k0_off35_inb k) _ _ ?_ ?_
    · unfold hTile; rw [hf35]; exact sc_self _ _
    unfold norm_t.sl.Hh_w32
    refine tile_step (Val := Elt F) hV.view (hTile X R) k 31 (by decide) (k0_off34_eq k) (k0_off34_inb k) _ _ ?_ ?_
    · unfold hTile; rw [hf34]; unfold norm_t.sl.r_23; exact sc_self _ _
    unfold norm_t.sl.Hh_w31
    refine tile_step (Val := Elt F) hV.view (hTile X R) k 30 (by decide) (k0_off33_eq k) (k0_off33_inb k) _ _ ?_ ?_
    · unfold hTile; rw [hf33]; exact sc_self _ _
    unfold norm_t.sl.Hh_w30
    refine tile_step (Val := Elt F) hV.view (hTile X R) k 29 (by decide) (k0_off32_eq k) (k0_off32_inb k) _ _ ?_ ?_
    · unfold hTile; rw [hf32]; exact sc_self _ _
    unfold norm_t.sl.Hh_w29
    refine tile_step (Val := Elt F) hV.view (hTile X R) k 28 (by decide) (k0_off31_eq k) (k0_off31_inb k) _ _ ?_ ?_
    · unfold hTile; rw [hf31]; exact sc_self _ _
    unfold norm_t.sl.Hh_w28
    refine tile_step (Val := Elt F) hV.view (hTile X R) k 27 (by decide) (k0_off30_eq k) (k0_off30_inb k) _ _ ?_ ?_
    · unfold hTile; rw [hf30]; exact sc_self _ _
    unfold norm_t.sl.Hh_w27
    refine tile_step (Val := Elt F) hV.view (hTile X R) k 26 (by decide) (k0_off29_eq k) (k0_off29_inb k) _ _ ?_ ?_
    · unfold hTile; rw [hf29]; exact sc_self _ _
    unfold norm_t.sl.Hh_w26
    refine tile_step (Val := Elt F) hV.view (hTile X R) k 25 (by decide) (k0_off28_eq k) (k0_off28_inb k) _ _ ?_ ?_
    · unfold hTile; rw [hf28]; exact sc_self _ _
    unfold norm_t.sl.Hh_w25
    refine tile_step (Val := Elt F) hV.view (hTile X R) k 24 (by decide) (k0_off27_eq k) (k0_off27_inb k) _ _ ?_ ?_
    · unfold hTile; rw [hf27]; exact sc_self _ _
    unfold norm_t.sl.Hh_w24
    refine tile_step (Val := Elt F) hV.view (hTile X R) k 23 (by decide) (k0_off26_eq k) (k0_off26_inb k) _ _ ?_ ?_
    · unfold hTile; rw [hf26]; exact sc_self _ _
    unfold norm_t.sl.Hh_w23
    refine tile_step (Val := Elt F) hV.view (hTile X R) k 22 (by decide) (k0_off25_eq k) (k0_off25_inb k) _ _ ?_ ?_
    · unfold hTile; rw [hf25]; exact sc_self _ _
    unfold norm_t.sl.Hh_w22
    refine tile_step (Val := Elt F) hV.view (hTile X R) k 21 (by decide) (k0_off24_eq k) (k0_off24_inb k) _ _ ?_ ?_
    · unfold hTile; rw [hf24]; unfold norm_t.sl.r_16; exact sc_self _ _
    unfold norm_t.sl.Hh_w21
    refine tile_step (Val := Elt F) hV.view (hTile X R) k 20 (by decide) (k0_off23_eq k) (k0_off23_inb k) _ _ ?_ ?_
    · unfold hTile; rw [hf23]; exact sc_self _ _
    unfold norm_t.sl.Hh_w20
    refine tile_step (Val := Elt F) hV.view (hTile X R) k 19 (by decide) (k0_off22_eq k) (k0_off22_inb k) _ _ ?_ ?_
    · unfold hTile; rw [hf22]; exact sc_self _ _
    unfold norm_t.sl.Hh_w19
    refine tile_step (Val := Elt F) hV.view (hTile X R) k 18 (by decide) (k0_off21_eq k) (k0_off21_inb k) _ _ ?_ ?_
    · unfold hTile; rw [hf21]; exact sc_self _ _
    unfold norm_t.sl.Hh_w18
    refine tile_step (Val := Elt F) hV.view (hTile X R) k 17 (by decide) (k0_off20_eq k) (k0_off20_inb k) _ _ ?_ ?_
    · unfold hTile; rw [hf20]; exact sc_self _ _
    unfold norm_t.sl.Hh_w17
    refine tile_step (Val := Elt F) hV.view (hTile X R) k 16 (by decide) (k0_off19_eq k) (k0_off19_inb k) _ _ ?_ ?_
    · unfold hTile; rw [hf19]; exact sc_self _ _
    unfold norm_t.sl.Hh_w16
    refine tile_step (Val := Elt F) hV.view (hTile X R) k 15 (by decide) (k0_off18_eq k) (k0_off18_inb k) _ _ ?_ ?_
    · unfold hTile; rw [hf18]; exact sc_self _ _
    unfold norm_t.sl.Hh_w15
    refine tile_step (Val := Elt F) hV.view (hTile X R) k 14 (by decide) (k0_off17_eq k) (k0_off17_inb k) _ _ ?_ ?_
    · unfold hTile; rw [hf17]; exact sc_self _ _
    unfold norm_t.sl.Hh_w14
    refine tile_step (Val := Elt F) hV.view (hTile X R) k 13 (by decide) (k0_off16_eq k) (k0_off16_inb k) _ _ ?_ ?_
    · unfold hTile; rw [hf16]; exact sc_self _ _
    unfold norm_t.sl.Hh_w13
    refine tile_step (Val := Elt F) hV.view (hTile X R) k 12 (by decide) (k0_off15_eq k) (k0_off15_inb k) _ _ ?_ ?_
    · unfold hTile; rw [hf15]; exact sc_self _ _
    unfold norm_t.sl.Hh_w12
    refine tile_step (Val := Elt F) hV.view (hTile X R) k 11 (by decide) (k0_off14_eq k) (k0_off14_inb k) _ _ ?_ ?_
    · unfold hTile; rw [hf14]; unfold norm_t.sl.r_9; exact sc_self _ _
    unfold norm_t.sl.Hh_w11
    refine tile_step (Val := Elt F) hV.view (hTile X R) k 10 (by decide) (k0_off13_eq k) (k0_off13_inb k) _ _ ?_ ?_
    · unfold hTile; rw [hf13]; exact sc_self _ _
    unfold norm_t.sl.Hh_w10
    refine tile_step (Val := Elt F) hV.view (hTile X R) k 9 (by decide) (k0_off12_eq k) (k0_off12_inb k) _ _ ?_ ?_
    · unfold hTile; rw [hf12]; exact sc_self _ _
    unfold norm_t.sl.Hh_w9
    refine tile_step (Val := Elt F) hV.view (hTile X R) k 8 (by decide) (k0_off11_eq k) (k0_off11_inb k) _ _ ?_ ?_
    · unfold hTile; rw [hf11]; exact sc_self _ _
    unfold norm_t.sl.Hh_w8
    refine tile_step (Val := Elt F) hV.view (hTile X R) k 7 (by decide) (k0_off10_eq k) (k0_off10_inb k) _ _ ?_ ?_
    · unfold hTile; rw [hf10]; exact sc_self _ _
    unfold norm_t.sl.Hh_w7
    refine tile_step (Val := Elt F) hV.view (hTile X R) k 6 (by decide) (k0_off9_eq k) (k0_off9_inb k) _ _ ?_ ?_
    · unfold hTile; rw [hf9]; exact sc_self _ _
    unfold norm_t.sl.Hh_w6
    refine tile_step (Val := Elt F) hV.view (hTile X R) k 5 (by decide) (k0_off8_eq k) (k0_off8_inb k) _ _ ?_ ?_
    · unfold hTile; rw [hf8]; exact sc_self _ _
    unfold norm_t.sl.Hh_w5
    refine tile_step (Val := Elt F) hV.view (hTile X R) k 4 (by decide) (k0_off7_eq k) (k0_off7_inb k) _ _ ?_ ?_
    · unfold hTile; rw [hf7]; exact sc_self _ _
    unfold norm_t.sl.Hh_w4
    refine tile_step (Val := Elt F) hV.view (hTile X R) k 3 (by decide) (k0_off6_eq k) (k0_off6_inb k) _ _ ?_ ?_
    · unfold hTile; rw [hf6]; exact sc_self _ _
    unfold norm_t.sl.Hh_w3
    refine tile_step (Val := Elt F) hV.view (hTile X R) k 2 (by decide) (k0_off5_eq k) (k0_off5_inb k) _ _ ?_ ?_
    · unfold hTile; rw [hf5]; exact sc_self _ _
    unfold norm_t.sl.Hh_w2
    refine tile_step (Val := Elt F) hV.view (hTile X R) k 1 (by decide) (k0_off4_eq k) (k0_off4_inb k) _ _ ?_ ?_
    · unfold hTile; rw [hf4]; unfold norm_t.sl.r_2; exact sc_self _ _
    unfold norm_t.sl.Hh_w1
    refine tile_step (Val := Elt F) hV.view (hTile X R) k 0 (by decide) (k0_off3_eq k) (k0_off3_inb k) _ _ ?_ ?_
    · unfold hTile; rw [hf3]; exact sc_self _ _
    exact tile_zero (Val := Elt F) hV.view (hTile X R) k _
  have ec : own c (rows cV k) fullShare (norm_t.sl.Hc_w78 k v110 X R c0 G) ⊢ own c (rows cV k) fullShare (cB v110 X R G) := by
    refine .of_eq (pointsTo_congr fun j hj => ?_)
    have hg : grp j = k := grp_of_mem k (by rwa [show (rows cV k).view.set = _ from View.set_slice_whole _ _] at hj)
    refine (show ∀ j, grp j = k → (tile j).val < 39 → cV.view.read (Elt F) (norm_t.sl.Hc_w78 k v110 X R c0 G) j = mkTiles (cTile v110 X R G) j from ?_) j hg (tile j).isLt
    clear hg hj j
    unfold norm_t.sl.Hc_w78
    refine tile_step (Val := Elt F) cV.view (cTile v110 X R G) k 38 (by decide) (k0_off41_eq k) (k0_off41_inb k) _ _ ?_ ?_
    · unfold cTile; rw [hf41, einv]; exact sc_self _ _
    unfold norm_t.sl.Hc_w77
    refine tile_step (Val := Elt F) cV.view (cTile v110 X R G) k 37 (by decide) (k0_off40_eq k) (k0_off40_inb k) _ _ ?_ ?_
    · unfold cTile; rw [hf40, einv]; exact sc_self _ _
    unfold norm_t.sl.Hc_w76
    refine tile_step (Val := Elt F) cV.view (cTile v110 X R G) k 36 (by decide) (k0_off39_eq k) (k0_off39_inb k) _ _ ?_ ?_
    · unfold cTile; rw [hf39, einv]; exact sc_self _ _
    unfold norm_t.sl.Hc_w75
    refine tile_step (Val := Elt F) cV.view (cTile v110 X R G) k 35 (by decide) (k0_off38_eq k) (k0_off38_inb k) _ _ ?_ ?_
    · unfold cTile; rw [hf38, einv]; exact sc_self _ _
    unfold norm_t.sl.Hc_w74
    refine tile_step (Val := Elt F) cV.view (cTile v110 X R G) k 34 (by decide) (k0_off37_eq k) (k0_off37_inb k) _ _ ?_ ?_
    · unfold cTile; rw [hf37, einv]; exact sc_self _ _
    unfold norm_t.sl.Hc_w73
    refine tile_step (Val := Elt F) cV.view (cTile v110 X R G) k 33 (by decide) (k0_off36_eq k) (k0_off36_inb k) _ _ ?_ ?_
    · unfold cTile; rw [hf36, einv]; exact sc_self _ _
    unfold norm_t.sl.Hc_w72
    refine tile_step (Val := Elt F) cV.view (cTile v110 X R G) k 32 (by decide) (k0_off35_eq k) (k0_off35_inb k) _ _ ?_ ?_
    · unfold cTile; rw [hf35, einv]; exact sc_self _ _
    unfold norm_t.sl.Hc_w71
    refine tile_step (Val := Elt F) cV.view (cTile v110 X R G) k 31 (by decide) (k0_off34_eq k) (k0_off34_inb k) _ _ ?_ ?_
    · unfold cTile; rw [hf34, einv]; exact sc_self _ _
    unfold norm_t.sl.Hc_w70
    refine tile_step (Val := Elt F) cV.view (cTile v110 X R G) k 30 (by decide) (k0_off33_eq k) (k0_off33_inb k) _ _ ?_ ?_
    · unfold cTile; rw [hf33, einv]; exact sc_self _ _
    unfold norm_t.sl.Hc_w69
    refine tile_step (Val := Elt F) cV.view (cTile v110 X R G) k 29 (by decide) (k0_off32_eq k) (k0_off32_inb k) _ _ ?_ ?_
    · unfold cTile; rw [hf32, einv]; exact sc_self _ _
    unfold norm_t.sl.Hc_w68
    refine tile_step (Val := Elt F) cV.view (cTile v110 X R G) k 28 (by decide) (k0_off31_eq k) (k0_off31_inb k) _ _ ?_ ?_
    · unfold cTile; rw [hf31, einv]; exact sc_self _ _
    unfold norm_t.sl.Hc_w67
    refine tile_step (Val := Elt F) cV.view (cTile v110 X R G) k 27 (by decide) (k0_off30_eq k) (k0_off30_inb k) _ _ ?_ ?_
    · unfold cTile; rw [hf30, einv]; exact sc_self _ _
    unfold norm_t.sl.Hc_w66
    refine tile_step (Val := Elt F) cV.view (cTile v110 X R G) k 26 (by decide) (k0_off29_eq k) (k0_off29_inb k) _ _ ?_ ?_
    · unfold cTile; rw [hf29, einv]; exact sc_self _ _
    unfold norm_t.sl.Hc_w65
    refine tile_step (Val := Elt F) cV.view (cTile v110 X R G) k 25 (by decide) (k0_off28_eq k) (k0_off28_inb k) _ _ ?_ ?_
    · unfold cTile; rw [hf28, einv]; exact sc_self _ _
    unfold norm_t.sl.Hc_w64
    refine tile_step (Val := Elt F) cV.view (cTile v110 X R G) k 24 (by decide) (k0_off27_eq k) (k0_off27_inb k) _ _ ?_ ?_
    · unfold cTile; rw [hf27, einv]; exact sc_self _ _
    unfold norm_t.sl.Hc_w63
    refine tile_step (Val := Elt F) cV.view (cTile v110 X R G) k 23 (by decide) (k0_off26_eq k) (k0_off26_inb k) _ _ ?_ ?_
    · unfold cTile; rw [hf26, einv]; exact sc_self _ _
    unfold norm_t.sl.Hc_w62
    refine tile_step (Val := Elt F) cV.view (cTile v110 X R G) k 22 (by decide) (k0_off25_eq k) (k0_off25_inb k) _ _ ?_ ?_
    · unfold cTile; rw [hf25, einv]; exact sc_self _ _
    unfold norm_t.sl.Hc_w61
    refine tile_step (Val := Elt F) cV.view (cTile v110 X R G) k 21 (by decide) (k0_off24_eq k) (k0_off24_inb k) _ _ ?_ ?_
    · unfold cTile; rw [hf24, einv]; exact sc_self _ _
    unfold norm_t.sl.Hc_w60
    refine tile_step (Val := Elt F) cV.view (cTile v110 X R G) k 20 (by decide) (k0_off23_eq k) (k0_off23_inb k) _ _ ?_ ?_
    · unfold cTile; rw [hf23, einv]; exact sc_self _ _
    unfold norm_t.sl.Hc_w59
    refine tile_step (Val := Elt F) cV.view (cTile v110 X R G) k 19 (by decide) (k0_off22_eq k) (k0_off22_inb k) _ _ ?_ ?_
    · unfold cTile; rw [hf22, einv]; exact sc_self _ _
    unfold norm_t.sl.Hc_w58
    refine tile_step (Val := Elt F) cV.view (cTile v110 X R G) k 18 (by decide) (k0_off21_eq k) (k0_off21_inb k) _ _ ?_ ?_
    · unfold cTile; rw [hf21, einv]; exact sc_self _ _
    unfold norm_t.sl.Hc_w57
    refine tile_step (Val := Elt F) cV.view (cTile v110 X R G) k 17 (by decide) (k0_off20_eq k) (k0_off20_inb k) _ _ ?_ ?_
    · unfold cTile; rw [hf20, einv]; exact sc_self _ _
    unfold norm_t.sl.Hc_w56
    refine tile_step (Val := Elt F) cV.view (cTile v110 X R G) k 16 (by decide) (k0_off19_eq k) (k0_off19_inb k) _ _ ?_ ?_
    · unfold cTile; rw [hf19, einv]; exact sc_self _ _
    unfold norm_t.sl.Hc_w55
    refine tile_step (Val := Elt F) cV.view (cTile v110 X R G) k 15 (by decide) (k0_off18_eq k) (k0_off18_inb k) _ _ ?_ ?_
    · unfold cTile; rw [hf18, einv]; exact sc_self _ _
    unfold norm_t.sl.Hc_w54
    refine tile_step (Val := Elt F) cV.view (cTile v110 X R G) k 14 (by decide) (k0_off17_eq k) (k0_off17_inb k) _ _ ?_ ?_
    · unfold cTile; rw [hf17, einv]; exact sc_self _ _
    unfold norm_t.sl.Hc_w53
    refine tile_step (Val := Elt F) cV.view (cTile v110 X R G) k 13 (by decide) (k0_off16_eq k) (k0_off16_inb k) _ _ ?_ ?_
    · unfold cTile; rw [hf16, einv]; exact sc_self _ _
    unfold norm_t.sl.Hc_w52
    refine tile_step (Val := Elt F) cV.view (cTile v110 X R G) k 12 (by decide) (k0_off15_eq k) (k0_off15_inb k) _ _ ?_ ?_
    · unfold cTile; rw [hf15, einv]; exact sc_self _ _
    unfold norm_t.sl.Hc_w51
    refine tile_step (Val := Elt F) cV.view (cTile v110 X R G) k 11 (by decide) (k0_off14_eq k) (k0_off14_inb k) _ _ ?_ ?_
    · unfold cTile; rw [hf14, einv]; exact sc_self _ _
    unfold norm_t.sl.Hc_w50
    refine tile_step (Val := Elt F) cV.view (cTile v110 X R G) k 10 (by decide) (k0_off13_eq k) (k0_off13_inb k) _ _ ?_ ?_
    · unfold cTile; rw [hf13, einv]; exact sc_self _ _
    unfold norm_t.sl.Hc_w49
    refine tile_step (Val := Elt F) cV.view (cTile v110 X R G) k 9 (by decide) (k0_off12_eq k) (k0_off12_inb k) _ _ ?_ ?_
    · unfold cTile; rw [hf12, einv]; exact sc_self _ _
    unfold norm_t.sl.Hc_w48
    refine tile_step (Val := Elt F) cV.view (cTile v110 X R G) k 8 (by decide) (k0_off11_eq k) (k0_off11_inb k) _ _ ?_ ?_
    · unfold cTile; rw [hf11, einv]; exact sc_self _ _
    unfold norm_t.sl.Hc_w47
    refine tile_step (Val := Elt F) cV.view (cTile v110 X R G) k 7 (by decide) (k0_off10_eq k) (k0_off10_inb k) _ _ ?_ ?_
    · unfold cTile; rw [hf10, einv]; exact sc_self _ _
    unfold norm_t.sl.Hc_w46
    refine tile_step (Val := Elt F) cV.view (cTile v110 X R G) k 6 (by decide) (k0_off9_eq k) (k0_off9_inb k) _ _ ?_ ?_
    · unfold cTile; rw [hf9, einv]; exact sc_self _ _
    unfold norm_t.sl.Hc_w45
    refine tile_step (Val := Elt F) cV.view (cTile v110 X R G) k 5 (by decide) (k0_off8_eq k) (k0_off8_inb k) _ _ ?_ ?_
    · unfold cTile; rw [hf8, einv]; exact sc_self _ _
    unfold norm_t.sl.Hc_w44
    refine tile_step (Val := Elt F) cV.view (cTile v110 X R G) k 4 (by decide) (k0_off7_eq k) (k0_off7_inb k) _ _ ?_ ?_
    · unfold cTile; rw [hf7, einv]; exact sc_self _ _
    unfold norm_t.sl.Hc_w43
    refine tile_step (Val := Elt F) cV.view (cTile v110 X R G) k 3 (by decide) (k0_off6_eq k) (k0_off6_inb k) _ _ ?_ ?_
    · unfold cTile; rw [hf6, einv]; exact sc_self _ _
    unfold norm_t.sl.Hc_w42
    refine tile_step (Val := Elt F) cV.view (cTile v110 X R G) k 2 (by decide) (k0_off5_eq k) (k0_off5_inb k) _ _ ?_ ?_
    · unfold cTile; rw [hf5, einv]; exact sc_self _ _
    unfold norm_t.sl.Hc_w41
    refine tile_step (Val := Elt F) cV.view (cTile v110 X R G) k 1 (by decide) (k0_off4_eq k) (k0_off4_inb k) _ _ ?_ ?_
    · unfold cTile; rw [hf4, einv]; exact sc_self _ _
    unfold norm_t.sl.Hc_w40
    refine tile_step (Val := Elt F) cV.view (cTile v110 X R G) k 0 (by decide) (k0_off3_eq k) (k0_off3_inb k) _ _ ?_ ?_
    · unfold cTile; rw [hf3, einv]; exact sc_self _ _
    exact tile_zero (Val := Elt F) cV.view (cTile v110 X R G) k _
  ihave Hh2 := eh $$ Hh
  ihave Hc2 := ec $$ Hc
  sl_close
end Cert.KernelIdeal.Hand
-- ==== Proof.KI.Trip1.lean ====
module

public import proofs.«01_k».proof.Proof.KI.T1

/-! One trip of the first loop: the row group's norm, then the two copies out. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev hO : Memref sig .tc .hbm S128x4992 .bf16 := Memref.whole main_v6_1
abbrev cO : Memref sig .tc .hbm S128x4992 .fp8e4m3 := Memref.whole main_v6_2

/-- Row group of copy-out number `j`: two copies per group. -/
def grpOf (j : Fin 8) : Fin k0_t1_loop.trips := ⟨j.val / 2, by have := trips1; have := j.isLt; omega⟩

/-- The units of copy-out `j`: even the hidden state, odd the codes. -/
def outA (j : Fin 8) : ℕ :=
  if j.val % 2 = 0 then (rows hO (grpOf j)).view.amount (.dma cc0_scratch15.sem) else (rows cO (grpOf j)).view.amount (.dma cc0_scratch15.sem)

/-- What copy-out `j` hands back when it has landed. -/
def outD (c : Dev nD) (H : Vec F S128x4992 .bf16) (C : Vec F S128x4992 .fp8e4m3) (j : Fin 8) : sProp 𝕄 :=
  if j.val % 2 = 0 then iprop(own c (rows hO (grpOf j)) fullShare H ∗ own c (rows hV (grpOf j)) fullShare H)
  else iprop(own c (rows cO (grpOf j)) fullShare C ∗ own c (rows cV (grpOf j)) fullShare.right C)

theorem copy_h (c : Dev nD) (k : Fin k0_t1_loop.trips) (f H : Vec F S128x4992 .bf16) :
    own c (rows hO k) fullShare ((rows hO k).view.write (Elt F) f ((rows hV k).view.read (Elt F) H) Finset.univ) = own c (rows hO k) fullShare H :=
  pointsTo_congr fun i hi => by
    obtain ⟨x, -, rfl⟩ := Finset.mem_map.mp hi
    rw [View.write_emb_of_mem _ _ (Finset.mem_univ x)]; rfl

theorem copy_c (c : Dev nD) (k : Fin k0_t1_loop.trips) (f C : Vec F S128x4992 .fp8e4m3) :
    own c (rows cO k) fullShare ((rows cO k).view.write (Elt F) f ((rows cV k).view.read (Elt F) C) Finset.univ) = own c (rows cO k) fullShare C :=
  pointsTo_congr fun i hi => by
    obtain ⟨x, -, rfl⟩ := Finset.mem_map.mp hi
    rw [View.write_emb_of_mem _ _ (Finset.mem_univ x)]; rfl

abbrev OutB (c : Dev nD) (H : Vec F S128x4992 .bf16) (C : Vec F S128x4992 .fp8e4m3) (j u : ℕ) : sProp 𝕄 :=
  Transfers.MixedBatch (countersEmb (U := Pipeline.UD sig nD τ)) (c : Thread nD τ) (.dma cc0_scratch15.sem) () outA (outD c H C) j u

theorem out_lt (k : Fin k0_t1_loop.trips) : 2 * k.val < 8 ∧ 2 * k.val + 1 < 8 := by have h1 := trips1; have h2 := k.isLt; omega
theorem grp_even (k : Fin k0_t1_loop.trips) (h : 2 * k.val < 8) : grpOf ⟨2 * k.val, h⟩ = k := Fin.ext (by show 2 * k.val / 2 = k.val; omega)
theorem grp_odd (k : Fin k0_t1_loop.trips) (h : 2 * k.val + 1 < 8) : grpOf ⟨2 * k.val + 1, h⟩ = k := Fin.ext (by show (2 * k.val + 1) / 2 = k.val; omega)

theorem outA_even (k : Fin k0_t1_loop.trips) (h : 2 * k.val < 8) : (rows hO k).view.amount (.dma cc0_scratch15.sem) = outA ⟨2 * k.val, h⟩ := by
  unfold outA; rw [if_pos (show 2 * k.val % 2 = 0 by omega), grp_even]
theorem outA_odd (k : Fin k0_t1_loop.trips) (h : 2 * k.val + 1 < 8) : (rows cO k).view.amount (.dma cc0_scratch15.sem) = outA ⟨2 * k.val + 1, h⟩ := by
  unfold outA; rw [if_neg (show ¬ (2 * k.val + 1) % 2 = 0 by omega), grp_odd]
theorem outD_even (c : Dev nD) (H : Vec F S128x4992 .bf16) (C : Vec F S128x4992 .fp8e4m3) (k : Fin k0_t1_loop.trips) (h : 2 * k.val < 8) :
    outD c H C ⟨2 * k.val, h⟩ = iprop(own c (rows hO k) fullShare H ∗ own c (rows hV k) fullShare H) := by
  unfold outD; rw [if_pos (show 2 * k.val % 2 = 0 by omega), grp_even]
theorem outD_odd (c : Dev nD) (H : Vec F S128x4992 .bf16) (C : Vec F S128x4992 .fp8e4m3) (k : Fin k0_t1_loop.trips) (h : 2 * k.val + 1 < 8) :
    outD c H C ⟨2 * k.val + 1, h⟩ = iprop(own c (rows cO k) fullShare C ∗ own c (rows cV k) fullShare.right C) := by
  unfold outD; rw [if_neg (show ¬ (2 * k.val + 1) % 2 = 0 by omega), grp_odd]

/-- A share cut in its two halves. -/
theorem own_halves (c : Dev nD) {sp : Space} {S : Shape} {e : EltTy} (M : Memref sig .tc sp S e) (q : PosShare TreeShare) (f : Buf (Elt F) (M.view.loc (c : Thread nD τ))) :
    (own c M q f : sProp 𝕄) ⊣⊢ iprop(own c M q.left f ∗ own c M q.right f) := pointsTo_share (PosShare.mem_left_op_right q)

set_option maxHeartbeats 2000000 in
theorem trip1 (c : Dev nD) (k : Fin k0_t1_loop.trips) (x : BitVec 32) (v110 : Vec F S1x1 .f32) (W : Waits sig Unit)
   (X R h0 oh : Vec F S128x4992 .bf16) (c0 oc : Vec F S128x4992 .fp8e4m3) (G : Vec F S39x128 .f32)  :
   iprop(Transfers.Batch (countersEmb (U := Pipeline.UD sig nD τ)) (c : Thread nD τ) (.dma (xcell k).sem) () ((rows xV k).view.dmaCredit) (dX c k X R) 2 0
      ∗ owes (c : Thread nD τ) 0 W
      ∗ own c gF fullShare G
      ∗ own c (rows hV k) fullShare h0 ∗ own c (rows cV k) fullShare c0 ∗ own c (rows hO k) fullShare oh ∗ own c (rows cO k) fullShare oc
      ∗ OutB c (hB X R) (cB v110 X R G) (2 * k.val) 0) ⊢
    wp frame (wpE (defs₀ (F := F)) Variants.none c none) Set.univ
      (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110 k ()) (fun _ =>
        iprop(own c (rows cV k) fullShare.left (cB v110 X R G) ∗ own c gF fullShare G
          ∗ own c (rows xV k) fullShare X ∗ own c (rows xH k) fullShare X ∗ own c (rows rV k) fullShare R ∗ own c (rows rH k) fullShare R
          ∗ semVal ((c : Thread nD τ), SemLoc.dma (xcell k).sem) 0 ∗ (∃ W', owes (c : Thread nD τ) 0 W')
          ∗ OutB c (hB X R) (cB v110 X R G) (2 * (k.val + 1)) 0)) := by
  iintro ⟨HB, HW, HG, Hh, Hc, Hoh, Hoc, HO⟩
  simp only [k0_t1_body, Prog.lift, Prog.bind_op, Prog.bind_ret, Prog.pure_eq_ret, Prog.bind_assoc]
  iapply (wp_seq (norm_t c k v110 W X R h0 c0 G)) $$ [HB HW HG Hh Hc]
  · sl_close
  iintro %r ⟨Hh, Hc, HG, Hx, Hxh, Hr, Hrh, Hs, ⟨%W', HW⟩⟩
  ihave Hc2 := (own_halves c (rows cV k) fullShare (cB v110 X R G)).1 $$ Hc
  icases Hc2 with ⟨Hcl, Hcr⟩
  iapply (Transfers.wp_dmaMixedBatch (countersEmb (U := Pipeline.UD sig nD τ)) Variants.none (c : Thread nD τ) none (src := rows hV k) (dst := rows hO k) (fs := hB X R) (fd := oh) (q := fullShare) (D := outD c (hB X R) (cB v110 X R G)) () outA
    (subset_refl _) (out_lt k).1 (outA_even k _) (Nat.zero_le _)
    (.of_eq (by rw [outD_even]; exact congrArg (fun P => iprop(P ∗ own c (rows hV k) fullShare (hB X R))) (copy_h c k oh (hB X R))))) $$ [Hh Hoh HO]
  · sl_close
  iintro HO
  iapply (Transfers.wp_dmaMixedBatch (countersEmb (U := Pipeline.UD sig nD τ)) Variants.none (c : Thread nD τ) none (src := rows cV k) (dst := rows cO k) (fs := cB v110 X R G) (fd := oc) (q := fullShare.right) (D := outD c (hB X R) (cB v110 X R G)) () outA
    (subset_refl _) (out_lt k).2 (outA_odd k _) (Nat.zero_le _)
    (.of_eq (by rw [outD_odd]; exact congrArg (fun P => iprop(P ∗ own c (rows cV k) fullShare.right (cB v110 X R G))) (copy_c c k oc (cB v110 X R G))))) $$ [Hcr Hoc HO]
  · sl_close
  iintro HO
  sl_step
  sl_close
end Cert.KernelIdeal.Hand
-- ==== Proof.KI.Model2.lean ====
module

public import proofs.«01_k».proof.Proof.KI.Model

/-! What the product computes, as plain functions of the codes and the weights, and where the ring of
weight blocks and the columns of the result lie. -/

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

abbrev wH : Memref sig .tc .hbm S11904x4992 .fp8e4m3 := Memref.whole main_arg3
abbrev wsV : Memref sig .tc .vmem S93x128 .f32 := Memref.whole cc0_scratch4
abbrev bF : Memref sig .tc .vmem S93x128 .f32 := Memref.whole cc0_scratch7
abbrev ringV : Memref sig .tc .vmem S8x512x4992 .fp8e4m3 := Memref.whole cc0_scratch10
abbrev yV : Memref sig .tc .vmem S128x11904 .bf16 := Memref.whole cc0_scratch11
abbrev yO : Memref sig .tc .hbm S128x11904 .bf16 := Memref.whole main_v6_0

theorem trips2 : k0_t2_loop.trips = 23 := by decide +kernel

/-- The rows of weight block `j`, -/
abbrev wrows (j : Fin k0_t2_loop.trips) : Memref sig .tc .hbm S512x4992 .fp8e4m3 :=
  wH.slice (Rect.unit (s := S11904x4992) (k0_off44 j) S512x4992.size (k0_off44_inb j)) (fun _ => rfl)
/-- the slot of the ring it is kept in, -/
abbrev slot (j : Fin k0_t2_loop.trips) : Memref sig .tc .vmem S512x4992 .fp8e4m3 :=
  (ringV.slice (Rect.unit (s := S8x512x4992) (k0_off43 j) S1x512x4992.size (k0_off43_inb j)) (fun _ => rfl)).squeeze S512x4992 squeezes_S1x512x4992_S512x4992
/-- the slot's semaphore, -/
abbrev wcell (j : Fin k0_t2_loop.trips) : DmaSems sig S_ :=
  (cc0_scratch14.slice (Rect.unit (s := S8) (k0_off42 j) S1.size (k0_off42_inb j))).squeeze S_ squeezes_S1_S_
/-- and the columns of the result it gives. -/
abbrev ycols {sp : Space} (M : Memref sig .tc sp S128x11904 .bf16) (j : Fin k0_t2_loop.trips) : Memref sig .tc sp S128x512 .bf16 :=
  M.slice (Rect.unit (s := S128x11904) (k0_off48 j) S128x512.size (k0_off48_inb j)) (fun _ => rfl)

/-- The last 128 rows of the weights, their place in the last slot, and the last columns of the result. -/
abbrev wtail : Memref sig .tc .hbm S128x4992 .fp8e4m3 :=
  wH.slice (Rect.unit (s := S11904x4992) ![11776, 0] S128x4992.size inb_S11904x4992_S128x4992_11776_0) (fun _ => rfl)
abbrev tslot : Memref sig .tc .vmem S128x4992 .fp8e4m3 :=
  (ringV.slice (Rect.unit (s := S8x512x4992) ![7, 0, 0] S1x128x4992.size inb_S8x512x4992_S1x128x4992_7_0_0) (fun _ => rfl)).squeeze S128x4992 squeezes_S1x128x4992_S128x4992
abbrev ytail {sp : Space} (M : Memref sig .tc sp S128x11904 .bf16) : Memref sig .tc sp S128x128 .bf16 :=
  M.slice (Rect.unit (s := S128x11904) ![0, 11776] S128x128.size inb_S128x11904_S128x128_0_11776) (fun _ => rfl)

/-- The ring with weight block `j` in its slot; what lies elsewhere in it is `z`. -/
def ringOf (z : Vec F S8x512x4992 .fp8e4m3) (W : Vec F S11904x4992 .fp8e4m3) (j : Fin k0_t2_loop.trips) : Vec F S8x512x4992 .fp8e4m3 :=
  (slot j).view.write (Elt F) z ((wrows j).view.read (Elt F) W) Finset.univ

theorem last_lt : 15 < k0_t2_loop.trips := by rw [trips2]; decide

/-- The ring with the last rows in the last slot. -/
def ringT (z : Vec F S8x512x4992 .fp8e4m3) (W : Vec F S11904x4992 .fp8e4m3) : Vec F S8x512x4992 .fp8e4m3 :=
  tslot.view.write (Elt F) (ringOf z W ⟨15, last_lt⟩) (wtail.view.read (Elt F) W) Finset.univ

/-- A load of the slot, its unit axis dropped, is the weight block. -/
theorem ring_read (z : Vec F S8x512x4992 .fp8e4m3) (W : Vec F S11904x4992 .fp8e4m3) (j : Fin k0_t2_loop.trips) {o : Fin 3 → ℕ} (ho : o = k0_off43 j)
    (inb : ∀ a, o a + S1x512x4992.size a ≤ S8x512x4992.size a) (h : S1x512x4992.ShapeCasts S512x4992) :
    shapeCast S512x4992 (ringV.view.readAt (Elt F) (Rect.unit (s := S8x512x4992) o S1x512x4992.size inb).toLoadRect (ringOf z W j)) h = (wrows j).view.read (Elt F) W := by
  subst ho
  exact (Memref.read_squeeze_slice ringV (Rect.unit (s := S8x512x4992) (k0_off43 j) S1x512x4992.size inb) (fun _ => rfl) squeezes_S1x512x4992_S512x4992 h (ringOf z W j)).symm.trans
    (View.read_write_univ (v := (slot j).view) (Val := Elt F) z _)

theorem ringT_read (z : Vec F S8x512x4992 .fp8e4m3) (W : Vec F S11904x4992 .fp8e4m3) (h : S1x128x4992.ShapeCasts S128x4992) :
    shapeCast S128x4992 (ringV.view.readAt (Elt F) (Rect.unit (s := S8x512x4992) ![7, 0, 0] S1x128x4992.size inb_S8x512x4992_S1x128x4992_7_0_0).toLoadRect (ringT z W)) h = wtail.view.read (Elt F) W :=
  (Memref.read_squeeze_slice ringV (Rect.unit (s := S8x512x4992) ![7, 0, 0] S1x128x4992.size inb_S8x512x4992_S1x128x4992_7_0_0) (fun _ => rfl) squeezes_S1x128x4992_S128x4992 h (ringT z W)).symm.trans
    (View.read_write_univ (v := tslot.view) (Val := Elt F) _ _)

/-- The codes times weight block `j`, -/
def dotB (C : Vec F S128x4992 .fp8e4m3) (W : Vec F S11904x4992 .fp8e4m3) (j : Fin k0_t2_loop.trips) : FVec F S128x512 .f32 :=
  matmul dot_S128x4992_S512x4992_S128x512_1_1_0_0_n_n none C ((wrows j).view.read (Elt F) W) (constant S128x512 .f32 0x00000000#32)

/-- and times the last rows. -/
def dotT (C : Vec F S128x4992 .fp8e4m3) (W : Vec F S11904x4992 .fp8e4m3) : FVec F S128x128 .f32 :=
  matmul dot_S128x4992_S128x4992_S128x128_1_1_0_0_n_n none C (wtail.view.read (Elt F) W) (constant S128x128 .f32 0x00000000#32)

theorem rinb : ∀ (t : Fin 93) (a : Fin 2), (![t.val, 0] : Fin 2 → ℕ) a + S1x128.size a ≤ S93x128.size a := by
  decide +kernel

/-- Row `t` of a 93 by 128 array: the 128 values of a column tile. -/
def row93 {α : Type} (V : S93x128.Idx → α) (t : Fin 93) : S1x128.Idx → α :=
  VecWindow.window (s := S93x128) V ![t.val, 0] S1x128.size (rinb t)

/-- The dequantised product of a column tile: scaled, the bias added, rounded. -/
def deq (s : Vec F S1x1 .f32) (P : FVec F S128x128 .f32) (ws b : FVec F S1x128 .f32) : FVec F S128x128 .bf16 :=
  truncf .bf16 (addf (mulf P (broadcastTo S128x128 (mulf (broadcastTo S1x128 s broadcasts_S1x1_S1x128) ws) broadcasts_S1x128_S128x128)) (broadcastTo S128x128 b broadcasts_S1x128_S128x128)) bitsLt_bf16_f32

theorem tile_lt (j : Fin k0_t2_loop.trips) (r : Fin 4) : 4 * j.val + r.val < 93 := by have := trips2; have := j.isLt; have := r.isLt; omega

theorem slices4 : ∀ r : Fin 4, S128x512.Slices ![0, 128 * r.val] S128x128 := by
  intro r; fin_cases r
  · exact slices_S128x512_o0_0_S128x128
  · exact slices_S128x512_o0_128_S128x128
  · exact slices_S128x512_o0_256_S128x128
  · exact slices_S128x512_o0_384_S128x128

/-- Column tile `r` of block `j`. -/
def yT (s : Vec F S1x1 .f32) (C : Vec F S128x4992 .fp8e4m3) (W : Vec F S11904x4992 .fp8e4m3) (ws b : Vec F S93x128 .f32) (j : Fin k0_t2_loop.trips) (r : Fin 4) : FVec F S128x128 .bf16 :=
  deq s (extractStridedSlice S128x128 ![0, 128 * r.val] (dotB C W j) (slices4 r)) (row93 ws ⟨4 * j.val + r.val, tile_lt j r⟩) (row93 b ⟨4 * j.val + r.val, tile_lt j r⟩)

/-- The last column tile. -/
def yL (s : Vec F S1x1 .f32) (C : Vec F S128x4992 .fp8e4m3) (W : Vec F S11904x4992 .fp8e4m3) (ws b : Vec F S93x128 .f32) : FVec F S128x128 .bf16 :=
  deq s (dotT C W) (row93 ws ⟨92, by decide⟩) (row93 b ⟨92, by decide⟩)

/-- Column tile `t` of the 93. -/
def yTile (s : Vec F S1x1 .f32) (C : Vec F S128x4992 .fp8e4m3) (W : Vec F S11904x4992 .fp8e4m3) (ws b : Vec F S93x128 .f32) (t : Fin 93) : FVec F S128x128 .bf16 :=
  if h : t.val < 92 then yT s C W ws b ⟨t.val / 4, by have := trips2; omega⟩ ⟨t.val % 4, Nat.mod_lt _ (by decide)⟩ else yL s C W ws b

/-- The column tile an index of the result lies in, -/
def ytile (i : S128x11904.Idx) : Fin 93 := ⟨(i 1).val / 128, by have h : (i 1).val < 11904 := (i 1).isLt; omega⟩
/-- and its place in it. -/
def yloc (i : S128x11904.Idx) : S128x128.Idx := fun a => match a with
  | 0 => ⟨(i 0).val, (i 0).isLt⟩
  | 1 => ⟨(i 1).val % 128, Nat.mod_lt _ (by decide)⟩

/-- The array with the given column tiles. -/
def mkY {α : Type} (T : Fin 93 → S128x128.Idx → α) : S128x11904.Idx → α := fun i => T (ytile i) (yloc i)

/-- The result, whole. -/
def yB (s : Vec F S1x1 .f32) (C : Vec F S128x4992 .fp8e4m3) (W : Vec F S11904x4992 .fp8e4m3) (ws b : Vec F S93x128 .f32) : Vec F S128x11904 .bf16 := mkY (yTile s C W ws b)

theorem yinb : ∀ (t : Fin 93) (a : Fin 2), (![0, 128 * t.val] : Fin 2 → ℕ) a + S128x128.size a ≤ S128x11904.size a := by
  decide +kernel

/-- The place `x` of column tile `t`. -/
def yat (t : Fin 93) (x : S128x128.Idx) : S128x11904.Idx := (Rect.unit (s := S128x11904) ![0, 128 * t.val] S128x128.size (yinb t)).emb x

theorem yat_0 (t) (x) : (yat t x 0).val = (x 0).val := by show 0 + 1 * (x 0).val = _; omega
theorem yat_1 (t) (x) : (yat t x 1).val = 128 * t.val + (x 1).val := by show 128 * t.val + 1 * (x 1).val = _; omega
theorem ytile_yat (t) (x) : ytile (yat t x) = t := by
  apply Fin.ext; show (yat t x 1).val / 128 = _; rw [yat_1]
  have h : (x 1).val < 128 := (x 1).isLt; omega
theorem yloc_yat (t) (x) : yloc (yat t x) = x := by
  funext a; apply Fin.ext
  fin_cases a
  · show (yat t x 0).val = _; rw [yat_0]; rfl
  · show (yat t x 1).val % 128 = _; rw [yat_1]
    have h : (x 1).val < 128 := (x 1).isLt; show _ = (x 1).val; omega
theorem yat_yloc (i) : yat (ytile i) (yloc i) = i := by
  funext a; apply Fin.ext
  fin_cases a
  · show (yat _ _ 0).val = (i 0).val; rw [yat_0]; rfl
  · show (yat _ _ 1).val = (i 1).val; rw [yat_1]; show 128 * ((i 1).val / 128) + (i 1).val % 128 = _; omega
theorem mkY_yat {α : Type} (T : Fin 93 → S128x128.Idx → α) (t) (x) : mkY T (yat t x) = T t x := by
  unfold mkY; rw [ytile_yat, yloc_yat]

/-- Storing column tile `t` extends what agrees with the array of the tiles, from tile `lo` on, by that tile. -/
theorem ytile_step {Val : EltTy → Type} {sp : Space} {e : EltTy} (v : View sig .tc sp S128x11904 e)
    (T : Fin 93 → S128x128.Idx → Val e) (lo t : ℕ) (ht : t < 93)
    {off : Fin 2 → ℕ} (hoff : off = ![0, 128 * t]) (inb : ∀ a, off a + S128x128.size a ≤ S128x11904.size a)
    (f : v.ty.Contents Val) (w : S128x128.Idx → Val e) (hw : w = T ⟨t, ht⟩)
    (hf : ∀ i, lo ≤ (ytile i).val → (ytile i).val < t → v.read Val f i = mkY T i) :
    ∀ i, lo ≤ (ytile i).val → (ytile i).val < t + 1 →
      v.read Val ((v.slice (Rect.unit (s := S128x11904) off S128x128.size inb)).write Val f w Finset.univ) i = mkY T i := by
  subst hoff
  intro i hlo hi
  by_cases he : (ytile i).val = t
  · have e : ytile i = ⟨t, ht⟩ := Fin.ext he
    have hi' : i = yat ⟨t, ht⟩ (yloc i) := by rw [← e, yat_yloc]
    conv_rhs => rw [hi', mkY_yat]
    conv_lhs => rw [hi']
    rw [← hw]
    exact View.read_slice_write_emb (Rect.unit (s := S128x11904) ![0, 128 * t] S128x128.size inb) f w (Finset.mem_univ (yloc i))
  · refine (View.read_slice_write_of_not_mem (Rect.unit (s := S128x11904) ![0, 128 * t] S128x128.size inb) f w _ ?_).trans (hf i hlo (by omega))
    intro hm
    obtain ⟨x, -, hx⟩ := Finset.mem_map.mp hm
    have hx' : yat ⟨t, ht⟩ x = i := hx
    exact he (by rw [← hx', ytile_yat])

theorem ytile_of_mem (k : Fin k0_t2_loop.trips) {i : S128x11904.Idx} (h : i ∈ (Rect.unit (s := S128x11904) (k0_off48 k) S128x512.size (k0_off48_inb k)).set) :
    4 * k.val ≤ (ytile i).val ∧ (ytile i).val < 4 * k.val + 3 + 1 := by
  have h0 := (Rect.mem_set_unit.mp h) 1
  rw [k0_off48_eq k] at h0
  have h1 : 512 * k.val ≤ (i 1).val ∧ (i 1).val < 512 * k.val + 512 := h0
  show 4 * k.val ≤ (i 1).val / 128 ∧ (i 1).val / 128 < 4 * k.val + 3 + 1
  omega

theorem yTile_blk (s : Vec F S1x1 .f32) (C : Vec F S128x4992 .fp8e4m3) (W : Vec F S11904x4992 .fp8e4m3) (ws b : Vec F S93x128 .f32) (j : Fin k0_t2_loop.trips) (r : Fin 4) (h : 4 * j.val + r.val < 93) :
    yTile s C W ws b ⟨4 * j.val + r.val, h⟩ = yT s C W ws b j r := by
  have h1 := trips2; have h2 := j.isLt; have h3 := r.isLt
  unfold yTile
  rw [dif_pos (show 4 * j.val + r.val < 92 by omega)]
  congr 1
  · exact Fin.ext (show (4 * j.val + r.val) / 4 = j.val by omega)
  · exact Fin.ext (show (4 * j.val + r.val) % 4 = r.val by omega)

theorem yTile_last (s : Vec F S1x1 .f32) (C : Vec F S128x4992 .fp8e4m3) (W : Vec F S11904x4992 .fp8e4m3) (ws b : Vec F S93x128 .f32) (h : 92 < 93) :
    yTile s C W ws b ⟨92, h⟩ = yL s C W ws b := by
  unfold yTile
  rw [dif_neg (show ¬ 92 < 92 by decide)]

/-- A load of one row of a 93 by 128 array. -/
theorem rdRow {Val : EltTy → Type} {sp : Space} {e : EltTy} (v : View sig .tc sp S93x128 e) (f : v.ty.Contents Val) (k : Fin k0_t2_loop.trips) (r : Fin 4) :
    v.readAt Val (Rect.unit (s := S93x128) (k0_off46 k (BitVec.ofNat 32 r.val)) S1x128.size (k0_off46_inb k r)).toLoadRect f = row93 (v.read Val f) ⟨4 * k.val + r.val, tile_lt k r⟩ :=
  View.readAt_unit v f _ (k0_off46_eq k r) (rinb ⟨4 * k.val + r.val, tile_lt k r⟩)

end Cert.KernelIdeal.Hand
-- ==== Proof.KI.Trip2.lean ====
module

public import proofs.«01_k».proof.Proof.KI.Trip1
public import proofs.«01_k».proof.Proof.KI.Model2

/-! One trip of the second loop: the block's weights arrive, its columns of the result are computed and sent, and the slot is
used for the block eight further on, or for the last rows. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the arrival of weight block `j` hands back. -/
def dW (c : Dev nD) (z : Vec F S8x512x4992 .fp8e4m3) (Wv : Vec F S11904x4992 .fp8e4m3) (j : Fin k0_t2_loop.trips) : Fin 1 → sProp 𝕄 :=
  fun _ => iprop(own c (slot j) fullShare (ringOf z Wv j) ∗ own c (wrows j) fullShare Wv)

/-- What the arrival of the last rows hands back. -/
def dT (c : Dev nD) (z : Vec F S8x512x4992 .fp8e4m3) (Wv : Vec F S11904x4992 .fp8e4m3)   : Fin 1 → sProp 𝕄 :=
  fun _ => iprop(own c (slot ⟨15, last_lt⟩) fullShare (ringT z Wv) ∗ own c wtail fullShare Wv)

instance (c : Dev nD) (z) (Wv : Vec F S11904x4992 .fp8e4m3) (j) (t) : Storable (upEmb : UEmb _ 𝕄) (dW c z Wv j t) := by unfold dW; infer_instance
instance (c : Dev nD) (z) (Wv : Vec F S11904x4992 .fp8e4m3) (t) : Storable (upEmb : UEmb _ 𝕄) (dT c z Wv t) := by unfold dT; infer_instance

/-- Weight block `j` on its way. -/
abbrev WB (c : Dev nD) (z : Vec F S8x512x4992 .fp8e4m3) (Wv : Vec F S11904x4992 .fp8e4m3) (j : Fin k0_t2_loop.trips) : sProp 𝕄 :=
  Transfers.Batch (countersEmb (U := Pipeline.UD sig nD τ)) (c : Thread nD τ) (.dma (wcell j).sem) () ((slot j).view.dmaCredit) (dW c z Wv j) 1 0

/-- The last rows on their way. -/
abbrev TB (c : Dev nD) (z : Vec F S8x512x4992 .fp8e4m3) (Wv : Vec F S11904x4992 .fp8e4m3) : sProp 𝕄 :=
  Transfers.Batch (countersEmb (U := Pipeline.UD sig nD τ)) (c : Thread nD τ) (.dma (wcell ⟨15, last_lt⟩).sem) () (tslot.view.dmaCredit) (dT c z Wv) 1 0

/-- The units of copy-out `j` of the result: 23 blocks of columns, then the last columns. -/
def yA (j : Fin 24) : ℕ :=
  if h : j.val < 23 then (ycols yO ⟨j.val, by rw [trips2]; exact h⟩).view.amount (.dma cc0_scratch17.sem) else (ytail yO).view.amount (.dma cc0_scratch17.sem)

/-- What copy-out `j` of the result hands back. -/
def yD (c : Dev nD) (Y : Vec F S128x11904 .bf16) (j : Fin 24) : sProp 𝕄 :=
  if h : j.val < 23 then iprop(own c (ycols yO ⟨j.val, by rw [trips2]; exact h⟩) fullShare Y ∗ own c (ycols yV ⟨j.val, by rw [trips2]; exact h⟩) fullShare Y)
  else iprop(own c (ytail yO) fullShare Y ∗ own c (ytail yV) fullShare Y)

abbrev YB (c : Dev nD) (Y : Vec F S128x11904 .bf16) (j u : ℕ) : sProp 𝕄 :=
  Transfers.MixedBatch (countersEmb (U := Pipeline.UD sig nD τ)) (c : Thread nD τ) (.dma cc0_scratch17.sem) () yA (yD c Y) j u

theorem y_lt (k : Fin k0_t2_loop.trips) : k.val < 24 := by have h1 := trips2; have h2 := k.isLt; omega
theorem y_lt' (k : Fin k0_t2_loop.trips) : k.val < 23 := by have h1 := trips2; have h2 := k.isLt; omega
theorem yA_blk (k : Fin k0_t2_loop.trips) : (ycols yO k).view.amount (.dma cc0_scratch17.sem) = yA ⟨k.val, y_lt k⟩ := by
  unfold yA; rw [dif_pos (y_lt' k)]
theorem yD_blk (c : Dev nD) (Y : Vec F S128x11904 .bf16) (k : Fin k0_t2_loop.trips) :
    yD c Y ⟨k.val, y_lt k⟩ = iprop(own c (ycols yO k) fullShare Y ∗ own c (ycols yV k) fullShare Y) := by
  unfold yD; rw [dif_pos (y_lt' k)]

theorem copy_y (c : Dev nD) (k : Fin k0_t2_loop.trips) (f Y : Vec F S128x11904 .bf16) :
    own c (ycols yO k) fullShare ((ycols yO k).view.write (Elt F) f ((ycols yV k).view.read (Elt F) Y) Finset.univ) = own c (ycols yO k) fullShare Y :=
  pointsTo_congr fun i hi => by
    obtain ⟨x, -, rfl⟩ := Finset.mem_map.mp hi
    rw [View.write_emb_of_mem _ _ (Finset.mem_univ x)]; rfl

/-- Offsets printed in another way name the same cell, slot and rows. -/
theorem cell_eq {o : Fin 1 → ℕ} (j : Fin k0_t2_loop.trips) (h : o = k0_off42 j) (inb : ∀ a, o a + S1.size a ≤ S8.size a) :
    ((cc0_scratch14.slice (Rect.unit (s := S8) o S1.size inb)).squeeze S_ squeezes_S1_S_).sem = (wcell j).sem := by subst h; rfl
theorem slot_eq (c : Dev nD) {o : Fin 3 → ℕ} (j : Fin k0_t2_loop.trips) (h : o = k0_off43 j) (inb : ∀ a, o a + S1x512x4992.size a ≤ S8x512x4992.size a) (q : PosShare TreeShare) (f : Vec F S8x512x4992 .fp8e4m3) :
    (own c ((ringV.slice (Rect.unit (s := S8x512x4992) o S1x512x4992.size inb) (fun _ => rfl)).squeeze S512x4992 squeezes_S1x512x4992_S512x4992) q f : sProp 𝕄) = own c (slot j) q f := by subst h; rfl
theorem wrows_eq (c : Dev nD) {o : Fin 2 → ℕ} (j : Fin k0_t2_loop.trips) (h : o = k0_off44 j) (inb : ∀ a, o a + S512x4992.size a ≤ S11904x4992.size a) (q : PosShare TreeShare) (f : Vec F S11904x4992 .fp8e4m3) :
    (own c (wH.slice (Rect.unit (s := S11904x4992) o S512x4992.size inb) (fun _ => rfl)) q f : sProp 𝕄) = own c (wrows j) q f := by subst h; rfl

theorem WB_eq (c : Dev nD) (z : Vec F S8x512x4992 .fp8e4m3) (Wv : Vec F S11904x4992 .fp8e4m3) (j : Fin k0_t2_loop.trips) {o : Fin 1 → ℕ} {o' : Fin 3 → ℕ} (h : o = k0_off42 j) (h' : o' = k0_off43 j)
    (inb : ∀ a, o a + S1.size a ≤ S8.size a) (inb' : ∀ a, o' a + S1x512x4992.size a ≤ S8x512x4992.size a) :
    (Transfers.Batch (countersEmb (U := Pipeline.UD sig nD τ)) (c : Thread nD τ) (.dma ((cc0_scratch14.slice (Rect.unit (s := S8) o S1.size inb)).squeeze S_ squeezes_S1_S_).sem) ()
      (((ringV.slice (Rect.unit (s := S8x512x4992) o' S1x512x4992.size inb') (fun _ => rfl)).squeeze S512x4992 squeezes_S1x512x4992_S512x4992).view.dmaCredit) (dW c z Wv j) 1 0 : sProp 𝕄) = WB c z Wv j := by
  subst h; subst h'; rfl

/-- The arrival of weight block `j` in a slot: what the slot held before does not matter. -/
theorem issue_w (c : Dev nD) (z fd : Vec F S8x512x4992 .fp8e4m3) (Wv : Vec F S11904x4992 .fp8e4m3) (j : Fin k0_t2_loop.trips) {o : Fin 3 → ℕ} {o' : Fin 2 → ℕ} (h : o = k0_off43 j) (h' : o' = k0_off44 j)
    (inb : ∀ a, o a + S1x512x4992.size a ≤ S8x512x4992.size a) (inb' : ∀ a, o' a + S512x4992.size a ≤ S11904x4992.size a) (t : Fin 1) :
    iprop(own c ((ringV.slice (Rect.unit (s := S8x512x4992) o S1x512x4992.size inb) (fun _ => rfl)).squeeze S512x4992 squeezes_S1x512x4992_S512x4992) fullShare
        (((ringV.slice (Rect.unit (s := S8x512x4992) o S1x512x4992.size inb) (fun _ => rfl)).squeeze S512x4992 squeezes_S1x512x4992_S512x4992).view.write (Elt F) fd
          ((wH.slice (Rect.unit (s := S11904x4992) o' S512x4992.size inb') (fun _ => rfl)).view.read (Elt F) Wv) Finset.univ)
      ∗ own c (wH.slice (Rect.unit (s := S11904x4992) o' S512x4992.size inb') (fun _ => rfl)) fullShare Wv) ⊢ (dW c z Wv j t : sProp 𝕄) := by
  subst h; subst h'
  refine .of_eq (congrArg (fun P => iprop(P ∗ own c (wrows j) fullShare Wv)) (pointsTo_congr fun i hi => ?_))
  obtain ⟨x, -, rfl⟩ := Finset.mem_map.mp hi
  unfold ringOf
  rw [View.write_emb_of_mem _ _ (Finset.mem_univ x)]
  exact (View.write_emb_of_mem _ _ (Finset.mem_univ x)).symm

theorem cond1_iff : ∀ k : Fin k0_t2_loop.trips, k0_cond1 k = 1#1 ↔ k.val + 8 < 23 := by decide +kernel
theorem cond2_iff : ∀ k : Fin k0_t2_loop.trips, k0_cond2 k = 1#1 ↔ k.val = 15 := by decide +kernel

/-- The block eight further on: the next one in the same slot. -/
abbrev nxt (k : Fin k0_t2_loop.trips) (h : k.val + 8 < 23) : Fin k0_t2_loop.trips := ⟨k.val + 8, lt_of_lt_of_eq h trips2.symm⟩

theorem off49_nxt (k : Fin k0_t2_loop.trips) (h : k.val + 8 < 23) : k0_off49 k = k0_off42 (nxt k h) := by
  rw [k0_off49_eq, k0_off42_eq]; show _ = ![(k.val + 8) % 8]; rw [show (k.val + 8) % 8 = k.val % 8 by omega]
theorem off50_nxt (k : Fin k0_t2_loop.trips) (h : k.val + 8 < 23) : k0_off50 k = k0_off43 (nxt k h) := by
  rw [k0_off50_eq, k0_off43_eq]; show _ = ![(k.val + 8) % 8, 0, 0]; rw [show (k.val + 8) % 8 = k.val % 8 by omega]
theorem off51_nxt (k : Fin k0_t2_loop.trips) (h : k.val + 8 < 23) : k0_off51 k = k0_off44 (nxt k h) := by
  rw [k0_off51_eq, k0_off44_eq]; show _ = ![512 * (k.val + 8), 0]; rw [show 512 * (k.val + 8) = 512 * k.val + 4096 by omega]
theorem off49_42 (k : Fin k0_t2_loop.trips) : k0_off49 k = k0_off42 k := by rw [k0_off49_eq, k0_off42_eq]
theorem off50_43 (k : Fin k0_t2_loop.trips) : k0_off50 k = k0_off43 k := by rw [k0_off50_eq, k0_off43_eq]
theorem off45_43 (k : Fin k0_t2_loop.trips) : k0_off45 k = k0_off43 k := by rw [k0_off45_eq, k0_off43_eq]
theorem off52_42 (k : Fin k0_t2_loop.trips) : k0_off52 k = k0_off42 k := by rw [k0_off52_eq, k0_off42_eq]

/-- What trip `k` needs for the slot's next use, -/
def preX (c : Dev nD) (Wv : Vec F S11904x4992 .fp8e4m3) (k : Fin k0_t2_loop.trips) : sProp 𝕄 :=
  if h : k.val + 8 < 23 then own c (wrows (nxt k h)) fullShare Wv else if k.val = 15 then own c wtail fullShare Wv else iprop(emp)
/-- and what it leaves of the slot. -/
def postX (c : Dev nD) (z : Vec F S8x512x4992 .fp8e4m3) (Wv : Vec F S11904x4992 .fp8e4m3) (k : Fin k0_t2_loop.trips) : sProp 𝕄 :=
  if h : k.val + 8 < 23 then WB c z Wv (nxt k h) else if k.val = 15 then TB c z Wv
  else iprop(own c (slot k) fullShare (ringOf z Wv k) ∗ semVal ((c : Thread nD τ), SemLoc.dma (wcell k).sem) 0)

theorem pay155_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 0, tile_lt k 0⟩) (hb : b1 = row93 b ⟨4 * k.val + 0, tile_lt k 0⟩) :
    k0_pay155 v110 D w1 b1 = yT v110 C Wv ws b k 0 := by
  subst hD; subst hw; subst hb; exact sc_self _ _

theorem pay159_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 3, tile_lt k 3⟩) (hb : b1 = row93 b ⟨4 * k.val + 3, tile_lt k 3⟩) :
    k0_pay159 v110 D w1 b1 = yT v110 C Wv ws b k 3 := by
  subst hD; subst hw; subst hb; exact sc_self _ _

theorem pay156_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 1, tile_lt k 1⟩) (hb : b1 = row93 b ⟨4 * k.val + 1, tile_lt k 1⟩) :
    k0_pay157 (k0_pay156 v110 D w1 b1) = yT v110 C Wv ws b k 1 := by
  subst hD; subst hw; subst hb; exact sc_self _ _

theorem pay158_eq {v110 : Vec F S1x1 .f32} {D : FVec F S128x512 .f32} {w1 b1 : Vec F S1x128 .f32} (C : Vec F S128x4992 .fp8e4m3) (Wv : Vec F S11904x4992 .fp8e4m3) (ws b : Vec F S93x128 .f32) (k : Fin k0_t2_loop.trips)
    (hD : D = dotB C Wv k) (hw : w1 = row93 ws ⟨4 * k.val + 2, tile_lt k 2⟩) (hb : b1 = row93 b ⟨4 * k.val + 2, tile_lt k 2⟩) :
    k0_pay158 v110 D w1 b1 = yT v110 C Wv ws b k 2 := by
  subst hD; subst hw; subst hb; exact sc_self _ _

theorem dot_eq (z : Vec F S8x512x4992 .fp8e4m3) (C : Vec F S128x4992 .fp8e4m3) (Wv : Vec F S11904x4992 .fp8e4m3) (k : Fin k0_t2_loop.trips) :
    k0_pay154 (cV.view.readAt (Elt F) (Rect.unit (s := S128x4992) ![0, 0] S128x4992.size inb_S128x4992_S128x4992_0_0).toLoadRect C)
      (ringV.view.readAt (Elt F) (Rect.unit (s := S8x512x4992) (k0_off45 k) S1x512x4992.size (k0_off45_inb k)).toLoadRect (ringOf z Wv k)) = dotB C Wv k := by
  unfold k0_pay154 dotB
  rw [ring_read z Wv k (off45_43 k), View.readAt_full]
  rfl

theorem issue_t (c : Dev nD) (z : Vec F S8x512x4992 .fp8e4m3) (Wv : Vec F S11904x4992 .fp8e4m3) {o : Fin 3 → ℕ} (h : o = ![7, 0, 0])
    (inb : ∀ a, o a + S1x128x4992.size a ≤ S8x512x4992.size a) (t : Fin 1) :
    iprop((ringV.view.loc (c : Thread nD τ) ↦[(slot ⟨15, last_lt⟩).view.set]{fullShare}
        (((ringV.slice (Rect.unit (s := S8x512x4992) o S1x128x4992.size inb) (fun _ => rfl)).squeeze S128x4992 squeezes_S1x128x4992_S128x4992).view.write (Elt F) (ringOf z Wv ⟨15, last_lt⟩)
          (wtail.view.read (Elt F) Wv) Finset.univ))
      ∗ own c wtail fullShare Wv) ⊢ (dT c z Wv t : sProp 𝕄) := by
  subst h; exact .rfl

theorem TB_eq (c : Dev nD) (z : Vec F S8x512x4992 .fp8e4m3) (Wv : Vec F S11904x4992 .fp8e4m3) {o : Fin 1 → ℕ} {o' : Fin 3 → ℕ} (h : o = k0_off42 ⟨15, last_lt⟩) (h' : o' = ![7, 0, 0])
    (inb : ∀ a, o a + S1.size a ≤ S8.size a) (inb' : ∀ a, o' a + S1x128x4992.size a ≤ S8x512x4992.size a) :
    (Transfers.Batch (countersEmb (U := Pipeline.UD sig nD τ)) (c : Thread nD τ) (.dma ((cc0_scratch14.slice (Rect.unit (s := S8) o S1.size inb)).squeeze S_ squeezes_S1_S_).sem) ()
      (((ringV.slice (Rect.unit (s := S8x512x4992) o' S1x128x4992.size inb') (fun _ => rfl)).squeeze S128x4992 squeezes_S1x128x4992_S128x4992).view.dmaCredit) (dT c z Wv) 1 0 : sProp 𝕄) = TB c z Wv := by
  subst h; subst h'; rfl

theorem ring_set {S' : Shape} (r : Rect S8x512x4992) (hr : ∀ a, r.stride a = 1) (hq : r.shape.Squeezes S') :
    ((ringV.slice r hr).squeeze S' hq).view.set = r.set := by
  refine Eq.trans ?_ (View.set_slice_whole cc0_scratch10 r)
  exact View.set_reshape _ _

theorem tslot_sub {o : Fin 3 → ℕ} (h : o = ![7, 0, 0]) (inb : ∀ a, o a + S1x128x4992.size a ≤ S8x512x4992.size a) :
    ((ringV.slice (Rect.unit (s := S8x512x4992) o S1x128x4992.size inb) (fun _ => rfl)).squeeze S128x4992 squeezes_S1x128x4992_S128x4992).view.set ⊆ (slot ⟨15, last_lt⟩).view.set := by
  subst h
  intro i hi
  have h1 := (ring_set _ _ _) ▸ hi
  rw [ring_set]
  refine Rect.mem_set_unit.mpr fun a => ?_
  have h2 := Rect.mem_set_unit.mp h1 a
  rw [k0_off43_eq]
  fin_cases a
  · exact h2
  · exact ⟨h2.1, lt_of_lt_of_le h2.2 (show (0 : ℕ) + 128 ≤ 0 + 512 by decide)⟩
  · exact h2

theorem off53_last : k0_off53 ⟨15, last_lt⟩ = ![7, 0, 0] := (k0_off53_eq _).trans rfl

set_option maxHeartbeats 2000000 in
theorem trip2 (c : Dev nD) (k : Fin k0_t2_loop.trips) (v110 : Vec F S1x1 .f32) (W : Waits sig Unit)
   (z : Vec F S8x512x4992 .fp8e4m3) (C : Vec F S128x4992 .fp8e4m3) (Wv : Vec F S11904x4992 .fp8e4m3) (ws b : Vec F S93x128 .f32) (y0 yo : Vec F S128x11904 .bf16) :
   iprop(WB c z Wv k
      ∗ owes (c : Thread nD τ) 0 W
      ∗ own c cV fullShare.left C ∗ own c wsV fullShare ws ∗ own c bF fullShare b
      ∗ own c (ycols yV k) fullShare y0 ∗ own c (ycols yO k) fullShare yo
      ∗ YB c (yB v110 C Wv ws b) k.val 0 ∗ preX c Wv k) ⊢
    wp frame (wpE (defs₀ (F := F)) Variants.none c none) Set.univ
      (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32 k ())
      (fun _ => iprop(own c (wrows k) fullShare Wv ∗ (∃ W', owes (c : Thread nD τ) 0 W')
          ∗ own c cV fullShare.left C ∗ own c wsV fullShare ws ∗ own c bF fullShare b
          ∗ YB c (yB v110 C Wv ws b) (k.val + 1) 0 ∗ postX c z Wv k)) := by
  unfold WB dW
  iintro ⟨HB, HW, HC, Hws, Hb, Hy, Hyo, HY, HX⟩
  sl_exec
  have hoff : ∀ r : Fin 4, k0_off47 k (BitVec.ofNat 32 (128 * r.val)) = ![0, 128 * (4 * k.val + r.val)] := fun r => by
    rw [k0_off47_eq, show 512 * k.val + 128 * r.val = 128 * (4 * k.val + r.val) by omega]
  have ey : own c (ycols yV k) fullShare (trip2.sl.Hy_w4 k v110 z C Wv ws b y0) ⊢ own c (ycols yV k) fullShare (yB v110 C Wv ws b) := by
    refine .of_eq (pointsTo_congr fun j hj => ?_)
    have hg := ytile_of_mem k (by rwa [show (ycols yV k).view.set = _ from View.set_slice_whole _ _] at hj)
    refine (show ∀ j, 4 * k.val ≤ (ytile j).val → (ytile j).val < 4 * k.val + 3 + 1 → yV.view.read (Elt F) (trip2.sl.Hy_w4 k v110 z C Wv ws b y0) j = mkY (yTile v110 C Wv ws b) j from ?_) j hg.1 hg.2
    clear hg hj j
    unfold trip2.sl.Hy_w4
    refine ytile_step (Val := Elt F) yV.view (yTile v110 C Wv ws b) (4 * k.val) (4 * k.val + 3) (tile_lt k 3) (hoff 3) (k0_off47_inb k 3) _ _ ?_ ?_
    · refine Eq.trans ?_ (yTile_blk v110 C Wv ws b k 3 (tile_lt k 3)).symm
      exact pay159_eq C Wv ws b k (dot_eq z C Wv k) (rdRow wsV.view ws k 3) (rdRow bF.view b k 3)
    unfold trip2.sl.Hy_w3
    refine ytile_step (Val := Elt F) yV.view (yTile v110 C Wv ws b) (4 * k.val) (4 * k.val + 2) (tile_lt k 2) (hoff 2) (k0_off47_inb k 2) _ _ ?_ ?_
    · refine Eq.trans ?_ (yTile_blk v110 C Wv ws b k 2 (tile_lt k 2)).symm
      exact pay158_eq C Wv ws b k (dot_eq z C Wv k) (rdRow wsV.view ws k 2) (rdRow bF.view b k 2)
    unfold trip2.sl.Hy_w2
    refine ytile_step (Val := Elt F) yV.view (yTile v110 C Wv ws b) (4 * k.val) (4 * k.val + 1) (tile_lt k 1) (hoff 1) (k0_off47_inb k 1) _ _ ?_ ?_
    · refine Eq.trans ?_ (yTile_blk v110 C Wv ws b k 1 (tile_lt k 1)).symm
      exact pay156_eq C Wv ws b k (dot_eq z C Wv k) (rdRow wsV.view ws k 1) (rdRow bF.view b k 1)
    unfold trip2.sl.Hy_w1
    refine ytile_step (Val := Elt F) yV.view (yTile v110 C Wv ws b) (4 * k.val) (4 * k.val + 0) (tile_lt k 0) (hoff 0) (k0_off47_inb k 0) _ _ ?_ ?_
    · refine Eq.trans ?_ (yTile_blk v110 C Wv ws b k 0 (tile_lt k 0)).symm
      exact pay155_eq C Wv ws b k (dot_eq z C Wv k) (rdRow wsV.view ws k 0) (rdRow bF.view b k 0)
    intro i h1 h2; exact absurd h2 (by omega)
  ihave Hy := ey $$ Hy
  iapply (Transfers.wp_dmaMixedBatch (countersEmb (U := Pipeline.UD sig nD τ)) Variants.none (c : Thread nD τ) none (src := ycols yV k) (dst := ycols yO k) (fs := yB v110 C Wv ws b) (fd := yo) (q := fullShare) (D := yD c (yB v110 C Wv ws b)) () yA
    (subset_refl _) (y_lt k) (yA_blk k) (Nat.zero_le _)
    (.of_eq (by rw [yD_blk]; exact congrArg (fun P => iprop(P ∗ own c (ycols yV k) fullShare (yB v110 C Wv ws b))) (copy_y c k yo (yB v110 C Wv ws b))))) $$ [Hy Hyo HY]
  · sl_close
  iintro HY
  by_cases h : k.val + 8 < 23
  · have h1 : k0_cond1 k = 1#1 := (cond1_iff k).2 h
    have h2 : ¬ k0_cond2 k = 1#1 := fun e => by have := (cond2_iff k).1 e; omega
    rw [show postX c z Wv k = WB c z Wv (nxt k h) from by unfold postX; rw [dif_pos h]]
    ihave HX := (show preX c Wv k ⊢ _ from .of_eq (by unfold preX; rw [dif_pos h, ← wrows_eq c (nxt k h) (off51_nxt k h) (k0_off51_inb k h1)])) $$ HX
    ihave HB_dst0 := (show own c (slot k) fullShare (ringOf z Wv k) ⊢ _ from .of_eq (slot_eq c k (off50_43 k) (k0_off50_inb k h1) fullShare _).symm) $$ HB_dst0
    ihave HB := (show semVal ((c : Thread nD τ), SemLoc.dma (wcell k).sem) 0 ⊢ (_ : sProp 𝕄) from .of_eq (by rw [← cell_eq k (off49_42 k) (k0_off49_inb k h1)])) $$ HB
    imod (Transfers.batch_alloc' (Lvl := ℕ) (countersEmb (U := Pipeline.UD sig nD τ)) (c : Thread nD τ) ()
      (((ringV.slice (Rect.unit (s := S8x512x4992) (k0_off50 k) S1x512x4992.size (k0_off50_inb k h1)) (fun _ => rfl)).squeeze S512x4992 squeezes_S1x512x4992_S512x4992).view.dmaCredit)
      (dW c z Wv (nxt k h)) (E := Set.univ)) $$ HB with HB
    simp only [dif_pos h1, dif_neg h2, Prog.lift, Prog.bind_op, Prog.bind_ret, Prog.pure_eq_ret, Prog.bind_assoc]
    iapply (Transfers.wp_dmaBatch (countersEmb (U := Pipeline.UD sig nD τ)) Variants.none (c : Thread nD τ) none
      (src := wH.slice (Rect.unit (s := S11904x4992) (k0_off51 k) S512x4992.size (k0_off51_inb k h1)) (fun _ => rfl))
      (dst := (ringV.slice (Rect.unit (s := S8x512x4992) (k0_off50 k) S1x512x4992.size (k0_off50_inb k h1)) (fun _ => rfl)).squeeze S512x4992 squeezes_S1x512x4992_S512x4992)
      (fs := Wv) (fd := ringOf z Wv k) (q := fullShare) (D := dW c z Wv (nxt k h)) () _
      rfl (subset_refl _) Nat.one_pos (Nat.zero_le _) (by exact issue_w c z (ringOf z Wv k) Wv (nxt k h) (off50_nxt k h) (off51_nxt k h) (k0_off50_inb k h1) (k0_off51_inb k h1) _)) $$ [HX HB_dst0 HB]
    · sl_close
    iintro HB
    ihave HB := (show _ ⊢ WB c z Wv (nxt k h) from .of_eq (WB_eq c z Wv (nxt k h) (off49_nxt k h) (off50_nxt k h) (k0_off49_inb k h1) (k0_off50_inb k h1))) $$ HB
    sl_step
    sl_step
    sl_close
  · have h1 : ¬ k0_cond1 k = 1#1 := fun e => h ((cond1_iff k).1 e)
    by_cases h' : k.val = 15
    · obtain rfl : k = ⟨15, last_lt⟩ := Fin.ext h'
      have h2 : k0_cond2 ⟨15, last_lt⟩ = 1#1 := (cond2_iff _).2 rfl
      rw [show postX c z Wv ⟨15, last_lt⟩ = TB c z Wv from by unfold postX; rw [dif_neg h, if_pos h']]
      ihave HX := (show preX c Wv ⟨15, last_lt⟩ ⊢ own c wtail fullShare Wv from .of_eq (by unfold preX; rw [dif_neg h, if_pos h'])) $$ HX
      ihave HB := (show semVal ((c : Thread nD τ), SemLoc.dma (wcell ⟨15, last_lt⟩).sem) 0 ⊢ (_ : sProp 𝕄) from .of_eq (by rw [← cell_eq ⟨15, last_lt⟩ (off52_42 _) (k0_off52_inb ⟨15, last_lt⟩ h2)])) $$ HB
      imod (Transfers.batch_alloc' (Lvl := ℕ) (countersEmb (U := Pipeline.UD sig nD τ)) (c : Thread nD τ) ()
        (((ringV.slice (Rect.unit (s := S8x512x4992) (k0_off53 ⟨15, last_lt⟩) S1x128x4992.size (k0_off53_inb ⟨15, last_lt⟩ h2)) (fun _ => rfl)).squeeze S128x4992 squeezes_S1x128x4992_S128x4992).view.dmaCredit)
        (dT c z Wv) (E := Set.univ)) $$ HB with HB
      simp only [dif_neg h1, dif_pos h2, Prog.lift, Prog.bind_op, Prog.bind_ret, Prog.pure_eq_ret, Prog.bind_assoc]
      sl_step
      iapply (Transfers.wp_dmaBatch (countersEmb (U := Pipeline.UD sig nD τ)) Variants.none (c : Thread nD τ) none
        (src := wtail)
        (dst := (ringV.slice (Rect.unit (s := S8x512x4992) (k0_off53 ⟨15, last_lt⟩) S1x128x4992.size (k0_off53_inb ⟨15, last_lt⟩ h2)) (fun _ => rfl)).squeeze S128x4992 squeezes_S1x128x4992_S128x4992)
        (fs := Wv) (fd := ringOf z Wv ⟨15, last_lt⟩) (q := fullShare) (D := dT c z Wv) () _
        rfl (tslot_sub off53_last (k0_off53_inb ⟨15, last_lt⟩ h2)) Nat.one_pos (Nat.zero_le _) (by exact issue_t c z Wv off53_last (k0_off53_inb ⟨15, last_lt⟩ h2) _)) $$ [HX HB_dst0 HB]
      · sl_close
      iintro HB
      ihave HB := (show _ ⊢ TB c z Wv from .of_eq (TB_eq c z Wv (off52_42 _) off53_last (k0_off52_inb ⟨15, last_lt⟩ h2) (k0_off53_inb ⟨15, last_lt⟩ h2))) $$ HB
      sl_step
      sl_close
    · have h2 : ¬ k0_cond2 k = 1#1 := fun e => h' ((cond2_iff k).1 e)
      rw [show postX c z Wv k = iprop(own c (slot k) fullShare (ringOf z Wv k) ∗ semVal ((c : Thread nD τ), SemLoc.dma (wcell k).sem) 0) from by unfold postX; rw [dif_neg h, if_neg h']]
      ihave HX := (show preX c Wv k ⊢ iprop(emp) from .of_eq (by unfold preX; rw [dif_neg h, if_neg h'])) $$ HX
      simp only [dif_neg h1, dif_neg h2, Prog.lift, Prog.bind_op, Prog.bind_ret, Prog.pure_eq_ret, Prog.bind_assoc]
      sl_step
      sl_step
      sl_close
end Cert.KernelIdeal.Hand
-- ==== Proof.KI.Loops.lean ====
module

public import proofs.«01_k».proof.Proof.KI.Trip2

/-! The two loops, each by one trip: what stands for the trips to come and for the trips done. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Trips done leave `Post`, trips to come hold `Pre`; trip `k` takes the one and gives the other. -/
theorem seq_step {n : ℕ} (Pre Post : Fin n → sProp 𝕄) (k : Fin n) :
    bigSep Finset.univ (fun j : Fin n => if k.val ≤ j.val then Pre j else Post j)
      ⊢ iprop(Pre k ∗ (Post k -∗ bigSep Finset.univ (fun j : Fin n => if k.val + 1 ≤ j.val then Pre j else Post j))) := by
  have e1 : bigSep Finset.univ (fun j : Fin n => if k.val ≤ j.val then Pre j else Post j)
      = iprop((if k.val ≤ k.val then Pre k else Post k) ∗ bigSep (Finset.univ.erase k) (fun j : Fin n => if k.val ≤ j.val then Pre j else Post j)) := bigSep_erase (Finset.mem_univ k)
  have e2 : bigSep Finset.univ (fun j : Fin n => if k.val + 1 ≤ j.val then Pre j else Post j)
      = iprop((if k.val + 1 ≤ k.val then Pre k else Post k) ∗ bigSep (Finset.univ.erase k) (fun j : Fin n => if k.val + 1 ≤ j.val then Pre j else Post j)) := bigSep_erase (Finset.mem_univ k)
  rw [e1, e2, if_pos le_rfl, if_neg (Nat.not_succ_le_self _)]
  have e : bigSep (Finset.univ.erase k) (fun j : Fin n => if k.val ≤ j.val then Pre j else Post j)
      = bigSep (Finset.univ.erase k) (fun j : Fin n => if k.val + 1 ≤ j.val then Pre j else Post j) :=
    bigSep_congr fun j hj => by
      have hne : j.val ≠ k.val := fun h => (Finset.ne_of_mem_erase hj) (Fin.ext h)
      by_cases h : k.val ≤ j.val
      · rw [if_pos h, if_pos (by omega)]
      · rw [if_neg h, if_neg (by omega)]
  rw [e]
  iintro ⟨HP, HR⟩
  isplitl [HP]; · iexact HP
  iintro HQ
  isplitl [HQ]; · iexact HQ
  iexact HR

theorem seq_start {n : ℕ} (Pre Post : Fin n → sProp 𝕄) :
    bigSep Finset.univ (fun j : Fin n => if 0 ≤ j.val then Pre j else Post j) = bigSep Finset.univ Pre :=
  bigSep_congr fun j _ => if_pos (Nat.zero_le _)

theorem seq_end {n : ℕ} (Pre Post : Fin n → sProp 𝕄) :
    bigSep Finset.univ (fun j : Fin n => if n ≤ j.val then Pre j else Post j) = bigSep Finset.univ Post :=
  bigSep_congr fun j _ => if_neg (Nat.not_le.mpr j.isLt)

section One
variable (c : Dev nD) (v110 : Vec F S1x1 .f32) (X R h0 oh : Vec F S128x4992 .bf16) (c0 oc : Vec F S128x4992 .fp8e4m3) (G : Vec F S39x128 .f32)

/-- What a row group holds before its trip of the first loop, -/
def pre1 (k : Fin k0_t1_loop.trips) : sProp 𝕄 :=
  iprop(Transfers.Batch (countersEmb (U := Pipeline.UD sig nD τ)) (c : Thread nD τ) (.dma (xcell k).sem) () ((rows xV k).view.dmaCredit) (dX c k X R) 2 0
    ∗ own c (rows hV k) fullShare h0 ∗ own c (rows cV k) fullShare c0 ∗ own c (rows hO k) fullShare oh ∗ own c (rows cO k) fullShare oc)

/-- and after it: the hidden state and half of the codes are on their way out. -/
def post1 (k : Fin k0_t1_loop.trips) : sProp 𝕄 :=
  iprop(own c (rows cV k) fullShare.left (cB v110 X R G)
    ∗ own c (rows xV k) fullShare X ∗ own c (rows xH k) fullShare X ∗ own c (rows rV k) fullShare R ∗ own c (rows rH k) fullShare R
    ∗ semVal ((c : Thread nD τ), SemLoc.dma (xcell k).sem) 0)

def inv1 (k : ℕ) : sProp 𝕄 :=
  iprop(bigSep Finset.univ (fun j : Fin k0_t1_loop.trips => if k ≤ j.val then pre1 c X R h0 oh c0 oc j else post1 c v110 X R G j)
    ∗ own c gF fullShare G ∗ (∃ W, owes (c : Thread nD τ) 0 W) ∗ OutB c (hB X R) (cB v110 X R G) (2 * k) 0)

set_option maxHeartbeats 1000000 in
theorem step1 (x : BitVec 32) (k : Fin k0_t1_loop.trips) (a : Unit) :
    inv1 c v110 X R h0 oh c0 oc G k.val ⊢ wp frame (wpE (defs₀ (F := F)) Variants.none c none) Set.univ
      (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110 k a)
      (fun _ => inv1 c v110 X R h0 oh c0 oc G (k.val + 1)) := by
  cases a
  unfold inv1
  iintro ⟨HS, HG, ⟨%W, HW⟩, HO⟩
  ihave HS := (seq_step (pre1 c X R h0 oh c0 oc) (post1 c v110 X R G) k) $$ HS
  icases HS with ⟨HP, HS⟩
  unfold pre1
  icases HP with ⟨HB, Hh, Hc, Hoh, Hoc⟩
  iapply (wp_mono_r (trip1 c k x v110 W X R h0 oh c0 oc G)) $$ [HB HG Hh Hc Hoh Hoc HW HO]
  · sl_close
  iintro %r ⟨Hc, HG, Hx, Hxh, Hr, Hrh, Hs, ⟨%W', HW⟩, HO⟩
  isplitl [HS Hc Hx Hxh Hr Hrh Hs]
  · iapply HS
    unfold post1
    sl_close
  sl_close

set_option maxRecDepth 16384 in
theorem loop1 (x : BitVec 32) :
    iprop(bigSep Finset.univ (pre1 c X R h0 oh c0 oc) ∗ own c gF fullShare G ∗ (∃ W, owes (c : Thread nD τ) 0 W) ∗ OutB c (hB X R) (cB v110 X R G) 0 0)
     ⊢ wp frame (wpE (defs₀ (F := F)) Variants.none c none) Set.univ
      (Scf.Loop.for k0_t1_loop k0_t1_ok ⟨⟩ (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110))
      (fun _ => iprop(bigSep Finset.univ (post1 c v110 X R G) ∗ own c gF fullShare G ∗ (∃ W, owes (c : Thread nD τ) 0 W) ∗ OutB c (hB X R) (cB v110 X R G) 8 0)) := by
  have e0 : inv1 c v110 X R h0 oh c0 oc G 0 = iprop(bigSep Finset.univ (pre1 c X R h0 oh c0 oc) ∗ own c gF fullShare G ∗ (∃ W, owes (c : Thread nD τ) 0 W) ∗ OutB c (hB X R) (cB v110 X R G) 0 0) := by
    unfold inv1; rw [seq_start]
  have e1 : inv1 c v110 X R h0 oh c0 oc G k0_t1_loop.trips = iprop(bigSep Finset.univ (post1 c v110 X R G) ∗ own c gF fullShare G ∗ (∃ W, owes (c : Thread nD τ) 0 W) ∗ OutB c (hB X R) (cB v110 X R G) 8 0) := by
    unfold inv1
    have h : OutB c (hB X R) (cB v110 X R G) (2 * k0_t1_loop.trips) 0 = OutB c (hB X R) (cB v110 X R G) 8 0 := congrArg (fun n => OutB c (hB X R) (cB v110 X R G) n 0) (by rw [trips1])
    rw [seq_end, h]
  rw [← e0, ← e1]
  iintro HI
  iapply (Scf.wp_for frame (wpE (defs₀ (F := F)) Variants.none c none) Set.univ k0_t1_loop.lb k0_t1_loop.ub k0_t1_loop.st k0_t1_ok () (k0_t1_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x v110) (fun k _ => inv1 c v110 X R h0 oh c0 oc G k) (step1 c v110 X R h0 oh c0 oc G x))
  isplitl [HI]; · iexact HI
  iintro %a HI
  iexact HI
end One

section Two
variable (c : Dev nD) (v110 : Vec F S1x1 .f32) (z : Vec F S8x512x4992 .fp8e4m3) (C : Vec F S128x4992 .fp8e4m3) (Wv : Vec F S11904x4992 .fp8e4m3) (ws b : Vec F S93x128 .f32) (y0 yo : Vec F S128x11904 .bf16)

/-- What trip `k` of the second loop takes: its columns and the weights its slot is filled with next, -/
def pre2 (k : Fin k0_t2_loop.trips) : sProp 𝕄 :=
  iprop(preX c Wv k ∗ own c (ycols yV k) fullShare y0 ∗ own c (ycols yO k) fullShare yo)

/-- the slot's next use, -/
def FX (k : Fin k0_t2_loop.trips) : sProp 𝕄 :=
  if h : k.val + 8 < 23 then WB c z Wv (nxt k h) else if k.val = 15 then TB c z Wv else iprop(emp)

/-- the slot, when it has none, -/
def LX (k : Fin k0_t2_loop.trips) : sProp 𝕄 :=
  if k.val + 8 < 23 then iprop(emp) else if k.val = 15 then iprop(emp)
  else iprop(own c (slot k) fullShare (ringOf z Wv k) ∗ semVal ((c : Thread nD τ), SemLoc.dma (wcell k).sem) 0)

/-- and what the trip leaves. -/
def post2 (k : Fin k0_t2_loop.trips) : sProp 𝕄 := iprop(own c (wrows k) fullShare Wv ∗ LX c z Wv k)

theorem postX_split (k : Fin k0_t2_loop.trips) : postX c z Wv k ⊢ iprop(FX c z Wv k ∗ LX c z Wv k) := by
  unfold postX FX LX
  by_cases h : k.val + 8 < 23
  · rw [dif_pos h, dif_pos h, if_pos h]; iintro H; isplitl [H]; · iexact H
    iempintro
  · rw [dif_neg h, dif_neg h, if_neg h]
    by_cases h' : k.val = 15
    · rw [if_pos h', if_pos h', if_pos h']; iintro H; isplitl [H]; · iexact H
      iempintro
    · rw [if_neg h', if_neg h', if_neg h']; iintro H; isplitr; · iempintro
      iexact H

/-- The blocks on their way at trip `k`. -/
def flying (k : ℕ) : Finset (Fin k0_t2_loop.trips) := Finset.univ.filter fun j => k ≤ j.val ∧ j.val < k + 8

/-- What is on its way at trip `k`: eight blocks, at the end the last rows. -/
def flights (k : ℕ) : sProp 𝕄 := iprop(bigSep (flying k) (WB c z Wv) ∗ (if 15 < k then TB c z Wv else iprop(emp)))

theorem mem_flying {k : ℕ} {j : Fin k0_t2_loop.trips} : j ∈ flying k ↔ k ≤ j.val ∧ j.val < k + 8 := by
  unfold flying; rw [Finset.mem_filter]; exact and_iff_right (Finset.mem_univ j)

theorem flights_step (k : Fin k0_t2_loop.trips) :
    flights c z Wv k.val ⊢ iprop(WB c z Wv k ∗ (FX c z Wv k -∗ flights c z Wv (k.val + 1))) := by
  have ht := trips2
  unfold flights FX
  have e1 : bigSep (flying k.val) (WB c z Wv) = iprop(WB c z Wv k ∗ bigSep ((flying k.val).erase k) (WB c z Wv)) :=
    bigSep_erase (mem_flying.2 ⟨le_rfl, by omega⟩ : k ∈ flying k.val)
  rw [e1]
  by_cases h : k.val + 8 < 23
  · have hs : flying (k.val + 1) = insert (nxt k h) ((flying k.val).erase k) := by
      ext j; rw [Finset.mem_insert, Finset.mem_erase, mem_flying, mem_flying, Ne, Fin.ext_iff, Fin.ext_iff]
      show _ ↔ j.val = k.val + 8 ∨ _
      omega
    have hn : nxt k h ∉ (flying k.val).erase k := by
      rw [Finset.mem_erase, mem_flying]; show ¬ (_ ∧ _ ∧ k.val + 8 < k.val + 8); omega
    have e2 : bigSep (insert (nxt k h) ((flying k.val).erase k)) (WB c z Wv) = iprop(WB c z Wv (nxt k h) ∗ bigSep ((flying k.val).erase k) (WB c z Wv)) := bigSep_insert hn
    rw [dif_pos h, hs, e2, if_neg (by omega), if_neg (by omega)]
    iintro ⟨⟨HW, HR⟩, HE⟩
    isplitl [HW]; · iexact HW
    iintro HN
    isplitr [HE]
    · isplitl [HN]; · iexact HN
      iexact HR
    · iexact HE
  · have hs : flying (k.val + 1) = (flying k.val).erase k := by
      ext j; rw [Finset.mem_erase, mem_flying, mem_flying, Ne, Fin.ext_iff]
      have := j.isLt
      omega
    rw [dif_neg h, hs]
    by_cases h' : k.val = 15
    · rw [if_pos h', if_neg (by omega), if_pos (by omega)]
      iintro ⟨⟨HW, HR⟩, HE⟩
      isplitl [HW]; · iexact HW
      iintro HN
      isplitl [HR]; · iexact HR
      iexact HN
    · rw [if_neg h', if_pos (by omega), if_pos (by omega)]
      iintro ⟨⟨HW, HR⟩, HE⟩
      isplitl [HW]; · iexact HW
      iintro HN
      isplitl [HR]; · iexact HR
      iexact HE

def inv2 (k : ℕ) : sProp 𝕄 :=
  iprop(bigSep Finset.univ (fun j : Fin k0_t2_loop.trips => if k ≤ j.val then pre2 c Wv y0 yo j else post2 c z Wv j)
    ∗ flights c z Wv k ∗ (∃ W, owes (c : Thread nD τ) 0 W)
    ∗ own c cV fullShare.left C ∗ own c wsV fullShare ws ∗ own c bF fullShare b ∗ YB c (yB v110 C Wv ws b) k 0)

set_option maxHeartbeats 1000000 in
theorem step2 (k : Fin k0_t2_loop.trips) (a : Unit) :
    inv2 c v110 z C Wv ws b y0 yo k.val ⊢ wp frame (wpE (defs₀ (F := F)) Variants.none c none) Set.univ
      (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32 k a)
      (fun _ => inv2 c v110 z C Wv ws b y0 yo (k.val + 1)) := by
  cases a
  unfold inv2
  iintro ⟨HS, HF, ⟨%W, HW⟩, HC, Hws, Hb, HY⟩
  ihave HS := (seq_step (pre2 c Wv y0 yo) (post2 c z Wv) k) $$ HS
  icases HS with ⟨HP, HS⟩
  ihave HF := (flights_step c z Wv k) $$ HF
  icases HF with ⟨HB, HF⟩
  unfold pre2
  icases HP with ⟨HX, Hy, Hyo⟩
  iapply (wp_mono_r (trip2 c k v110 W z C Wv ws b y0 yo)) $$ [HB HW HC Hws Hb Hy Hyo HY HX]
  · sl_close
  iintro %r ⟨Hw, ⟨%W', HW⟩, HC, Hws, Hb, HY, HX⟩
  ihave HX := (postX_split c z Wv k) $$ HX
  icases HX with ⟨HX, HL⟩
  isplitl [HS Hw HL]
  · iapply HS
    unfold post2
    isplitl [Hw]; · iexact Hw
    iexact HL
  isplitl [HF HX]
  · iapply HF
    iexact HX
  sl_close

theorem loop2 :
    iprop(bigSep Finset.univ (pre2 c Wv y0 yo) ∗ flights c z Wv 0 ∗ (∃ W, owes (c : Thread nD τ) 0 W)
      ∗ own c cV fullShare.left C ∗ own c wsV fullShare ws ∗ own c bF fullShare b ∗ YB c (yB v110 C Wv ws b) 0 0)
     ⊢ wp frame (wpE (defs₀ (F := F)) Variants.none c none) Set.univ
      (Scf.Loop.for k0_t2_loop k0_t2_ok ⟨⟩ (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32))
      (fun _ => iprop(bigSep Finset.univ (post2 c z Wv) ∗ TB c z Wv ∗ (∃ W, owes (c : Thread nD τ) 0 W)
        ∗ own c cV fullShare.left C ∗ own c wsV fullShare ws ∗ own c bF fullShare b ∗ YB c (yB v110 C Wv ws b) 23 0)) := by
  have e0 : inv2 c v110 z C Wv ws b y0 yo 0 = iprop(bigSep Finset.univ (pre2 c Wv y0 yo) ∗ flights c z Wv 0 ∗ (∃ W, owes (c : Thread nD τ) 0 W)
      ∗ own c cV fullShare.left C ∗ own c wsV fullShare ws ∗ own c bF fullShare b ∗ YB c (yB v110 C Wv ws b) 0 0) := by
    unfold inv2; rw [seq_start]
  have hf : flying k0_t2_loop.trips = ∅ := by
    ext j; rw [mem_flying]; have := j.isLt; exact ⟨fun h => absurd h.1 (by omega), fun h => absurd h (Finset.notMem_empty _)⟩
  have e1 : inv2 c v110 z C Wv ws b y0 yo k0_t2_loop.trips ⊢ iprop(bigSep Finset.univ (post2 c z Wv) ∗ TB c z Wv ∗ (∃ W, owes (c : Thread nD τ) 0 W)
        ∗ own c cV fullShare.left C ∗ own c wsV fullShare ws ∗ own c bF fullShare b ∗ YB c (yB v110 C Wv ws b) 23 0) := by
    unfold inv2 flights
    have hY : YB c (yB v110 C Wv ws b) k0_t2_loop.trips 0 = YB c (yB v110 C Wv ws b) 23 0 := congrArg (fun n => YB c (yB v110 C Wv ws b) n 0) trips2
    rw [seq_end, hf, if_pos last_lt, hY]
    iintro ⟨HS, ⟨-, HT⟩, HR⟩
    isplitl [HS]; · iexact HS
    isplitl [HT]; · iexact HT
    iexact HR
  rw [← e0]
  iintro HI
  iapply (Scf.wp_for frame (wpE (defs₀ (F := F)) Variants.none c none) Set.univ k0_t2_loop.lb k0_t2_loop.ub k0_t2_loop.st k0_t2_ok () (k0_t2_body (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32) (fun k _ => inv2 c v110 z C Wv ws b y0 yo k) (step2 c v110 z C Wv ws b y0 yo))
  isplitl [HI]; · iexact HI
  iintro %a HI
  iapply e1
  iexact HI
end Two

end Cert.KernelIdeal.Hand
-- ==== Proof.KI.Split.lean ====
module

public import proofs.«01_k».proof.Proof.KI.Loops

/-! The arrays cut along the kernel's blocks: 4 row groups, 23 weight blocks and the last rows, 8 slots, 23 blocks of columns
and the last columns. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- An array is its slices along rectangles that cover it. -/
theorem own_cut (c : Dev nD) {sp : Space} {s : Shape} {e : EltTy} (M : Memref sig .tc sp s e) (q : PosShare TreeShare) (f : Buf (Elt F) (M.view.loc (c : Thread nD τ)))
    {B : Type} [Fintype B] [DecidableEq B] (R : B → Rect s) (hR : ∀ b a, (R b).stride a = 1)
    (hd : ∀ b b', b ≠ b' → Disjoint (R b).set (R b').set) (hc : ∀ i, ∃ b, i ∈ (R b).set) :
    (own c M q f : sProp 𝕄) = bigSep Finset.univ fun b => own c (M.slice (R b) (hR b)) q f := by
  have hs : ∀ b, (M.slice (R b) (hR b)).view.set = (R b).set.map M.view.emb := fun b => View.set_slice _ _
  have hu : M.view.set = Finset.univ.biUnion fun b => (M.slice (R b) (hR b)).view.set := by
    ext x
    constructor
    · intro hx
      obtain ⟨i, -, rfl⟩ := Finset.mem_map.mp hx
      obtain ⟨b, hb⟩ := hc i
      exact Finset.mem_biUnion.mpr ⟨b, Finset.mem_univ _, by rw [hs]; exact Finset.mem_map_of_mem _ hb⟩
    · intro hx
      obtain ⟨b, -, hb⟩ := Finset.mem_biUnion.mp hx
      rw [hs] at hb
      obtain ⟨i, -, rfl⟩ := Finset.mem_map.mp hb
      exact Finset.mem_map_of_mem _ (Finset.mem_univ _)
  let K : B → Finset (Idx (M.view.loc (c : Thread nD τ))) := fun b => (R b).set.map M.view.emb
  have hu' : M.view.set = Finset.univ.biUnion K := hu.trans (by
    ext x; simp only [Finset.mem_biUnion, hs]; rfl)
  have h1 : (M.view.loc (c : Thread nD τ) ↦[Finset.univ.biUnion K]{q} f : sProp 𝕄) = bigSep Finset.univ fun t => M.view.loc (c : Thread nD τ) ↦[K t]{q} f := pointsTo_biUnion (ℓ := M.view.loc (c : Thread nD τ)) (q := q) (f := f) Finset.univ K fun b _ b' _ h => (Finset.disjoint_map _).mpr (hd b b' h)
  rw [← hu'] at h1
  refine h1.trans (bigSep_congr fun b _ => ?_)
  show _ = (M.view.loc (c : Thread nD τ) ↦[(M.slice (R b) (hR b)).view.set]{q} f : sProp 𝕄)
  rw [hs]

theorem sep_comm_eq (P Q : sProp 𝕄) : iprop(P ∗ Q) = iprop(Q ∗ P) := BI.equiv_iff.mp ⟨BI.sep_comm, BI.sep_comm⟩

/-- The same with one more rectangle beside the numbered ones. -/
theorem own_cut_tail (c : Dev nD) {sp : Space} {s : Shape} {e : EltTy} (M : Memref sig .tc sp s e) (q : PosShare TreeShare) (f : Buf (Elt F) (M.view.loc (c : Thread nD τ)))
    {B : Type} [Fintype B] [DecidableEq B] (R : B → Rect s) (hR : ∀ b a, (R b).stride a = 1) (T : Rect s) (hT : ∀ a, T.stride a = 1)
    (hd : ∀ b b', b ≠ b' → Disjoint (R b).set (R b').set) (ht : ∀ b, Disjoint (R b).set T.set) (hc : ∀ i, i ∉ T.set → ∃ b, i ∈ (R b).set) :
    (own c M q f : sProp 𝕄) = iprop((bigSep Finset.univ fun b => own c (M.slice (R b) (hR b)) q f) ∗ own c (M.slice T hT) q f) := by
  have e := own_cut c M q f (B := Option B) (fun o => o.elim T R) (fun o => by cases o; exacts [hT, hR _])
    (fun o o' h => by
      cases o <;> cases o'
      · exact absurd rfl h
      · exact (ht _).symm
      · exact ht _
      · exact hd _ _ fun h' => h (congrArg some h'))
    (fun i => by
      by_cases h : i ∈ T.set
      · exact ⟨none, h⟩
      · obtain ⟨b, hb⟩ := hc i h; exact ⟨some b, hb⟩)
  refine e.trans ?_
  have hu : (Finset.univ : Finset (Option B)) = insert none (Finset.univ.map Function.Embedding.some) := by
    ext o; cases o <;> simp
  rw [hu]
  refine (bigSep_insert (by simp)).trans ?_
  rw [bigSep_map]
  exact sep_comm_eq _ _

/-- A 128-row array is its four row groups. -/
theorem own_rows (c : Dev nD) {sp : Space} {e : EltTy} (M : Memref sig .tc sp S128x4992 e) (q : PosShare TreeShare) (f : Buf (Elt F) (M.view.loc (c : Thread nD τ))) :
    (own c M q f : sProp 𝕄) = bigSep Finset.univ fun k => own c (rows M k) q f :=
  own_cut c M q f (fun k => Rect.unit (s := S128x4992) (k0_off2 k) S32x4992.size (k0_off2_inb k)) (fun _ _ => rfl)
    (fun k k' h => Finset.disjoint_left.mpr fun i hi hi' => h ((grp_of_mem k hi).symm.trans (grp_of_mem k' hi')))
    (fun i => ⟨grp i, mem_of_grp _ rfl⟩)

theorem mem_wrows (j : Fin k0_t2_loop.trips) (i : S11904x4992.Idx) :
    i ∈ (Rect.unit (s := S11904x4992) (k0_off44 j) S512x4992.size (k0_off44_inb j)).set ↔ 512 * j.val ≤ (i 0).val ∧ (i 0).val < 512 * j.val + 512 := by
  rw [Rect.mem_set_unit, k0_off44_eq j]
  refine ⟨fun h => h 0, fun h a => ?_⟩
  fin_cases a
  · exact h
  · exact ⟨Nat.zero_le _, (show (i 1).val < 0 + 4992 from by have := (i 1).isLt; exact this.trans_eq (Nat.zero_add _).symm)⟩

theorem mem_wtail (i : S11904x4992.Idx) :
    i ∈ (Rect.unit (s := S11904x4992) ![11776, 0] S128x4992.size inb_S11904x4992_S128x4992_11776_0).set ↔ 11776 ≤ (i 0).val := by
  rw [Rect.mem_set_unit]
  refine ⟨fun h => (h 0).1, fun h a => ?_⟩
  fin_cases a
  · exact ⟨h, (i 0).isLt⟩
  · exact ⟨Nat.zero_le _, (i 1).isLt.trans_eq (Nat.zero_add _).symm⟩

/-- The weights are 23 blocks of rows and the last rows. -/
theorem own_w (c : Dev nD) (q : PosShare TreeShare) (f : Vec F S11904x4992 .fp8e4m3) :
    (own c wH q f : sProp 𝕄) = iprop((bigSep Finset.univ fun j => own c (wrows j) q f) ∗ own c wtail q f) := by
  have ht := trips2
  refine own_cut_tail c wH q f (fun j => Rect.unit (s := S11904x4992) (k0_off44 j) S512x4992.size (k0_off44_inb j)) (fun _ _ => rfl)
    (Rect.unit (s := S11904x4992) ![11776, 0] S128x4992.size inb_S11904x4992_S128x4992_11776_0) (fun _ => rfl) ?_ ?_ ?_
  · intro j j' h
    refine Finset.disjoint_left.mpr fun i hi hi' => h (Fin.ext ?_)
    have h1 := (mem_wrows j i).1 hi; have h2 := (mem_wrows j' i).1 hi'; omega
  · intro j
    refine Finset.disjoint_left.mpr fun i hi hi' => ?_
    have h1 := (mem_wrows j i).1 hi; have h2 := (mem_wtail i).1 hi'; have := j.isLt; omega
  · intro i hi
    have h1 : ¬ 11776 ≤ (i 0).val := fun h => hi ((mem_wtail i).2 h)
    exact ⟨⟨(i 0).val / 512, by omega⟩, (mem_wrows _ i).2 (by show 512 * ((i 0).val / 512) ≤ _ ∧ _ < 512 * ((i 0).val / 512) + 512; omega)⟩

theorem mem_ycols (j : Fin k0_t2_loop.trips) (i : S128x11904.Idx) :
    i ∈ (Rect.unit (s := S128x11904) (k0_off48 j) S128x512.size (k0_off48_inb j)).set ↔ 512 * j.val ≤ (i 1).val ∧ (i 1).val < 512 * j.val + 512 := by
  rw [Rect.mem_set_unit, k0_off48_eq j]
  refine ⟨fun h => h 1, fun h a => ?_⟩
  fin_cases a
  · exact ⟨Nat.zero_le _, (i 0).isLt.trans_eq (Nat.zero_add _).symm⟩
  · exact h

theorem mem_ytail (i : S128x11904.Idx) :
    i ∈ (Rect.unit (s := S128x11904) ![0, 11776] S128x128.size inb_S128x11904_S128x128_0_11776).set ↔ 11776 ≤ (i 1).val := by
  rw [Rect.mem_set_unit]
  refine ⟨fun h => (h 1).1, fun h a => ?_⟩
  fin_cases a
  · exact ⟨Nat.zero_le _, (i 0).isLt.trans_eq (Nat.zero_add _).symm⟩
  · exact ⟨h, (i 1).isLt⟩

/-- The result is 23 blocks of columns and the last columns. -/
theorem own_y (c : Dev nD) {sp : Space} (M : Memref sig .tc sp S128x11904 .bf16) (q : PosShare TreeShare) (f : Buf (Elt F) (M.view.loc (c : Thread nD τ))) :
    (own c M q f : sProp 𝕄) = iprop((bigSep Finset.univ fun j => own c (ycols M j) q f) ∗ own c (ytail M) q f) := by
  have ht := trips2
  refine own_cut_tail c M q f (fun j => Rect.unit (s := S128x11904) (k0_off48 j) S128x512.size (k0_off48_inb j)) (fun _ _ => rfl)
    (Rect.unit (s := S128x11904) ![0, 11776] S128x128.size inb_S128x11904_S128x128_0_11776) (fun _ => rfl) ?_ ?_ ?_
  · intro j j' h
    refine Finset.disjoint_left.mpr fun i hi hi' => h (Fin.ext ?_)
    have h1 := (mem_ycols j i).1 hi; have h2 := (mem_ycols j' i).1 hi'; omega
  · intro j
    refine Finset.disjoint_left.mpr fun i hi hi' => ?_
    have h1 := (mem_ycols j i).1 hi; have h2 := (mem_ytail i).1 hi'; have := j.isLt; omega
  · intro i hi
    have h1 : ¬ 11776 ≤ (i 1).val := fun h => hi ((mem_ytail i).2 h)
    exact ⟨⟨(i 1).val / 512, by omega⟩, (mem_ycols _ i).2 (by show 512 * ((i 1).val / 512) ≤ _ ∧ _ < 512 * ((i 1).val / 512) + 512; omega)⟩

/-- Slot `b` of the ring's eight, as a block number: block `b` is the first one kept there. -/
def sl8 (b : Fin 8) : Fin k0_t2_loop.trips := ⟨b.val, by have := trips2; have := b.isLt; omega⟩

theorem mem_slot (j : Fin k0_t2_loop.trips) (i : S8x512x4992.Idx) : i ∈ (slot j).view.set ↔ (i 0).val = j.val % 8 := by
  rw [ring_set, Rect.mem_set_unit, k0_off43_eq j]
  constructor
  · intro h
    have h0 : j.val % 8 ≤ (i 0).val ∧ (i 0).val < j.val % 8 + 1 := h 0
    omega
  · intro h a
    fin_cases a
    · exact (show j.val % 8 ≤ (i 0).val ∧ (i 0).val < j.val % 8 + 1 by omega)
    · exact ⟨Nat.zero_le _, (i 1).isLt.trans_eq (Nat.zero_add _).symm⟩
    · exact ⟨Nat.zero_le _, (i 2).isLt.trans_eq (Nat.zero_add _).symm⟩

/-- The elements of a slot. -/
def slotSet (b : Fin 8) : Finset S8x512x4992.Idx := (slot (sl8 b)).view.set

theorem slots_disjoint (b b' : Fin 8) (h : b ≠ b') : Disjoint (slotSet b) (slotSet b') :=
  Finset.disjoint_left.mpr fun i hi hi' => h (Fin.ext (by
    have h1 : (i 0).val = b.val % 8 := (mem_slot (sl8 b) i).1 hi
    have h2 : (i 0).val = b'.val % 8 := (mem_slot (sl8 b') i).1 hi'
    omega))

theorem slots_cover : (Finset.univ : Finset (Fin 8)).biUnion (fun b => slotSet b) = Finset.univ := by
  refine Finset.eq_univ_iff_forall.mpr fun i => Finset.mem_biUnion.mpr ⟨⟨(i 0).val, (i 0).isLt⟩, Finset.mem_univ _, (mem_slot (sl8 _) i).2 ?_⟩
  have h : (i 0).val < 8 := (i 0).isLt
  show (i 0).val = (i 0).val % 8
  omega

/-- The ring is its eight slots. -/
theorem own_ring (c : Dev nD) (f : Vec F S8x512x4992 .fp8e4m3) :
    (own c ringV fullShare f : sProp 𝕄) = bigSep Finset.univ fun b => own c (slot (sl8 b)) fullShare f := by
  have h : (ringV.view.loc (c : Thread nD τ) ↦{fullShare} f : sProp 𝕄) = bigSep Finset.univ fun b => ringV.view.loc (c : Thread nD τ) ↦[slotSet b]{fullShare} f := Ring.pointsTo_blocks (ℓ := ringV.view.loc (c : Thread nD τ)) (q := fullShare) slotSet slots_disjoint slots_cover f
  refine Eq.trans ?_ h
  show (ringV.view.loc (c : Thread nD τ) ↦[ringV.view.set]{fullShare} f : sProp 𝕄) = _
  rw [show ringV.view.set = Finset.univ from View.set_whole _]

theorem own_ring_join (c : Dev nD) (z : Vec F S8x512x4992 .fp8e4m3) :
    (bigSep Finset.univ fun b => iprop(∃ f : Vec F S8x512x4992 .fp8e4m3, own c (slot (sl8 b)) fullShare f) : sProp 𝕄) ⊢ iprop(∃ g : Vec F S8x512x4992 .fp8e4m3, own c ringV fullShare g) := by
  have h : bigSep Finset.univ (fun b => iprop(∃ f, ringV.view.loc (c : Thread nD τ) ↦[slotSet b]{fullShare} f)) ⊢ (iprop(∃ g, ringV.view.loc (c : Thread nD τ) ↦{fullShare} g) : sProp 𝕄) := Ring.pointsTo_blocks_join_exists (ℓ := ringV.view.loc (c : Thread nD τ)) (q := fullShare) slotSet slots_disjoint slots_cover z
  refine BIBase.Entails.trans h ?_
  iintro ⟨%g, H⟩
  iexists g
  iapply (show ((ringV.view.loc (c : Thread nD τ) ↦{fullShare} g : sProp 𝕄)) ⊢ (ringV.view.loc (c : Thread nD τ) ↦[ringV.view.set]{fullShare} g : sProp 𝕄) from .of_eq (by rw [show ringV.view.set = Finset.univ from View.set_whole _])) $$ H

theorem g_lt (n : ℕ) (h : n < 4) : n < k0_t1_loop.trips := by rw [trips1]; exact h

theorem bigSep_four {n : ℕ} (h : n = 4) (Φ : Fin n → sProp 𝕄) :
    bigSep Finset.univ Φ = iprop(Φ ⟨0, by omega⟩ ∗ Φ ⟨1, by omega⟩ ∗ Φ ⟨2, by omega⟩ ∗ Φ ⟨3, by omega⟩) := by
  subst h
  exact bigSep_univ_eq_bigSepL [0, 1, 2, 3] (by decide) (by decide) Φ

/-- Over the four row groups, one by one. -/
theorem bigSep_groups (Φ : Fin k0_t1_loop.trips → sProp 𝕄) :
    bigSep Finset.univ Φ = iprop(Φ ⟨0, g_lt 0 (by decide)⟩ ∗ Φ ⟨1, g_lt 1 (by decide)⟩ ∗ Φ ⟨2, g_lt 2 (by decide)⟩ ∗ Φ ⟨3, g_lt 3 (by decide)⟩) :=
  bigSep_four trips1 Φ

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.KernelIdeal.Hand
-- ==== Proof.KI.Issue.lean ====
module

public import proofs.«01_k».proof.Proof.KI.Split

/-! The kernel's single copies, as steps: the two copies of a row group, and a weight block. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row group `k` of both arrays on its way, `j` of the two copies started. -/
abbrev XB (c : Dev nD) (k : Fin k0_t1_loop.trips) (X R : Vec F S128x4992 .bf16) (j : ℕ) : sProp 𝕄 :=
  Transfers.Batch (countersEmb (U := Pipeline.UD sig nD τ)) (c : Thread nD τ) (.dma (xcell k).sem) () ((rows xV k).view.dmaCredit) (dX c k X R) j 0

instance (c : Dev nD) (k) (X R : Vec F S128x4992 .bf16) (t) : Storable (upEmb : UEmb _ 𝕄) (dX c k X R t) := by
  match t with
  | 0 => unfold dX; infer_instance
  | 1 => unfold dX; infer_instance

theorem land_x (c : Dev nD) (k : Fin k0_t1_loop.trips) (x0 X : Vec F S128x4992 .bf16) :
    (own c (rows xV k) fullShare ((rows xV k).view.write (Elt F) x0 ((rows xH k).view.read (Elt F) X) Finset.univ) : sProp 𝕄) = own c (rows xV k) fullShare X :=
  pointsTo_congr fun i hi => by
    obtain ⟨x, -, rfl⟩ := Finset.mem_map.mp hi
    rw [View.write_emb_of_mem _ _ (Finset.mem_univ x)]; rfl

theorem land_r (c : Dev nD) (k : Fin k0_t1_loop.trips) (x0 X : Vec F S128x4992 .bf16) :
    (own c (rows rV k) fullShare ((rows rV k).view.write (Elt F) x0 ((rows rH k).view.read (Elt F) X) Finset.univ) : sProp 𝕄) = own c (rows rV k) fullShare X :=
  pointsTo_congr fun i hi => by
    obtain ⟨x, -, rfl⟩ := Finset.mem_map.mp hi
    rw [View.write_emb_of_mem _ _ (Finset.mem_univ x)]; rfl

section Steps
variable {α : Type} (c : Dev nD)

theorem step_x0 (k : Fin k0_t1_loop.trips) (X R x0 : Vec F S128x4992 .bf16) {o : Fin 1 → ℕ} {o' : Fin 2 → ℕ} (h : o = k0_off1 k) (h' : o' = k0_off2 k)
    {inb : ∀ a, o a + S1.size a ≤ S4.size a} {inb' : ∀ a, o' a + S32x4992.size a ≤ S128x4992.size a} {hs hd ht}
    (K : PUnit → Prog (TpuEff nD τ sig (Elt F) Λ₀ .tc) α) (Q : α → sProp 𝕄) :
    iprop((own c (rows xV k) fullShare x0 ∗ own c (rows xH k) fullShare X ∗ XB c k X R 0) ∗ (XB c k X R 1 -∗ wp frame (wpE (defs₀ (F := F)) Variants.none c none) Set.univ (K ⟨⟩) Q))
      ⊢ wp frame (wpE (defs₀ (F := F)) Variants.none c none) Set.univ
        (.op (.enqueueDma (xH.slice (Rect.unit (s := S128x4992) o' S32x4992.size inb') (fun _ => rfl)) (.here (xV.slice (Rect.unit (s := S128x4992) o' S32x4992.size inb') (fun _ => rfl)))
          (.dma ((cc0_scratch12.slice (Rect.unit (s := S4) o S1.size inb)).squeeze S_ squeezes_S1_S_).sem) hs hd ht) K) Q := by
  subst h; subst h'
  iintro ⟨⟨H1, H2, HB⟩, HK⟩
  iapply (Transfers.wp_dmaBatch (countersEmb (U := Pipeline.UD sig nD τ)) Variants.none (c : Thread nD τ) none (src := rows xH k) (dst := rows xV k) (fs := X) (fd := x0) (q := fullShare) (D := dX c k X R) () ((rows xV k).view.dmaCredit)
    rfl (subset_refl _) (Nat.two_pos) (Nat.zero_le _)
    (by exact .of_eq (congrArg (fun P => iprop(P ∗ own c (rows xH k) fullShare X)) (land_x c k x0 X)))) $$ [H1 H2 HB]
  · sl_close
  iintro HB
  iapply HK
  iexact HB

theorem step_x1 (k : Fin k0_t1_loop.trips) (X R x0 : Vec F S128x4992 .bf16) {o : Fin 1 → ℕ} {o' : Fin 2 → ℕ} (h : o = k0_off1 k) (h' : o' = k0_off2 k)
    {inb : ∀ a, o a + S1.size a ≤ S4.size a} {inb' : ∀ a, o' a + S32x4992.size a ≤ S128x4992.size a} {hs hd ht}
    (K : PUnit → Prog (TpuEff nD τ sig (Elt F) Λ₀ .tc) α) (Q : α → sProp 𝕄) :
    iprop((own c (rows rV k) fullShare x0 ∗ own c (rows rH k) fullShare R ∗ XB c k X R 1) ∗ (XB c k X R 2 -∗ wp frame (wpE (defs₀ (F := F)) Variants.none c none) Set.univ (K ⟨⟩) Q))
      ⊢ wp frame (wpE (defs₀ (F := F)) Variants.none c none) Set.univ
        (.op (.enqueueDma (rH.slice (Rect.unit (s := S128x4992) o' S32x4992.size inb') (fun _ => rfl)) (.here (rV.slice (Rect.unit (s := S128x4992) o' S32x4992.size inb') (fun _ => rfl)))
          (.dma ((cc0_scratch12.slice (Rect.unit (s := S4) o S1.size inb)).squeeze S_ squeezes_S1_S_).sem) hs hd ht) K) Q := by
  subst h; subst h'
  iintro ⟨⟨H1, H2, HB⟩, HK⟩
  iapply (Transfers.wp_dmaBatch (countersEmb (U := Pipeline.UD sig nD τ)) Variants.none (c : Thread nD τ) none (src := rows rH k) (dst := rows rV k) (fs := R) (fd := x0) (q := fullShare) (D := dX c k X R) () ((rows xV k).view.dmaCredit)
    rfl (subset_refl _) (Nat.one_lt_two) (Nat.zero_le _)
    (by exact .of_eq (congrArg (fun P => iprop(P ∗ own c (rows rH k) fullShare R)) (land_r c k x0 R)))) $$ [H1 H2 HB]
  · sl_close
  iintro HB
  iapply HK
  iexact HB

/-- The flight of weight block `j` before it starts. -/
abbrev WB0 (c : Dev nD) (z : Vec F S8x512x4992 .fp8e4m3) (Wv : Vec F S11904x4992 .fp8e4m3) (j : Fin k0_t2_loop.trips) : sProp 𝕄 :=
  Transfers.Batch (countersEmb (U := Pipeline.UD sig nD τ)) (c : Thread nD τ) (.dma (wcell j).sem) () ((slot j).view.dmaCredit) (dW c z Wv j) 0 0

theorem step_w (j : Fin k0_t2_loop.trips) (z fd : Vec F S8x512x4992 .fp8e4m3) (Wv : Vec F S11904x4992 .fp8e4m3) {o : Fin 1 → ℕ} {o2 : Fin 3 → ℕ} {o3 : Fin 2 → ℕ} (h : o = k0_off42 j) (h2 : o2 = k0_off43 j) (h3 : o3 = k0_off44 j)
    {inb : ∀ a, o a + S1.size a ≤ S8.size a} {inb2 : ∀ a, o2 a + S1x512x4992.size a ≤ S8x512x4992.size a} {inb3 : ∀ a, o3 a + S512x4992.size a ≤ S11904x4992.size a} {hs hd ht}
    (K : PUnit → Prog (TpuEff nD τ sig (Elt F) Λ₀ .tc) α) (Q : α → sProp 𝕄) :
    iprop((own c (slot j) fullShare fd ∗ own c (wrows j) fullShare Wv ∗ WB0 c z Wv j) ∗ (WB c z Wv j -∗ wp frame (wpE (defs₀ (F := F)) Variants.none c none) Set.univ (K ⟨⟩) Q))
      ⊢ wp frame (wpE (defs₀ (F := F)) Variants.none c none) Set.univ
        (.op (.enqueueDma (wH.slice (Rect.unit (s := S11904x4992) o3 S512x4992.size inb3) (fun _ => rfl)) (.here ((ringV.slice (Rect.unit (s := S8x512x4992) o2 S1x512x4992.size inb2) (fun _ => rfl)).squeeze S512x4992 squeezes_S1x512x4992_S512x4992))
          (.dma ((cc0_scratch14.slice (Rect.unit (s := S8) o S1.size inb)).squeeze S_ squeezes_S1_S_).sem) hs hd ht) K) Q := by
  subst h; subst h2; subst h3
  iintro ⟨⟨H1, H2, HB⟩, HK⟩
  iapply (Transfers.wp_dmaBatch (countersEmb (U := Pipeline.UD sig nD τ)) Variants.none (c : Thread nD τ) none (src := wrows j) (dst := slot j) (fs := Wv) (fd := fd) (q := fullShare) (D := dW c z Wv j) () ((slot j).view.dmaCredit)
    rfl (subset_refl _) (Nat.one_pos) (Nat.zero_le _)
    (by exact issue_w c z fd Wv j rfl rfl _ _ _)) $$ [H1 H2 HB]
  · sl_close
  iintro HB
  iapply HK
  iexact HB
end Steps

end Cert.KernelIdeal.Hand
-- ==== Proof.KI.Start.lean ====
module

public import proofs.«01_k».proof.Proof.KI.Issue

/-! The kernel's start: the small arrays, the row groups and the first weight blocks are fetched. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev gH : Memref sig .tc .hbm S39x128 .bf16 := Memref.whole main_v2
abbrev gV : Memref sig .tc .vmem S39x128 .bf16 := Memref.whole cc0_scratch2
abbrev wsH : Memref sig .tc .hbm S93x128 .f32 := Memref.whole main_v3
abbrev sH : Memref sig .tc .hbm S1x1 .f32 := Memref.whole main_v5
abbrev sV : Memref sig .tc .vmem S1x1 .f32 := Memref.whole cc0_scratch5
abbrev bH : Memref sig .tc .hbm S93x128 .bf16 := Memref.whole main_v4
abbrev bV : Memref sig .tc .vmem S93x128 .bf16 := Memref.whole cc0_scratch6
abbrev sO : Memref sig .tc .hbm S1x1 .f32 := Memref.whole main_v6_3

/-- What the arrival of a whole array hands back. -/
def dS (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) : Fin 1 → sProp 𝕄 :=
  fun _ => iprop(own c N fullShare g ∗ own c M q f)

instance (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) (t) : Storable (upEmb : UEmb _ 𝕄) (dS c M N q f g t) := by
  unfold dS; infer_instance

/-- A whole array on its way on semaphore `sm`. -/
abbrev SB (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) (sm : DmaSem sig) (j : ℕ) : sProp 𝕄 :=
  Transfers.Batch (countersEmb (U := Pipeline.UD sig nD τ)) (c : Thread nD τ) (.dma sm) () (N.view.dmaCredit) (dS c M N q f g) j 0

theorem step_s {α : Type} (c : Dev nD) {sp sp' : Space} {s : Shape} {e : EltTy} (M : Memref sig .tc sp s e) (N : Memref sig .tc sp' s e) (q : PosShare TreeShare)
    (f : Buf (Elt F) (M.view.loc (c : Thread nD τ))) (g g' : Buf (Elt F) (N.view.loc (c : Thread nD τ))) (sm : DmaSem sig) {hs hd ht}
    (hg : ∀ i ∈ N.view.set, N.view.write (Elt F) g (M.view.read (Elt F) f) Finset.univ i = g' i)
    (K : PUnit → Prog (TpuEff nD τ sig (Elt F) Λ₀ .tc) α) (Q : α → sProp 𝕄) :
    iprop((own c M q f ∗ own c N fullShare g ∗ SB c M N q f g' sm 0) ∗ (SB c M N q f g' sm 1 -∗ wp frame (wpE (defs₀ (F := F)) Variants.none c none) Set.univ (K ⟨⟩) Q))
      ⊢ wp frame (wpE (defs₀ (F := F)) Variants.none c none) Set.univ (.op (.enqueueDma M (.here N) (.dma sm) hs hd ht) K) Q := by
  iintro ⟨⟨H1, H2, HB⟩, HK⟩
  iapply (Transfers.wp_dmaBatch (countersEmb (U := Pipeline.UD sig nD τ)) Variants.none (c : Thread nD τ) none (src := M) (dst := N) (fs := f) (fd := g) (q := q) (D := dS c M N q f g') () (N.view.dmaCredit)
    rfl (subset_refl _) (Nat.one_pos) (Nat.zero_le _)
    (by exact .of_eq (congrArg (fun P => iprop(P ∗ own c M q f)) (pointsTo_congr hg)))) $$ [H1 H2 HB]
  · sl_close
  iintro HB
  iapply HK
  iexact HB

theorem step_sw {α : Type} (c : Dev nD) {sp sp' : Space} {s : Shape} {e : EltTy} (M : Memref sig .tc sp s e) (N : Memref sig .tc sp' s e) (q : PosShare TreeShare)
    (f : Buf (Elt F) (M.view.loc (c : Thread nD τ))) (g : Buf (Elt F) (N.view.loc (c : Thread nD τ))) (sm : DmaSem sig) {hs hd} (h0 : 0 < N.view.dmaCredit)
    (K : PUnit → Prog (TpuEff nD τ sig (Elt F) Λ₀ .tc) α) (Q : α → sProp 𝕄) :
    iprop((SB c M N q f g sm 1 ∗ (∃ W, owes (c : Thread nD τ) 0 W)) ∗ ((own c N fullShare g ∗ own c M q f ∗ semVal ((c : Thread nD τ), SemLoc.dma sm) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 sm M N hs hd) K) Q := by
  iintro ⟨⟨HB, ⟨%W, HW⟩⟩, HK⟩
  iapply (Transfers.wp_waitBatchLast (countersEmb (U := Pipeline.UD sig nD τ)) Variants.none (c : Thread nD τ) none (D := dS c M N q f g) () rfl h0 (by rw [Nat.zero_add, Nat.mul_one])) $$ [HB HW]
  · sl_close
  iintro ⟨HD, HS, HW⟩
  iapply HK
  ihave HD2 := (show bigSep Finset.univ (dS c M N q f g) ⊢ iprop(own c N fullShare g ∗ own c M q f) from .of_eq (bigSep_univ_eq_bigSepL [0] (by decide) (by decide) _)) $$ HD
  icases HD2 with ⟨H1, H2⟩
  isplitl [H1]; · iexact H1
  isplitl [H2]; · iexact H2
  isplitl [HS]; · iexact HS
  iexists _
  iexact HW

theorem g0lt : 0 < k0_t1_loop.trips := g_lt 0 (by decide)
theorem g1lt : 1 < k0_t1_loop.trips := g_lt 1 (by decide)
theorem g2lt : 2 < k0_t1_loop.trips := g_lt 2 (by decide)
theorem g3lt : 3 < k0_t1_loop.trips := g_lt 3 (by decide)

section Parts
variable (c : Dev nD) (X R x0 r0 : Vec F S128x4992 .bf16) (Gm g0 : Vec F S39x128 .bf16) (ws w0 : Vec F S93x128 .f32) (s s0 : Vec F S1x1 .f32) (b b0 : Vec F S93x128 .bf16)
  (z : Vec F S8x512x4992 .fp8e4m3) (Wv : Vec F S11904x4992 .fp8e4m3)

/-- What the start of row group `k` takes. -/
abbrev gin (k : Fin k0_t1_loop.trips) : sProp 𝕄 :=
  iprop(own c (rows xV k) fullShare x0 ∗ own c (rows xH k) fullShare X ∗ own c (rows rV k) fullShare r0 ∗ own c (rows rH k) fullShare R ∗ XB c k X R 0)

/-- What the start of weight block `j` takes. -/
abbrev wpre (j : Fin k0_t2_loop.trips) : sProp 𝕄 := iprop(own c (slot j) fullShare z ∗ own c (wrows j) fullShare Wv ∗ WB0 c z Wv j)

abbrev m0 : DmaSem sig := ((cc0_scratch13.slice (Rect.unit (s := S4) ![0] S1.size inb_S4_S1_0)).squeeze S_ squeezes_S1_S_).sem
abbrev m1 : DmaSem sig := ((cc0_scratch13.slice (Rect.unit (s := S4) ![1] S1.size inb_S4_S1_1)).squeeze S_ squeezes_S1_S_).sem
abbrev m2 : DmaSem sig := ((cc0_scratch13.slice (Rect.unit (s := S4) ![2] S1.size inb_S4_S1_2)).squeeze S_ squeezes_S1_S_).sem
abbrev m3 : DmaSem sig := ((cc0_scratch13.slice (Rect.unit (s := S4) ![3] S1.size inb_S4_S1_3)).squeeze S_ squeezes_S1_S_).sem

/-- The small arrays before they are fetched, -/
abbrev sin : sProp 𝕄 :=
  iprop((own c gH fullShare Gm ∗ own c gV fullShare g0 ∗ SB c gH gV fullShare Gm Gm m0 0)
    ∗ (own c wsH fullShare ws ∗ own c wsV fullShare w0 ∗ SB c wsH wsV fullShare ws ws m1 0)
    ∗ (own c sH fullShare s ∗ own c sV fullShare s0 ∗ SB c sH sV fullShare s s m2 0)
    ∗ (own c bH fullShare b ∗ own c bV fullShare b0 ∗ SB c bH bV fullShare b b m3 0))

/-- and on their way. -/
abbrev sgo : sProp 𝕄 :=
  iprop(SB c gH gV fullShare Gm Gm m0 1 ∗ SB c wsH wsV fullShare ws ws m1 1 ∗ SB c sH sV fullShare s s m2 1 ∗ SB c bH bV fullShare b b m3 1)

theorem p38 :
    iprop(sin c Gm g0 ws w0 s s0 b b0 ∗ gin c X R x0 r0 ⟨0, g0lt⟩ ∗ gin c X R x0 r0 ⟨1, g1lt⟩)
      ⊢ wp frame (wpE (defs₀ (F := F)) Variants.none c none) Set.univ (k0_part38 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
        (fun _ => iprop(sgo c Gm ws s b ∗ XB c ⟨0, g0lt⟩ X R 2 ∗ XB c ⟨1, g1lt⟩ X R 2)) := by
  iintro ⟨⟨⟨A1, A2, A3⟩, ⟨B1, B2, B3⟩, ⟨C1, C2, C3⟩, ⟨D1, D2, D3⟩⟩, ⟨E1, E2, E3, E4, E5⟩, ⟨F1, F2, F3, F4, F5⟩⟩
  simp only [k0_part38, Prog.lift, Prog.bind_op, Prog.bind_ret, Prog.pure_eq_ret, Prog.bind_assoc]
  iapply (step_s c gH gV fullShare Gm g0 Gm m0 (by intro i hi; obtain ⟨x, -, rfl⟩ := Finset.mem_map.mp hi; rw [View.write_emb_of_mem _ _ (Finset.mem_univ x)]; rfl))
  isplitl [A1 A2 A3]
  · sl_close
  iintro A3
  iapply (step_s c wsH wsV fullShare ws w0 ws m1 (by intro i hi; obtain ⟨x, -, rfl⟩ := Finset.mem_map.mp hi; rw [View.write_emb_of_mem _ _ (Finset.mem_univ x)]; rfl))
  isplitl [B1 B2 B3]
  · sl_close
  iintro B3
  iapply (step_s c sH sV fullShare s s0 s m2 (by intro i hi; obtain ⟨x, -, rfl⟩ := Finset.mem_map.mp hi; rw [View.write_emb_of_mem _ _ (Finset.mem_univ x)]; rfl))
  isplitl [C1 C2 C3]
  · sl_close
  iintro C3
  iapply (step_s c bH bV fullShare b b0 b m3 (by intro i hi; obtain ⟨x, -, rfl⟩ := Finset.mem_map.mp hi; rw [View.write_emb_of_mem _ _ (Finset.mem_univ x)]; rfl))
  isplitl [D1 D2 D3]
  · sl_close
  iintro D3
  iapply (step_x0 c ⟨0, g0lt⟩ X R x0 ((k0_off1_eq ⟨0, g0lt⟩).trans rfl).symm ((k0_off2_eq ⟨0, g0lt⟩).trans rfl).symm)
  isplitl [E1 E2 E5]
  · sl_close
  iintro E5
  iapply (step_x1 c ⟨0, g0lt⟩ X R r0 ((k0_off1_eq ⟨0, g0lt⟩).trans rfl).symm ((k0_off2_eq ⟨0, g0lt⟩).trans rfl).symm)
  isplitl [E3 E4 E5]
  · sl_close
  iintro E5
  iapply (step_x0 c ⟨1, g1lt⟩ X R x0 ((k0_off1_eq ⟨1, g1lt⟩).trans rfl).symm ((k0_off2_eq ⟨1, g1lt⟩).trans rfl).symm)
  isplitl [F1 F2 F5]
  · sl_close
  iintro F5
  iapply (step_x1 c ⟨1, g1lt⟩ X R r0 ((k0_off1_eq ⟨1, g1lt⟩).trans rfl).symm ((k0_off2_eq ⟨1, g1lt⟩).trans rfl).symm)
  isplitl [F3 F4 F5]
  · sl_close
  iintro F5
  sl_step
  sl_close

theorem p39 :
    iprop(gin c X R x0 r0 ⟨2, g2lt⟩ ∗ gin c X R x0 r0 ⟨3, g3lt⟩ ∗ wpre c z Wv (sl8 0) ∗ wpre c z Wv (sl8 1))
      ⊢ wp frame (wpE (defs₀ (F := F)) Variants.none c none) Set.univ (k0_part39 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
        (fun _ => iprop(XB c ⟨2, g2lt⟩ X R 2 ∗ XB c ⟨3, g3lt⟩ X R 2 ∗ WB c z Wv (sl8 0) ∗ WB c z Wv (sl8 1))) := by
  iintro ⟨⟨E1, E2, E3, E4, E5⟩, ⟨F1, F2, F3, F4, F5⟩, ⟨A1, A2, A3⟩, ⟨B1, B2, B3⟩⟩
  simp only [k0_part39, Prog.lift, Prog.bind_op, Prog.bind_ret, Prog.pure_eq_ret, Prog.bind_assoc]
  iapply (step_x0 c ⟨2, g2lt⟩ X R x0 ((k0_off1_eq ⟨2, g2lt⟩).trans rfl).symm ((k0_off2_eq ⟨2, g2lt⟩).trans rfl).symm)
  isplitl [E1 E2 E5]
  · sl_close
  iintro E5
  iapply (step_x1 c ⟨2, g2lt⟩ X R r0 ((k0_off1_eq ⟨2, g2lt⟩).trans rfl).symm ((k0_off2_eq ⟨2, g2lt⟩).trans rfl).symm)
  isplitl [E3 E4 E5]
  · sl_close
  iintro E5
  iapply (step_x0 c ⟨3, g3lt⟩ X R x0 ((k0_off1_eq ⟨3, g3lt⟩).trans rfl).symm ((k0_off2_eq ⟨3, g3lt⟩).trans rfl).symm)
  isplitl [F1 F2 F5]
  · sl_close
  iintro F5
  iapply (step_x1 c ⟨3, g3lt⟩ X R r0 ((k0_off1_eq ⟨3, g3lt⟩).trans rfl).symm ((k0_off2_eq ⟨3, g3lt⟩).trans rfl).symm)
  isplitl [F3 F4 F5]
  · sl_close
  iintro F5
  iapply (step_w c (sl8 0) z z Wv ((k0_off42_eq (sl8 0)).trans rfl).symm ((k0_off43_eq (sl8 0)).trans rfl).symm ((k0_off44_eq (sl8 0)).trans rfl).symm)
  isplitl [A1 A2 A3]
  · sl_close
  iintro A3
  iapply (step_w c (sl8 1) z z Wv ((k0_off42_eq (sl8 1)).trans rfl).symm ((k0_off43_eq (sl8 1)).trans rfl).symm ((k0_off44_eq (sl8 1)).trans rfl).symm)
  isplitl [B1 B2 B3]
  · sl_close
  iintro B3
  sl_step
  sl_close

theorem p40 :
    iprop(wpre c z Wv (sl8 2) ∗ wpre c z Wv (sl8 3) ∗ wpre c z Wv (sl8 4) ∗ wpre c z Wv (sl8 5) ∗ wpre c z Wv (sl8 6))
      ⊢ wp frame (wpE (defs₀ (F := F)) Variants.none c none) Set.univ (k0_part40 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
        (fun _ => iprop(WB c z Wv (sl8 2) ∗ WB c z Wv (sl8 3) ∗ WB c z Wv (sl8 4) ∗ WB c z Wv (sl8 5) ∗ WB c z Wv (sl8 6))) := by
  iintro ⟨⟨A1, A2, A3⟩, ⟨B1, B2, B3⟩, ⟨C1, C2, C3⟩, ⟨D1, D2, D3⟩, ⟨E1, E2, E3⟩⟩
  simp only [k0_part40, Prog.lift, Prog.bind_op, Prog.bind_ret, Prog.pure_eq_ret, Prog.bind_assoc]
  iapply (step_w c (sl8 2) z z Wv ((k0_off42_eq (sl8 2)).trans rfl).symm ((k0_off43_eq (sl8 2)).trans rfl).symm ((k0_off44_eq (sl8 2)).trans rfl).symm)
  isplitl [A1 A2 A3]
  · sl_close
  iintro A3
  iapply (step_w c (sl8 3) z z Wv ((k0_off42_eq (sl8 3)).trans rfl).symm ((k0_off43_eq (sl8 3)).trans rfl).symm ((k0_off44_eq (sl8 3)).trans rfl).symm)
  isplitl [B1 B2 B3]
  · sl_close
  iintro B3
  iapply (step_w c (sl8 4) z z Wv ((k0_off42_eq (sl8 4)).trans rfl).symm ((k0_off43_eq (sl8 4)).trans rfl).symm ((k0_off44_eq (sl8 4)).trans rfl).symm)
  isplitl [C1 C2 C3]
  · sl_close
  iintro C3
  iapply (step_w c (sl8 5) z z Wv ((k0_off42_eq (sl8 5)).trans rfl).symm ((k0_off43_eq (sl8 5)).trans rfl).symm ((k0_off44_eq (sl8 5)).trans rfl).symm)
  isplitl [D1 D2 D3]
  · sl_close
  iintro D3
  iapply (step_w c (sl8 6) z z Wv ((k0_off42_eq (sl8 6)).trans rfl).symm ((k0_off43_eq (sl8 6)).trans rfl).symm ((k0_off44_eq (sl8 6)).trans rfl).symm)
  isplitl [E1 E2 E3]
  · sl_close
  iintro E3
  sl_step
  sl_close

/-- Part 41 up to the end of the first loop. -/
theorem p41 (x : BitVec 32) (gf0 : Vec F S39x128 .f32) (bf0 : Vec F S93x128 .f32) (so0 : Vec F S1x1 .f32) (h0 oh : Vec F S128x4992 .bf16) (c0 oc : Vec F S128x4992 .fp8e4m3) :
    iprop(sgo c Gm ws s b ∗ wpre c z Wv (sl8 7) ∗ own c gF fullShare gf0 ∗ own c bF fullShare bf0 ∗ own c sO fullShare so0 ∗ SB c sV sO fullShare.right s s cc0_scratch16.sem 0
        ∗ bigSep Finset.univ (pre1 c X R h0 oh c0 oc) ∗ (∃ W, owes (c : Thread nD τ) 0 W) ∗ OutB c (hB X R) (cB s X R (k0_pay160 Gm)) 0 0)
      ⊢ wp frame (wpE (defs₀ (F := F)) Variants.none c none) Set.univ (k0_part41 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 x)
        (fun r => iprop(⌜r = ⟨s, 0#32, 23#32⟩⌝
          ∗ (own c gH fullShare Gm ∗ own c gV fullShare Gm ∗ own c wsH fullShare ws ∗ own c wsV fullShare ws ∗ own c sH fullShare s ∗ own c sV fullShare.left s ∗ own c bH fullShare b ∗ own c bV fullShare b)
          ∗ (semVal ((c : Thread nD τ), SemLoc.dma m0) 0 ∗ semVal ((c : Thread nD τ), SemLoc.dma m1) 0 ∗ semVal ((c : Thread nD τ), SemLoc.dma m2) 0 ∗ semVal ((c : Thread nD τ), SemLoc.dma m3) 0)
          ∗ WB c z Wv (sl8 7) ∗ own c gF fullShare (k0_pay160 Gm) ∗ own c bF fullShare (k0_pay161 b) ∗ SB c sV sO fullShare.right s s cc0_scratch16.sem 1
          ∗ bigSep Finset.univ (post1 c s X R (k0_pay160 Gm)) ∗ (∃ W, owes (c : Thread nD τ) 0 W) ∗ OutB c (hB X R) (cB s X R (k0_pay160 Gm)) 8 0)) := by
  iintro ⟨⟨HA, HB, HC, HD⟩, ⟨E1, E2, E3⟩, HG, HBF, HSO, HS, HP, HW, HO⟩
  simp only [k0_part41, Prog.lift, Prog.bind_op, Prog.bind_ret, Prog.pure_eq_ret, Prog.bind_assoc]
  iapply (step_w c (sl8 7) z z Wv ((k0_off42_eq (sl8 7)).trans rfl).symm ((k0_off43_eq (sl8 7)).trans rfl).symm ((k0_off44_eq (sl8 7)).trans rfl).symm)
  isplitl [E1 E2 E3]
  · sl_close
  iintro E3
  iapply (step_sw c gH gV fullShare Gm Gm m0 (by decide))
  isplitl [HA HW]
  · isplitl [HA]; · iexact HA
    iexact HW
  iintro ⟨A2, A1, A3, HW⟩
  iapply (step_sw c wsH wsV fullShare ws ws m1 (by decide))
  isplitl [HB HW]
  · isplitl [HB]; · iexact HB
    iexact HW
  iintro ⟨B2, B1, B3, HW⟩
  iapply (step_sw c sH sV fullShare s s m2 (by decide))
  isplitl [HC HW]
  · isplitl [HC]; · iexact HC
    iexact HW
  iintro ⟨C2, C1, C3, HW⟩
  iapply (step_sw c bH bV fullShare b b m3 (by decide))
  isplitl [HD HW]
  · isplitl [HD]; · iexact HD
    iexact HW
  iintro ⟨D2, D1, D3, HW⟩
  ihave C2 := (own_halves c sV fullShare s).1 $$ C2
  icases C2 with ⟨C2, C4⟩
  iapply (step_s c sV sO fullShare.right s so0 s cc0_scratch16.sem (by intro i hi; obtain ⟨x, -, rfl⟩ := Finset.mem_map.mp hi; rw [View.write_emb_of_mem _ _ (Finset.mem_univ x)]; rfl))
  isplitl [C4 HSO HS]
  · sl_close
  iintro HS
  icases HW with ⟨%W, HW⟩
  sl_step
  sl_step
  sl_step
  sl_step
  sl_step
  sl_step
  sl_step
  have eo2 : (![0, 0] : Fin 2 → ℕ) = fun _ => 0 := by funext a; fin_cases a <;> rfl
  have er : (Memref.whole cc0_scratch5 : Memref sig .tc .vmem S1x1 .f32).view.readAt (Elt F) (Rect.unit (s := S1x1) ![0, 0] S1x1.size inb_S1x1_S1x1_0_0).toLoadRect s = s :=
    Memref.readAt_unit_zero (Elt F) cc0_scratch5 eo2 _ s
  have eg : (Memref.whole cc0_scratch2 : Memref sig .tc .vmem S39x128 .bf16).view.readAt (Elt F) (Rect.unit (s := S39x128) ![0, 0] S39x128.size inb_S39x128_S39x128_0_0).toLoadRect Gm = Gm :=
    Memref.readAt_unit_zero (Elt F) cc0_scratch2 eo2 _ Gm
  have eb : (Memref.whole cc0_scratch6 : Memref sig .tc .vmem S93x128 .bf16).view.readAt (Elt F) (Rect.unit (s := S93x128) ![0, 0] S93x128.size inb_S93x128_S93x128_0_0).toLoadRect b = b :=
    Memref.readAt_unit_zero (Elt F) cc0_scratch6 eo2 _ b
  have ewg : ∀ v : Vec F S39x128 .f32, ((Memref.whole cc0_scratch3 : Memref sig .tc .vmem S39x128 .f32).access (Rect.unit (s := S39x128) ![0, 0] S39x128.size inb_S39x128_S39x128_0_0)).write (Elt F) gf0 v Finset.univ = v :=
    fun v => Memref.write_access_unit_zero_univ (Elt F) cc0_scratch3 eo2 _ gf0 v
  have ewb : ∀ v : Vec F S93x128 .f32, ((Memref.whole cc0_scratch7 : Memref sig .tc .vmem S93x128 .f32).access (Rect.unit (s := S93x128) ![0, 0] S93x128.size inb_S93x128_S93x128_0_0)).write (Elt F) bf0 v Finset.univ = v :=
    fun v => Memref.write_access_unit_zero_univ (Elt F) cc0_scratch7 eo2 _ bf0 v
  rw [er, eg, eb, ewg, ewb]
  iapply (wp_seq (loop1 c s X R h0 oh c0 oc (k0_pay160 Gm) x)) $$ [HP HG HW HO]
  · isplitl [HP]; · iexact HP
    isplitl [HG]; · iexact HG
    isplitl [HW]; · iexists W; iexact HW
    iexact HO
  iintro %r ⟨HP, HG, HW, HO⟩
  sl_step
  isplitr; · ipureintro; rfl
  isplitl [A1 A2 B1 B2 C1 C2 D1 D2]
  · sl_close
  isplitl [A3 B3 C3 D3]
  · sl_close
  isplitl [E3]; · iexact E3
  isplitl [HG]; · iexact HG
  isplitl [HBF]; · iexact HBF
  isplitl [HS]; · iexact HS
  isplitl [HP]; · iexact HP
  isplitl [HW]; · iexact HW
  iexact HO

end Parts

end Cert.KernelIdeal.Hand
-- ==== Proof.KI.Finish.lean ====
module

public import proofs.«01_k».proof.Proof.KI.Start

/-! The kernel's end: the second loop, the last columns of the result, and the waits for what was sent out. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem y_sum : Transfers.sumTo yA 24 = yO.view.dmaCredit := by decide +kernel
theorem yA_pos : ∀ t, 0 < yA t := by decide +kernel
theorem outA_pos : ∀ t, 0 < outA t := by decide +kernel
theorem tslot_pos : 0 < tslot.view.dmaCredit := by decide +kernel
theorem out_le9 : ∀ m : Fin 9, Transfers.sumTo outA m.val ≤ Transfers.sumTo outA 8 := by decide +kernel
theorem out_le (n : ℕ) (h : n < 8) : Transfers.sumTo outA (n + 1) ≤ Transfers.sumTo outA 8 := out_le9 ⟨n + 1, Nat.succ_lt_succ h⟩

theorem step_h {α : Type} (c : Dev nD) (H : Vec F S128x4992 .bf16) (C : Vec F S128x4992 .fp8e4m3) (k : Fin k0_t1_loop.trips) (n m : ℕ) (hn : n = 2 * k.val) (hm : m = n + 1) {o : Fin 2 → ℕ} (h : o = k0_off2 k)
    {inb : ∀ a, o a + S32x4992.size a ≤ S128x4992.size a} {hs hd}
    (K : PUnit → Prog (TpuEff nD τ sig (Elt F) Λ₀ .tc) α) (Q : α → sProp 𝕄) :
    iprop((OutB c H C 8 (Transfers.sumTo outA n) ∗ (∃ W, owes (c : Thread nD τ) 0 W)) ∗ ((OutB c H C 8 (Transfers.sumTo outA m) ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch15.sem (hV.slice (Rect.unit (s := S128x4992) o S32x4992.size inb) (fun _ => rfl)) (hO.slice (Rect.unit (s := S128x4992) o S32x4992.size inb) (fun _ => rfl)) hs hd) K) Q := by
  subst h; subst hn; subst hm
  have hs1 : Transfers.sumTo outA (2 * k.val + 1) = Transfers.sumTo outA (2 * k.val) + (rows hO k).view.dmaCredit := by
    rw [Transfers.sumTo_succ outA (out_lt k).1, ← outA_even]
  have hu := hs1 ▸ out_le _ (out_lt k).1
  iintro ⟨⟨HB, ⟨%W, HW⟩⟩, HK⟩
  iapply (Transfers.wp_waitMixedBatch (countersEmb (U := Pipeline.UD sig nD τ)) Variants.none (c : Thread nD τ) none (A := outA) (D := outD c H C) () (u := Transfers.sumTo outA (2 * k.val)) (j := 8) rfl hu) $$ [HB HW]
  · isplitl [HB]; · iexact HB
    iexact HW
  iintro ⟨HB, HW⟩
  iapply HK
  isplitl [HB]
  · rw [hs1]; iexact HB
  iexists _
  iexact HW

theorem step_c {α : Type} (c : Dev nD) (H : Vec F S128x4992 .bf16) (C : Vec F S128x4992 .fp8e4m3) (k : Fin k0_t1_loop.trips) (n m : ℕ) (hn : n = 2 * k.val + 1) (hm : m = n + 1) {o : Fin 2 → ℕ} (h : o = k0_off2 k)
    {inb : ∀ a, o a + S32x4992.size a ≤ S128x4992.size a} {hs hd}
    (K : PUnit → Prog (TpuEff nD τ sig (Elt F) Λ₀ .tc) α) (Q : α → sProp 𝕄) :
    iprop((OutB c H C 8 (Transfers.sumTo outA n) ∗ (∃ W, owes (c : Thread nD τ) 0 W)) ∗ ((OutB c H C 8 (Transfers.sumTo outA m) ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch15.sem (cV.slice (Rect.unit (s := S128x4992) o S32x4992.size inb) (fun _ => rfl)) (cO.slice (Rect.unit (s := S128x4992) o S32x4992.size inb) (fun _ => rfl)) hs hd) K) Q := by
  subst h; subst hn; subst hm
  have hs1 : Transfers.sumTo outA (2 * k.val + 1 + 1) = Transfers.sumTo outA (2 * k.val + 1) + (rows cO k).view.dmaCredit := by
    rw [Transfers.sumTo_succ outA (out_lt k).2, ← outA_odd]
  have hu := hs1 ▸ out_le _ (out_lt k).2
  iintro ⟨⟨HB, ⟨%W, HW⟩⟩, HK⟩
  iapply (Transfers.wp_waitMixedBatch (countersEmb (U := Pipeline.UD sig nD τ)) Variants.none (c : Thread nD τ) none (A := outA) (D := outD c H C) () (u := Transfers.sumTo outA (2 * k.val + 1)) (j := 8) rfl hu) $$ [HB HW]
  · isplitl [HB]; · iexact HB
    iexact HW
  iintro ⟨HB, HW⟩
  iapply HK
  isplitl [HB]
  · rw [hs1]; iexact HB
  iexists _
  iexact HW

theorem step_tw {α : Type} (c : Dev nD) (z : Vec F S8x512x4992 .fp8e4m3) (Wv : Vec F S11904x4992 .fp8e4m3) {o : Fin 1 → ℕ} (h : o = k0_off42 ⟨15, last_lt⟩) {inb : ∀ a, o a + S1.size a ≤ S8.size a} {hs hd}
    (K : PUnit → Prog (TpuEff nD τ sig (Elt F) Λ₀ .tc) α) (Q : α → sProp 𝕄) :
    iprop((TB c z Wv ∗ (∃ W, owes (c : Thread nD τ) 0 W)) ∗ ((own c (slot ⟨15, last_lt⟩) fullShare (ringT z Wv) ∗ own c wtail fullShare Wv ∗ semVal ((c : Thread nD τ), SemLoc.dma (wcell ⟨15, last_lt⟩).sem) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 ((cc0_scratch14.slice (Rect.unit (s := S8) o S1.size inb)).squeeze S_ squeezes_S1_S_).sem wtail tslot hs hd) K) Q := by
  subst h
  iintro ⟨⟨HB, ⟨%W, HW⟩⟩, HK⟩
  iapply (Transfers.wp_waitBatchLast (countersEmb (U := Pipeline.UD sig nD τ)) Variants.none (c : Thread nD τ) none (D := dT c z Wv) () rfl tslot_pos (by rw [Nat.zero_add, Nat.mul_one])) $$ [HB HW]
  · isplitl [HB]; · iexact HB
    iexact HW
  iintro ⟨HD, HS, HW⟩
  iapply HK
  ihave HD2 := (show bigSep Finset.univ (dT c z Wv) ⊢ iprop(own c (slot ⟨15, last_lt⟩) fullShare (ringT z Wv) ∗ own c wtail fullShare Wv) from .of_eq (bigSep_univ_eq_bigSepL [0] (by decide) (by decide) _)) $$ HD
  icases HD2 with ⟨H1, H2⟩
  isplitl [H1]; · iexact H1
  isplitl [H2]; · iexact H2
  isplitl [HS]; · iexact HS
  iexists _
  iexact HW

abbrev rT : Rect S8x512x4992 := Rect.unit (s := S8x512x4992) ![7, 0, 0] S1x128x4992.size inb_S8x512x4992_S1x128x4992_7_0_0
theorem rT_sub (c : Dev nD) : (ringV.view.setOn rT.toLoadRect.set : Finset (Idx (ringV.view.loc (c : Thread nD τ)))) ⊆ ((slot ⟨15, last_lt⟩).view.set : Finset (Idx (ringV.view.loc (c : Thread nD τ)))) := by
  intro i hi
  rw [mem_slot]
  obtain ⟨x, hx, rfl⟩ := Finset.mem_map.mp hi
  have h := (Rect.mem_set_unit.mp (by exact hx)) 0
  have h1 : 7 ≤ (x 0).val := h.1
  have h2 : (x 0).val < 7 + 1 := h.2
  show (x 0).val = 15 % 8
  omega

/-- A load of the last slot's first rows, the slot owned. -/
theorem step_lr {α : Type} (c : Dev nD) (f : Vec F S8x512x4992 .fp8e4m3) {hl}
    (K : (rT.toLoadRect.shape.Idx → Elt F .fp8e4m3) → Prog (TpuEff nD τ sig (Elt F) Λ₀ .tc) α) (Q : α → sProp 𝕄) :
    iprop(own c (slot ⟨15, last_lt⟩) fullShare f ∗ (own c (slot ⟨15, last_lt⟩) fullShare f -∗ wp frame (wpE (defs₀ (F := F)) Variants.none c none) Set.univ (K (ringV.view.readAt (Elt F) rT.toLoadRect f)) Q))
      ⊢ wp frame (wpE (defs₀ (F := F)) Variants.none c none) Set.univ (.op (.load ringV rT.toLoadRect hl) K) Q := by
  iintro ⟨H, HK⟩
  iapply (wp_load Variants.none (c : Thread nD τ) none Set.univ (S := (slot ⟨15, last_lt⟩).view.set) (q := fullShare) (f := f) (rT_sub c)) $$ [H]
  · iexact H
  iexact HK

abbrev rY : Rect S128x11904 := Rect.unit (s := S128x11904) ![0, 11776] S128x128.size inb_S128x11904_S128x128_0_11776
theorem rY_sub (c : Dev nD) : ((yV.access rY).set : Finset (Idx ((yV.access rY).loc (c : Thread nD τ)))) ⊆ ((ytail yV).view.set : Finset (Idx (yV.view.loc (c : Thread nD τ)))) := fun _ h => h
/-- A load and a store of the result's last columns. -/
theorem step_ly {α : Type} (c : Dev nD) (f : Vec F S128x11904 .bf16) {hl}
    (K : (rY.toLoadRect.shape.Idx → Elt F .bf16) → Prog (TpuEff nD τ sig (Elt F) Λ₀ .tc) α) (Q : α → sProp 𝕄) :
    iprop(own c (ytail yV) fullShare f ∗ (own c (ytail yV) fullShare f -∗ wp frame (wpE (defs₀ (F := F)) Variants.none c none) Set.univ (K ((yV.access rY).read (Elt F) f)) Q))
      ⊢ wp frame (wpE (defs₀ (F := F)) Variants.none c none) Set.univ (.op (.load yV rY.toLoadRect hl) K) Q := by
  iintro ⟨H, HK⟩
  iapply (wp_load_rect (r := rY) Variants.none (c : Thread nD τ) none Set.univ (S := (ytail yV).view.set) (q := fullShare) (f := f) (rY_sub c)) $$ [H]
  · iexact H
  iexact HK
theorem step_sy {α : Type} (c : Dev nD) (f : Vec F S128x11904 .bf16) (w : rY.shape.Idx → Elt F .bf16) {hx hm}
    (K : PUnit → Prog (TpuEff nD τ sig (Elt F) Λ₀ .tc) α) (Q : α → sProp 𝕄) :
    iprop(own c (ytail yV) fullShare f ∗ (own c (ytail yV) fullShare ((yV.access rY).write (Elt F) f w Finset.univ) -∗ wp frame (wpE (defs₀ (F := F)) Variants.none c none) Set.univ (K ⟨⟩) Q))
      ⊢ wp frame (wpE (defs₀ (F := F)) Variants.none c none) Set.univ (.op (.store yV rY w Finset.univ hx hm) K) Q := by
  iintro ⟨H, HK⟩
  iapply (wp_store (r := rY) Variants.none (c : Thread nD τ) none Set.univ (S := (ytail yV).view.set) (f := f) (by rw [View.setOn_univ])) $$ [H]
  · iexact H
  iexact HK

theorem copy_yt (c : Dev nD) (f Y : Vec F S128x11904 .bf16) :
    own c (ytail yO) fullShare ((ytail yO).view.write (Elt F) f ((ytail yV).view.read (Elt F) Y) Finset.univ) = own c (ytail yO) fullShare Y :=
  pointsTo_congr fun i hi => by
    obtain ⟨x, -, rfl⟩ := Finset.mem_map.mp hi
    rw [View.write_emb_of_mem _ _ (Finset.mem_univ x)]; rfl

theorem yA_last : (ytail yO).view.amount (.dma cc0_scratch17.sem) = yA ⟨23, by decide⟩ := by
  unfold yA; rw [dif_neg (by decide)]
theorem yD_last (c : Dev nD) (Y : Vec F S128x11904 .bf16) : yD c Y ⟨23, by decide⟩ = iprop(own c (ytail yO) fullShare Y ∗ own c (ytail yV) fullShare Y) := by
  unfold yD; rw [dif_neg (by decide)]

theorem pay162_eq {v110 : Vec F S1x1 .f32} {C C' : Vec F S128x4992 .fp8e4m3} {r : Vec F S1x128x4992 .fp8e4m3} {w1 b1 : Vec F S1x128 .f32} (Wv : Vec F S11904x4992 .fp8e4m3) (ws b : Vec F S93x128 .f32)
    (hC : C' = C) (hr : shapeCast S128x4992 r shapeCasts_S1x128x4992_S128x4992 = wtail.view.read (Elt F) Wv) (hw : w1 = row93 ws ⟨92, by decide⟩) (hb : b1 = row93 b ⟨92, by decide⟩) :
    k0_pay162 v110 C' r w1 b1 = yL v110 C Wv ws b := by
  subst hC; subst hw; subst hb
  unfold yL dotT; rw [← hr]; exact sc_self _ _

theorem ytail_write (c : Dev nD) (v110 : Vec F S1x1 .f32) (C : Vec F S128x4992 .fp8e4m3) (Wv : Vec F S11904x4992 .fp8e4m3) (ws b : Vec F S93x128 .f32) (y0 : Vec F S128x11904 .bf16) (w : rY.shape.Idx → Elt F .bf16)
    (hw : w = yL v110 C Wv ws b) :
    own c (ytail yV) fullShare ((yV.access rY).write (Elt F) y0 w Finset.univ) = own c (ytail yV) fullShare (yB v110 C Wv ws b) := by
  refine pointsTo_congr fun j hj => ?_
  have h1 := (mem_ytail j).1 (by rwa [show (ytail yV).view.set = _ from View.set_slice_whole _ _] at hj)
  have h2 : (j 1).val < 11904 := (j 1).isLt
  refine ytile_step (Val := Elt F) yV.view (yTile v110 C Wv ws b) 92 92 (by decide) rfl inb_S128x11904_S128x128_0_11776 y0 w
    (hw.trans (yTile_last v110 C Wv ws b (by decide)).symm) (fun i h h' => absurd h (by omega)) j ?_ ?_
  · show 92 ≤ (j 1).val / 128; omega
  · show (j 1).val / 128 < 92 + 1; omega

set_option maxHeartbeats 1000000 in
theorem p42 (c : Dev nD) (v110 : Vec F S1x1 .f32) (z : Vec F S8x512x4992 .fp8e4m3) (H : Vec F S128x4992 .bf16) (C : Vec F S128x4992 .fp8e4m3) (Wv : Vec F S11904x4992 .fp8e4m3) (ws b : Vec F S93x128 .f32) (y0 yo : Vec F S128x11904 .bf16) :
    iprop(bigSep Finset.univ (pre2 c Wv y0 yo) ∗ flights c z Wv 0 ∗ (∃ W, owes (c : Thread nD τ) 0 W)
      ∗ own c cV fullShare.left C ∗ own c wsV fullShare ws ∗ own c bF fullShare b ∗ YB c (yB v110 C Wv ws b) 0 0
      ∗ own c (ytail yV) fullShare y0 ∗ own c (ytail yO) fullShare yo ∗ OutB c H C 8 0)
     ⊢ wp frame (wpE (defs₀ (F := F)) Variants.none c none) Set.univ (k0_part42 (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 v110 0#32 23#32)
      (fun _ => iprop(bigSep Finset.univ (post2 c z Wv) ∗ (own c (slot ⟨15, last_lt⟩) fullShare (ringT z Wv) ∗ own c wtail fullShare Wv ∗ semVal ((c : Thread nD τ), SemLoc.dma (wcell ⟨15, last_lt⟩).sem) 0)
        ∗ (∃ W, owes (c : Thread nD τ) 0 W)
        ∗ own c cV fullShare.left C ∗ own c wsV fullShare ws ∗ own c bF fullShare b ∗ YB c (yB v110 C Wv ws b) 24 0 ∗ OutB c H C 8 (Transfers.sumTo outA 1))) := by
  iintro ⟨HP, HF, HW, HC, Hws, Hb, HY, Hy, Hyo, HO⟩
  simp only [k0_part42, Prog.lift, Prog.bind_op, Prog.bind_ret, Prog.pure_eq_ret, Prog.bind_assoc]
  iapply (wp_seq (loop2 c v110 z C Wv ws b y0 yo)) $$ [HP HF HW HC Hws Hb HY]
  · isplitl [HP]; · iexact HP
    isplitl [HF]; · iexact HF
    isplitl [HW]; · iexact HW
    isplitl [HC]; · iexact HC
    isplitl [Hws]; · iexact Hws
    isplitl [Hb]; · iexact Hb
    iexact HY
  iintro %r ⟨HP, HT, HW, HC, Hws, Hb, HY⟩
  iapply (step_tw c z Wv ((k0_off42_eq ⟨15, last_lt⟩).trans rfl).symm)
  isplitl [HT HW]
  · isplitl [HT]; · iexact HT
    iexact HW
  iintro ⟨HR, HWT, HS, HW⟩
  icases HW with ⟨%W, HW⟩
  sl_step
  iapply (step_lr c (ringT z Wv))
  isplitl [HR]; · iexact HR
  iintro HR
  sl_step
  sl_step
  iapply (step_ly c y0)
  isplitl [Hy]; · iexact Hy
  iintro Hy
  iapply (step_sy c y0)
  isplitl [Hy]; · iexact Hy
  iintro Hy
  have he := ytail_write c v110 C Wv ws b y0 _
    (pay162_eq (C' := cV.view.readAt (Elt F) (Rect.unit (s := S128x4992) ![0, 0] S128x4992.size inb_S128x4992_S128x4992_0_0).toLoadRect C) Wv ws b (View.readAt_full _ _ _) (ringT_read z Wv _) (View.readAt_unit wsV.view ws inb_S93x128_S1x128_92_0 rfl (rinb ⟨92, by decide⟩)) (View.readAt_unit bF.view b inb_S93x128_S1x128_92_0 rfl (rinb ⟨92, by decide⟩)))
  unfold k0_pay162 at he
  ihave Hy := (show _ ⊢ own c (ytail yV) fullShare (yB v110 C Wv ws b) from .of_eq he) $$ Hy
  iapply (Transfers.wp_dmaMixedBatch (countersEmb (U := Pipeline.UD sig nD τ)) Variants.none (c : Thread nD τ) none (src := ytail yV) (dst := ytail yO) (fs := yB v110 C Wv ws b) (fd := yo) (q := fullShare) (D := yD c (yB v110 C Wv ws b)) () yA
    (subset_refl _) (show 23 < 24 by decide) yA_last (Nat.zero_le _)
    (.of_eq (by rw [yD_last]; exact congrArg (fun P => iprop(P ∗ own c (ytail yV) fullShare (yB v110 C Wv ws b))) (copy_yt c yo (yB v110 C Wv ws b))))) $$ [Hy Hyo HY]
  · sl_close
  iintro HY
  iapply (step_h c H C ⟨0, g_lt 0 (by decide)⟩ 0 1 rfl rfl ((k0_off2_eq ⟨0, g_lt 0 (by decide)⟩).trans rfl).symm)
  isplitl [HO HW]
  · isplitl [HO]; · iexact HO
    iexists _
    iexact HW
  iintro ⟨HO, HW⟩
  sl_step
  isplitl [HP]; · iexact HP
  isplitl [HR HWT HS]; · sl_close
  isplitl [HW]; · iexact HW
  sl_close

end Cert.KernelIdeal.Hand
-- ==== Proof.KI.Core.lean ====
module

public import proofs.«01_k».proof.Proof.KI.Finish

/-! The kernel's whole run, its arrays cut into the pieces the transfers move. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem step_cl {α : Type} (c : Dev nD) (H : Vec F S128x4992 .bf16) (C : Vec F S128x4992 .fp8e4m3) {o : Fin 2 → ℕ} (h : o = k0_off2 ⟨3, g3lt⟩)
    {inb : ∀ a, o a + S32x4992.size a ≤ S128x4992.size a} {hs hd}
    (K : PUnit → Prog (TpuEff nD τ sig (Elt F) Λ₀ .tc) α) (Q : α → sProp 𝕄) :
    iprop((OutB c H C 8 (Transfers.sumTo outA 7) ∗ (∃ W, owes (c : Thread nD τ) 0 W)) ∗ ((bigSep Finset.univ (outD c H C) ∗ semVal ((c : Thread nD τ), SemLoc.dma cc0_scratch15.sem) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch15.sem (cV.slice (Rect.unit (s := S128x4992) o S32x4992.size inb) (fun _ => rfl)) (cO.slice (Rect.unit (s := S128x4992) o S32x4992.size inb) (fun _ => rfl)) hs hd) K) Q := by
  subst h
  have hs1 : Transfers.sumTo outA 7 + (rows cO ⟨3, g3lt⟩).view.dmaCredit = Transfers.sumTo outA 8 := by
    exact (congrArg (Transfers.sumTo outA 7 + ·) (outA_odd ⟨3, g3lt⟩ (out_lt ⟨3, g3lt⟩).2)).trans (Transfers.sumTo_succ outA (show 7 < 8 by decide)).symm
  iintro ⟨⟨HB, ⟨%W, HW⟩⟩, HK⟩
  iapply (Transfers.wp_waitMixedBatchAll (countersEmb (U := Pipeline.UD sig nD τ)) Variants.none (c : Thread nD τ) none (A := outA) (D := outD c H C) () (u := Transfers.sumTo outA 7) rfl outA_pos hs1) $$ [HB HW]
  · isplitl [HB]; · iexact HB
    iexact HW
  iintro ⟨HD, HS, HW⟩
  iapply HK
  isplitl [HD]; · iexact HD
  isplitl [HS]; · iexact HS
  iexists _
  iexact HW

theorem step_y {α : Type} (c : Dev nD) (Y : Vec F S128x11904 .bf16) {hs hd}
    (K : PUnit → Prog (TpuEff nD τ sig (Elt F) Λ₀ .tc) α) (Q : α → sProp 𝕄) :
    iprop((YB c Y 24 0 ∗ (∃ W, owes (c : Thread nD τ) 0 W)) ∗ ((bigSep Finset.univ (yD c Y) ∗ semVal ((c : Thread nD τ), SemLoc.dma cc0_scratch17.sem) 0 ∗ (∃ W, owes (c : Thread nD τ) 0 W)) -∗ wp frame (wpE (defs₀ (F := F)) Variants.none c none) Set.univ (K ⟨⟩) Q))
      ⊢ wp frame (wpE (defs₀ (F := F)) Variants.none c none) Set.univ (.op (.waitDma2 cc0_scratch17.sem yV yO hs hd) K) Q := by
  iintro ⟨⟨HB, ⟨%W, HW⟩⟩, HK⟩
  iapply (Transfers.wp_waitMixedBatchAll (countersEmb (U := Pipeline.UD sig nD τ)) Variants.none (c : Thread nD τ) none (A := yA) (D := yD c Y) () (u := 0) rfl yA_pos ((Nat.zero_add _).trans y_sum.symm)) $$ [HB HW]
  · isplitl [HB]; · iexact HB
    iexact HW
  iintro ⟨HD, HS, HW⟩
  iapply HK
  isplitl [HD]; · iexact HD
  isplitl [HS]; · iexact HS
  iexists _
  iexact HW

theorem sO_pos : 0 < sO.view.dmaCredit := by decide +kernel

section Core
variable (c : Dev nD) (X R x0 r0 : Vec F S128x4992 .bf16) (Gm g0 : Vec F S39x128 .bf16) (ws w0 : Vec F S93x128 .f32) (s s0 : Vec F S1x1 .f32) (b b0 : Vec F S93x128 .bf16)
  (z : Vec F S8x512x4992 .fp8e4m3) (Wv : Vec F S11904x4992 .fp8e4m3) (gf0 : Vec F S39x128 .f32) (bf0 : Vec F S93x128 .f32) (so0 : Vec F S1x1 .f32)
  (h0 oh : Vec F S128x4992 .bf16) (c0 oc : Vec F S128x4992 .fp8e4m3) (y0 yo : Vec F S128x11904 .bf16)

/-- Four of the arrays' groups on their way make the first loop's precondition. -/
theorem pre1_all : iprop((XB c ⟨0, g0lt⟩ X R 2 ∗ XB c ⟨1, g1lt⟩ X R 2 ∗ XB c ⟨2, g2lt⟩ X R 2 ∗ XB c ⟨3, g3lt⟩ X R 2)
      ∗ own c hV fullShare h0 ∗ own c cV fullShare c0 ∗ own c hO fullShare oh ∗ own c cO fullShare oc)
    ⊢ bigSep Finset.univ (pre1 c X R h0 oh c0 oc) := by
  rw [own_rows c hV, own_rows c cV, own_rows c hO, own_rows c cO]
  refine BIBase.Entails.trans ?_ (.of_eq (show iprop(bigSep Finset.univ (fun k => XB c k X R 2) ∗ bigSep Finset.univ (fun k => own c (rows hV k) fullShare h0) ∗ bigSep Finset.univ (fun k => own c (rows cV k) fullShare c0) ∗ bigSep Finset.univ (fun k => own c (rows hO k) fullShare oh) ∗ bigSep Finset.univ (fun k => own c (rows cO k) fullShare oc)) = _ from ?_))
  · rw [bigSep_groups (fun k => XB c k X R 2)]
  · rw [← bigSep_sep', ← bigSep_sep', ← bigSep_sep', ← bigSep_sep']; rfl

/-- The first loop's postcondition, the groups put together. -/
theorem post1_all (v : Vec F S1x1 .f32) (G : Vec F S39x128 .f32) : bigSep Finset.univ (post1 c v X R G)
    ⊢ iprop(own c cV fullShare.left (cB v X R G) ∗ own c xV fullShare X ∗ own c xH fullShare X ∗ own c rV fullShare R ∗ own c rH fullShare R
      ∗ bigSep Finset.univ (fun k => semVal ((c : Thread nD τ), SemLoc.dma (xcell k).sem) 0)) := by
  rw [own_rows c cV, own_rows c xV, own_rows c xH, own_rows c rV, own_rows c rH]
  refine .of_eq (Eq.symm ?_)
  rw [← bigSep_sep', ← bigSep_sep', ← bigSep_sep', ← bigSep_sep', ← bigSep_sep']; rfl

theorem flights0 : iprop(WB c z Wv (sl8 0) ∗ WB c z Wv (sl8 1) ∗ WB c z Wv (sl8 2) ∗ WB c z Wv (sl8 3) ∗ WB c z Wv (sl8 4) ∗ WB c z Wv (sl8 5) ∗ WB c z Wv (sl8 6) ∗ WB c z Wv (sl8 7))
    ⊢ flights c z Wv 0 := by
  unfold flights
  have e : bigSep (flying 0) (WB c z Wv) = iprop(WB c z Wv (sl8 0) ∗ WB c z Wv (sl8 1) ∗ WB c z Wv (sl8 2) ∗ WB c z Wv (sl8 3) ∗ WB c z Wv (sl8 4) ∗ WB c z Wv (sl8 5) ∗ WB c z Wv (sl8 6) ∗ WB c z Wv (sl8 7)) :=
    bigSep_eq_bigSepL_of_eq [sl8 0, sl8 1, sl8 2, sl8 3, sl8 4, sl8 5, sl8 6, sl8 7] (by decide +kernel) (by decide +kernel) _
  rw [if_neg (by omega), e]
  exact BI.sep_emp.2

/-- What the run starts from, the batches allocated. -/
abbrev corePre : sProp 𝕄 :=
  iprop(sin c Gm g0 ws w0 s s0 b b0
    ∗ (gin c X R x0 r0 ⟨0, g0lt⟩ ∗ gin c X R x0 r0 ⟨1, g1lt⟩ ∗ gin c X R x0 r0 ⟨2, g2lt⟩ ∗ gin c X R x0 r0 ⟨3, g3lt⟩)
    ∗ (wpre c z Wv (sl8 0) ∗ wpre c z Wv (sl8 1) ∗ wpre c z Wv (sl8 2) ∗ wpre c z Wv (sl8 3) ∗ wpre c z Wv (sl8 4) ∗ wpre c z Wv (sl8 5) ∗ wpre c z Wv (sl8 6) ∗ wpre c z Wv (sl8 7))
    ∗ (own c gF fullShare gf0 ∗ own c bF fullShare bf0 ∗ own c sO fullShare so0 ∗ SB c sV sO fullShare.right s s cc0_scratch16.sem 0)
    ∗ (own c hV fullShare h0 ∗ own c cV fullShare c0 ∗ own c hO fullShare oh ∗ own c cO fullShare oc)
    ∗ (bigSep Finset.univ (pre2 c Wv y0 yo) ∗ own c (ytail yV) fullShare y0 ∗ own c (ytail yO) fullShare yo ∗ YB c (yB s (cB s X R (k0_pay160 Gm)) Wv ws (k0_pay161 b)) 0 0)
    ∗ OutB c (hB X R) (cB s X R (k0_pay160 Gm)) 0 0 ∗ (∃ W, owes (c : Thread nD τ) 0 W))

/-- What it leaves. -/
abbrev corePost : sProp 𝕄 :=
  iprop((own c gH fullShare Gm ∗ own c gV fullShare Gm ∗ own c wsH fullShare ws ∗ own c wsV fullShare ws ∗ own c sH fullShare s ∗ own c sV fullShare.left s ∗ own c bH fullShare b ∗ own c bV fullShare b)
    ∗ (semVal ((c : Thread nD τ), SemLoc.dma m0) 0 ∗ semVal ((c : Thread nD τ), SemLoc.dma m1) 0 ∗ semVal ((c : Thread nD τ), SemLoc.dma m2) 0 ∗ semVal ((c : Thread nD τ), SemLoc.dma m3) 0)
    ∗ (own c gF fullShare (k0_pay160 Gm) ∗ own c bF fullShare (k0_pay161 b))
    ∗ (own c cV fullShare.left (cB s X R (k0_pay160 Gm)) ∗ own c xV fullShare X ∗ own c xH fullShare X ∗ own c rV fullShare R ∗ own c rH fullShare R
      ∗ bigSep Finset.univ (fun k => semVal ((c : Thread nD τ), SemLoc.dma (xcell k).sem) 0))
    ∗ bigSep Finset.univ (post2 c z Wv) ∗ (own c (slot ⟨15, last_lt⟩) fullShare (ringT z Wv) ∗ own c wtail fullShare Wv ∗ semVal ((c : Thread nD τ), SemLoc.dma (wcell ⟨15, last_lt⟩).sem) 0)
    ∗ (bigSep Finset.univ (outD c (hB X R) (cB s X R (k0_pay160 Gm))) ∗ semVal ((c : Thread nD τ), SemLoc.dma cc0_scratch15.sem) 0)
    ∗ (own c sO fullShare s ∗ own c sV fullShare.right s ∗ semVal ((c : Thread nD τ), SemLoc.dma cc0_scratch16.sem) 0)
    ∗ (bigSep Finset.univ (yD c (yB s (cB s X R (k0_pay160 Gm)) Wv ws (k0_pay161 b))) ∗ semVal ((c : Thread nD τ), SemLoc.dma cc0_scratch17.sem) 0)
    ∗ (∃ W, owes (c : Thread nD τ) 0 W))

set_option maxHeartbeats 1000000 in
theorem core : corePre c X R x0 r0 Gm g0 ws w0 s s0 b b0 z Wv gf0 bf0 so0 h0 oh c0 oc y0 yo
     ⊢ wp frame (wpE (defs₀ (F := F)) Variants.none c none) Set.univ (cc0_add_rmsnorm_fp8_linear (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
      (fun _ => corePost c X R Gm ws s b z Wv) := by
  iintro ⟨HS, ⟨HG0, HG1, HG2, HG3⟩, ⟨Hw0, Hw1, Hw2, Hw3, Hw4, Hw5, Hw6, Hw7⟩, ⟨HgF, HbF, HsO, HSB⟩, HH, ⟨HP2, Hyt, Hyot, HY⟩, HO, HW⟩
  simp only [cc0_add_rmsnorm_fp8_linear, Prog.lift, Prog.bind_op, Prog.bind_ret, Prog.pure_eq_ret, Prog.bind_assoc]
  iapply (wp_seq (p38 c X R x0 r0 Gm g0 ws w0 s s0 b b0)) $$ [HS HG0 HG1]
  · isplitl [HS]; · iexact HS
    isplitl [HG0]; · iexact HG0
    iexact HG1
  iintro %r ⟨HS, HX0, HX1⟩
  iapply (wp_seq (p39 c X R x0 r0 z Wv)) $$ [HG2 HG3 Hw0 Hw1]
  · isplitl [HG2]; · iexact HG2
    isplitl [HG3]; · iexact HG3
    isplitl [Hw0]; · iexact Hw0
    iexact Hw1
  iintro %r ⟨HX2, HX3, Hw0, Hw1⟩
  iapply (wp_seq (p40 c z Wv)) $$ [Hw2 Hw3 Hw4 Hw5 Hw6]
  · isplitl [Hw2]; · iexact Hw2
    isplitl [Hw3]; · iexact Hw3
    isplitl [Hw4]; · iexact Hw4
    isplitl [Hw5]; · iexact Hw5
    iexact Hw6
  iintro %x ⟨Hw2, Hw3, Hw4, Hw5, Hw6⟩
  ihave HP := (pre1_all c X R h0 oh c0 oc) $$ [HX0 HX1 HX2 HX3 HH]
  · isplitr [HH]
    · isplitl [HX0]; · iexact HX0
      isplitl [HX1]; · iexact HX1
      isplitl [HX2]; · iexact HX2
      iexact HX3
    iexact HH
  iapply (wp_seq (p41 c X R Gm ws s b z Wv x gf0 bf0 so0 h0 oh c0 oc)) $$ [HS Hw7 HgF HbF HsO HSB HP HW HO]
  · isplitl [HS]; · iexact HS
    isplitl [Hw7]; · iexact Hw7
    isplitl [HgF]; · iexact HgF
    isplitl [HbF]; · iexact HbF
    isplitl [HsO]; · iexact HsO
    isplitl [HSB]; · iexact HSB
    isplitl [HP]; · iexact HP
    isplitl [HW]; · iexact HW
    iexact HO
  iintro %r ⟨%hr, ⟨A1, A2, A3, A4, A5, A6, A7, A8⟩, HM, Hw7, HgF, HbF, HSB, HP, HW, HO⟩
  subst hr
  ihave HP := (post1_all c X R s (k0_pay160 Gm)) $$ HP
  icases HP with ⟨HC, HP⟩
  ihave HF := (flights0 c z Wv) $$ [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  iapply (wp_seq (p42 c s z (hB X R) (cB s X R (k0_pay160 Gm)) Wv ws (k0_pay161 b) y0 yo)) $$ [HP2 HF HW HC A4 HbF HY Hyt Hyot HO]
  · isplitl [HP2]; · iexact HP2
    isplitl [HF]; · iexact HF
    isplitl [HW]; · iexact HW
    isplitl [HC]; · iexact HC
    isplitl [A4]; · iexact A4
    isplitl [HbF]; · iexact HbF
    isplitl [HY]; · iexact HY
    isplitl [Hyt]; · iexact Hyt
    isplitl [Hyot]; · iexact Hyot
    iexact HO
  iintro %r ⟨HP2, HT, HW, HC, A4, HbF, HY, HO⟩
  iapply (step_c c (hB X R) (cB s X R (k0_pay160 Gm)) ⟨0, g0lt⟩ 1 2 rfl rfl ((k0_off2_eq ⟨0, g0lt⟩).trans rfl).symm)
  isplitl [HO HW]
  · isplitl [HO]; · iexact HO
    iexact HW
  iintro ⟨HO, HW⟩
  iapply (step_h c (hB X R) (cB s X R (k0_pay160 Gm)) ⟨1, g1lt⟩ 2 3 rfl rfl ((k0_off2_eq ⟨1, g1lt⟩).trans rfl).symm)
  isplitl [HO HW]
  · isplitl [HO]; · iexact HO
    iexact HW
  iintro ⟨HO, HW⟩
  iapply (step_c c (hB X R) (cB s X R (k0_pay160 Gm)) ⟨1, g1lt⟩ 3 4 rfl rfl ((k0_off2_eq ⟨1, g1lt⟩).trans rfl).symm)
  isplitl [HO HW]
  · isplitl [HO]; · iexact HO
    iexact HW
  iintro ⟨HO, HW⟩
  iapply (step_h c (hB X R) (cB s X R (k0_pay160 Gm)) ⟨2, g2lt⟩ 4 5 rfl rfl ((k0_off2_eq ⟨2, g2lt⟩).trans rfl).symm)
  isplitl [HO HW]
  · isplitl [HO]; · iexact HO
    iexact HW
  iintro ⟨HO, HW⟩
  iapply (step_c c (hB X R) (cB s X R (k0_pay160 Gm)) ⟨2, g2lt⟩ 5 6 rfl rfl ((k0_off2_eq ⟨2, g2lt⟩).trans rfl).symm)
  isplitl [HO HW]
  · isplitl [HO]; · iexact HO
    iexact HW
  iintro ⟨HO, HW⟩
  iapply (step_h c (hB X R) (cB s X R (k0_pay160 Gm)) ⟨3, g3lt⟩ 6 7 rfl rfl ((k0_off2_eq ⟨3, g3lt⟩).trans rfl).symm)
  isplitl [HO HW]
  · isplitl [HO]; · iexact HO
    iexact HW
  iintro ⟨HO, HW⟩
  iapply (step_cl c (hB X R) (cB s X R (k0_pay160 Gm)) ((k0_off2_eq ⟨3, g3lt⟩).trans rfl).symm)
  isplitl [HO HW]
  · isplitl [HO]; · iexact HO
    iexact HW
  iintro ⟨HO, HO15, HW⟩
  iapply (step_sw c sV sO fullShare.right s s cc0_scratch16.sem sO_pos)
  isplitl [HSB HW]
  · isplitl [HSB]; · iexact HSB
    iexact HW
  iintro ⟨HsO, HsV, H16, HW⟩
  iapply (step_y c (yB s (cB s X R (k0_pay160 Gm)) Wv ws (k0_pay161 b)))
  isplitl [HY HW]
  · isplitl [HY]; · iexact HY
    iexact HW
  iintro ⟨HY, H17, HW⟩
  sl_step
  isplitl [A1 A2 A3 A4 A5 A6 A7 A8]; · sl_close
  isplitl [HM]; · iexact HM
  isplitl [HgF HbF]; · sl_close
  isplitl [HC HP]
  · isplitl [HC]; · iexact HC
    iexact HP
  isplitl [HP2]; · iexact HP2
  isplitl [HT]; · iexact HT
  isplitl [HO HO15]; · sl_close
  isplitl [HsO HsV H16]; · sl_close
  isplitl [HY H17]; · sl_close
  iexact HW

end Core

end Cert.KernelIdeal.Hand
-- ==== Proof.KI.Gather.lean ====
module

public import proofs.«01_k».proof.Proof.KI.Core

/-! Cutting the arrays before the run, and putting the pieces together after it. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem t_lt (n : ℕ) (h : n < 23) : n < k0_t2_loop.trips := by rw [trips2]; exact h

theorem bigSep_last {n m : ℕ} (h : m = n + 1) (Φ : Fin m → sProp 𝕄) :
    bigSep Finset.univ Φ = iprop(bigSep Finset.univ (fun k : Fin n => Φ ⟨k.val, by omega⟩) ∗ Φ ⟨n, by omega⟩) := by
  subst h
  rw [Fin.univ_castSuccEmb, Finset.cons_eq_insert, bigSep_insert (by rw [Finset.mem_map]; rintro ⟨x, -, hx⟩; exact absurd (congrArg Fin.val hx) (Nat.ne_of_lt x.isLt)), bigSep_map]
  exact sep_comm_eq _ _

theorem bigSep_23 {n : ℕ} (h : n = 23) (Φ : Fin n → sProp 𝕄) :
    bigSep Finset.univ Φ = iprop(Φ ⟨0, by omega⟩ ∗ Φ ⟨1, by omega⟩ ∗ Φ ⟨2, by omega⟩ ∗ Φ ⟨3, by omega⟩ ∗ Φ ⟨4, by omega⟩ ∗ Φ ⟨5, by omega⟩ ∗ Φ ⟨6, by omega⟩ ∗ Φ ⟨7, by omega⟩ ∗ Φ ⟨8, by omega⟩ ∗ Φ ⟨9, by omega⟩ ∗ Φ ⟨10, by omega⟩ ∗ Φ ⟨11, by omega⟩ ∗ Φ ⟨12, by omega⟩ ∗ Φ ⟨13, by omega⟩ ∗ Φ ⟨14, by omega⟩ ∗ Φ ⟨15, by omega⟩ ∗ Φ ⟨16, by omega⟩ ∗ Φ ⟨17, by omega⟩ ∗ Φ ⟨18, by omega⟩ ∗ Φ ⟨19, by omega⟩ ∗ Φ ⟨20, by omega⟩ ∗ Φ ⟨21, by omega⟩ ∗ Φ ⟨22, by omega⟩) := by
  subst h
  exact bigSep_univ_eq_bigSepL [0, 1, 2, 3, 4, 5, 6, 7, 8, 9, 10, 11, 12, 13, 14, 15, 16, 17, 18, 19, 20, 21, 22] (by decide) (by decide) Φ

theorem shift_all {n : ℕ} (hn : n = 23) (Φ Ψ : Fin n → sProp 𝕄) (T : sProp 𝕄)
    (h1 : ∀ k (h : k < n) (h' : k + 8 < n), Ψ ⟨k, h⟩ = Φ ⟨k + 8, h'⟩) (h2 : ∀ h : 15 < n, Ψ ⟨15, h⟩ = T) (h3 : ∀ k (h : k < n), 15 < k → Ψ ⟨k, h⟩ = iprop(emp)) :
    iprop(bigSep Finset.univ Φ ∗ T) ⊢ iprop((Φ ⟨0, by omega⟩ ∗ Φ ⟨1, by omega⟩ ∗ Φ ⟨2, by omega⟩ ∗ Φ ⟨3, by omega⟩ ∗ Φ ⟨4, by omega⟩ ∗ Φ ⟨5, by omega⟩ ∗ Φ ⟨6, by omega⟩ ∗ Φ ⟨7, by omega⟩) ∗ bigSep Finset.univ Ψ) := by
  rw [bigSep_23 hn Φ, bigSep_23 hn Ψ, h1 0 (by omega) (by omega), h1 1 (by omega) (by omega), h1 2 (by omega) (by omega), h1 3 (by omega) (by omega), h1 4 (by omega) (by omega), h1 5 (by omega) (by omega), h1 6 (by omega) (by omega), h1 7 (by omega) (by omega), h1 8 (by omega) (by omega), h1 9 (by omega) (by omega), h1 10 (by omega) (by omega), h1 11 (by omega) (by omega), h1 12 (by omega) (by omega), h1 13 (by omega) (by omega), h1 14 (by omega) (by omega), h2, h3 16 (by omega) (by decide), h3 17 (by omega) (by decide), h3 18 (by omega) (by decide), h3 19 (by omega) (by decide), h3 20 (by omega) (by decide), h3 21 (by omega) (by decide), h3 22 (by omega) (by decide)]
  iintro ⟨⟨W0, W1, W2, W3, W4, W5, W6, W7, W8, W9, W10, W11, W12, W13, W14, W15, W16, W17, W18, W19, W20, W21, W22⟩, WT⟩
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  isplitl [W17]; · iexact W17
  isplitl [W18]; · iexact W18
  isplitl [W19]; · iexact W19
  isplitl [W20]; · iexact W20
  isplitl [W21]; · iexact W21
  isplitl [W22]; · iexact W22
  isplitl [WT]; · iexact WT
  sl_close

theorem tail_all {n : ℕ} (hn : n = 23) (Φ Ψ : Fin n → sProp 𝕄)
    (h1 : ∀ k (h : k < n), k < 16 → Ψ ⟨k, h⟩ = iprop(emp)) (h2 : ∀ k (h : k < n), 15 < k → Ψ ⟨k, h⟩ = Φ ⟨k, h⟩) :
    bigSep Finset.univ Ψ ⊢ iprop(Φ ⟨16, by omega⟩ ∗ Φ ⟨17, by omega⟩ ∗ Φ ⟨18, by omega⟩ ∗ Φ ⟨19, by omega⟩ ∗ Φ ⟨20, by omega⟩ ∗ Φ ⟨21, by omega⟩ ∗ Φ ⟨22, by omega⟩) := by
  rw [bigSep_23 hn Ψ, h1 0 (by omega) (by decide), h1 1 (by omega) (by decide), h1 2 (by omega) (by decide), h1 3 (by omega) (by decide), h1 4 (by omega) (by decide), h1 5 (by omega) (by decide), h1 6 (by omega) (by decide), h1 7 (by omega) (by decide), h1 8 (by omega) (by decide), h1 9 (by omega) (by decide), h1 10 (by omega) (by decide), h1 11 (by omega) (by decide), h1 12 (by omega) (by decide), h1 13 (by omega) (by decide), h1 14 (by omega) (by decide), h1 15 (by omega) (by decide), h2 16 (by omega) (by decide), h2 17 (by omega) (by decide), h2 18 (by omega) (by decide), h2 19 (by omega) (by decide), h2 20 (by omega) (by decide), h2 21 (by omega) (by decide), h2 22 (by omega) (by decide)]
  iintro ⟨-, -, -, -, -, -, -, -, -, -, -, -, -, -, -, -, HS⟩
  iexact HS

/-- The result's pieces, and those of the copy it was sent from, are the two arrays. -/
theorem y_all (c : Dev nD) (Y : Vec F S128x11904 .bf16) : bigSep Finset.univ (yD c Y) ⊢ iprop(own c yO fullShare Y ∗ own c yV fullShare Y) := by
  rw [bigSep_last (show 24 = k0_t2_loop.trips + 1 by rw [trips2]), own_y c yO, own_y c yV]
  have e1 : (fun k : Fin k0_t2_loop.trips => yD c Y ⟨k.val, by have := k.isLt; have := trips2; omega⟩) = fun k => iprop(own c (ycols yO k) fullShare Y ∗ own c (ycols yV k) fullShare Y) :=
    funext fun k => yD_blk c Y k
  have e2 : yD c Y ⟨k0_t2_loop.trips, by have := trips2; omega⟩ = iprop(own c (ytail yO) fullShare Y ∗ own c (ytail yV) fullShare Y) :=
    (congrArg (yD c Y) (Fin.ext trips2)).trans (yD_last c Y)
  rw [e1, e2, bigSep_sep']
  iintro ⟨⟨H1, H2⟩, H3, H4⟩
  isplitl [H1 H3]
  · isplitl [H1]; · iexact H1
    iexact H3
  isplitl [H2]; · iexact H2
  iexact H4

/-- The sent groups, and those they were sent from, are the arrays. -/
theorem out_all (c : Dev nD) (H : Vec F S128x4992 .bf16) (C : Vec F S128x4992 .fp8e4m3) :
    bigSep Finset.univ (outD c H C) ⊢ iprop(own c hO fullShare H ∗ own c hV fullShare H ∗ own c cO fullShare C ∗ own c cV fullShare.right C) := by
  rw [bigSep_eight, own_rows c hO, own_rows c hV, own_rows c cO, own_rows c cV, bigSep_groups, bigSep_groups, bigSep_groups, bigSep_groups]
  have e0 := outD_even c H C ⟨0, g0lt⟩ (by decide)
  have e1 := outD_odd c H C ⟨0, g0lt⟩ (by decide)
  have e2 := outD_even c H C ⟨1, g1lt⟩ (by decide)
  have e3 := outD_odd c H C ⟨1, g1lt⟩ (by decide)
  have e4 := outD_even c H C ⟨2, g2lt⟩ (by decide)
  have e5 := outD_odd c H C ⟨2, g2lt⟩ (by decide)
  have e6 := outD_even c H C ⟨3, g3lt⟩ (by decide)
  have e7 := outD_odd c H C ⟨3, g3lt⟩ (by decide)
  rw [show outD c H C 0 = _ from e0, show outD c H C 1 = _ from e1, show outD c H C 2 = _ from e2, show outD c H C 3 = _ from e3, show outD c H C 4 = _ from e4, show outD c H C 5 = _ from e5, show outD c H C 6 = _ from e6, show outD c H C 7 = _ from e7]
  iintro ⟨⟨A0, B0⟩, ⟨C0, D0⟩, ⟨A1, B1⟩, ⟨C1, D1⟩, ⟨A2, B2⟩, ⟨C2, D2⟩, ⟨A3, B3⟩, C3, D3⟩
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0 C1 C2 C3]
  · isplitl [C0]; · iexact C0
    isplitl [C1]; · iexact C1
    isplitl [C2]; · iexact C2
    iexact C3
  isplitl [D0]; · iexact D0
  isplitl [D1]; · iexact D1
  isplitl [D2]; · iexact D2
  iexact D3

theorem preX_next (c : Dev nD) (Wv : Vec F S11904x4992 .fp8e4m3) (k : ℕ) (h : k < 23) (h' : k + 8 < 23) : preX c Wv ⟨k, t_lt k h⟩ = own c (wrows ⟨k + 8, t_lt (k + 8) h'⟩) fullShare Wv := by
  unfold preX; rw [dif_pos (show (⟨k, t_lt k h⟩ : Fin k0_t2_loop.trips).val + 8 < 23 from h')]
theorem preX_tail (c : Dev nD) (Wv : Vec F S11904x4992 .fp8e4m3) : preX c Wv ⟨15, t_lt 15 (by decide)⟩ = own c wtail fullShare Wv := by
  unfold preX; rw [dif_neg (show ¬ 15 + 8 < 23 by decide), if_pos rfl]
theorem preX_none (c : Dev nD) (Wv : Vec F S11904x4992 .fp8e4m3) (k : ℕ) (h : k < 23) (h' : 15 < k) : preX c Wv ⟨k, t_lt k h⟩ = iprop(emp) := by
  unfold preX; rw [dif_neg (show ¬ k + 8 < 23 by omega), if_neg (show ¬ k = 15 by omega)]
theorem LX_none (c : Dev nD) (z : Vec F S8x512x4992 .fp8e4m3) (Wv : Vec F S11904x4992 .fp8e4m3) (k : ℕ) (h : k < 23) (h' : k < 16) : LX c z Wv ⟨k, t_lt k h⟩ = iprop(emp) := by
  unfold LX
  by_cases e : k < 15
  · rw [if_pos (show k + 8 < 23 by omega)]
  · rw [if_neg (show ¬ k + 8 < 23 by omega), if_pos (show k = 15 by omega)]
/-- The slot of the last blocks is the one its number names. -/
theorem LX_some (c : Dev nD) (z : Vec F S8x512x4992 .fp8e4m3) (Wv : Vec F S11904x4992 .fp8e4m3) (k : ℕ) (h : k < 23) (h' : 15 < k) :
    LX c z Wv ⟨k, t_lt k h⟩ = iprop(own c (slot ⟨k, t_lt k h⟩) fullShare (ringOf z Wv ⟨k, t_lt k h⟩) ∗ semVal ((c : Thread nD τ), SemLoc.dma (wcell ⟨k, t_lt k h⟩).sem) 0) := by
  unfold LX; rw [if_neg (show ¬ k + 8 < 23 by omega), if_neg (show ¬ k = 15 by omega)]
theorem slot_mod (c : Dev nD) (j : Fin k0_t2_loop.trips) (b : Fin 8) (h : j.val % 8 = b.val) (f : Vec F S8x512x4992 .fp8e4m3) :
    iprop(own c (slot j) fullShare f ∗ semVal ((c : Thread nD τ), SemLoc.dma (wcell j).sem) 0) ⊢ (iprop((∃ f : Vec F S8x512x4992 .fp8e4m3, own c (slot (sl8 b)) fullShare f) ∗ semVal ((c : Thread nD τ), SemLoc.dma (wcell (sl8 b)).sem) 0) : sProp 𝕄) := by
  have hb := b.isLt
  have e1 : k0_off43 j = k0_off43 (sl8 b) := by
    rw [k0_off43_eq, k0_off43_eq, h, show (sl8 b).val % 8 = b.val from Nat.mod_eq_of_lt hb]
  have e2 : k0_off42 j = k0_off42 (sl8 b) := by
    rw [k0_off42_eq, k0_off42_eq, h, show (sl8 b).val % 8 = b.val from Nat.mod_eq_of_lt hb]
  rw [show own c (slot j) fullShare f = own c (slot (sl8 b)) fullShare f from slot_eq c (sl8 b) e1 (k0_off43_inb j) fullShare f, show (wcell j).sem = (wcell (sl8 b)).sem from cell_eq (sl8 b) e2 (k0_off42_inb j)]
  iintro ⟨H, HS⟩
  isplitl [H]
  · iexists f
    iexact H
  iexact HS

/-- The weights: the first eight blocks, and what the loop fetches. -/
theorem w_all (c : Dev nD) (Wv : Vec F S11904x4992 .fp8e4m3) : own c wH fullShare Wv
    ⊢ iprop((own c (wrows (sl8 0)) fullShare Wv ∗ own c (wrows (sl8 1)) fullShare Wv ∗ own c (wrows (sl8 2)) fullShare Wv ∗ own c (wrows (sl8 3)) fullShare Wv ∗ own c (wrows (sl8 4)) fullShare Wv ∗ own c (wrows (sl8 5)) fullShare Wv ∗ own c (wrows (sl8 6)) fullShare Wv ∗ own c (wrows (sl8 7)) fullShare Wv) ∗ bigSep Finset.univ (preX c Wv)) := by
  rw [own_w]
  exact shift_all trips2 (fun k => own c (wrows k) fullShare Wv) (preX c Wv) (own c wtail fullShare Wv)
    (fun k h h' => preX_next c Wv k (by rwa [trips2] at h) (by rwa [trips2] at h')) (fun _ => preX_tail c Wv) (fun k h h' => preX_none c Wv k (by rwa [trips2] at h) h')

/-- The ring and its semaphores at the end. -/
theorem ring_all (c : Dev nD) (z : Vec F S8x512x4992 .fp8e4m3) (Wv : Vec F S11904x4992 .fp8e4m3) :
    iprop(bigSep Finset.univ (post2 c z Wv) ∗ own c (slot ⟨15, last_lt⟩) fullShare (ringT z Wv) ∗ own c wtail fullShare Wv ∗ semVal ((c : Thread nD τ), SemLoc.dma (wcell ⟨15, last_lt⟩).sem) 0)
    ⊢ (iprop(own c wH fullShare Wv ∗ (∃ g : Vec F S8x512x4992 .fp8e4m3, own c ringV fullShare g) ∗ bigSep Finset.univ (fun b : Fin 8 => semVal ((c : Thread nD τ), SemLoc.dma (wcell (sl8 b)).sem) 0)) : sProp 𝕄) := by
  have e : bigSep Finset.univ (post2 c z Wv) = iprop(bigSep Finset.univ (fun k => own c (wrows k) fullShare Wv) ∗ bigSep Finset.univ (LX c z Wv)) :=
    bigSep_sep' Finset.univ (fun k => own c (wrows k) fullShare Wv) (LX c z Wv)
  rw [e, own_w]
  iintro ⟨⟨HW, HL⟩, ST, WT, SS⟩
  ihave HL := (tail_all trips2 (fun k => iprop(own c (slot k) fullShare (ringOf z Wv k) ∗ semVal ((c : Thread nD τ), SemLoc.dma (wcell k).sem) 0)) (LX c z Wv)
    (fun k h h' => LX_none c z Wv k (by rwa [trips2] at h) h') (fun k h h' => LX_some c z Wv k (by rwa [trips2] at h) h')) $$ HL
  icases HL with ⟨S0, S1, S2, S3, S4, S5, S6⟩
  ihave S0 := (slot_mod c ⟨16, t_lt 16 (by decide)⟩ 0 rfl _) $$ S0
  icases S0 with ⟨S0, N0⟩
  ihave S1 := (slot_mod c ⟨17, t_lt 17 (by decide)⟩ 1 rfl _) $$ S1
  icases S1 with ⟨S1, N1⟩
  ihave S2 := (slot_mod c ⟨18, t_lt 18 (by decide)⟩ 2 rfl _) $$ S2
  icases S2 with ⟨S2, N2⟩
  ihave S3 := (slot_mod c ⟨19, t_lt 19 (by decide)⟩ 3 rfl _) $$ S3
  icases S3 with ⟨S3, N3⟩
  ihave S4 := (slot_mod c ⟨20, t_lt 20 (by decide)⟩ 4 rfl _) $$ S4
  icases S4 with ⟨S4, N4⟩
  ihave S5 := (slot_mod c ⟨21, t_lt 21 (by decide)⟩ 5 rfl _) $$ S5
  icases S5 with ⟨S5, N5⟩
  ihave S6 := (slot_mod c ⟨22, t_lt 22 (by decide)⟩ 6 rfl _) $$ S6
  icases S6 with ⟨S6, N6⟩
  ihave ST := (slot_mod c ⟨15, last_lt⟩ 7 rfl _) $$ [ST SS]
  · isplitl [ST]; · iexact ST
    iexact SS
  icases ST with ⟨S7, N7⟩
  isplitl [HW WT]
  · isplitl [HW]; · iexact HW
    iexact WT
  isplitl [S0 S1 S2 S3 S4 S5 S6 S7]
  · iapply (own_ring_join c z)
    rw [bigSep_eight]
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  rw [bigSep_eight]
  isplitl [N0]; · iexact N0
  isplitl [N1]; · iexact N1
  isplitl [N2]; · iexact N2
  isplitl [N3]; · iexact N3
  isplitl [N4]; · iexact N4
  isplitl [N5]; · iexact N5
  isplitl [N6]; · iexact N6
  iexact N7

end Cert.KernelIdeal.Hand
-- ==== Proof.KI.Body.lean ====
module

public import proofs.«01_k».proof.Proof.KI.Gather

/-! The kernel's run over whole arrays: what it takes and what it leaves. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance (c : Dev nD) (H : Vec F S128x4992 .bf16) (C : Vec F S128x4992 .fp8e4m3) (t) : Storable (upEmb : UEmb _ 𝕄) (outD c H C t) := by
  unfold outD; split <;> infer_instance
instance (c : Dev nD) (Y : Vec F S128x11904 .bf16) (t) : Storable (upEmb : UEmb _ 𝕄) (yD c Y t) := by
  unfold yD; split <;> infer_instance

theorem xc0 : (xcell ⟨0, g0lt⟩).sem = (0 : DmaSem sig) := by decide +kernel
theorem xc1 : (xcell ⟨1, g1lt⟩).sem = (1 : DmaSem sig) := by decide +kernel
theorem xc2 : (xcell ⟨2, g2lt⟩).sem = (2 : DmaSem sig) := by decide +kernel
theorem xc3 : (xcell ⟨3, g3lt⟩).sem = (3 : DmaSem sig) := by decide +kernel
theorem mc0 : m0 = (4 : DmaSem sig) := by decide +kernel
theorem mc1 : m1 = (5 : DmaSem sig) := by decide +kernel
theorem mc2 : m2 = (6 : DmaSem sig) := by decide +kernel
theorem mc3 : m3 = (7 : DmaSem sig) := by decide +kernel
theorem wc0 : (wcell (sl8 0)).sem = (8 : DmaSem sig) := by decide +kernel
theorem wc1 : (wcell (sl8 1)).sem = (9 : DmaSem sig) := by decide +kernel
theorem wc2 : (wcell (sl8 2)).sem = (10 : DmaSem sig) := by decide +kernel
theorem wc3 : (wcell (sl8 3)).sem = (11 : DmaSem sig) := by decide +kernel
theorem wc4 : (wcell (sl8 4)).sem = (12 : DmaSem sig) := by decide +kernel
theorem wc5 : (wcell (sl8 5)).sem = (13 : DmaSem sig) := by decide +kernel
theorem wc6 : (wcell (sl8 6)).sem = (14 : DmaSem sig) := by decide +kernel
theorem wc7 : (wcell (sl8 7)).sem = (15 : DmaSem sig) := by decide +kernel
theorem oc16 : cc0_scratch15.sem = (16 : DmaSem sig) := by decide +kernel
theorem oc17 : cc0_scratch16.sem = (17 : DmaSem sig) := by decide +kernel
theorem oc18 : cc0_scratch17.sem = (18 : DmaSem sig) := by decide +kernel

/-- The scratch buffers, each at some contents, -/
def scrS (c : Dev nD) : sProp 𝕄 := iprop((∃ f : Vec F S128x4992 .bf16, own c xV fullShare f) ∗ (∃ f : Vec F S128x4992 .bf16, own c rV fullShare f) ∗ (∃ f : Vec F S39x128 .bf16, own c gV fullShare f) ∗ (∃ f : Vec F S39x128 .f32, own c gF fullShare f) ∗ (∃ f : Vec F S93x128 .f32, own c wsV fullShare f) ∗ (∃ f : Vec F S1x1 .f32, own c sV fullShare f) ∗ (∃ f : Vec F S93x128 .bf16, own c bV fullShare f) ∗ (∃ f : Vec F S93x128 .f32, own c bF fullShare f) ∗ (∃ f : Vec F S128x4992 .bf16, own c hV fullShare f) ∗ (∃ f : Vec F S128x4992 .fp8e4m3, own c cV fullShare f) ∗ (∃ f : Vec F S8x512x4992 .fp8e4m3, own c ringV fullShare f) ∗ (∃ f : Vec F S128x11904 .bf16, own c yV fullShare f))
/-- the semaphores at zero, -/
def semS (c : Dev nD) : sProp 𝕄 := iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0)
/-- the arrays read, -/
def inS (c : Dev nD) (X R : Vec F S128x4992 .bf16) (Gm : Vec F S39x128 .bf16) (Wv : Vec F S11904x4992 .fp8e4m3) (ws : Vec F S93x128 .f32) (s : Vec F S1x1 .f32) (b : Vec F S93x128 .bf16) : sProp 𝕄 :=
  iprop(own c xH fullShare X ∗ own c rH fullShare R ∗ own c gH fullShare Gm ∗ own c wH fullShare Wv ∗ own c wsH fullShare ws ∗ own c sH fullShare s ∗ own c bH fullShare b)
/-- and the arrays written. -/
def outS (c : Dev nD) (y : Vec F S128x11904 .bf16) (h : Vec F S128x4992 .bf16) (C : Vec F S128x4992 .fp8e4m3) (s : Vec F S1x1 .f32) : sProp 𝕄 :=
  iprop(own c yO fullShare y ∗ own c hO fullShare h ∗ own c cO fullShare C ∗ own c sO fullShare s)

set_option maxHeartbeats 2000000 in
/-- The kernel's run, over whole arrays. -/
theorem body (c : Dev nD) (X R : Vec F S128x4992 .bf16) (Gm : Vec F S39x128 .bf16) (Wv : Vec F S11904x4992 .fp8e4m3) (ws : Vec F S93x128 .f32) (s : Vec F S1x1 .f32) (b : Vec F S93x128 .bf16)
    (yo : Vec F S128x11904 .bf16) (oh : Vec F S128x4992 .bf16) (oc : Vec F S128x4992 .fp8e4m3) (so0 : Vec F S1x1 .f32) :
    iprop(scrS c ∗ semS c ∗ inS c X R Gm Wv ws s b ∗ outS c yo oh oc so0 ∗ (∃ W, owes (c : Thread nD τ) 0 W))
     ⊢ wp frame (wpE (defs₀ (F := F)) Variants.none c none) Set.univ (cc0_add_rmsnorm_fp8_linear (F := F) (Memref.whole main_v0) (Memref.isWhole_whole _) (Memref.whole main_v1) (Memref.isWhole_whole _) (Memref.whole main_v2) (Memref.isWhole_whole _) (Memref.whole main_arg3) (Memref.isWhole_whole _) (Memref.whole main_v3) (Memref.isWhole_whole _) (Memref.whole main_v5) (Memref.isWhole_whole _) (Memref.whole main_v4) (Memref.isWhole_whole _) (Memref.whole main_v6_0) (Memref.isWhole_whole _) (Memref.whole main_v6_1) (Memref.isWhole_whole _) (Memref.whole main_v6_2) (Memref.isWhole_whole _) (Memref.whole main_v6_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17)
      (fun _ => iprop(scrS c ∗ semS c ∗ inS c X R Gm Wv ws s b
        ∗ outS c (yB s (cB s X R (k0_pay160 Gm)) Wv ws (k0_pay161 b)) (hB X R) (cB s X R (k0_pay160 Gm)) s ∗ (∃ W, owes (c : Thread nD τ) 0 W))) := by
  unfold scrS semS inS outS
  iintro ⟨⟨⟨%x0, HxV⟩, ⟨%r0, HrV⟩, ⟨%g0, HgV⟩, ⟨%gf0, HgF⟩, ⟨%w0, HwsV⟩, ⟨%s0, HsV⟩, ⟨%b0, HbV⟩, ⟨%bf0, HbF⟩, ⟨%h0, HhV⟩, ⟨%c0, HcV⟩, ⟨%z, Hring⟩, ⟨%y0, HyV⟩⟩,
    ⟨S0, S1, S2, S3, S4, S5, S6, S7, S8, S9, S10, S11, S12, S13, S14, S15, S16, S17, S18⟩, ⟨HxH, HrH, HgH, HwH, HwsH, HsH, HbH⟩, ⟨HyO, HhO, HcO, HsO⟩, HW⟩
  ihave S0 := (show semVal ((c : Thread nD τ), SemLoc.dma (sig := sig) 0) 0 ⊢ (semVal ((c : Thread nD τ), SemLoc.dma (xcell ⟨0, g0lt⟩).sem) 0 : sProp 𝕄) from .of_eq (by rw [xc0])) $$ S0
  ihave S1 := (show semVal ((c : Thread nD τ), SemLoc.dma (sig := sig) 1) 0 ⊢ (semVal ((c : Thread nD τ), SemLoc.dma (xcell ⟨1, g1lt⟩).sem) 0 : sProp 𝕄) from .of_eq (by rw [xc1])) $$ S1
  ihave S2 := (show semVal ((c : Thread nD τ), SemLoc.dma (sig := sig) 2) 0 ⊢ (semVal ((c : Thread nD τ), SemLoc.dma (xcell ⟨2, g2lt⟩).sem) 0 : sProp 𝕄) from .of_eq (by rw [xc2])) $$ S2
  ihave S3 := (show semVal ((c : Thread nD τ), SemLoc.dma (sig := sig) 3) 0 ⊢ (semVal ((c : Thread nD τ), SemLoc.dma (xcell ⟨3, g3lt⟩).sem) 0 : sProp 𝕄) from .of_eq (by rw [xc3])) $$ S3
  ihave S4 := (show semVal ((c : Thread nD τ), SemLoc.dma (sig := sig) 4) 0 ⊢ (semVal ((c : Thread nD τ), SemLoc.dma m0) 0 : sProp 𝕄) from .of_eq (by rw [mc0])) $$ S4
  ihave S5 := (show semVal ((c : Thread nD τ), SemLoc.dma (sig := sig) 5) 0 ⊢ (semVal ((c : Thread nD τ), SemLoc.dma m1) 0 : sProp 𝕄) from .of_eq (by rw [mc1])) $$ S5
  ihave S6 := (show semVal ((c : Thread nD τ), SemLoc.dma (sig := sig) 6) 0 ⊢ (semVal ((c : Thread nD τ), SemLoc.dma m2) 0 : sProp 𝕄) from .of_eq (by rw [mc2])) $$ S6
  ihave S7 := (show semVal ((c : Thread nD τ), SemLoc.dma (sig := sig) 7) 0 ⊢ (semVal ((c : Thread nD τ), SemLoc.dma m3) 0 : sProp 𝕄) from .of_eq (by rw [mc3])) $$ S7
  ihave S8 := (show semVal ((c : Thread nD τ), SemLoc.dma (sig := sig) 8) 0 ⊢ (semVal ((c : Thread nD τ), SemLoc.dma (wcell (sl8 0)).sem) 0 : sProp 𝕄) from .of_eq (by rw [wc0])) $$ S8
  ihave S9 := (show semVal ((c : Thread nD τ), SemLoc.dma (sig := sig) 9) 0 ⊢ (semVal ((c : Thread nD τ), SemLoc.dma (wcell (sl8 1)).sem) 0 : sProp 𝕄) from .of_eq (by rw [wc1])) $$ S9
  ihave S10 := (show semVal ((c : Thread nD τ), SemLoc.dma (sig := sig) 10) 0 ⊢ (semVal ((c : Thread nD τ), SemLoc.dma (wcell (sl8 2)).sem) 0 : sProp 𝕄) from .of_eq (by rw [wc2])) $$ S10
  ihave S11 := (show semVal ((c : Thread nD τ), SemLoc.dma (sig := sig) 11) 0 ⊢ (semVal ((c : Thread nD τ), SemLoc.dma (wcell (sl8 3)).sem) 0 : sProp 𝕄) from .of_eq (by rw [wc3])) $$ S11
  ihave S12 := (show semVal ((c : Thread nD τ), SemLoc.dma (sig := sig) 12) 0 ⊢ (semVal ((c : Thread nD τ), SemLoc.dma (wcell (sl8 4)).sem) 0 : sProp 𝕄) from .of_eq (by rw [wc4])) $$ S12
  ihave S13 := (show semVal ((c : Thread nD τ), SemLoc.dma (sig := sig) 13) 0 ⊢ (semVal ((c : Thread nD τ), SemLoc.dma (wcell (sl8 5)).sem) 0 : sProp 𝕄) from .of_eq (by rw [wc5])) $$ S13
  ihave S14 := (show semVal ((c : Thread nD τ), SemLoc.dma (sig := sig) 14) 0 ⊢ (semVal ((c : Thread nD τ), SemLoc.dma (wcell (sl8 6)).sem) 0 : sProp 𝕄) from .of_eq (by rw [wc6])) $$ S14
  ihave S15 := (show semVal ((c : Thread nD τ), SemLoc.dma (sig := sig) 15) 0 ⊢ (semVal ((c : Thread nD τ), SemLoc.dma (wcell (sl8 7)).sem) 0 : sProp 𝕄) from .of_eq (by rw [wc7])) $$ S15
  imod (Transfers.batch_alloc' (Lvl := ℕ) (countersEmb (U := Pipeline.UD sig nD τ)) (c : Thread nD τ) () ((rows xV ⟨0, g0lt⟩).view.dmaCredit) (dX c ⟨0, g0lt⟩ X R) (E := Set.univ)) $$ S0 with S0
  imod (Transfers.batch_alloc' (Lvl := ℕ) (countersEmb (U := Pipeline.UD sig nD τ)) (c : Thread nD τ) () ((rows xV ⟨1, g1lt⟩).view.dmaCredit) (dX c ⟨1, g1lt⟩ X R) (E := Set.univ)) $$ S1 with S1
  imod (Transfers.batch_alloc' (Lvl := ℕ) (countersEmb (U := Pipeline.UD sig nD τ)) (c : Thread nD τ) () ((rows xV ⟨2, g2lt⟩).view.dmaCredit) (dX c ⟨2, g2lt⟩ X R) (E := Set.univ)) $$ S2 with S2
  imod (Transfers.batch_alloc' (Lvl := ℕ) (countersEmb (U := Pipeline.UD sig nD τ)) (c : Thread nD τ) () ((rows xV ⟨3, g3lt⟩).view.dmaCredit) (dX c ⟨3, g3lt⟩ X R) (E := Set.univ)) $$ S3 with S3
  imod (Transfers.batch_alloc' (Lvl := ℕ) (countersEmb (U := Pipeline.UD sig nD τ)) (c : Thread nD τ) () (gV.view.dmaCredit) (dS c gH gV fullShare Gm Gm) (E := Set.univ)) $$ S4 with S4
  imod (Transfers.batch_alloc' (Lvl := ℕ) (countersEmb (U := Pipeline.UD sig nD τ)) (c : Thread nD τ) () (wsV.view.dmaCredit) (dS c wsH wsV fullShare ws ws) (E := Set.univ)) $$ S5 with S5
  imod (Transfers.batch_alloc' (Lvl := ℕ) (countersEmb (U := Pipeline.UD sig nD τ)) (c : Thread nD τ) () (sV.view.dmaCredit) (dS c sH sV fullShare s s) (E := Set.univ)) $$ S6 with S6
  imod (Transfers.batch_alloc' (Lvl := ℕ) (countersEmb (U := Pipeline.UD sig nD τ)) (c : Thread nD τ) () (bV.view.dmaCredit) (dS c bH bV fullShare b b) (E := Set.univ)) $$ S7 with S7
  imod (Transfers.batch_alloc' (Lvl := ℕ) (countersEmb (U := Pipeline.UD sig nD τ)) (c : Thread nD τ) () ((slot (sl8 0)).view.dmaCredit) (dW c z Wv (sl8 0)) (E := Set.univ)) $$ S8 with S8
  imod (Transfers.batch_alloc' (Lvl := ℕ) (countersEmb (U := Pipeline.UD sig nD τ)) (c : Thread nD τ) () ((slot (sl8 1)).view.dmaCredit) (dW c z Wv (sl8 1)) (E := Set.univ)) $$ S9 with S9
  imod (Transfers.batch_alloc' (Lvl := ℕ) (countersEmb (U := Pipeline.UD sig nD τ)) (c : Thread nD τ) () ((slot (sl8 2)).view.dmaCredit) (dW c z Wv (sl8 2)) (E := Set.univ)) $$ S10 with S10
  imod (Transfers.batch_alloc' (Lvl := ℕ) (countersEmb (U := Pipeline.UD sig nD τ)) (c : Thread nD τ) () ((slot (sl8 3)).view.dmaCredit) (dW c z Wv (sl8 3)) (E := Set.univ)) $$ S11 with S11
  imod (Transfers.batch_alloc' (Lvl := ℕ) (countersEmb (U := Pipeline.UD sig nD τ)) (c : Thread nD τ) () ((slot (sl8 4)).view.dmaCredit) (dW c z Wv (sl8 4)) (E := Set.univ)) $$ S12 with S12
  imod (Transfers.batch_alloc' (Lvl := ℕ) (countersEmb (U := Pipeline.UD sig nD τ)) (c : Thread nD τ) () ((slot (sl8 5)).view.dmaCredit) (dW c z Wv (sl8 5)) (E := Set.univ)) $$ S13 with S13
  imod (Transfers.batch_alloc' (Lvl := ℕ) (countersEmb (U := Pipeline.UD sig nD τ)) (c : Thread nD τ) () ((slot (sl8 6)).view.dmaCredit) (dW c z Wv (sl8 6)) (E := Set.univ)) $$ S14 with S14
  imod (Transfers.batch_alloc' (Lvl := ℕ) (countersEmb (U := Pipeline.UD sig nD τ)) (c : Thread nD τ) () ((slot (sl8 7)).view.dmaCredit) (dW c z Wv (sl8 7)) (E := Set.univ)) $$ S15 with S15
  ihave S16 := (show semVal ((c : Thread nD τ), SemLoc.dma (sig := sig) 16) 0 ⊢ (semVal ((c : Thread nD τ), SemLoc.dma cc0_scratch15.sem) 0 : sProp 𝕄) from .of_eq (by rw [oc16])) $$ S16
  ihave S17 := (show semVal ((c : Thread nD τ), SemLoc.dma (sig := sig) 17) 0 ⊢ (semVal ((c : Thread nD τ), SemLoc.dma cc0_scratch16.sem) 0 : sProp 𝕄) from .of_eq (by rw [oc17])) $$ S17
  ihave S18 := (show semVal ((c : Thread nD τ), SemLoc.dma (sig := sig) 18) 0 ⊢ (semVal ((c : Thread nD τ), SemLoc.dma cc0_scratch17.sem) 0 : sProp 𝕄) from .of_eq (by rw [oc18])) $$ S18
  imod (Transfers.mixedBatch_alloc' (Lvl := ℕ) (countersEmb (U := Pipeline.UD sig nD τ)) (c : Thread nD τ) () outA (outD c (hB X R) (cB s X R (k0_pay160 Gm))) (sm := SemLoc.dma cc0_scratch15.sem) (E := Set.univ)) $$ S16 with S16
  imod (Transfers.batch_alloc' (Lvl := ℕ) (countersEmb (U := Pipeline.UD sig nD τ)) (c : Thread nD τ) () (sO.view.dmaCredit) (dS c sV sO fullShare.right s s) (E := Set.univ)) $$ S17 with S17
  imod (Transfers.mixedBatch_alloc' (Lvl := ℕ) (countersEmb (U := Pipeline.UD sig nD τ)) (c : Thread nD τ) () yA (yD c (yB s (cB s X R (k0_pay160 Gm)) Wv ws (k0_pay161 b))) (sm := SemLoc.dma cc0_scratch17.sem) (E := Set.univ)) $$ S18 with S18
  ihave HxV := (show own c xV fullShare x0 ⊢ _ from .of_eq ((own_rows c xV fullShare x0).trans (bigSep_groups _))) $$ HxV
  icases HxV with ⟨XV0, XV1, XV2, XV3⟩
  ihave HxH := (show own c xH fullShare X ⊢ _ from .of_eq ((own_rows c xH fullShare X).trans (bigSep_groups _))) $$ HxH
  icases HxH with ⟨XH0, XH1, XH2, XH3⟩
  ihave HrV := (show own c rV fullShare r0 ⊢ _ from .of_eq ((own_rows c rV fullShare r0).trans (bigSep_groups _))) $$ HrV
  icases HrV with ⟨RV0, RV1, RV2, RV3⟩
  ihave HrH := (show own c rH fullShare R ⊢ _ from .of_eq ((own_rows c rH fullShare R).trans (bigSep_groups _))) $$ HrH
  icases HrH with ⟨RH0, RH1, RH2, RH3⟩
  ihave HwH := (w_all c Wv) $$ HwH
  icases HwH with ⟨⟨WH0, WH1, WH2, WH3, WH4, WH5, WH6, WH7⟩, HPX⟩
  ihave Hring := (show own c ringV fullShare z ⊢ _ from .of_eq ((own_ring c z).trans (bigSep_eight _))) $$ Hring
  icases Hring with ⟨Z0, Z1, Z2, Z3, Z4, Z5, Z6, Z7⟩
  ihave HyV := (show own c yV fullShare y0 ⊢ _ from .of_eq (own_y c yV fullShare y0)) $$ HyV
  icases HyV with ⟨HyV, HyVt⟩
  ihave HyO := (show own c yO fullShare yo ⊢ _ from .of_eq (own_y c yO fullShare yo)) $$ HyO
  icases HyO with ⟨HyO, HyOt⟩
  ihave HP2 := (show iprop(bigSep Finset.univ (preX c Wv) ∗ bigSep Finset.univ (fun k => own c (ycols yV k) fullShare y0) ∗ bigSep Finset.univ (fun k => own c (ycols yO k) fullShare yo)) ⊢ bigSep Finset.univ (pre2 c Wv y0 yo) from .of_eq (by rw [← bigSep_sep', ← bigSep_sep']; rfl)) $$ [HPX HyV HyO]
  · isplitl [HPX]; · iexact HPX
    isplitl [HyV]; · iexact HyV
    iexact HyO
  iapply (wp_mono_r (core c X R x0 r0 Gm g0 ws w0 s s0 b b0 z Wv gf0 bf0 so0 h0 oh c0 oc y0 yo)) $$ [S0 S1 S2 S3 S4 S5 S6 S7 S8 S9 S10 S11 S12 S13 S14 S15 S16 S17 S18 XV0 XV1 XV2 XV3 XH0 XH1 XH2 XH3 RV0 RV1 RV2 RV3 RH0 RH1 RH2 RH3 WH0 Z0 WH1 Z1 WH2 Z2 WH3 Z3 WH4 Z4 WH5 Z5 WH6 Z6 WH7 Z7 HgH HgV HwsH HwsV HsH HsV HbH HbV HgF HbF HsO HhV HcV HhO HcO HP2 HyVt HyOt HW]
  · isplitl [HgH HgV HwsH HwsV HsH HsV HbH HbV S4 S5 S6 S7]
    · isplitl [HgH HgV S4]; · sl_close
      isplitl [HwsH HwsV S5]; · sl_close
      isplitl [HsH HsV S6]; · sl_close
      sl_close
    isplitl [S0 S1 S2 S3 XV0 XV1 XV2 XV3 XH0 XH1 XH2 XH3 RV0 RV1 RV2 RV3 RH0 RH1 RH2 RH3]
    · isplitl [XV0 XH0 RV0 RH0 S0]
      · isplitl [XV0]; · iexact XV0
        isplitl [XH0]; · iexact XH0
        isplitl [RV0]; · iexact RV0
        isplitl [RH0]; · iexact RH0
        iexact S0
      isplitl [XV1 XH1 RV1 RH1 S1]
      · isplitl [XV1]; · iexact XV1
        isplitl [XH1]; · iexact XH1
        isplitl [RV1]; · iexact RV1
        isplitl [RH1]; · iexact RH1
        iexact S1
      isplitl [XV2 XH2 RV2 RH2 S2]
      · isplitl [XV2]; · iexact XV2
        isplitl [XH2]; · iexact XH2
        isplitl [RV2]; · iexact RV2
        isplitl [RH2]; · iexact RH2
        iexact S2
      · isplitl [XV3]; · iexact XV3
        isplitl [XH3]; · iexact XH3
        isplitl [RV3]; · iexact RV3
        isplitl [RH3]; · iexact RH3
        iexact S3
    isplitl [WH0 Z0 S8 WH1 Z1 S9 WH2 Z2 S10 WH3 Z3 S11 WH4 Z4 S12 WH5 Z5 S13 WH6 Z6 S14 WH7 Z7 S15]
    · isplitl [Z0 WH0 S8]
      · isplitl [Z0]; · iexact Z0
        isplitl [WH0]; · iexact WH0
        iexact S8
      isplitl [Z1 WH1 S9]
      · isplitl [Z1]; · iexact Z1
        isplitl [WH1]; · iexact WH1
        iexact S9
      isplitl [Z2 WH2 S10]
      · isplitl [Z2]; · iexact Z2
        isplitl [WH2]; · iexact WH2
        iexact S10
      isplitl [Z3 WH3 S11]
      · isplitl [Z3]; · iexact Z3
        isplitl [WH3]; · iexact WH3
        iexact S11
      isplitl [Z4 WH4 S12]
      · isplitl [Z4]; · iexact Z4
        isplitl [WH4]; · iexact WH4
        iexact S12
      isplitl [Z5 WH5 S13]
      · isplitl [Z5]; · iexact Z5
        isplitl [WH5]; · iexact WH5
        iexact S13
      isplitl [Z6 WH6 S14]
      · isplitl [Z6]; · iexact Z6
        isplitl [WH6]; · iexact WH6
        iexact S14
      · isplitl [Z7]; · iexact Z7
        isplitl [WH7]; · iexact WH7
        iexact S15
    isplitl [HgF HbF HsO S17]; · sl_close
    isplitl [HhV HcV HhO HcO]; · sl_close
    isplitl [HP2 HyVt HyOt S18]
    · isplitl [HP2]; · iexact HP2
      isplitl [HyVt]; · iexact HyVt
      isplitl [HyOt]; · iexact HyOt
      iexact S18
    isplitl [S16]; · iexact S16
    iexact HW
  iintro %r ⟨⟨A1, A2, A3, A4, A5, A6, A7, A8⟩, ⟨S4, S5, S6, S7⟩, ⟨HgF, HbF⟩, ⟨HcV, HxV, HxH, HrV, HrH, HXS⟩, HP2, HT, ⟨HO, S16⟩, ⟨HsO, HsV, S17⟩, ⟨HY, S18⟩, HW⟩
  ihave HR := (ring_all c z Wv) $$ [HP2 HT]
  · isplitl [HP2]; · iexact HP2
    iexact HT
  icases HR with ⟨HwH, Hring, HWS⟩
  ihave HO := (out_all c (hB X R) (cB s X R (k0_pay160 Gm))) $$ HO
  icases HO with ⟨HhO, HhV, HcO, HcR⟩
  ihave HY := (y_all c _) $$ HY
  icases HY with ⟨HyO, HyV⟩
  ihave HcV := (own_halves c cV fullShare (cB s X R (k0_pay160 Gm))).2 $$ [HcV HcR]
  · isplitl [HcV]; · iexact HcV
    iexact HcR
  ihave HsV := (own_halves c sV fullShare s).2 $$ [A6 HsV]
  · isplitl [A6]; · iexact A6
    iexact HsV
  ihave HXS := (show bigSep Finset.univ (fun k => semVal ((c : Thread nD τ), SemLoc.dma (xcell k).sem) 0) ⊢ (iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0) : sProp 𝕄) from .of_eq (by rw [bigSep_groups, xc0, xc1, xc2, xc3])) $$ HXS
  icases HXS with ⟨S0, S1, S2, S3⟩
  ihave HWS := (show bigSep Finset.univ (fun b : Fin 8 => semVal ((c : Thread nD τ), SemLoc.dma (wcell (sl8 b)).sem) 0) ⊢ (iprop(semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0) : sProp 𝕄) from .of_eq (by rw [bigSep_eight, wc0, wc1, wc2, wc3, wc4, wc5, wc6, wc7])) $$ HWS
  icases HWS with ⟨S8, S9, S10, S11, S12, S13, S14, S15⟩
  ihave S4 := (show (semVal ((c : Thread nD τ), SemLoc.dma m0) 0 : sProp 𝕄) ⊢ semVal ((c : Thread nD τ), SemLoc.dma (sig := sig) 4) 0 from .of_eq (by rw [mc0])) $$ S4
  ihave S5 := (show (semVal ((c : Thread nD τ), SemLoc.dma m1) 0 : sProp 𝕄) ⊢ semVal ((c : Thread nD τ), SemLoc.dma (sig := sig) 5) 0 from .of_eq (by rw [mc1])) $$ S5
  ihave S6 := (show (semVal ((c : Thread nD τ), SemLoc.dma m2) 0 : sProp 𝕄) ⊢ semVal ((c : Thread nD τ), SemLoc.dma (sig := sig) 6) 0 from .of_eq (by rw [mc2])) $$ S6
  ihave S7 := (show (semVal ((c : Thread nD τ), SemLoc.dma m3) 0 : sProp 𝕄) ⊢ semVal ((c : Thread nD τ), SemLoc.dma (sig := sig) 7) 0 from .of_eq (by rw [mc3])) $$ S7
  ihave S16 := (show (semVal ((c : Thread nD τ), SemLoc.dma cc0_scratch15.sem) 0 : sProp 𝕄) ⊢ semVal ((c : Thread nD τ), SemLoc.dma (sig := sig) 16) 0 from .of_eq (by rw [oc16])) $$ S16
  ihave S17 := (show (semVal ((c : Thread nD τ), SemLoc.dma cc0_scratch16.sem) 0 : sProp 𝕄) ⊢ semVal ((c : Thread nD τ), SemLoc.dma (sig := sig) 17) 0 from .of_eq (by rw [oc17])) $$ S17
  ihave S18 := (show (semVal ((c : Thread nD τ), SemLoc.dma cc0_scratch17.sem) 0 : sProp 𝕄) ⊢ semVal ((c : Thread nD τ), SemLoc.dma (sig := sig) 18) 0 from .of_eq (by rw [oc18])) $$ S18
  isplitl [HxV HrV A2 HgF A4 HsV A8 HbF HhV HcV Hring HyV]
  · isplitl [HxV]
    · iexists _
      iexact HxV
    isplitl [HrV]
    · iexists _
      iexact HrV
    isplitl [A2]
    · iexists _
      iexact A2
    isplitl [HgF]
    · iexists _
      iexact HgF
    isplitl [A4]
    · iexists _
      iexact A4
    isplitl [HsV]
    · iexists _
      iexact HsV
    isplitl [A8]
    · iexists _
      iexact A8
    isplitl [HbF]
    · iexists _
      iexact HbF
    isplitl [HhV]
    · iexists _
      iexact HhV
    isplitl [HcV]
    · iexists _
      iexact HcV
    isplitl [Hring]; · iexact Hring
    iexists _
    iexact HyV
  isplitl [S0 S1 S2 S3 S4 S5 S6 S7 S8 S9 S10 S11 S12 S13 S14 S15 S16 S17 S18]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    iexact S18
  isplitl [HxH HrH A1 HwH A3 A5 A7]
  · isplitl [HxH]; · iexact HxH
    isplitl [HrH]; · iexact HrH
    isplitl [A1]; · iexact A1
    isplitl [HwH]; · iexact HwH
    isplitl [A3]; · iexact A3
    isplitl [A5]; · iexact A5
    iexact A7
  isplitl [HyO HhO HcO HsO]
  · isplitl [HyO]; · iexact HyO
    isplitl [HhO]; · iexact HhO
    isplitl [HcO]; · iexact HcO
    iexact HsO
  iexact HW

end Cert.KernelIdeal.Hand
-- ==== Proof.KI.Launch.lean ====
module

public import proofs.«01_k».proof.Proof.KI.Body
public import proofs.«01_k».proof.Proof.Gen.KernelIdeal.Frame
public import Idealize.ShloMosaic.Lib.Pipeline.FrameSuffixV

/-! The run of the whole program: it ends, its semaphores at zero, its arguments as they were, and its four results the
reshapes of what the kernel's run leaves. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxRecDepth 16384

open Idealize.ShloMosaic.Pipeline (Dat Cfg Window BodyObligation cellOf)

variable (m : (ℓ : Loc nD τ sig) → Buf (Elt F) ℓ) (ρ : Dev nD → PrngReg)

/-- The kernel's own semaphores. -/
abbrev osem0 : Fin 19 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 19 → SemLoc sig) j
set_option maxRecDepth 16384 in
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄) = semS c := by
  rw [Pipeline.ownSems0_eq_of_list c osem0 [0, 1, 2, 3, 4, 5, 6, 7, 8, 9, 10, 11, 12, 13, 14, 15, 16, 17, 18] (by decide) (by decide)]; rfl

/-- The arrays read, -/
def H0 : Finset (Ref sig .tc) := {main_v0, main_v1, main_v2, main_arg3, main_v3, main_v5, main_v4}
/-- and the arrays written. -/
def R0 : Finset (Ref sig .tc) := {main_v6_0, main_v6_1, main_v6_2, main_v6_3}
theorem H0_sub : H0 ⊆ Pipeline.restRefs sig (cfg0.spec) := by decide
theorem R0_sub : R0 ⊆ Pipeline.restRefs sig (cfg0.spec) \ H0 := by decide

/-- What the kernel's run leaves in its four results. -/
abbrev leftC (c : Dev nD) : Vec F S128x4992 .fp8e4m3 := cB (V m c main_v5) (V m c main_v0) (V m c main_v1) (k0_pay160 (V m c main_v2))
abbrev leftH (c : Dev nD) : Vec F S128x4992 .bf16 := hB (V m c main_v0) (V m c main_v1)
abbrev leftY (c : Dev nD) : Vec F S128x11904 .bf16 := yB (V m c main_v5) (leftC m c) (V m c main_arg3) (V m c main_v3) (k0_pay161 (V m c main_v4))

/-- The same, at each reference. -/
def G (c : Dev nD) (b : Ref sig .tc) : Buf (Elt F) ((c.tc : Thread nD τ).loc b) :=
  if h0 : main_v6_0 = b then h0 ▸ leftY m c
  else if h1 : main_v6_1 = b then h1 ▸ leftH m c
  else if h2 : main_v6_2 = b then h2 ▸ leftC m c
  else if h3 : main_v6_3 = b then h3 ▸ V m c main_v5
  else V m c b
theorem G_y (c : Dev nD) : G m c main_v6_0 = leftY m c := by unfold G; rw [dif_pos rfl]
theorem G_h (c : Dev nD) : G m c main_v6_1 = leftH m c := by unfold G; rw [dif_neg (by decide), dif_pos rfl]
theorem G_c (c : Dev nD) : G m c main_v6_2 = leftC m c := by unfold G; rw [dif_neg (by decide), dif_neg (by decide), dif_pos rfl]
theorem G_s (c : Dev nD) : G m c main_v6_3 = V m c main_v5 := by unfold G; rw [dif_neg (by decide), dif_neg (by decide), dif_neg (by decide), dif_pos rfl]

theorem own_whole (c : Dev nD) (b : Ref sig .tc) (f : Buf (Elt F) ((c.tc : Thread nD τ).loc b)) :
    (iprop(((c.tc : Thread nD τ).loc b) ↦{fullShare} f) : sProp 𝕄) = own c (Memref.whole b) fullShare f := by
  unfold own; rw [show (Memref.whole b).view.set = Finset.univ from View.set_whole _]

theorem ex_whole (c : Dev nD) (b : Ref sig .tc) :
    (iprop(∃ f : Buf (Elt F) ((c.tc : Thread nD τ).loc b), ((c.tc : Thread nD τ).loc b) ↦{fullShare} f) : sProp 𝕄)
      = iprop(∃ f : Buf (Elt F) ((c.tc : Thread nD τ).loc b), own c (Memref.whole b) fullShare f) := by
  simp only [own_whole]

theorem H0_eq (c : Dev nD) : (bigSep H0 (fun b => ((c.tc : Thread nD τ).loc b) ↦{fullShare} V m c b) : sProp 𝕄)
    = inS c (V m c main_v0) (V m c main_v1) (V m c main_v2) (V m c main_arg3) (V m c main_v3) (V m c main_v5) (V m c main_v4) := by
  rw [BI.bigSep_eq_bigSepL_of_eq [main_v0, main_v1, main_v2, main_arg3, main_v3, main_v5, main_v4] (by decide) (by decide)]
  unfold inS
  rw [← own_whole c main_v0, ← own_whole c main_v1, ← own_whole c main_v2, ← own_whole c main_arg3, ← own_whole c main_v3, ← own_whole c main_v5, ← own_whole c main_v4]
  rfl
theorem R0_eq (c : Dev nD) (f : (b : Ref sig .tc) → Buf (Elt F) ((c.tc : Thread nD τ).loc b)) :
    (bigSep R0 (fun b => ((c.tc : Thread nD τ).loc b) ↦{fullShare} f b) : sProp 𝕄)
    = outS c (f main_v6_0) (f main_v6_1) (f main_v6_2) (f main_v6_3) := by
  rw [BI.bigSep_eq_bigSepL_of_eq [main_v6_0, main_v6_1, main_v6_2, main_v6_3] (by decide) (by decide)]
  unfold outS
  rw [← own_whole c main_v6_0, ← own_whole c main_v6_1, ← own_whole c main_v6_2, ← own_whole c main_v6_3]
  rfl
theorem scr_eq (c : Dev nD) : (Pipeline.scopedRest (Ix := Unit) (Name := ℕ) (U := Pipeline.UD sig nD τ) (Lvl := ℕ) (Val := Elt F) (cfg0.spec) c : sProp 𝕄) = scrS c := by
  rw [scopedRest0_eq]
  rw [ex_whole c cc0_scratch0, ex_whole c cc0_scratch1, ex_whole c cc0_scratch2, ex_whole c cc0_scratch3, ex_whole c cc0_scratch4, ex_whole c cc0_scratch5, ex_whole c cc0_scratch6, ex_whole c cc0_scratch7, ex_whole c cc0_scratch8, ex_whole c cc0_scratch9, ex_whole c cc0_scratch10, ex_whole c cc0_scratch11]
  rfl

/-- What the region holds between its steps, at results' contents `g`. -/
theorem Phi_eq (c : Dev nD) (g : (c : Dev nD) → (b : Ref sig .tc) → Buf (Elt F) ((c.tc : Thread nD τ).loc b)) :
    (Pipeline.ΦDRV osem0 (cfg0.spec) H0 R0 (V m) g c : sProp 𝕄)
    = iprop(scrS c ∗ semS c ∗ inS c (V m c main_v0) (V m c main_v1) (V m c main_v2) (V m c main_arg3) (V m c main_v3) (V m c main_v5) (V m c main_v4)
      ∗ outS c (g c main_v6_0) (g c main_v6_1) (g c main_v6_2) (g c main_v6_3)) := by
  unfold Pipeline.ΦDRV
  rw [scr_eq, ownSems00_eq, H0_eq, R0_eq]

/-- The region's data: no windows; before its one step the results are as launched, after it as the run leaves them. -/
def dats (_ : Fin 1) (c : Dev nD) : Dat τ (Elt F) Unit ℕ (Pipeline.UD sig nD τ) ℕ cfg0 c where
  A w := V m c (Pipeline.arrRef (cfg0.spec) w)
  after w t := w.elim0
  Φ t := if t.val = 0 then Pipeline.ΦDRV osem0 (cfg0.spec) H0 R0 (V m) (V m) c else Pipeline.ΦDRV osem0 (cfg0.spec) H0 R0 (V m) (G m) c
  q _ := fullShare
  owed _ := 0

theorem Phi_before (c : Dev nD) (t) (h : t.val = 0) : (dats m 0 c).Φ t = Pipeline.ΦDRV osem0 (cfg0.spec) H0 R0 (V m) (V m) c := by
  dsimp only [dats]; rw [if_pos h]
theorem Phi_after (c : Dev nD) (t) (h : ¬ t.val = 0) : (dats m 0 c).Φ t = Pipeline.ΦDRV osem0 (cfg0.spec) H0 R0 (V m) (G m) c := by
  dsimp only [dats]; rw [if_neg h]

theorem A_eq (c : Dev nD) (w : Fin cfg0.W) : (dats m 0 c).A w = V m c (Pipeline.arrRef (cfg0.spec) w) := w.elim0

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [Phi_before m c (Fin.castSucc t0_0) rfl, Phi_after m c (Fin.succ t0_0) (Nat.succ_ne_zero _),
    Phi_eq, Phi_eq, G_y, G_h, G_c, G_s]
  unfold Dat.owesAt Pipeline.owesWithin
  rw [show (dats m 0 c).owed (Fin.castSucc t0_0) = 0 from rfl, show (dats m 0 c).owed (Fin.succ t0_0) = 0 from rfl]
  iintro ⟨⟨Hs, Hm, Hi, Ho⟩, ⟨%W, -, HW⟩, -⟩
  iapply (wp_mono_r (body c (V m c main_v0) (V m c main_v1) (V m c main_v2) (V m c main_arg3) (V m c main_v3) (V m c main_v5) (V m c main_v4)
      (V m c main_v6_0) (V m c main_v6_1) (V m c main_v6_2) (V m c main_v6_3))) $$ [Hs Hm Hi Ho HW]
  · isplitl [Hs]; · iexact Hs
    isplitl [Hm]; · iexact Hm
    isplitl [Hi]; · iexact Hi
    isplitl [Ho]; · iexact Ho
    iexists W; iexact HW
  · iintro %a ⟨Hs, Hm, Hi, Ho, ⟨%W', HW⟩⟩
    isplitl [Hs Hm Hi Ho]
    · isplitl [Hs]; · iexact Hs
      isplitl [Hm]; · iexact Hm
      isplitl [Hi]; · iexact Hi
      iexact Ho
    isplitl [HW]
    · iexists W'; isplitr; · ipureintro; exact fun _ _ => Or.inl trivial
      iexact HW
    iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from Finset.univ_eq_empty, BI.bigSep_empty, BI.bigSep_empty, defs₀_row]
  exact triple_restated (sound_body m c t) rfl .rfl fun _ => .rfl

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers at the end: the last host lines over the region's leavings. -/
abbrev VE (c : Dev nD) : Valuation τ sig (Elt F) :=
  StableHlo.after [hostOps1].flatten (Pipeline.withArrays (cfg0.spec) c (Pipeline.withR (V0 m c) R0 c (G m c)) fun w => (dats m 0 c).arrAt w cfg0.N)

set_option backward.isDefEq.respectTransparency.types false in
theorem run_main : θ_run defs (onTc (τ := τ) (main (F := F))) (s₀ m ρ)
    (fun r => (∀ c : Dev nD, ∀ b ∈ Pipeline.restRefs sig (cfg0.spec), r.2.mem ((c.tc : Thread nD τ).loc b) = VE m c (Proc.devRef .tc b)) ∧ r.2.sem = fun _ => 0) :=
  Pipeline.θ_run_frame_dmaR_aroundV (Q' := _) (hQ' := fun _ h => ⟨fun c => (h.1 c).2, h.2⟩) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := A_eq m)
    (hin := fun c => .of_eq (Phi_before m c 0 rfl).symm) (hout := fun c => .of_eq (Phi_after m c (Fin.last _) (by decide)))

theorem VE_main_arg0 (c : Dev nD) : VE m c (Proc.devRef .tc main_arg0) = m ((c : Thread nD τ).loc main_arg0) := by
  unfold VE
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg0 (by exact (by decide : ∀ w, Pipeline.arrRef (cfg0.spec) w ≠ main_arg0)),
    Pipeline.withR_of_not_mem _ _ _ _ main_arg0 (by decide)]
  exact V_main_arg0 m c
theorem VE_main_arg1 (c : Dev nD) : VE m c (Proc.devRef .tc main_arg1) = m ((c : Thread nD τ).loc main_arg1) := by
  unfold VE
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg1 (by exact (by decide : ∀ w, Pipeline.arrRef (cfg0.spec) w ≠ main_arg1)),
    Pipeline.withR_of_not_mem _ _ _ _ main_arg1 (by decide)]
  exact V_main_arg1 m c
theorem VE_main_arg2 (c : Dev nD) : VE m c (Proc.devRef .tc main_arg2) = m ((c : Thread nD τ).loc main_arg2) := by
  unfold VE
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg2 (by exact (by decide : ∀ w, Pipeline.arrRef (cfg0.spec) w ≠ main_arg2)),
    Pipeline.withR_of_not_mem _ _ _ _ main_arg2 (by decide)]
  exact V_main_arg2 m c
theorem VE_main_arg3 (c : Dev nD) : VE m c (Proc.devRef .tc main_arg3) = m ((c : Thread nD τ).loc main_arg3) := by
  unfold VE
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg3 (by exact (by decide : ∀ w, Pipeline.arrRef (cfg0.spec) w ≠ main_arg3)),
    Pipeline.withR_of_not_mem _ _ _ _ main_arg3 (by decide)]
  exact V_main_arg3 m c
theorem VE_main_arg4 (c : Dev nD) : VE m c (Proc.devRef .tc main_arg4) = m ((c : Thread nD τ).loc main_arg4) := by
  unfold VE
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg4 (by exact (by decide : ∀ w, Pipeline.arrRef (cfg0.spec) w ≠ main_arg4)),
    Pipeline.withR_of_not_mem _ _ _ _ main_arg4 (by decide)]
  exact V_main_arg4 m c
theorem VE_main_arg5 (c : Dev nD) : VE m c (Proc.devRef .tc main_arg5) = m ((c : Thread nD τ).loc main_arg5) := by
  unfold VE
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg5 (by exact (by decide : ∀ w, Pipeline.arrRef (cfg0.spec) w ≠ main_arg5)),
    Pipeline.withR_of_not_mem _ _ _ _ main_arg5 (by decide)]
  exact V_main_arg5 m c
theorem VE_main_arg6 (c : Dev nD) : VE m c (Proc.devRef .tc main_arg6) = m ((c : Thread nD τ).loc main_arg6) := by
  unfold VE
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c _ _ main_arg6 (by exact (by decide : ∀ w, Pipeline.arrRef (cfg0.spec) w ≠ main_arg6)),
    Pipeline.withR_of_not_mem _ _ _ _ main_arg6 (by decide)]
  exact V_main_arg6 m c
theorem VE_main_v7 (c : Dev nD) : VE m c (Proc.devRef .tc main_v7) = shapeCast S128x1x11904 (leftY m c) shapeCasts_S128x11904_S128x1x11904 := by
  unfold VE
  have e : Pipeline.withArrays (cfg0.spec) c (Pipeline.withR (V0 m c) R0 c (G m c)) (fun w => (dats m 0 c).arrAt w cfg0.N) (Proc.devRef .tc main_v6_0) = leftY m c :=
    (Pipeline.withArrays_of_ne (cfg0.spec) c _ _ main_v6_0 (by exact (by decide : ∀ w, Pipeline.arrRef (cfg0.spec) w ≠ main_v6_0))).trans
      ((Pipeline.withR_of_mem (V0 m c) R0 c (G m c) main_v6_0 (by decide)).trans (G_y m c))
  rw [← e]
  generalize Pipeline.withArrays (cfg0.spec) c _ _ = U
  unfold hostOps1
  simp only [List.flatten_cons, List.flatten_nil, List.append_nil]
  after_results
  rfl
theorem VE_main_v8 (c : Dev nD) : VE m c (Proc.devRef .tc main_v8) = shapeCast S128x1x4992 (leftH m c) shapeCasts_S128x4992_S128x1x4992 := by
  unfold VE
  have e : Pipeline.withArrays (cfg0.spec) c (Pipeline.withR (V0 m c) R0 c (G m c)) (fun w => (dats m 0 c).arrAt w cfg0.N) (Proc.devRef .tc main_v6_1) = leftH m c :=
    (Pipeline.withArrays_of_ne (cfg0.spec) c _ _ main_v6_1 (by exact (by decide : ∀ w, Pipeline.arrRef (cfg0.spec) w ≠ main_v6_1))).trans
      ((Pipeline.withR_of_mem (V0 m c) R0 c (G m c) main_v6_1 (by decide)).trans (G_h m c))
  rw [← e]
  generalize Pipeline.withArrays (cfg0.spec) c _ _ = U
  unfold hostOps1
  simp only [List.flatten_cons, List.flatten_nil, List.append_nil]
  after_results
  rfl
theorem VE_main_v9 (c : Dev nD) : VE m c (Proc.devRef .tc main_v9) = shapeCast S128x1x4992 (leftC m c) shapeCasts_S128x4992_S128x1x4992 := by
  unfold VE
  have e : Pipeline.withArrays (cfg0.spec) c (Pipeline.withR (V0 m c) R0 c (G m c)) (fun w => (dats m 0 c).arrAt w cfg0.N) (Proc.devRef .tc main_v6_2) = leftC m c :=
    (Pipeline.withArrays_of_ne (cfg0.spec) c _ _ main_v6_2 (by exact (by decide : ∀ w, Pipeline.arrRef (cfg0.spec) w ≠ main_v6_2))).trans
      ((Pipeline.withR_of_mem (V0 m c) R0 c (G m c) main_v6_2 (by decide)).trans (G_c m c))
  rw [← e]
  generalize Pipeline.withArrays (cfg0.spec) c _ _ = U
  unfold hostOps1
  simp only [List.flatten_cons, List.flatten_nil, List.append_nil]
  after_results
  rfl
theorem VE_main_v10 (c : Dev nD) : VE m c (Proc.devRef .tc main_v10) = shapeCast S_ ((V m c main_v5 : Vec F S1x1 .f32)) shapeCasts_S1x1_S_ := by
  unfold VE
  have e : Pipeline.withArrays (cfg0.spec) c (Pipeline.withR (V0 m c) R0 c (G m c)) (fun w => (dats m 0 c).arrAt w cfg0.N) (Proc.devRef .tc main_v6_3) = (V m c main_v5 : Vec F S1x1 .f32) :=
    (Pipeline.withArrays_of_ne (cfg0.spec) c _ _ main_v6_3 (by exact (by decide : ∀ w, Pipeline.arrRef (cfg0.spec) w ≠ main_v6_3))).trans
      ((Pipeline.withR_of_mem (V0 m c) R0 c (G m c) main_v6_3 (by decide)).trans (G_s m c))
  rw [← e]
  generalize Pipeline.withArrays (cfg0.spec) c _ _ = U
  unfold hostOps1
  simp only [List.flatten_cons, List.flatten_nil, List.append_nil]
  after_results
  rfl
theorem V_main_v0 (c : Dev nD) : V m c main_v0 = shapeCast S128x4992 (m ((c : Thread nD τ).loc main_arg0)) shapeCasts_S128x1x4992_S128x4992 := by
  unfold V V0 hostOps0
  simp only [List.flatten_cons, List.flatten_nil, List.append_nil]
  after_results
  rfl
theorem V_main_v1 (c : Dev nD) : V m c main_v1 = shapeCast S128x4992 (m ((c : Thread nD τ).loc main_arg1)) shapeCasts_S128x1x4992_S128x4992 := by
  unfold V V0 hostOps0
  simp only [List.flatten_cons, List.flatten_nil, List.append_nil]
  after_results
  rfl
theorem V_main_v2 (c : Dev nD) : V m c main_v2 = shapeCast S39x128 (m ((c : Thread nD τ).loc main_arg2)) shapeCasts_S4992_S39x128 := by
  unfold V V0 hostOps0
  simp only [List.flatten_cons, List.flatten_nil, List.append_nil]
  after_results
  rfl
theorem V_main_v3 (c : Dev nD) : V m c main_v3 = shapeCast S93x128 (m ((c : Thread nD τ).loc main_arg4)) shapeCasts_S11904_S93x128 := by
  unfold V V0 hostOps0
  simp only [List.flatten_cons, List.flatten_nil, List.append_nil]
  after_results
  rfl
theorem V_main_v4 (c : Dev nD) : V m c main_v4 = shapeCast S93x128 (m ((c : Thread nD τ).loc main_arg6)) shapeCasts_S11904_S93x128 := by
  unfold V V0 hostOps0
  simp only [List.flatten_cons, List.flatten_nil, List.append_nil]
  after_results
  rfl
theorem V_main_v5 (c : Dev nD) : V m c main_v5 = shapeCast S1x1 (m ((c : Thread nD τ).loc main_arg5)) shapeCasts_S_S1x1 := by
  unfold V V0 hostOps0
  simp only [List.flatten_cons, List.flatten_nil, List.append_nil]
  after_results
  rfl

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c main_arg0 (Pipeline.mem_restRefs_of main_arg0 (by decide) (by decide))).trans (VE_main_arg0 m c), (h.1 c main_arg1 (Pipeline.mem_restRefs_of main_arg1 (by decide) (by decide))).trans (VE_main_arg1 m c), (h.1 c main_arg2 (Pipeline.mem_restRefs_of main_arg2 (by decide) (by decide))).trans (VE_main_arg2 m c), (h.1 c main_arg3 (Pipeline.mem_restRefs_of main_arg3 (by decide) (by decide))).trans (VE_main_arg3 m c), (h.1 c main_arg4 (Pipeline.mem_restRefs_of main_arg4 (by decide) (by decide))).trans (VE_main_arg4 m c), (h.1 c main_arg5 (Pipeline.mem_restRefs_of main_arg5 (by decide) (by decide))).trans (VE_main_arg5 m c), (h.1 c main_arg6 (Pipeline.mem_restRefs_of main_arg6 (by decide) (by decide))).trans (VE_main_arg6 m c)⟩, h.2⟩) (run_main m ρ)

/-- The results. -/
theorem values : θ_run defs (onTc (τ := τ) (main (F := F))) ⟨m, fun _ => 0, ρ⟩ (fun r => ∀ c : Dev nD,
      r.2.mem ((c.tc : Thread nD τ).loc main_v7) = shapeCast S128x1x11904 (leftY m c) shapeCasts_S128x11904_S128x1x11904
      ∧ r.2.mem ((c.tc : Thread nD τ).loc main_v8) = shapeCast S128x1x4992 (leftH m c) shapeCasts_S128x4992_S128x1x4992
      ∧ r.2.mem ((c.tc : Thread nD τ).loc main_v9) = shapeCast S128x1x4992 (leftC m c) shapeCasts_S128x4992_S128x1x4992
      ∧ r.2.mem ((c.tc : Thread nD τ).loc main_v10) = shapeCast S_ ((V m c main_v5 : Vec F S1x1 .f32)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c main_v7 (Pipeline.mem_restRefs_of main_v7 (by decide) (by decide))).trans (VE_main_v7 m c), (h.1 c main_v8 (Pipeline.mem_restRefs_of main_v8 (by decide) (by decide))).trans (VE_main_v8 m c), (h.1 c main_v9 (Pipeline.mem_restRefs_of main_v9 (by decide) (by decide))).trans (VE_main_v9 m c), (h.1 c main_v10 (Pipeline.mem_restRefs_of main_v10 (by decide) (by decide))).trans (VE_main_v10 m c), (h.1 c main_arg0 (Pipeline.mem_restRefs_of main_arg0 (by decide) (by decide))).trans (VE_main_arg0 m c), (h.1 c main_arg1 (Pipeline.mem_restRefs_of main_arg1 (by decide) (by decide))).trans (VE_main_arg1 m c), (h.1 c main_arg2 (Pipeline.mem_restRefs_of main_arg2 (by decide) (by decide))).trans (VE_main_arg2 m c), (h.1 c main_arg3 (Pipeline.mem_restRefs_of main_arg3 (by decide) (by decide))).trans (VE_main_arg3 m c), (h.1 c main_arg4 (Pipeline.mem_restRefs_of main_arg4 (by decide) (by decide))).trans (VE_main_arg4 m c), (h.1 c main_arg5 (Pipeline.mem_restRefs_of main_arg5 (by decide) (by decide))).trans (VE_main_arg5 m c), (h.1 c main_arg6 (Pipeline.mem_restRefs_of main_arg6 (by decide) (by decide))).trans (VE_main_arg6 m c)⟩) (run_main m ρ)

end Cert.KernelIdeal.Hand

end
-- ==== Proof.RI.Ref.lean ====
module

public import proofs.«01_k».proof.Proof.Gen.ReferenceIdeal.Frame
public import Idealize.ShloMosaic.Lib.Pipeline.ValueKit
public import Idealize.ShloMosaic.Lib.Claim

/-! What the reference leaves in its four results: its payloads on whole arrays. -/

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem iblk_0 (c : Dev nD) : iblk m c 0 t0_0 = V m c main_v0 := by
  funext j
  unfold iblk
  exact congrArg (V m c main_v0) (by funext a; fin_cases a <;> apply Fin.ext <;> simp <;> rfl)
theorem iblk_1 (c : Dev nD) : iblk m c 1 t0_0 = V m c main_v1 := by
  funext j
  unfold iblk
  exact congrArg (V m c main_v1) (by funext a; fin_cases a <;> apply Fin.ext <;> simp <;> rfl)
theorem iblk_2 (c : Dev nD) : iblk m c 2 t0_0 = V m c main_v2 := by
  funext j
  unfold iblk
  exact congrArg (V m c main_v2) (by funext a; fin_cases a <;> apply Fin.ext <;> simp <;> rfl)
theorem iblk_3 (c : Dev nD) : iblk m c 3 t0_0 = V m c main_arg3 := by
  funext j
  unfold iblk
  exact congrArg (V m c main_arg3) (by funext a; fin_cases a <;> apply Fin.ext <;> simp <;> rfl)
theorem iblk_4 (c : Dev nD) : iblk m c 4 t0_0 = V m c main_v3 := by
  funext j
  unfold iblk
  exact congrArg (V m c main_v3) (by funext a; fin_cases a <;> apply Fin.ext <;> simp <;> rfl)
theorem iblk_5 (c : Dev nD) : iblk m c 5 t0_0 = V m c main_v4 := by
  funext j
  unfold iblk
  exact congrArg (V m c main_v4) (by funext a; fin_cases a <;> apply Fin.ext <;> simp <;> rfl)
theorem iblk_6 (c : Dev nD) : iblk m c 6 t0_0 = V m c main_v5 := by
  funext j
  unfold iblk
  exact congrArg (V m c main_v5) (by funext a; fin_cases a <;> apply Fin.ext <;> simp <;> rfl)

/-- The reference's results, over whole arrays. -/
abbrev refY (c : Dev nD) : Vec F S128x11904 .bf16 := k0_pay1 (k0_pay6 (V m c main_v4) (V m c main_v0) (V m c main_v1) (V m c main_v2) (V m c main_arg3) (V m c main_v3)) (V m c main_v5)
abbrev refH (c : Dev nD) : Vec F S128x4992 .bf16 := k0_pay2 (k0_pay4 (V m c main_v0) (V m c main_v1))
abbrev refC (c : Dev nD) : Vec F S128x4992 .fp8e4m3 := k0_pay5 (V m c main_v4) (V m c main_v0) (V m c main_v1) (V m c main_v2)
abbrev refS (c : Dev nD) : Vec F S1x1 .f32 := k0_pay3 (V m c main_v4)

theorem arr_7 (c : Dev nD) : (dats m 0 c).arrAt 7 cfg0.N = refY m c := by
  refine (dats m 0 c).arrAt_eq_of_after_last 7 t0_0 (by decide +kernel) _ fun j => ?_
  blk_simp
  rw [after0_7]
  frame_out
  simp only [iblk_0, iblk_1, iblk_2, iblk_3, iblk_4, iblk_5, iblk_6]
theorem arr_8 (c : Dev nD) : (dats m 0 c).arrAt 8 cfg0.N = refH m c := by
  refine (dats m 0 c).arrAt_eq_of_after_last 8 t0_0 (by decide +kernel) _ fun j => ?_
  blk_simp
  rw [after0_8]
  frame_out
  simp only [iblk_0, iblk_1, iblk_2, iblk_3, iblk_4, iblk_5, iblk_6]
theorem arr_9 (c : Dev nD) : (dats m 0 c).arrAt 9 cfg0.N = refC m c := by
  refine (dats m 0 c).arrAt_eq_of_after_last 9 t0_0 (by decide +kernel) _ fun j => ?_
  blk_simp
  rw [after0_9]
  frame_out
  simp only [iblk_0, iblk_1, iblk_2, iblk_3, iblk_4, iblk_5, iblk_6]
theorem arr_10 (c : Dev nD) : (dats m 0 c).arrAt 10 cfg0.N = refS m c := by
  refine (dats m 0 c).arrAt_eq_of_after_last 10 t0_0 (by decide +kernel) _ fun j => ?_
  blk_simp
  rw [after0_10]
  frame_out
  simp only [iblk_0, iblk_1, iblk_2, iblk_3, iblk_4, iblk_5, iblk_6]

theorem V_main_v0 (c : Dev nD) : V m c main_v0 = shapeCast S128x4992 (m ((c : Thread nD τ).loc main_arg0)) shapeCasts_S128x1x4992_S128x4992 := by
  unfold V V0 hostOps0
  simp only [List.flatten_cons, List.flatten_nil, List.append_nil]
  after_results
  rfl
theorem V_main_v1 (c : Dev nD) : V m c main_v1 = shapeCast S128x4992 (m ((c : Thread nD τ).loc main_arg1)) shapeCasts_S128x1x4992_S128x4992 := by
  unfold V V0 hostOps0
  simp only [List.flatten_cons, List.flatten_nil, List.append_nil]
  after_results
  rfl
theorem V_main_v2 (c : Dev nD) : V m c main_v2 = shapeCast S1x4992 (m ((c : Thread nD τ).loc main_arg2)) shapeCasts_S4992_S1x4992 := by
  unfold V V0 hostOps0
  simp only [List.flatten_cons, List.flatten_nil, List.append_nil]
  after_results
  rfl
theorem V_main_v3 (c : Dev nD) : V m c main_v3 = shapeCast S1x11904 (m ((c : Thread nD τ).loc main_arg4)) shapeCasts_S11904_S1x11904 := by
  unfold V V0 hostOps0
  simp only [List.flatten_cons, List.flatten_nil, List.append_nil]
  after_results
  rfl
theorem V_main_v4 (c : Dev nD) : V m c main_v4 = shapeCast S1x1 (m ((c : Thread nD τ).loc main_arg5)) shapeCasts_S_S1x1 := by
  unfold V V0 hostOps0
  simp only [List.flatten_cons, List.flatten_nil, List.append_nil]
  after_results
  rfl
theorem V_main_v5 (c : Dev nD) : V m c main_v5 = shapeCast S1x11904 (m ((c : Thread nD τ).loc main_arg6)) shapeCasts_S11904_S1x11904 := by
  unfold V V0 hostOps0
  simp only [List.flatten_cons, List.flatten_nil, List.append_nil]
  after_results
  rfl

theorem W_main_v7 (c : Dev nD) : Pipeline.afterTail₀ cfgs (dats m) 0 (V0 m) [hostOps1] c main_v7 = shapeCast S128x1x11904 (refY m c) shapeCasts_S128x11904_S128x1x11904 := by
  have e : Pipeline.withArrays spec0 c (V0 m c) (fun w => (dats m 0 c).arrAt w cfg0.N) (Proc.devRef .tc main_v6_0) = refY m c :=
    (Pipeline.withArrays_arr spec0 (by decide) c (V0 m c) (fun w => (dats m 0 c).arrAt w cfg0.N) 7).trans (arr_7 m c)
  rw [← e]
  unfold Pipeline.afterTail₀
  generalize Pipeline.withArrays spec0 c _ _ = U
  unfold hostOps1
  simp only [List.flatten_cons, List.flatten_nil, List.append_nil]
  after_results
  rfl

theorem W_main_v8 (c : Dev nD) : Pipeline.afterTail₀ cfgs (dats m) 0 (V0 m) [hostOps1] c main_v8 = shapeCast S128x1x4992 (refH m c) shapeCasts_S128x4992_S128x1x4992 := by
  have e : Pipeline.withArrays spec0 c (V0 m c) (fun w => (dats m 0 c).arrAt w cfg0.N) (Proc.devRef .tc main_v6_1) = refH m c :=
    (Pipeline.withArrays_arr spec0 (by decide) c (V0 m c) (fun w => (dats m 0 c).arrAt w cfg0.N) 8).trans (arr_8 m c)
  rw [← e]
  unfold Pipeline.afterTail₀
  generalize Pipeline.withArrays spec0 c _ _ = U
  unfold hostOps1
  simp only [List.flatten_cons, List.flatten_nil, List.append_nil]
  after_results
  rfl

theorem W_main_v9 (c : Dev nD) : Pipeline.afterTail₀ cfgs (dats m) 0 (V0 m) [hostOps1] c main_v9 = shapeCast S128x1x4992 (refC m c) shapeCasts_S128x4992_S128x1x4992 := by
  have e : Pipeline.withArrays spec0 c (V0 m c) (fun w => (dats m 0 c).arrAt w cfg0.N) (Proc.devRef .tc main_v6_2) = refC m c :=
    (Pipeline.withArrays_arr spec0 (by decide) c (V0 m c) (fun w => (dats m 0 c).arrAt w cfg0.N) 9).trans (arr_9 m c)
  rw [← e]
  unfold Pipeline.afterTail₀
  generalize Pipeline.withArrays spec0 c _ _ = U
  unfold hostOps1
  simp only [List.flatten_cons, List.flatten_nil, List.append_nil]
  after_results
  rfl

theorem W_main_v10 (c : Dev nD) : Pipeline.afterTail₀ cfgs (dats m) 0 (V0 m) [hostOps1] c main_v10 = shapeCast S_ (refS m c) shapeCasts_S1x1_S_ := by
  have e : Pipeline.withArrays spec0 c (V0 m c) (fun w => (dats m 0 c).arrAt w cfg0.N) (Proc.devRef .tc main_v6_3) = refS m c :=
    (Pipeline.withArrays_arr spec0 (by decide) c (V0 m c) (fun w => (dats m 0 c).arrAt w cfg0.N) 10).trans (arr_10 m c)
  rw [← e]
  unfold Pipeline.afterTail₀
  generalize Pipeline.withArrays spec0 c _ _ = U
  unfold hostOps1
  simp only [List.flatten_cons, List.flatten_nil, List.append_nil]
  after_results
  rfl

/-- The reference's run: its results, and its arguments as they were. -/
theorem values : θ_run defs (onTc (τ := τ) (main (F := F))) ⟨m, fun _ => 0, ρ⟩ (fun r => ∀ c : Dev nD,
      r.2.mem ((c.tc : Thread nD τ).loc main_v7) = shapeCast S128x1x11904 (refY m c) shapeCasts_S128x11904_S128x1x11904
      ∧ r.2.mem ((c.tc : Thread nD τ).loc main_v8) = shapeCast S128x1x4992 (refH m c) shapeCasts_S128x4992_S128x1x4992
      ∧ r.2.mem ((c.tc : Thread nD τ).loc main_v9) = shapeCast S128x1x4992 (refC m c) shapeCasts_S128x4992_S128x1x4992
      ∧ r.2.mem ((c.tc : Thread nD τ).loc main_v10) = shapeCast S_ (refS m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v7 (Pipeline.mem_restRefs_of main_v7 (by decide) (by decide))).trans (W_main_v7 m c), ((h c).2 main_v8 (Pipeline.mem_restRefs_of main_v8 (by decide) (by decide))).trans (W_main_v8 m c), ((h c).2 main_v9 (Pipeline.mem_restRefs_of main_v9 (by decide) (by decide))).trans (W_main_v9 m c), ((h c).2 main_v10 (Pipeline.mem_restRefs_of main_v10 (by decide) (by decide))).trans (W_main_v10 m c),
      ((h c).2 main_arg0 (Pipeline.mem_restRefs_of main_arg0 (by decide) (by decide))).trans (W_main_arg0 m (dats m) c), ((h c).2 main_arg1 (Pipeline.mem_restRefs_of main_arg1 (by decide) (by decide))).trans (W_main_arg1 m (dats m) c), ((h c).2 main_arg2 (Pipeline.mem_restRefs_of main_arg2 (by decide) (by decide))).trans (W_main_arg2 m (dats m) c), ((h c).1 3).trans (((dats m 0 c).arrAt_in 3 rfl _).trans ((A_eq m c 3).trans (V_main_arg3 m c))), ((h c).2 main_arg4 (Pipeline.mem_restRefs_of main_arg4 (by decide) (by decide))).trans (W_main_arg4 m (dats m) c), ((h c).2 main_arg5 (Pipeline.mem_restRefs_of main_arg5 (by decide) (by decide))).trans (W_main_arg5 m (dats m) c), ((h c).2 main_arg6 (Pipeline.mem_restRefs_of main_arg6 (by decide) (by decide))).trans (W_main_arg6 m (dats m) c)⟩) (run_main m ρ)

end Cert.ReferenceIdeal.Hand

end
-- ==== Proof.Eq.Codes.lean ====
module

public import proofs.«01_k».proof.Proof.KI.Model2
public import proofs.«01_k».proof.Proof.RI.Ref
public import Idealize.ShloMosaic.Lib.Pipeline.ValueKit
public import Idealize.ShloMosaic.Lib.Claim

/-! The hidden state and the codes the kernel leaves are the reference's, over the reals. -/

@[expose] public section

set_option maxRecDepth 16384

noncomputable section

namespace Cert.Eq

open Cert.KernelIdeal Cert.KernelIdeal.Gen Cert.KernelIdeal.Hand
open Idealize.ShloMosaic Idealize.ShloMosaic.TcCoe Idealize.ShloMosaic.Tactic Idealize.ShloMosaic.ValueIdx

/-- The sum of the two inputs at a place of a tile. -/
theorem hf_apply (X R : Vec Ideal S128x4992 .bf16) (k : Fin k0_t1_loop.trips) (t : Fin 39) (x : S32x128.Idx) :
    hf X R k t x = (X (at' k t x) + R (at' k t x) : EReal) := rfl

theorem pay4_apply (X R : Vec Ideal S128x4992 .bf16) (j : S128x4992.Idx) :
    Cert.ReferenceIdeal.Gen.k0_pay4 X R j = (X j + R j : EReal) := by
  unfold Cert.ReferenceIdeal.Gen.k0_pay4
  pointwise

/-- The hidden state. -/
theorem hB_eq (X R : Vec Ideal S128x4992 .bf16) :
    hB X R = Cert.ReferenceIdeal.Gen.k0_pay2 (Cert.ReferenceIdeal.Gen.k0_pay4 X R) := by
  funext j
  have e : hB X R j = hf X R (grp j) (tile j) (loc j) := rfl
  rw [e, hf_apply, at'_loc]
  exact (pay4_apply X R j).symm

/-- The lanewise sum over the tiles. -/
theorem accB_apply (X R : Vec Ideal S128x4992 .bf16) (k : Fin k0_t1_loop.trips) (x : S32x128.Idx) : ∀ (n : ℕ) (h : n ≤ 39),
    accB X R k n h x = ∑ t : Fin n, ((hf X R k ⟨t.val, by omega⟩ x : EReal) * hf X R k ⟨t.val, by omega⟩ x)
  | 0, _ => by
    unfold accB
    pointwise
    simp
  | n + 1, h => by
    rw [Fin.sum_univ_castSucc]
    have ih := accB_apply X R k x n (by omega)
    have e : accB X R k (n + 1) h x = (accB X R k n (by omega) x + hf X R k ⟨n, h⟩ x * hf X R k ⟨n, h⟩ x : EReal) := rfl
    rw [e, ih]
    rfl

/-- The square of the sum, at a place. -/
def sq (X R : Vec Ideal S128x4992 .bf16) (j : S128x4992.Idx) : EReal := (X j + R j : EReal) * (X j + R j : EReal)

/-- The mean square's reciprocal root, at a row. -/
theorem invB_apply (X R : Vec Ideal S128x4992 .bf16) (k : Fin k0_t1_loop.trips) (x : S32x1.Idx) :
    invB X R k x = Ideal.rsqrt (Ideal.div (∑ l : Fin 128, ∑ t : Fin 39, sq X R (at' k t (Idealize.ShloMosaic.ix2 (x 0) l))) (Ideal.ofBits FTy.f32 0x459C0000#32)
      + Ideal.ofBits FTy.f32 0x358637BD#32) := by
  unfold invB sq
  pointwise [accB_apply, hf_apply]

/-- A sum over a row, tile by tile and lane by lane, is the sum over the row. -/
theorem row_sum (f : S128x4992.Idx → EReal) (j : S128x4992.Idx) :
    (∑ l : Fin 128, ∑ t : Fin 39, f (at' (grp j) t (Idealize.ShloMosaic.ix2 (loc j 0) l))) = ∑ q : Fin 4992, f (Idealize.ShloMosaic.ix2 (j 0) q) := by
  rw [Finset.sum_comm, ← Fintype.sum_prod_type']
  refine Fintype.sum_equiv (finProdFinEquiv (m := 39) (n := 128)) _ _ fun p => congrArg f ?_
  funext a
  apply Fin.ext
  fin_cases a
  · show (at' _ _ _ 0).val = (j 0).val
    rw [at'_0]
    show 32 * ((j 0).val / 32) + (j 0).val % 32 = _
    omega
  · show (at' _ _ _ 1).val = _
    rw [at'_1]
    show 128 * p.1.val + p.2.val = p.2.val + 128 * p.1.val
    omega

/-- A gamma, read off its tile, is the gamma of the column. -/
theorem gamma_eq (g : Vec Ideal S4992 .bf16) (h1 : S4992.ShapeCasts S39x128) (h0 : FTy.bf16.bits < FTy.f32.bits) (j : S128x4992.Idx) (inb) :
    VecWindow.window (s := S39x128) (extf (F := Ideal) .f32 (shapeCast S39x128 g h1) h0) ![(tile j).val, 0] ![1, 128] inb (Idealize.ShloMosaic.ix2 0 (loc j 1)) = g (Idealize.ShloMosaic.ix1 (j 1)) := by
  have e : VecWindow.window (s := S39x128) (extf (F := Ideal) .f32 (shapeCast S39x128 g h1) h0) ![(tile j).val, 0] ![1, 128] inb (Idealize.ShloMosaic.ix2 0 (loc j 1))
      = shapeCast S39x128 g h1 (Idealize.ShloMosaic.ix2 (tile j) (loc j 1)) := by
    refine congrArg (shapeCast S39x128 g h1) ?_
    funext a
    apply Fin.ext
    fin_cases a
    · show (tile j).val + 1 * 0 = (tile j).val
      omega
    · show 0 + 1 * (loc j 1).val = (loc j 1).val
      omega
  rw [e]
  pointwise
  refine congrArg g ?_
  funext a
  apply Fin.ext
  fin_cases a
  show (tile j).val * 128 + (loc j 1).val = (j 1).val
  show (j 1).val / 128 * 128 + (j 1).val % 128 = _
  omega

/-- The codes. -/
theorem cB_eq (s : Vec Ideal S1x1 .f32) (X R : Vec Ideal S128x4992 .bf16) (g : Vec Ideal S4992 .bf16) (h1) (h2) :
    cB (F := Ideal) s X R (k0_pay160 (F := Ideal) (shapeCast S39x128 g h1)) = Cert.ReferenceIdeal.Gen.k0_pay5 s X R (shapeCast Cert.ReferenceIdeal.S1x4992 g h2) := by
  funext j
  unfold cB mkTiles cTile Cert.ReferenceIdeal.Gen.k0_pay5 Cert.ReferenceIdeal.Gen.k0_pay3 gWin k0_pay160
  pointwise [hf_apply, pay4_apply, invB_apply]
  rw [at'_loc, row_sum, gamma_eq]
  rfl

end Cert.Eq

end
-- ==== Proof.Eq.Product.lean ====
module

public import proofs.«01_k».proof.Proof.KI.Model2
public import proofs.«01_k».proof.Proof.Eq.Codes
public import Idealize.ShloMosaic.Lib.Pipeline.ValueKit
public import Idealize.ShloMosaic.Lib.Claim

/-! The product the kernel leaves is the reference's, over the reals. -/

@[expose] public section

set_option maxRecDepth 16384

noncomputable section

namespace Cert.Eq

open Cert.KernelIdeal Cert.KernelIdeal.Gen Cert.KernelIdeal.Hand
open Idealize.ShloMosaic Idealize.ShloMosaic.TcCoe Idealize.ShloMosaic.Tactic Idealize.ShloMosaic.ValueIdx

/-- A value of a row of 11904, read off its tile, is the value of the column. -/
theorem tile_eq (v : S11904.Idx → EReal) (h : S11904.ShapeCasts S93x128) (j : S128x11904.Idx) (n : ℕ) (hn : n = (ytile j).val) (inb) :
    VecWindow.window (s := S93x128) (shapeCast S93x128 v h) ![n, 0] ![1, 128] inb (Idealize.ShloMosaic.ix2 0 (yloc j 1)) = v (Idealize.ShloMosaic.ix1 (j 1)) := by
  subst hn
  have e : VecWindow.window (s := S93x128) (shapeCast S93x128 v h) ![(ytile j).val, 0] ![1, 128] inb (Idealize.ShloMosaic.ix2 0 (yloc j 1))
      = shapeCast S93x128 v h (Idealize.ShloMosaic.ix2 (ytile j) (yloc j 1)) := by
    refine congrArg (shapeCast S93x128 v h) ?_
    funext a
    apply Fin.ext
    fin_cases a
    · show (ytile j).val + 1 * 0 = (ytile j).val
      omega
    · show 0 + 1 * (yloc j 1).val = (yloc j 1).val
      omega
  rw [e]
  pointwise
  refine congrArg v ?_
  funext a
  apply Fin.ext
  fin_cases a
  show (j 1).val / 128 * 128 + (j 1).val % 128 = (j 1).val
  omega

/-- Of the weights cut at row `n`, row `i` is row `n + i`. -/
theorem cut_eq (W : Vec Ideal S11904x4992 .fp8e4m3) {o : Fin 2 → ℕ} {N : ℕ} (n : ℕ) (ho : o = ![n, 0]) (inb : ∀ a, o a + (![N, 4992] : Fin 2 → ℕ) a ≤ S11904x4992.size a)
    (i : Fin N) (q : Fin 4992) (r : Fin 11904) (hr : r.val = n + i.val) :
    View.read (Elt Ideal) ((View.whole main_arg3).slice (Rect.unit (s := S11904x4992) o ![N, 4992] inb)) W (Idealize.ShloMosaic.ix2 i q) = W (Idealize.ShloMosaic.ix2 r q) := by
  subst ho
  rw [View.read_apply]
  refine congrArg W ?_
  funext a
  apply Fin.ext
  fin_cases a
  · show n + 1 * i.val = r.val
    omega
  · show 0 + 1 * q.val = q.val
    omega

/-- The dequantised product, the bias added. -/
theorem yB_eq (s : Vec Ideal S1x1 .f32) (X R : Vec Ideal S128x4992 .bf16) (g) (W : Vec Ideal S11904x4992 .fp8e4m3) (w : Vec Ideal S11904 .f32) (b : Vec Ideal S11904 .bf16) (h1) (h2) (h1') (h2') :
    yB (F := Ideal) s (Cert.ReferenceIdeal.Gen.k0_pay5 s X R g) W (shapeCast S93x128 w h1) (k0_pay161 (F := Ideal) (shapeCast S93x128 b h1'))
      = Cert.ReferenceIdeal.Gen.k0_pay1 (Cert.ReferenceIdeal.Gen.k0_pay6 s X R g W (shapeCast Cert.ReferenceIdeal.S1x11904 w h2)) (shapeCast Cert.ReferenceIdeal.S1x11904 b h2') := by
  unfold Cert.ReferenceIdeal.Gen.k0_pay1 Cert.ReferenceIdeal.Gen.k0_pay6 Cert.ReferenceIdeal.Gen.k0_pay3
  generalize Cert.ReferenceIdeal.Gen.k0_pay5 s X R g = C
  funext j
  unfold yB mkY yTile
  split
  · unfold yT deq dotB k0_pay161 row93
    pointwise
    have hw := tile_eq w h1 j (4 * ((ytile j).val / 4) + (ytile j).val % 4) (by omega)
    have hb := tile_eq b h1' j (4 * ((ytile j).val / 4) + (ytile j).val % 4) (by omega)
    refine congrArg₂ (· + ·) (congrArg₂ (· * ·) (Finset.sum_congr rfl fun q _ => congrArg₂ (· * ·) rfl ?_) (congrArg₂ (· * ·) rfl (hw _))) (hb _)
    refine cut_eq W (512 * ((ytile j).val / 4)) (k0_off44_eq _) _ _ q (j 1) ?_
    show (j 1).val = 512 * ((j 1).val / 128 / 4) + (128 * ((j 1).val / 128 % 4) + (j 1).val % 128)
    omega
  · rename_i hlt
    have hlt' : (j 1).val < 11904 := (j 1).isLt
    have hy : (j 1).val / 128 = 92 := by
      have : ¬ (j 1).val / 128 < 92 := hlt
      omega
    unfold yL deq dotT k0_pay161 row93
    pointwise
    have hw := tile_eq w h1 j 92 hy.symm
    have hb := tile_eq b h1' j 92 hy.symm
    refine congrArg₂ (· + ·) (congrArg₂ (· * ·) (Finset.sum_congr rfl fun q _ => congrArg₂ (· * ·) rfl ?_) (congrArg₂ (· * ·) rfl (hw _))) (hb _)
    refine cut_eq W 11776 rfl _ _ q (j 1) ?_
    show (j 1).val = 11776 + (j 1).val % 128
    omega

end Cert.Eq

end
-- ==== Proof.Eq.Whole.lean ====
module

public import proofs.«01_k».proof.Defs
public import proofs.«01_k».proof.Proof.KI.Launch
public import proofs.«01_k».proof.Proof.Eq.Product
public import Idealize.ShloMosaic.Lib.Pipeline.ValueKit
public import Idealize.ShloMosaic.Lib.Claim

/-! From equal arguments the kernel and the reference leave equal results, over the reals. -/

@[expose] public section

set_option maxRecDepth 16384

noncomputable section

namespace Cert.Eq

open Cert.KernelIdeal Cert.KernelIdeal.Gen Cert.KernelIdeal.Hand
open Idealize.ShloMosaic Idealize.ShloMosaic.TcCoe Idealize.ShloMosaic.Tactic Idealize.ShloMosaic.ValueIdx

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The hidden state is the same, -/
theorem left_h (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.refH m' c = leftH m c := by
  unfold leftH Cert.ReferenceIdeal.Hand.refH
  rw [V_main_v0, V_main_v1, Cert.ReferenceIdeal.Hand.V_main_v0, Cert.ReferenceIdeal.Hand.V_main_v1, h0, h1]
  exact (hB_eq _ _).symm

/-- the codes are the same, -/
theorem left_c (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.refC m' c = leftC m c := by
  unfold leftC Cert.ReferenceIdeal.Hand.refC
  rw [V_main_v0, V_main_v1, V_main_v2, V_main_v5, Cert.ReferenceIdeal.Hand.V_main_v0, Cert.ReferenceIdeal.Hand.V_main_v1, Cert.ReferenceIdeal.Hand.V_main_v2, Cert.ReferenceIdeal.Hand.V_main_v4, h0, h1, h2, h5]
  exact (cB_eq _ _ _ _ _ _).symm

/-- the product is the same, -/
theorem left_y (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.refY m' c = leftY m c := by
  have hc := left_c m m' c h0 h1 h2 h5
  unfold leftY Cert.ReferenceIdeal.Hand.refY
  rw [← hc]
  unfold Cert.ReferenceIdeal.Hand.refC
  rw [V_main_v3, V_main_v4, V_main_v5, Cert.ReferenceIdeal.Hand.V_main_v3, Cert.ReferenceIdeal.Hand.V_main_v4, Cert.ReferenceIdeal.Hand.V_main_v5, V_main_arg3, Cert.ReferenceIdeal.Gen.V_main_arg3, h3, h4, h5, h6]
  exact (yB_eq _ _ _ _ _ _ _ _ _ _ _).symm

/-- and so is the scale. -/
theorem left_s (c : Dev Cert.KernelIdeal.nD)
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.refS m' c = (V m c main_v5 : Vec Ideal S1x1 .f32) := by
  unfold Cert.ReferenceIdeal.Hand.refS Cert.ReferenceIdeal.Gen.k0_pay3
  rw [V_main_v5, Cert.ReferenceIdeal.Hand.V_main_v4, h5]
  exact sc_self _ _

/-- The claim: both run, with equal results and their arguments as they were. -/
theorem algebraic : Cert.algebraic_KernelIdeal_ReferenceIdeal := by
  intro m g m' g' _ ha
  refine ⟨fun c => shapeCast S128x1x11904 (leftY m c) shapeCasts_S128x11904_S128x1x11904,
    fun c => shapeCast S128x1x4992 (leftH m c) shapeCasts_S128x4992_S128x1x4992,
    fun c => shapeCast S128x1x4992 (leftC m c) shapeCasts_S128x4992_S128x1x4992,
    fun c => shapeCast S_ ((V m c main_v5 : Vec Ideal S1x1 .f32)) shapeCasts_S1x1_S_, values m g, ?_⟩
  refine (θ_run _ _ _).mono (fun r h c => ?_) (Cert.ReferenceIdeal.Hand.values m' g')
  obtain ⟨h0, h1, h2, h3, h4, h5, h6⟩ := ha c
  obtain ⟨y, hh, hc, hs, hargs⟩ := h c
  refine ⟨y.trans ?_, hh.trans ?_, hc.trans ?_, hs.trans ?_, hargs⟩
  · rw [left_y m m' c h0 h1 h2 h3 h4 h5 h6]
  · rw [left_h m m' c h0 h1]
  · rw [left_c m m' c h0 h1 h2 h5]
  · rw [left_s m m' c h5]

end Cert.Eq

end
-- ==== Proof.lean ====
module

public import proofs.«01_k».proof.Defs
public import proofs.«01_k».proof.Proof.K.Launch
public import proofs.«01_k».proof.Proof.KI.Launch
public import proofs.«01_k».proof.Proof.Gen.ReferenceIdeal.Frame
public import proofs.«01_k».proof.Proof.Eq.Whole

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, Cert.Eq.algebraic⟩

end Cert.Proof

end
